-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v1_0)) (v1 : (c : Dev Cert.QuantiseIdeal.nD) → Buf (Elt Ideal) ((c.tc : Thread Cert.QuantiseIdeal.nD Cert.QuantiseIdeal.τ).loc Cert.QuantiseIdeal.main_v1_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v1_0) = v0 c
          ∧ r.2.mem ((c.tc : Thread Cert.QuantiseIdeal.nD Cert.QuantiseIdeal.τ).loc Cert.QuantiseIdeal.main_v1_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v1_0) = v0 c
          ∧ r.2.mem ((c.tc : Thread Cert.QuantiseReferenceIdeal.nD Cert.QuantiseReferenceIdeal.τ).loc Cert.QuantiseReferenceIdeal.main_v1_1) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal (hKernelIdeal := hKernelIdeal) (hReferenceIdeal := hReferenceIdeal)
    ∧ preserves_Quantise_QuantiseIdeal
    ∧ algebraic_QuantiseIdeal_QuantiseReferenceIdeal (hQuantiseIdeal := hQuantiseIdeal) (hQuantiseReferenceIdeal := hQuantiseReferenceIdeal)
-- ==== Kernel.lean ====
abbrev S2x2048x14848 : Shape := ⟨3, ![2, 2048, 14848]⟩
abbrev S2x2048x1 : Shape := ⟨3, ![2, 2048, 1]⟩
abbrev S7424x13312 : Shape := ⟨2, ![7424, 13312]⟩
abbrev S1x13312 : Shape := ⟨2, ![1, 13312]⟩
abbrev S2x2048x13312 : Shape := ⟨3, ![2, 2048, 13312]⟩
abbrev S2x1024x1 : Shape := ⟨3, ![2, 1024, 1]⟩
abbrev S7424x512 : Shape := ⟨2, ![7424, 512]⟩
abbrev S1x512 : Shape := ⟨2, ![1, 512]⟩
abbrev S2x1024x512 : Shape := ⟨3, ![2, 1024, 512]⟩
abbrev S2x1024x14848 : Shape := ⟨3, ![2, 1024, 14848]⟩
abbrev S2x2x1024x512 : Shape := ⟨4, ![2, 2, 1024, 512]⟩
abbrev S_ : Shape := ⟨0, ![]⟩
abbrev S128x256 : Shape := ⟨2, ![128, 256]⟩
abbrev S256x256 : Shape := ⟨2, ![256, 256]⟩
abbrev S1x256x256 : Shape := ⟨3, ![1, 256, 256]⟩
abbrev S1x128x1 : Shape := ⟨3, ![1, 128, 1]⟩
abbrev S128x1 : Shape := ⟨2, ![128, 1]⟩
abbrev S1x1x128x512 : Shape := ⟨4, ![1, 1, 128, 512]⟩
abbrev S128x512 : Shape := ⟨2, ![128, 512]⟩
abbrev S1x128x512 : Shape := ⟨3, ![1, 128, 512]⟩
abbrev S1x1x256x256 : Shape := ⟨4, ![1, 1, 256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x14848, .i8⟩
  | .hbm, ⟨1, _⟩ => ⟨S2x2048x1, .f32⟩
  | .hbm, ⟨2, _⟩ => ⟨S7424x13312, .i8⟩
  | .hbm, ⟨3, _⟩ => ⟨S1x13312, .f32⟩
  | .hbm, ⟨4, _⟩ => ⟨S7424x13312, .i8⟩
  | .hbm, ⟨5, _⟩ => ⟨S1x13312, .f32⟩
  | .hbm, ⟨6, _⟩ => ⟨S2x2048x13312, .bf16⟩
  | .local _ .vmem, ⟨0, _⟩ => ⟨S2x1024x1, .f32⟩
  | .local _ .vmem, ⟨1, _⟩ => ⟨S2x1024x1, .f32⟩
  | .local _ .vmem, ⟨2, _⟩ => ⟨S7424x512, .i8⟩
  | .local _ .vmem, ⟨3, _⟩ => ⟨S7424x512, .i8⟩
  | .local _ .vmem, ⟨4, _⟩ => ⟨S7424x512, .i8⟩
  | .local _ .vmem, ⟨5, _⟩ => ⟨S7424x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2x1024x512, .bf16⟩
  | .local _ .vmem, ⟨11, _⟩ => ⟨S2x1024x512, .bf16⟩
  | .local _ .vmem, ⟨12, _⟩ => ⟨S2x1024x14848, .i8⟩
  | .local _ .vmem, ⟨13, _⟩ => ⟨S2x2x1024x512, .f32⟩
  | _, _ => ⟨S2x2048x14848, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![53], ![false]⟩

def k0_cond2 (i : grid0.Coords) : BitVec 1 :=
  let arg0 : BitVec 32 := BitVec.ofNat 32 (i 0).val
  let c26_i32 : BitVec 32 := 26#32
  let v3 : BitVec 32 := Scalar.remsi arg0 c26_i32
  let c0_i32_1 : BitVec 32 := 0#32
  let v4 : BitVec 1 := Scalar.cmpi .eq v3 c0_i32_1
  let c52_i32 : BitVec 32 := 52#32
  let v5 : BitVec 1 := Scalar.cmpi .slt arg0 c52_i32
  let v6 : BitVec 1 := Scalar.andi v4 v5
  let v7 : BitVec 32 := Scalar.extui v6
  let c0_i32_2 : BitVec 32 := 0#32
  let v8 : BitVec 1 := Scalar.cmpi .ne v7 c0_i32_2
  v8

def k0_mult1 (i : grid0.Coords) : BitVec 32 :=
  let arg0 : BitVec 32 := BitVec.ofNat 32 (i 0).val
  let c26_i32_3 : BitVec 32 := 26#32
  let v9 : BitVec 32 := Scalar.divsi arg0 c26_i32_3
  let c1024_i32 : BitVec 32 := 1024#32
  let v10 : BitVec 32 := Scalar.muli v9 c1024_i32
  v10
def k0_off1 (i : grid0.Coords) : Fin 3 → Nat :=
  let c0_i32_4 : BitVec 32 := 0#32
  let arg0 : BitVec 32 := BitVec.ofNat 32 (i 0).val
  let c26_i32_3 : BitVec 32 := 26#32
  let v9 : BitVec 32 := Scalar.divsi arg0 c26_i32_3
  let c1024_i32 : BitVec 32 := 1024#32
  let v10 : BitVec 32 := Scalar.muli v9 c1024_i32
  let v11 : BitVec 32 := v10
  let c0_i32_5 : BitVec 32 := 0#32
  ![0, v11.toNat, 0]
def k0_cond3 (i : grid0.Coords) : BitVec 1 :=
  let arg0 : BitVec 32 := BitVec.ofNat 32 (i 0).val
  let c52_i32_3_r0 : BitVec 32 := 52#32
  let v9_r0 : BitVec 1 := Scalar.cmpi .slt arg0 c52_i32_3_r0
  let v10_r0 : BitVec 32 := Scalar.extui v9_r0
  let c0_i32_4_r0 : BitVec 32 := 0#32
  let v11_r0 : BitVec 1 := Scalar.cmpi .ne v10_r0 c0_i32_4_r0
  v11_r0

def k0_mult2 : BitVec 32 :=
  let c0_i32_7_r0 : BitVec 32 := 0#32
  c0_i32_7_r0
def k0_mult3 : BitVec 32 :=
  let c3712_i32_r0 : BitVec 32 := 3712#32
  c3712_i32_r0
def k0_mult4 : BitVec 32 :=
  let c0_i32_11_r0 : BitVec 32 := 0#32
  c0_i32_11_r0
def k0_mult5 : BitVec 32 :=
  let c3712_i32_14_r0 : BitVec 32 := 3712#32
  c3712_i32_14_r0
def k0_mult6 : BitVec 32 :=
  let c0_i32_20_r0 : BitVec 32 := 0#32
  c0_i32_20_r0
def k0_mult7 : BitVec 32 :=
  let c7424_i32_r0 : BitVec 32 := 7424#32
  c7424_i32_r0
def k0_mult8 : BitVec 32 :=
  let c128_i32_r0 : BitVec 32 := 128#32
  c128_i32_r0
def k0_mult9 : BitVec 32 :=
  let c3840_i32_r0 : BitVec 32 := 3840#32
  c3840_i32_r0
def k0_mult10 : BitVec 32 :=
  let c128_i32_32_r0 : BitVec 32 := 128#32
  c128_i32_32_r0
def k0_mult11 : BitVec 32 :=
  let c3840_i32_36_r0 : BitVec 32 := 3840#32
  c3840_i32_36_r0
def k0_mult12 : BitVec 32 :=
  let c0_i32_42_r0 : BitVec 32 := 0#32
  c0_i32_42_r0
def k0_mult13 : BitVec 32 :=
  let c7424_i32_45_r0 : BitVec 32 := 7424#32
  c7424_i32_45_r0
def k0_mult14 : BitVec 32 :=
  let c0_i32_48_r0 : BitVec 32 := 0#32
  c0_i32_48_r0
def k0_mult15 : BitVec 32 :=
  let c7424_i32_50_r0 : BitVec 32 := 7424#32
  c7424_i32_50_r0
def k0_mult16 : BitVec 32 :=
  let c0_i32_53_r0 : BitVec 32 := 0#32
  c0_i32_53_r0
def k0_mult17 : BitVec 32 :=
  let c7424_i32_55_r0 : BitVec 32 := 7424#32
  c7424_i32_55_r0
@[reducible] def k0_t1_loop : Scf.Loop 32 :=
  let c0_i32_59_r0 : BitVec 32 := 0#32
  let c9_i32_r0 : BitVec 32 := 9#32
  let v155_r0 : BitVec 32 := Scalar.addi c0_i32_59_r0 c9_i32_r0
  let c1_i32_r0 : BitVec 32 := 1#32
  ⟨c0_i32_59_r0, v155_r0, c1_i32_r0⟩
def k0_mult18 (k0_t1 : Fin k0_t1_loop.trips) : BitVec 32 :=
  let c0_i32_1203_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  v1682_r0
def k0_off2 (k0_t1 : Fin k0_t1_loop.trips) (c0_i32_1201_r0 : BitVec 32) : Fin 3 → Nat :=
  let c0_1204_r0 : Index := 0#32
  let c0_1205_r0 : Index := 0#32
  let c0_i32_1203_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  let v1683_r0 : BitVec 32 := v1682_r0
  let v1684_r0 : Index := Scalar.indexCast v1683_r0
  ![0, 0, v1684_r0.toNat]
def k0_mult19 (k0_t1 : Fin k0_t1_loop.trips) : BitVec 32 :=
  let c7424_i32_1207_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c7424_i32_1207_r0 v1688_r0
  v1689_r0
def k0_off3 (k0_t1 : Fin k0_t1_loop.trips) (c0_i32_1201_r0 : BitVec 32) : Fin 3 → Nat :=
  let c1_1208_r0 : Index := 1#32
  let c0_1209_r0 : Index := 0#32
  let c7424_i32_1207_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c7424_i32_1207_r0 v1688_r0
  let v1690_r0 : BitVec 32 := v1689_r0
  let v1691_r0 : Index := Scalar.indexCast v1690_r0
  ![1, 0, v1691_r0.toNat]
def k0_mult20 (k0_t1 : Fin k0_t1_loop.trips) : BitVec 32 :=
  let c0_i32_1211_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c0_i32_1211_r0 v1696_r0
  v1697_r0
def k0_off4 (k0_t1 : Fin k0_t1_loop.trips) (c0_i32_1211_r0 : BitVec 32) (c0_i32_1201_r0 : BitVec 32) : Fin 2 → Nat :=
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c0_i32_1211_r0 v1696_r0
  let v1698_r0 : BitVec 32 := v1697_r0
  let v1699_r0 : Index := Scalar.indexCast v1698_r0
  let c0_1212_r0 : Index := 0#32
  ![v1699_r0.toNat, 0]
def k0_mult21 (k0_t1 : Fin k0_t1_loop.trips) : BitVec 32 :=
  let c3712_i32_1216_r0 : BitVec 32 := 3712#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1215_r0 : BitVec 32 := 128#32
  let v1707_r0 : BitVec 32 := Scalar.muli v1680_r0 c128_i32_1215_r0
  let v1708_r0 : BitVec 32 := Scalar.addi c3712_i32_1216_r0 v1707_r0
  v1708_r0
def k0_mult22 (k0_t1 : Fin k0_t1_loop.trips) : BitVec 32 :=
  let c0_i32_1223_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1222_r0 : BitVec 32 := 128#32
  let v1724_r0 : BitVec 32 := Scalar.muli v1680_r0 c128_i32_1222_r0
  let v1725_r0 : BitVec 32 := Scalar.addi c0_i32_1223_r0 v1724_r0
  v1725_r0
def k0_off5 (k0_t1 : Fin k0_t1_loop.trips) (c0_i32_1223_r0 : BitVec 32) (c0_i32_1201_r0 : BitVec 32) : Fin 2 → Nat :=
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1222_r0 : BitVec 32 := 128#32
  let v1724_r0 : BitVec 32 := Scalar.muli v1680_r0 c128_i32_1222_r0
  let v1725_r0 : BitVec 32 := Scalar.addi c0_i32_1223_r0 v1724_r0
  let v1726_r0 : BitVec 32 := v1725_r0
  let v1727_r0 : Index := Scalar.indexCast v1726_r0
  let c256_1224_r0 : Index := 256#32
  ![v1727_r0.toNat, 256]
def k0_mult23 (k0_t1 : Fin k0_t1_loop.trips) : BitVec 32 :=
  let c3712_i32_1228_r0 : BitVec 32 := 3712#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1227_r0 : BitVec 32 := 128#32
  let v1735_r0 : BitVec 32 := Scalar.muli v1680_r0 c128_i32_1227_r0
  let v1736_r0 : BitVec 32 := Scalar.addi c3712_i32_1228_r0 v1735_r0
  v1736_r0
def k0_mult24 (k0_t1 : Fin k0_t1_loop.trips) : BitVec 32 :=
  let c0_i32_1235_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1234_r0 : BitVec 32 := 256#32
  let v1752_r0 : BitVec 32 := Scalar.muli v1679_r0 c256_i32_1234_r0
  let v1753_r0 : BitVec 32 := Scalar.addi c0_i32_1235_r0 v1752_r0
  v1753_r0
def k0_off6 (k0_t1 : Fin k0_t1_loop.trips) (c0_i32_1201_r0 : BitVec 32) : Fin 3 → Nat :=
  let c0_1236_r0 : Index := 0#32
  let c256_1237_r0 : Index := 256#32
  let c0_i32_1235_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1234_r0 : BitVec 32 := 256#32
  let v1752_r0 : BitVec 32 := Scalar.muli v1679_r0 c256_i32_1234_r0
  let v1753_r0 : BitVec 32 := Scalar.addi c0_i32_1235_r0 v1752_r0
  let v1754_r0 : BitVec 32 := v1753_r0
  let v1755_r0 : Index := Scalar.indexCast v1754_r0
  ![0, 256, v1755_r0.toNat]
def k0_mult25 (k0_t1 : Fin k0_t1_loop.trips) : BitVec 32 :=
  let c7424_i32_1239_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1238_r0 : BitVec 32 := 256#32
  let v1759_r0 : BitVec 32 := Scalar.muli v1679_r0 c256_i32_1238_r0
  let v1760_r0 : BitVec 32 := Scalar.addi c7424_i32_1239_r0 v1759_r0
  v1760_r0
def k0_off7 (k0_t1 : Fin k0_t1_loop.trips) (c0_i32_1201_r0 : BitVec 32) : Fin 3 → Nat :=
  let c1_1240_r0 : Index := 1#32
  let c256_1241_r0 : Index := 256#32
  let c7424_i32_1239_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1238_r0 : BitVec 32 := 256#32
  let v1759_r0 : BitVec 32 := Scalar.muli v1679_r0 c256_i32_1238_r0
  let v1760_r0 : BitVec 32 := Scalar.addi c7424_i32_1239_r0 v1759_r0
  let v1761_r0 : BitVec 32 := v1760_r0
  let v1762_r0 : Index := Scalar.indexCast v1761_r0
  ![1, 256, v1762_r0.toNat]
def k0_mult26 (k0_t1 : Fin k0_t1_loop.trips) : BitVec 32 :=
  let c0_i32_1243_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1242_r0 : BitVec 32 := 256#32
  let v1767_r0 : BitVec 32 := Scalar.muli v1679_r0 c256_i32_1242_r0
  let v1768_r0 : BitVec 32 := Scalar.addi c0_i32_1243_r0 v1767_r0
  v1768_r0
def k0_off8 (k0_t1 : Fin k0_t1_loop.trips) (c0_i32_1201_r0 : BitVec 32) : Fin 3 → Nat :=
  let c0_1244_r0 : Index := 0#32
  let c512_1245_r0 : Index := 512#32
  let c0_i32_1243_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1242_r0 : BitVec 32 := 256#32
  let v1767_r0 : BitVec 32 := Scalar.muli v1679_r0 c256_i32_1242_r0
  let v1768_r0 : BitVec 32 := Scalar.addi c0_i32_1243_r0 v1767_r0
  let v1769_r0 : BitVec 32 := v1768_r0
  let v1770_r0 : Index := Scalar.indexCast v1769_r0
  ![0, 512, v1770_r0.toNat]
def k0_mult27 (k0_t1 : Fin k0_t1_loop.trips) : BitVec 32 :=
  let c7424_i32_1247_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1246_r0 : BitVec 32 := 256#32
  let v1774_r0 : BitVec 32 := Scalar.muli v1679_r0 c256_i32_1246_r0
  let v1775_r0 : BitVec 32 := Scalar.addi c7424_i32_1247_r0 v1774_r0
  v1775_r0
def k0_off9 (k0_t1 : Fin k0_t1_loop.trips) (c0_i32_1201_r0 : BitVec 32) : Fin 3 → Nat :=
  let c1_1248_r0 : Index := 1#32
  let c512_1249_r0 : Index := 512#32
  let c7424_i32_1247_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1246_r0 : BitVec 32 := 256#32
  let v1774_r0 : BitVec 32 := Scalar.muli v1679_r0 c256_i32_1246_r0
  let v1775_r0 : BitVec 32 := Scalar.addi c7424_i32_1247_r0 v1774_r0
  let v1776_r0 : BitVec 32 := v1775_r0
  let v1777_r0 : Index := Scalar.indexCast v1776_r0
  ![1, 512, v1777_r0.toNat]
def k0_mult28 (k0_t1 : Fin k0_t1_loop.trips) : BitVec 32 :=
  let c0_i32_1251_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1250_r0 : BitVec 32 := 256#32
  let v1782_r0 : BitVec 32 := Scalar.muli v1679_r0 c256_i32_1250_r0
  let v1783_r0 : BitVec 32 := Scalar.addi c0_i32_1251_r0 v1782_r0
  v1783_r0
def k0_off10 (k0_t1 : Fin k0_t1_loop.trips) (c0_i32_1201_r0 : BitVec 32) : Fin 3 → Nat :=
  let c0_1252_r0 : Index := 0#32
  let c768_1253_r0 : Index := 768#32
  let c0_i32_1251_r0 : BitVec 32 := 0#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1250_r0 : BitVec 32 := 256#32
  let v1782_r0 : BitVec 32 := Scalar.muli v1679_r0 c256_i32_1250_r0
  let v1783_r0 : BitVec 32 := Scalar.addi c0_i32_1251_r0 v1782_r0
  let v1784_r0 : BitVec 32 := v1783_r0
  let v1785_r0 : Index := Scalar.indexCast v1784_r0
  ![0, 768, v1785_r0.toNat]
def k0_mult29 (k0_t1 : Fin k0_t1_loop.trips) : BitVec 32 :=
  let c7424_i32_1255_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1254_r0 : BitVec 32 := 256#32
  let v1789_r0 : BitVec 32 := Scalar.muli v1679_r0 c256_i32_1254_r0
  let v1790_r0 : BitVec 32 := Scalar.addi c7424_i32_1255_r0 v1789_r0
  v1790_r0
def k0_off11 (k0_t1 : Fin k0_t1_loop.trips) (c0_i32_1201_r0 : BitVec 32) : Fin 3 → Nat :=
  let c1_1256_r0 : Index := 1#32
  let c768_1257_r0 : Index := 768#32
  let c7424_i32_1255_r0 : BitVec 32 := 7424#32
  let c1_i32_1200_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1254_r0 : BitVec 32 := 256#32
  let v1789_r0 : BitVec 32 := Scalar.muli v1679_r0 c256_i32_1254_r0
  let v1790_r0 : BitVec 32 := Scalar.addi c7424_i32_1255_r0 v1789_r0
  let v1791_r0 : BitVec 32 := v1790_r0
  let v1792_r0 : Index := Scalar.indexCast v1791_r0
  ![1, 768, v1792_r0.toNat]
def k0_mult30 (k0_t1 : Fin k0_t1_loop.trips) : BitVec 32 :=
  let c0_i32_1263_r0 : BitVec 32 := 0#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1262_r0 : BitVec 32 := 256#32
  let v1801_r0 : BitVec 32 := Scalar.muli v1799_r0 c256_i32_1262_r0
  let v1802_r0 : BitVec 32 := Scalar.addi c0_i32_1263_r0 v1801_r0
  v1802_r0
def k0_mult31 (k0_t1 : Fin k0_t1_loop.trips) : BitVec 32 :=
  let c7424_i32_1267_r0 : BitVec 32 := 7424#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1266_r0 : BitVec 32 := 256#32
  let v1808_r0 : BitVec 32 := Scalar.muli v1799_r0 c256_i32_1266_r0
  let v1809_r0 : BitVec 32 := Scalar.addi c7424_i32_1267_r0 v1808_r0
  v1809_r0
def k0_mult32 (k0_t1 : Fin k0_t1_loop.trips) : BitVec 32 :=
  let c0_i32_1271_r0 : BitVec 32 := 0#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1270_r0 : BitVec 32 := 128#32
  let v1816_r0 : BitVec 32 := Scalar.muli v1800_r0 c128_i32_1270_r0
  let v1817_r0 : BitVec 32 := Scalar.addi c0_i32_1271_r0 v1816_r0
  v1817_r0
def k0_mult33 (k0_t1 : Fin k0_t1_loop.trips) : BitVec 32 :=
  let c3712_i32_1276_r0 : BitVec 32 := 3712#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1275_r0 : BitVec 32 := 128#32
  let v1827_r0 : BitVec 32 := Scalar.muli v1800_r0 c128_i32_1275_r0
  let v1828_r0 : BitVec 32 := Scalar.addi c3712_i32_1276_r0 v1827_r0
  v1828_r0
def k0_mult34 (k0_t1 : Fin k0_t1_loop.trips) : BitVec 32 :=
  let c0_i32_1283_r0 : BitVec 32 := 0#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1282_r0 : BitVec 32 := 128#32
  let v1844_r0 : BitVec 32 := Scalar.muli v1800_r0 c128_i32_1282_r0
  let v1845_r0 : BitVec 32 := Scalar.addi c0_i32_1283_r0 v1844_r0
  v1845_r0
def k0_mult35 (k0_t1 : Fin k0_t1_loop.trips) : BitVec 32 :=
  let c3712_i32_1288_r0 : BitVec 32 := 3712#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1287_r0 : BitVec 32 := 128#32
  let v1855_r0 : BitVec 32 := Scalar.muli v1800_r0 c128_i32_1287_r0
  let v1856_r0 : BitVec 32 := Scalar.addi c3712_i32_1288_r0 v1855_r0
  v1856_r0
def k0_mult36 (k0_t1 : Fin k0_t1_loop.trips) : BitVec 32 :=
  let c0_i32_1295_r0 : BitVec 32 := 0#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1294_r0 : BitVec 32 := 256#32
  let v1872_r0 : BitVec 32 := Scalar.muli v1799_r0 c256_i32_1294_r0
  let v1873_r0 : BitVec 32 := Scalar.addi c0_i32_1295_r0 v1872_r0
  v1873_r0
def k0_mult37 (k0_t1 : Fin k0_t1_loop.trips) : BitVec 32 :=
  let c7424_i32_1299_r0 : BitVec 32 := 7424#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1298_r0 : BitVec 32 := 256#32
  let v1879_r0 : BitVec 32 := Scalar.muli v1799_r0 c256_i32_1298_r0
  let v1880_r0 : BitVec 32 := Scalar.addi c7424_i32_1299_r0 v1879_r0
  v1880_r0
def k0_mult38 (k0_t1 : Fin k0_t1_loop.trips) : BitVec 32 :=
  let c0_i32_1303_r0 : BitVec 32 := 0#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1302_r0 : BitVec 32 := 256#32
  let v1887_r0 : BitVec 32 := Scalar.muli v1799_r0 c256_i32_1302_r0
  let v1888_r0 : BitVec 32 := Scalar.addi c0_i32_1303_r0 v1887_r0
  v1888_r0
def k0_mult39 (k0_t1 : Fin k0_t1_loop.trips) : BitVec 32 :=
  let c7424_i32_1307_r0 : BitVec 32 := 7424#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1306_r0 : BitVec 32 := 256#32
  let v1894_r0 : BitVec 32 := Scalar.muli v1799_r0 c256_i32_1306_r0
  let v1895_r0 : BitVec 32 := Scalar.addi c7424_i32_1307_r0 v1894_r0
  v1895_r0
def k0_mult40 (k0_t1 : Fin k0_t1_loop.trips) : BitVec 32 :=
  let c0_i32_1311_r0 : BitVec 32 := 0#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1310_r0 : BitVec 32 := 256#32
  let v1902_r0 : BitVec 32 := Scalar.muli v1799_r0 c256_i32_1310_r0
  let v1903_r0 : BitVec 32 := Scalar.addi c0_i32_1311_r0 v1902_r0
  v1903_r0
def k0_mult41 (k0_t1 : Fin k0_t1_loop.trips) : BitVec 32 :=
  let c7424_i32_1315_r0 : BitVec 32 := 7424#32
  let c1_i32_1259_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1314_r0 : BitVec 32 := 256#32
  let v1909_r0 : BitVec 32 := Scalar.muli v1799_r0 c256_i32_1314_r0
  let v1910_r0 : BitVec 32 := Scalar.addi c7424_i32_1315_r0 v1909_r0
  v1910_r0
def k0_mult42 (k0_t1 : Fin k0_t1_loop.trips) : BitVec 32 :=
  let c0_i32_1322_r0 : BitVec 32 := 0#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1321_r0 : BitVec 32 := 256#32
  let v1921_r0 : BitVec 32 := Scalar.muli v1919_r0 c256_i32_1321_r0
  let v1922_r0 : BitVec 32 := Scalar.addi c0_i32_1322_r0 v1921_r0
  v1922_r0
def k0_mult43 (k0_t1 : Fin k0_t1_loop.trips) : BitVec 32 :=
  let c7424_i32_1326_r0 : BitVec 32 := 7424#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1325_r0 : BitVec 32 := 256#32
  let v1928_r0 : BitVec 32 := Scalar.muli v1919_r0 c256_i32_1325_r0
  let v1929_r0 : BitVec 32 := Scalar.addi c7424_i32_1326_r0 v1928_r0
  v1929_r0
def k0_mult44 (k0_t1 : Fin k0_t1_loop.trips) : BitVec 32 :=
  let c0_i32_1330_r0 : BitVec 32 := 0#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1329_r0 : BitVec 32 := 128#32
  let v1936_r0 : BitVec 32 := Scalar.muli v1920_r0 c128_i32_1329_r0
  let v1937_r0 : BitVec 32 := Scalar.addi c0_i32_1330_r0 v1936_r0
  v1937_r0
def k0_mult45 (k0_t1 : Fin k0_t1_loop.trips) : BitVec 32 :=
  let c3712_i32_1335_r0 : BitVec 32 := 3712#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1334_r0 : BitVec 32 := 128#32
  let v1947_r0 : BitVec 32 := Scalar.muli v1920_r0 c128_i32_1334_r0
  let v1948_r0 : BitVec 32 := Scalar.addi c3712_i32_1335_r0 v1947_r0
  v1948_r0
def k0_mult46 (k0_t1 : Fin k0_t1_loop.trips) : BitVec 32 :=
  let c0_i32_1342_r0 : BitVec 32 := 0#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1341_r0 : BitVec 32 := 128#32
  let v1964_r0 : BitVec 32 := Scalar.muli v1920_r0 c128_i32_1341_r0
  let v1965_r0 : BitVec 32 := Scalar.addi c0_i32_1342_r0 v1964_r0
  v1965_r0
def k0_mult47 (k0_t1 : Fin k0_t1_loop.trips) : BitVec 32 :=
  let c3712_i32_1347_r0 : BitVec 32 := 3712#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1346_r0 : BitVec 32 := 128#32
  let v1975_r0 : BitVec 32 := Scalar.muli v1920_r0 c128_i32_1346_r0
  let v1976_r0 : BitVec 32 := Scalar.addi c3712_i32_1347_r0 v1975_r0
  v1976_r0
def k0_mult48 (k0_t1 : Fin k0_t1_loop.trips) : BitVec 32 :=
  let c0_i32_1354_r0 : BitVec 32 := 0#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1353_r0 : BitVec 32 := 256#32
  let v1992_r0 : BitVec 32 := Scalar.muli v1919_r0 c256_i32_1353_r0
  let v1993_r0 : BitVec 32 := Scalar.addi c0_i32_1354_r0 v1992_r0
  v1993_r0
def k0_mult49 (k0_t1 : Fin k0_t1_loop.trips) : BitVec 32 :=
  let c7424_i32_1358_r0 : BitVec 32 := 7424#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1357_r0 : BitVec 32 := 256#32
  let v1999_r0 : BitVec 32 := Scalar.muli v1919_r0 c256_i32_1357_r0
  let v2000_r0 : BitVec 32 := Scalar.addi c7424_i32_1358_r0 v1999_r0
  v2000_r0
def k0_mult50 (k0_t1 : Fin k0_t1_loop.trips) : BitVec 32 :=
  let c0_i32_1362_r0 : BitVec 32 := 0#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1361_r0 : BitVec 32 := 256#32
  let v2007_r0 : BitVec 32 := Scalar.muli v1919_r0 c256_i32_1361_r0
  let v2008_r0 : BitVec 32 := Scalar.addi c0_i32_1362_r0 v2007_r0
  v2008_r0
def k0_mult51 (k0_t1 : Fin k0_t1_loop.trips) : BitVec 32 :=
  let c7424_i32_1366_r0 : BitVec 32 := 7424#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1365_r0 : BitVec 32 := 256#32
  let v2014_r0 : BitVec 32 := Scalar.muli v1919_r0 c256_i32_1365_r0
  let v2015_r0 : BitVec 32 := Scalar.addi c7424_i32_1366_r0 v2014_r0
  v2015_r0
def k0_mult52 (k0_t1 : Fin k0_t1_loop.trips) : BitVec 32 :=
  let c0_i32_1370_r0 : BitVec 32 := 0#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1369_r0 : BitVec 32 := 256#32
  let v2022_r0 : BitVec 32 := Scalar.muli v1919_r0 c256_i32_1369_r0
  let v2023_r0 : BitVec 32 := Scalar.addi c0_i32_1370_r0 v2022_r0
  v2023_r0
def k0_mult53 (k0_t1 : Fin k0_t1_loop.trips) : BitVec 32 :=
  let c7424_i32_1374_r0 : BitVec 32 := 7424#32
  let c1_i32_1319_r0 : BitVec 32 := 1#32
  let c0_i32_59_r0 : BitVec 32 := 0#32
  let c1_i32_r0 : BitVec 32 := 1#32
  let arg11_r0 : BitVec 32 := Scf.iv c0_i32_59_r0 c1_i32_r0 k0_t1
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1373_r0 : BitVec 32 := 256#32
  let v2029_r0 : BitVec 32 := Scalar.muli v1919_r0 c256_i32_1373_r0
  let v2030_r0 : BitVec 32 := Scalar.addi c7424_i32_1374_r0 v2029_r0
  v2030_r0
def k0_mult54 (k0_t1 : Fin k0_t1_loop.trips) : BitVec 32 :=
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  v2038_r0
def k0_off12 (k0_t1 : Fin k0_t1_loop.trips) : Fin 3 → Nat :=
  let c0_1378_r0 : Index := 0#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2040_r0 : Index := Scalar.indexCast v2039_r0
  let c0_1379_r0 : Index := 0#32
  ![0, v2040_r0.toNat, 0]
def k0_off13 (k0_t1 : Fin k0_t1_loop.trips) : Fin 4 → Nat :=
  let c0_1380_r0 : Index := 0#32
  let c0_1381_r0 : Index := 0#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2043_r0 : Index := Scalar.indexCast v2039_r0
  let c0_1382_r0 : Index := 0#32
  ![0, 0, v2043_r0.toNat, 0]
def k0_off14 (k0_t1 : Fin k0_t1_loop.trips) : Fin 4 → Nat :=
  let c0_1385_r0 : Index := 0#32
  let c1_1386_r0 : Index := 1#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2051_r0 : Index := Scalar.indexCast v2039_r0
  let c0_1387_r0 : Index := 0#32
  ![0, 1, v2051_r0.toNat, 0]
def k0_off15 (k0_t1 : Fin k0_t1_loop.trips) : Fin 3 → Nat :=
  let c0_1390_r0 : Index := 0#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2063_r0 : Index := Scalar.indexCast v2039_r0
  let c0_1391_r0 : Index := 0#32
  ![0, v2063_r0.toNat, 0]
def k0_off16 (k0_t1 : Fin k0_t1_loop.trips) : Fin 3 → Nat :=
  let c1_1392_r0 : Index := 1#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2067_r0 : Index := Scalar.indexCast v2039_r0
  let c0_1393_r0 : Index := 0#32
  ![1, v2067_r0.toNat, 0]
def k0_off17 (k0_t1 : Fin k0_t1_loop.trips) : Fin 4 → Nat :=
  let c1_1394_r0 : Index := 1#32
  let c0_1395_r0 : Index := 0#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2070_r0 : Index := Scalar.indexCast v2039_r0
  let c0_1396_r0 : Index := 0#32
  ![1, 0, v2070_r0.toNat, 0]
def k0_off18 (k0_t1 : Fin k0_t1_loop.trips) : Fin 4 → Nat :=
  let c1_1399_r0 : Index := 1#32
  let c1_1400_r0 : Index := 1#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2078_r0 : Index := Scalar.indexCast v2039_r0
  let c0_1401_r0 : Index := 0#32
  ![1, 1, v2078_r0.toNat, 0]
def k0_off19 (k0_t1 : Fin k0_t1_loop.trips) : Fin 3 → Nat :=
  let c1_1404_r0 : Index := 1#32
  let c0_i32_59_r0 : BitVec 32 := 0#32
  let c1_i32_r0 : BitVec 32 := 1#32
  let arg11_r0 : BitVec 32 := Scf.iv c0_i32_59_r0 c1_i32_r0 k0_t1
  let c7_i32_r0 : BitVec 32 := 7#32
  let v2037_r0 : BitVec 32 := Scalar.minsi arg11_r0 c7_i32_r0
  let c128_i32_1377_r0 : BitVec 32 := 128#32
  let v2038_r0 : BitVec 32 := Scalar.muli v2037_r0 c128_i32_1377_r0
  let v2039_r0 : BitVec 32 := v2038_r0
  let v2090_r0 : Index := Scalar.indexCast v2039_r0
  let c0_1405_r0 : Index := 0#32
  ![1, v2090_r0.toNat, 0]
def k0_mult55 : BitVec 32 :=
  let c7168_i32_r0 : BitVec 32 := 7168#32
  c7168_i32_r0
def k0_mult56 : BitVec 32 :=
  let c14592_i32_r0 : BitVec 32 := 14592#32
  c14592_i32_r0
def k0_mult57 : BitVec 32 :=
  let c0_i32_65_r0 : BitVec 32 := 0#32
  c0_i32_65_r0
def k0_mult58 : BitVec 32 :=
  let c3712_i32_69_r0 : BitVec 32 := 3712#32
  c3712_i32_69_r0
def k0_mult59 : BitVec 32 :=
  let c0_i32_74_r0 : BitVec 32 := 0#32
  c0_i32_74_r0
def k0_mult60 : BitVec 32 :=
  let c3712_i32_78_r0 : BitVec 32 := 3712#32
  c3712_i32_78_r0
def k0_mult61 : BitVec 32 :=
  let c7168_i32_84_r0 : BitVec 32 := 7168#32
  c7168_i32_84_r0
def k0_mult62 : BitVec 32 :=
  let c14592_i32_87_r0 : BitVec 32 := 14592#32
  c14592_i32_87_r0
def k0_mult63 : BitVec 32 :=
  let c7168_i32_90_r0 : BitVec 32 := 7168#32
  c7168_i32_90_r0
def k0_mult64 : BitVec 32 :=
  let c14592_i32_93_r0 : BitVec 32 := 14592#32
  c14592_i32_93_r0
def k0_mult65 : BitVec 32 :=
  let c7168_i32_96_r0 : BitVec 32 := 7168#32
  c7168_i32_96_r0
def k0_mult66 : BitVec 32 :=
  let c14592_i32_99_r0 : BitVec 32 := 14592#32
  c14592_i32_99_r0
def k0_mult67 : BitVec 32 :=
  let c0_i32_118_r0 : BitVec 32 := 0#32
  c0_i32_118_r0
def k0_mult68 : BitVec 32 :=
  let c128_i32_121_r0 : BitVec 32 := 128#32
  c128_i32_121_r0
def k0_mult69 : BitVec 32 :=
  let c3840_i32_125_r0 : BitVec 32 := 3840#32
  c3840_i32_125_r0
def k0_mult70 : BitVec 32 :=
  let c128_i32_131_r0 : BitVec 32 := 128#32
  c128_i32_131_r0
def k0_mult71 : BitVec 32 :=
  let c3840_i32_135_r0 : BitVec 32 := 3840#32
  c3840_i32_135_r0
def k0_mult72 : BitVec 32 :=
  let c0_i32_157_r0 : BitVec 32 := 0#32
  c0_i32_157_r0
def k0_mult73 : BitVec 32 :=
  let c0_i32_176_r0 : BitVec 32 := 0#32
  c0_i32_176_r0
def k0_mult74 : BitVec 32 :=
  let c0_i32_195_r0 : BitVec 32 := 0#32
  c0_i32_195_r0
@[reducible] def k0_t2_loop : Scf.Loop 32 :=
  let c0_i32_199_r0 : BitVec 32 := 0#32
  let c9_i32_200_r0 : BitVec 32 := 9#32
  let v373_r0 : BitVec 32 := Scalar.addi c0_i32_199_r0 c9_i32_200_r0
  let c1_i32_201_r0 : BitVec 32 := 1#32
  ⟨c0_i32_199_r0, v373_r0, c1_i32_201_r0⟩
def k0_mult75 (k0_t2 : Fin k0_t2_loop.trips) : BitVec 32 :=
  let c0_i32_1203_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  v1682_r0
def k0_off20 (k0_t2 : Fin k0_t2_loop.trips) (c0_i32_1201_r0 : BitVec 32) : Fin 3 → Nat :=
  let c0_1204_r0 : Index := 0#32
  let c0_1205_r0 : Index := 0#32
  let c0_i32_1203_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  let v1683_r0 : BitVec 32 := v1682_r0
  let v1684_r0 : Index := Scalar.indexCast v1683_r0
  ![0, 0, v1684_r0.toNat]
def k0_mult76 (k0_t2 : Fin k0_t2_loop.trips) : BitVec 32 :=
  let c0_i32_1207_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1206_r0 : BitVec 32 := 128#32
  let v1688_r0 : BitVec 32 := Scalar.muli v1680_r0 c128_i32_1206_r0
  let v1689_r0 : BitVec 32 := Scalar.addi c0_i32_1207_r0 v1688_r0
  v1689_r0
def k0_off21 (k0_t2 : Fin k0_t2_loop.trips) (c0_i32_1207_r0 : BitVec 32) (c0_i32_1201_r0 : BitVec 32) : Fin 2 → Nat :=
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1206_r0 : BitVec 32 := 128#32
  let v1688_r0 : BitVec 32 := Scalar.muli v1680_r0 c128_i32_1206_r0
  let v1689_r0 : BitVec 32 := Scalar.addi c0_i32_1207_r0 v1688_r0
  let v1690_r0 : BitVec 32 := v1689_r0
  let v1691_r0 : Index := Scalar.indexCast v1690_r0
  let c0_1208_r0 : Index := 0#32
  ![v1691_r0.toNat, 0]
def k0_mult77 (k0_t2 : Fin k0_t2_loop.trips) : BitVec 32 :=
  let c3712_i32_1212_r0 : BitVec 32 := 3712#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1211_r0 : BitVec 32 := 128#32
  let v1699_r0 : BitVec 32 := Scalar.muli v1680_r0 c128_i32_1211_r0
  let v1700_r0 : BitVec 32 := Scalar.addi c3712_i32_1212_r0 v1699_r0
  v1700_r0
def k0_mult78 (k0_t2 : Fin k0_t2_loop.trips) : BitVec 32 :=
  let c0_i32_1219_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1218_r0 : BitVec 32 := 128#32
  let v1716_r0 : BitVec 32 := Scalar.muli v1680_r0 c128_i32_1218_r0
  let v1717_r0 : BitVec 32 := Scalar.addi c0_i32_1219_r0 v1716_r0
  v1717_r0
def k0_off22 (k0_t2 : Fin k0_t2_loop.trips) (c0_i32_1219_r0 : BitVec 32) (c0_i32_1201_r0 : BitVec 32) : Fin 2 → Nat :=
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1218_r0 : BitVec 32 := 128#32
  let v1716_r0 : BitVec 32 := Scalar.muli v1680_r0 c128_i32_1218_r0
  let v1717_r0 : BitVec 32 := Scalar.addi c0_i32_1219_r0 v1716_r0
  let v1718_r0 : BitVec 32 := v1717_r0
  let v1719_r0 : Index := Scalar.indexCast v1718_r0
  let c256_1220_r0 : Index := 256#32
  ![v1719_r0.toNat, 256]
def k0_mult79 (k0_t2 : Fin k0_t2_loop.trips) : BitVec 32 :=
  let c3712_i32_1224_r0 : BitVec 32 := 3712#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1223_r0 : BitVec 32 := 128#32
  let v1727_r0 : BitVec 32 := Scalar.muli v1680_r0 c128_i32_1223_r0
  let v1728_r0 : BitVec 32 := Scalar.addi c3712_i32_1224_r0 v1727_r0
  v1728_r0
def k0_mult80 (k0_t2 : Fin k0_t2_loop.trips) : BitVec 32 :=
  let c0_i32_1231_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1230_r0 : BitVec 32 := 256#32
  let v1744_r0 : BitVec 32 := Scalar.muli v1679_r0 c256_i32_1230_r0
  let v1745_r0 : BitVec 32 := Scalar.addi c0_i32_1231_r0 v1744_r0
  v1745_r0
def k0_off23 (k0_t2 : Fin k0_t2_loop.trips) (c0_i32_1201_r0 : BitVec 32) : Fin 3 → Nat :=
  let c0_1232_r0 : Index := 0#32
  let c256_1233_r0 : Index := 256#32
  let c0_i32_1231_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1230_r0 : BitVec 32 := 256#32
  let v1744_r0 : BitVec 32 := Scalar.muli v1679_r0 c256_i32_1230_r0
  let v1745_r0 : BitVec 32 := Scalar.addi c0_i32_1231_r0 v1744_r0
  let v1746_r0 : BitVec 32 := v1745_r0
  let v1747_r0 : Index := Scalar.indexCast v1746_r0
  ![0, 256, v1747_r0.toNat]
def k0_mult81 (k0_t2 : Fin k0_t2_loop.trips) : BitVec 32 :=
  let c0_i32_1235_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1234_r0 : BitVec 32 := 256#32
  let v1751_r0 : BitVec 32 := Scalar.muli v1679_r0 c256_i32_1234_r0
  let v1752_r0 : BitVec 32 := Scalar.addi c0_i32_1235_r0 v1751_r0
  v1752_r0
def k0_off24 (k0_t2 : Fin k0_t2_loop.trips) (c0_i32_1201_r0 : BitVec 32) : Fin 3 → Nat :=
  let c0_1236_r0 : Index := 0#32
  let c512_1237_r0 : Index := 512#32
  let c0_i32_1235_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1234_r0 : BitVec 32 := 256#32
  let v1751_r0 : BitVec 32 := Scalar.muli v1679_r0 c256_i32_1234_r0
  let v1752_r0 : BitVec 32 := Scalar.addi c0_i32_1235_r0 v1751_r0
  let v1753_r0 : BitVec 32 := v1752_r0
  let v1754_r0 : Index := Scalar.indexCast v1753_r0
  ![0, 512, v1754_r0.toNat]
def k0_mult82 (k0_t2 : Fin k0_t2_loop.trips) : BitVec 32 :=
  let c0_i32_1239_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1238_r0 : BitVec 32 := 256#32
  let v1758_r0 : BitVec 32 := Scalar.muli v1679_r0 c256_i32_1238_r0
  let v1759_r0 : BitVec 32 := Scalar.addi c0_i32_1239_r0 v1758_r0
  v1759_r0
def k0_off25 (k0_t2 : Fin k0_t2_loop.trips) (c0_i32_1201_r0 : BitVec 32) : Fin 3 → Nat :=
  let c0_1240_r0 : Index := 0#32
  let c768_1241_r0 : Index := 768#32
  let c0_i32_1239_r0 : BitVec 32 := 0#32
  let c1_i32_1200_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1238_r0 : BitVec 32 := 256#32
  let v1758_r0 : BitVec 32 := Scalar.muli v1679_r0 c256_i32_1238_r0
  let v1759_r0 : BitVec 32 := Scalar.addi c0_i32_1239_r0 v1758_r0
  let v1760_r0 : BitVec 32 := v1759_r0
  let v1761_r0 : Index := Scalar.indexCast v1760_r0
  ![0, 768, v1761_r0.toNat]
def k0_mult83 (k0_t2 : Fin k0_t2_loop.trips) : BitVec 32 :=
  let c0_i32_1247_r0 : BitVec 32 := 0#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1246_r0 : BitVec 32 := 256#32
  let v1769_r0 : BitVec 32 := Scalar.muli v1767_r0 c256_i32_1246_r0
  let v1770_r0 : BitVec 32 := Scalar.addi c0_i32_1247_r0 v1769_r0
  v1770_r0
def k0_mult84 (k0_t2 : Fin k0_t2_loop.trips) : BitVec 32 :=
  let c0_i32_1251_r0 : BitVec 32 := 0#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1250_r0 : BitVec 32 := 128#32
  let v1776_r0 : BitVec 32 := Scalar.muli v1768_r0 c128_i32_1250_r0
  let v1777_r0 : BitVec 32 := Scalar.addi c0_i32_1251_r0 v1776_r0
  v1777_r0
def k0_mult85 (k0_t2 : Fin k0_t2_loop.trips) : BitVec 32 :=
  let c3712_i32_1256_r0 : BitVec 32 := 3712#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1255_r0 : BitVec 32 := 128#32
  let v1787_r0 : BitVec 32 := Scalar.muli v1768_r0 c128_i32_1255_r0
  let v1788_r0 : BitVec 32 := Scalar.addi c3712_i32_1256_r0 v1787_r0
  v1788_r0
def k0_mult86 (k0_t2 : Fin k0_t2_loop.trips) : BitVec 32 :=
  let c0_i32_1263_r0 : BitVec 32 := 0#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1262_r0 : BitVec 32 := 128#32
  let v1804_r0 : BitVec 32 := Scalar.muli v1768_r0 c128_i32_1262_r0
  let v1805_r0 : BitVec 32 := Scalar.addi c0_i32_1263_r0 v1804_r0
  v1805_r0
def k0_mult87 (k0_t2 : Fin k0_t2_loop.trips) : BitVec 32 :=
  let c3712_i32_1268_r0 : BitVec 32 := 3712#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1267_r0 : BitVec 32 := 128#32
  let v1815_r0 : BitVec 32 := Scalar.muli v1768_r0 c128_i32_1267_r0
  let v1816_r0 : BitVec 32 := Scalar.addi c3712_i32_1268_r0 v1815_r0
  v1816_r0
def k0_mult88 (k0_t2 : Fin k0_t2_loop.trips) : BitVec 32 :=
  let c0_i32_1275_r0 : BitVec 32 := 0#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1274_r0 : BitVec 32 := 256#32
  let v1832_r0 : BitVec 32 := Scalar.muli v1767_r0 c256_i32_1274_r0
  let v1833_r0 : BitVec 32 := Scalar.addi c0_i32_1275_r0 v1832_r0
  v1833_r0
def k0_mult89 (k0_t2 : Fin k0_t2_loop.trips) : BitVec 32 :=
  let c0_i32_1279_r0 : BitVec 32 := 0#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1278_r0 : BitVec 32 := 256#32
  let v1839_r0 : BitVec 32 := Scalar.muli v1767_r0 c256_i32_1278_r0
  let v1840_r0 : BitVec 32 := Scalar.addi c0_i32_1279_r0 v1839_r0
  v1840_r0
def k0_mult90 (k0_t2 : Fin k0_t2_loop.trips) : BitVec 32 :=
  let c0_i32_1283_r0 : BitVec 32 := 0#32
  let c1_i32_1243_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1282_r0 : BitVec 32 := 256#32
  let v1846_r0 : BitVec 32 := Scalar.muli v1767_r0 c256_i32_1282_r0
  let v1847_r0 : BitVec 32 := Scalar.addi c0_i32_1283_r0 v1846_r0
  v1847_r0
def k0_mult91 (k0_t2 : Fin k0_t2_loop.trips) : BitVec 32 :=
  let c0_i32_1290_r0 : BitVec 32 := 0#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1289_r0 : BitVec 32 := 256#32
  let v1857_r0 : BitVec 32 := Scalar.muli v1855_r0 c256_i32_1289_r0
  let v1858_r0 : BitVec 32 := Scalar.addi c0_i32_1290_r0 v1857_r0
  v1858_r0
def k0_mult92 (k0_t2 : Fin k0_t2_loop.trips) : BitVec 32 :=
  let c0_i32_1294_r0 : BitVec 32 := 0#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1293_r0 : BitVec 32 := 128#32
  let v1864_r0 : BitVec 32 := Scalar.muli v1856_r0 c128_i32_1293_r0
  let v1865_r0 : BitVec 32 := Scalar.addi c0_i32_1294_r0 v1864_r0
  v1865_r0
def k0_mult93 (k0_t2 : Fin k0_t2_loop.trips) : BitVec 32 :=
  let c3712_i32_1299_r0 : BitVec 32 := 3712#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1298_r0 : BitVec 32 := 128#32
  let v1875_r0 : BitVec 32 := Scalar.muli v1856_r0 c128_i32_1298_r0
  let v1876_r0 : BitVec 32 := Scalar.addi c3712_i32_1299_r0 v1875_r0
  v1876_r0
def k0_mult94 (k0_t2 : Fin k0_t2_loop.trips) : BitVec 32 :=
  let c0_i32_1306_r0 : BitVec 32 := 0#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1305_r0 : BitVec 32 := 128#32
  let v1892_r0 : BitVec 32 := Scalar.muli v1856_r0 c128_i32_1305_r0
  let v1893_r0 : BitVec 32 := Scalar.addi c0_i32_1306_r0 v1892_r0
  v1893_r0
def k0_mult95 (k0_t2 : Fin k0_t2_loop.trips) : BitVec 32 :=
  let c3712_i32_1311_r0 : BitVec 32 := 3712#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1310_r0 : BitVec 32 := 128#32
  let v1903_r0 : BitVec 32 := Scalar.muli v1856_r0 c128_i32_1310_r0
  let v1904_r0 : BitVec 32 := Scalar.addi c3712_i32_1311_r0 v1903_r0
  v1904_r0
def k0_mult96 (k0_t2 : Fin k0_t2_loop.trips) : BitVec 32 :=
  let c0_i32_1318_r0 : BitVec 32 := 0#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1317_r0 : BitVec 32 := 256#32
  let v1920_r0 : BitVec 32 := Scalar.muli v1855_r0 c256_i32_1317_r0
  let v1921_r0 : BitVec 32 := Scalar.addi c0_i32_1318_r0 v1920_r0
  v1921_r0
def k0_mult97 (k0_t2 : Fin k0_t2_loop.trips) : BitVec 32 :=
  let c0_i32_1322_r0 : BitVec 32 := 0#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1321_r0 : BitVec 32 := 256#32
  let v1927_r0 : BitVec 32 := Scalar.muli v1855_r0 c256_i32_1321_r0
  let v1928_r0 : BitVec 32 := Scalar.addi c0_i32_1322_r0 v1927_r0
  v1928_r0
def k0_mult98 (k0_t2 : Fin k0_t2_loop.trips) : BitVec 32 :=
  let c0_i32_1326_r0 : BitVec 32 := 0#32
  let c1_i32_1287_r0 : BitVec 32 := 1#32
  let c0_i32_199_r0 : BitVec 32 := 0#32
  let c1_i32_201_r0 : BitVec 32 := 1#32
  let arg11_r0 : BitVec 32 := Scf.iv c0_i32_199_r0 c1_i32_201_r0 k0_t2
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1325_r0 : BitVec 32 := 256#32
  let v1934_r0 : BitVec 32 := Scalar.muli v1855_r0 c256_i32_1325_r0
  let v1935_r0 : BitVec 32 := Scalar.addi c0_i32_1326_r0 v1934_r0
  v1935_r0
def k0_mult99 : BitVec 32 :=
  let c7168_i32_203_r0 : BitVec 32 := 7168#32
  c7168_i32_203_r0
def k0_mult100 : BitVec 32 :=
  let c3712_i32_206_r0 : BitVec 32 := 3712#32
  c3712_i32_206_r0
def k0_mult101 : BitVec 32 :=
  let c0_i32_210_r0 : BitVec 32 := 0#32
  c0_i32_210_r0
def k0_mult102 : BitVec 32 :=
  let c3712_i32_216_r0 : BitVec 32 := 3712#32
  c3712_i32_216_r0
def k0_mult103 : BitVec 32 :=
  let c0_i32_220_r0 : BitVec 32 := 0#32
  c0_i32_220_r0
def k0_mult104 : BitVec 32 :=
  let c7168_i32_226_r0 : BitVec 32 := 7168#32
  c7168_i32_226_r0
def k0_mult105 : BitVec 32 :=
  let c7168_i32_229_r0 : BitVec 32 := 7168#32
  c7168_i32_229_r0
def k0_mult106 : BitVec 32 :=
  let c7168_i32_232_r0 : BitVec 32 := 7168#32
  c7168_i32_232_r0
def k0_mult107 : BitVec 32 :=
  let c7424_i32_259_r0 : BitVec 32 := 7424#32
  c7424_i32_259_r0
def k0_mult108 : BitVec 32 :=
  let c3840_i32_262_r0 : BitVec 32 := 3840#32
  c3840_i32_262_r0
def k0_mult109 : BitVec 32 :=
  let c128_i32_266_r0 : BitVec 32 := 128#32
  c128_i32_266_r0
def k0_mult110 : BitVec 32 :=
  let c3840_i32_272_r0 : BitVec 32 := 3840#32
  c3840_i32_272_r0
def k0_mult111 : BitVec 32 :=
  let c128_i32_276_r0 : BitVec 32 := 128#32
  c128_i32_276_r0
def k0_mult112 : BitVec 32 :=
  let c7424_i32_306_r0 : BitVec 32 := 7424#32
  c7424_i32_306_r0
def k0_mult113 : BitVec 32 :=
  let c7424_i32_333_r0 : BitVec 32 := 7424#32
  c7424_i32_333_r0
def k0_mult114 : BitVec 32 :=
  let c7424_i32_360_r0 : BitVec 32 := 7424#32
  c7424_i32_360_r0
@[reducible] def k0_t3_loop : Scf.Loop 32 :=
  let c0_i32_364_r0 : BitVec 32 := 0#32
  let c9_i32_365_r0 : BitVec 32 := 9#32
  let v591_r0 : BitVec 32 := Scalar.addi c0_i32_364_r0 c9_i32_365_r0
  let c1_i32_366_r0 : BitVec 32 := 1#32
  ⟨c0_i32_364_r0, v591_r0, c1_i32_366_r0⟩
def k0_mult115 (k0_t3 : Fin k0_t3_loop.trips) : BitVec 32 :=
  let c7424_i32_1203_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c7424_i32_1203_r0 v1681_r0
  v1682_r0
def k0_off26 (k0_t3 : Fin k0_t3_loop.trips) (c0_i32_1201_r0 : BitVec 32) : Fin 3 → Nat :=
  let c1_1204_r0 : Index := 1#32
  let c0_1205_r0 : Index := 0#32
  let c7424_i32_1203_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c7424_i32_1203_r0 v1681_r0
  let v1683_r0 : BitVec 32 := v1682_r0
  let v1684_r0 : Index := Scalar.indexCast v1683_r0
  ![1, 0, v1684_r0.toNat]
def k0_mult116 (k0_t3 : Fin k0_t3_loop.trips) : BitVec 32 :=
  let c3712_i32_1207_r0 : BitVec 32 := 3712#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1206_r0 : BitVec 32 := 128#32
  let v1688_r0 : BitVec 32 := Scalar.muli v1680_r0 c128_i32_1206_r0
  let v1689_r0 : BitVec 32 := Scalar.addi c3712_i32_1207_r0 v1688_r0
  v1689_r0
def k0_off27 (k0_t3 : Fin k0_t3_loop.trips) (c3712_i32_1207_r0 : BitVec 32) (c0_i32_1201_r0 : BitVec 32) : Fin 2 → Nat :=
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1206_r0 : BitVec 32 := 128#32
  let v1688_r0 : BitVec 32 := Scalar.muli v1680_r0 c128_i32_1206_r0
  let v1689_r0 : BitVec 32 := Scalar.addi c3712_i32_1207_r0 v1688_r0
  let v1690_r0 : BitVec 32 := v1689_r0
  let v1691_r0 : Index := Scalar.indexCast v1690_r0
  let c0_1208_r0 : Index := 0#32
  ![v1691_r0.toNat, 0]
def k0_mult117 (k0_t3 : Fin k0_t3_loop.trips) : BitVec 32 :=
  let c0_i32_1212_r0 : BitVec 32 := 0#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1211_r0 : BitVec 32 := 128#32
  let v1699_r0 : BitVec 32 := Scalar.muli v1680_r0 c128_i32_1211_r0
  let v1700_r0 : BitVec 32 := Scalar.addi c0_i32_1212_r0 v1699_r0
  v1700_r0
def k0_mult118 (k0_t3 : Fin k0_t3_loop.trips) : BitVec 32 :=
  let c3712_i32_1219_r0 : BitVec 32 := 3712#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1218_r0 : BitVec 32 := 128#32
  let v1716_r0 : BitVec 32 := Scalar.muli v1680_r0 c128_i32_1218_r0
  let v1717_r0 : BitVec 32 := Scalar.addi c3712_i32_1219_r0 v1716_r0
  v1717_r0
def k0_off28 (k0_t3 : Fin k0_t3_loop.trips) (c3712_i32_1219_r0 : BitVec 32) (c0_i32_1201_r0 : BitVec 32) : Fin 2 → Nat :=
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1218_r0 : BitVec 32 := 128#32
  let v1716_r0 : BitVec 32 := Scalar.muli v1680_r0 c128_i32_1218_r0
  let v1717_r0 : BitVec 32 := Scalar.addi c3712_i32_1219_r0 v1716_r0
  let v1718_r0 : BitVec 32 := v1717_r0
  let v1719_r0 : Index := Scalar.indexCast v1718_r0
  let c256_1220_r0 : Index := 256#32
  ![v1719_r0.toNat, 256]
def k0_mult119 (k0_t3 : Fin k0_t3_loop.trips) : BitVec 32 :=
  let c0_i32_1224_r0 : BitVec 32 := 0#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1223_r0 : BitVec 32 := 128#32
  let v1727_r0 : BitVec 32 := Scalar.muli v1680_r0 c128_i32_1223_r0
  let v1728_r0 : BitVec 32 := Scalar.addi c0_i32_1224_r0 v1727_r0
  v1728_r0
def k0_mult120 (k0_t3 : Fin k0_t3_loop.trips) : BitVec 32 :=
  let c7424_i32_1231_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1230_r0 : BitVec 32 := 256#32
  let v1744_r0 : BitVec 32 := Scalar.muli v1679_r0 c256_i32_1230_r0
  let v1745_r0 : BitVec 32 := Scalar.addi c7424_i32_1231_r0 v1744_r0
  v1745_r0
def k0_off29 (k0_t3 : Fin k0_t3_loop.trips) (c0_i32_1201_r0 : BitVec 32) : Fin 3 → Nat :=
  let c1_1232_r0 : Index := 1#32
  let c256_1233_r0 : Index := 256#32
  let c7424_i32_1231_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1230_r0 : BitVec 32 := 256#32
  let v1744_r0 : BitVec 32 := Scalar.muli v1679_r0 c256_i32_1230_r0
  let v1745_r0 : BitVec 32 := Scalar.addi c7424_i32_1231_r0 v1744_r0
  let v1746_r0 : BitVec 32 := v1745_r0
  let v1747_r0 : Index := Scalar.indexCast v1746_r0
  ![1, 256, v1747_r0.toNat]
def k0_mult121 (k0_t3 : Fin k0_t3_loop.trips) : BitVec 32 :=
  let c7424_i32_1235_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1234_r0 : BitVec 32 := 256#32
  let v1751_r0 : BitVec 32 := Scalar.muli v1679_r0 c256_i32_1234_r0
  let v1752_r0 : BitVec 32 := Scalar.addi c7424_i32_1235_r0 v1751_r0
  v1752_r0
def k0_off30 (k0_t3 : Fin k0_t3_loop.trips) (c0_i32_1201_r0 : BitVec 32) : Fin 3 → Nat :=
  let c1_1236_r0 : Index := 1#32
  let c512_1237_r0 : Index := 512#32
  let c7424_i32_1235_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1234_r0 : BitVec 32 := 256#32
  let v1751_r0 : BitVec 32 := Scalar.muli v1679_r0 c256_i32_1234_r0
  let v1752_r0 : BitVec 32 := Scalar.addi c7424_i32_1235_r0 v1751_r0
  let v1753_r0 : BitVec 32 := v1752_r0
  let v1754_r0 : Index := Scalar.indexCast v1753_r0
  ![1, 512, v1754_r0.toNat]
def k0_mult122 (k0_t3 : Fin k0_t3_loop.trips) : BitVec 32 :=
  let c7424_i32_1239_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1238_r0 : BitVec 32 := 256#32
  let v1758_r0 : BitVec 32 := Scalar.muli v1679_r0 c256_i32_1238_r0
  let v1759_r0 : BitVec 32 := Scalar.addi c7424_i32_1239_r0 v1758_r0
  v1759_r0
def k0_off31 (k0_t3 : Fin k0_t3_loop.trips) (c0_i32_1201_r0 : BitVec 32) : Fin 3 → Nat :=
  let c1_1240_r0 : Index := 1#32
  let c768_1241_r0 : Index := 768#32
  let c7424_i32_1239_r0 : BitVec 32 := 7424#32
  let c1_i32_1200_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1238_r0 : BitVec 32 := 256#32
  let v1758_r0 : BitVec 32 := Scalar.muli v1679_r0 c256_i32_1238_r0
  let v1759_r0 : BitVec 32 := Scalar.addi c7424_i32_1239_r0 v1758_r0
  let v1760_r0 : BitVec 32 := v1759_r0
  let v1761_r0 : Index := Scalar.indexCast v1760_r0
  ![1, 768, v1761_r0.toNat]
def k0_mult123 (k0_t3 : Fin k0_t3_loop.trips) : BitVec 32 :=
  let c7424_i32_1247_r0 : BitVec 32 := 7424#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1246_r0 : BitVec 32 := 256#32
  let v1769_r0 : BitVec 32 := Scalar.muli v1767_r0 c256_i32_1246_r0
  let v1770_r0 : BitVec 32 := Scalar.addi c7424_i32_1247_r0 v1769_r0
  v1770_r0
def k0_mult124 (k0_t3 : Fin k0_t3_loop.trips) : BitVec 32 :=
  let c3712_i32_1251_r0 : BitVec 32 := 3712#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1250_r0 : BitVec 32 := 128#32
  let v1776_r0 : BitVec 32 := Scalar.muli v1768_r0 c128_i32_1250_r0
  let v1777_r0 : BitVec 32 := Scalar.addi c3712_i32_1251_r0 v1776_r0
  v1777_r0
def k0_mult125 (k0_t3 : Fin k0_t3_loop.trips) : BitVec 32 :=
  let c0_i32_1256_r0 : BitVec 32 := 0#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1255_r0 : BitVec 32 := 128#32
  let v1787_r0 : BitVec 32 := Scalar.muli v1768_r0 c128_i32_1255_r0
  let v1788_r0 : BitVec 32 := Scalar.addi c0_i32_1256_r0 v1787_r0
  v1788_r0
def k0_mult126 (k0_t3 : Fin k0_t3_loop.trips) : BitVec 32 :=
  let c3712_i32_1263_r0 : BitVec 32 := 3712#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1262_r0 : BitVec 32 := 128#32
  let v1804_r0 : BitVec 32 := Scalar.muli v1768_r0 c128_i32_1262_r0
  let v1805_r0 : BitVec 32 := Scalar.addi c3712_i32_1263_r0 v1804_r0
  v1805_r0
def k0_mult127 (k0_t3 : Fin k0_t3_loop.trips) : BitVec 32 :=
  let c0_i32_1268_r0 : BitVec 32 := 0#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c1_i32_1245_r0 : BitVec 32 := 1#32
  let v1768_r0 : BitVec 32 := Scalar.addi v1767_r0 c1_i32_1245_r0
  let c128_i32_1267_r0 : BitVec 32 := 128#32
  let v1815_r0 : BitVec 32 := Scalar.muli v1768_r0 c128_i32_1267_r0
  let v1816_r0 : BitVec 32 := Scalar.addi c0_i32_1268_r0 v1815_r0
  v1816_r0
def k0_mult128 (k0_t3 : Fin k0_t3_loop.trips) : BitVec 32 :=
  let c7424_i32_1275_r0 : BitVec 32 := 7424#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1274_r0 : BitVec 32 := 256#32
  let v1832_r0 : BitVec 32 := Scalar.muli v1767_r0 c256_i32_1274_r0
  let v1833_r0 : BitVec 32 := Scalar.addi c7424_i32_1275_r0 v1832_r0
  v1833_r0
def k0_mult129 (k0_t3 : Fin k0_t3_loop.trips) : BitVec 32 :=
  let c7424_i32_1279_r0 : BitVec 32 := 7424#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1278_r0 : BitVec 32 := 256#32
  let v1839_r0 : BitVec 32 := Scalar.muli v1767_r0 c256_i32_1278_r0
  let v1840_r0 : BitVec 32 := Scalar.addi c7424_i32_1279_r0 v1839_r0
  v1840_r0
def k0_mult130 (k0_t3 : Fin k0_t3_loop.trips) : BitVec 32 :=
  let c7424_i32_1283_r0 : BitVec 32 := 7424#32
  let c1_i32_1243_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1242_r0 : BitVec 32 := 3#32
  let v1765_r0 : BitVec 32 := Scalar.muli arg11_r0 c3_i32_1242_r0
  let v1766_r0 : BitVec 32 := Scalar.addi c1_i32_1243_r0 v1765_r0
  let c1_i32_1244_r0 : BitVec 32 := 1#32
  let v1767_r0 : BitVec 32 := Scalar.addi v1766_r0 c1_i32_1244_r0
  let c256_i32_1282_r0 : BitVec 32 := 256#32
  let v1846_r0 : BitVec 32 := Scalar.muli v1767_r0 c256_i32_1282_r0
  let v1847_r0 : BitVec 32 := Scalar.addi c7424_i32_1283_r0 v1846_r0
  v1847_r0
def k0_mult131 (k0_t3 : Fin k0_t3_loop.trips) : BitVec 32 :=
  let c7424_i32_1290_r0 : BitVec 32 := 7424#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1289_r0 : BitVec 32 := 256#32
  let v1857_r0 : BitVec 32 := Scalar.muli v1855_r0 c256_i32_1289_r0
  let v1858_r0 : BitVec 32 := Scalar.addi c7424_i32_1290_r0 v1857_r0
  v1858_r0
def k0_mult132 (k0_t3 : Fin k0_t3_loop.trips) : BitVec 32 :=
  let c3712_i32_1294_r0 : BitVec 32 := 3712#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1293_r0 : BitVec 32 := 128#32
  let v1864_r0 : BitVec 32 := Scalar.muli v1856_r0 c128_i32_1293_r0
  let v1865_r0 : BitVec 32 := Scalar.addi c3712_i32_1294_r0 v1864_r0
  v1865_r0
def k0_mult133 (k0_t3 : Fin k0_t3_loop.trips) : BitVec 32 :=
  let c0_i32_1299_r0 : BitVec 32 := 0#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1298_r0 : BitVec 32 := 128#32
  let v1875_r0 : BitVec 32 := Scalar.muli v1856_r0 c128_i32_1298_r0
  let v1876_r0 : BitVec 32 := Scalar.addi c0_i32_1299_r0 v1875_r0
  v1876_r0
def k0_mult134 (k0_t3 : Fin k0_t3_loop.trips) : BitVec 32 :=
  let c3712_i32_1306_r0 : BitVec 32 := 3712#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1305_r0 : BitVec 32 := 128#32
  let v1892_r0 : BitVec 32 := Scalar.muli v1856_r0 c128_i32_1305_r0
  let v1893_r0 : BitVec 32 := Scalar.addi c3712_i32_1306_r0 v1892_r0
  v1893_r0
def k0_mult135 (k0_t3 : Fin k0_t3_loop.trips) : BitVec 32 :=
  let c0_i32_1311_r0 : BitVec 32 := 0#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c1_i32_1288_r0 : BitVec 32 := 1#32
  let v1856_r0 : BitVec 32 := Scalar.addi v1855_r0 c1_i32_1288_r0
  let c128_i32_1310_r0 : BitVec 32 := 128#32
  let v1903_r0 : BitVec 32 := Scalar.muli v1856_r0 c128_i32_1310_r0
  let v1904_r0 : BitVec 32 := Scalar.addi c0_i32_1311_r0 v1903_r0
  v1904_r0
def k0_mult136 (k0_t3 : Fin k0_t3_loop.trips) : BitVec 32 :=
  let c7424_i32_1318_r0 : BitVec 32 := 7424#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1317_r0 : BitVec 32 := 256#32
  let v1920_r0 : BitVec 32 := Scalar.muli v1855_r0 c256_i32_1317_r0
  let v1921_r0 : BitVec 32 := Scalar.addi c7424_i32_1318_r0 v1920_r0
  v1921_r0
def k0_mult137 (k0_t3 : Fin k0_t3_loop.trips) : BitVec 32 :=
  let c7424_i32_1322_r0 : BitVec 32 := 7424#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1321_r0 : BitVec 32 := 256#32
  let v1927_r0 : BitVec 32 := Scalar.muli v1855_r0 c256_i32_1321_r0
  let v1928_r0 : BitVec 32 := Scalar.addi c7424_i32_1322_r0 v1927_r0
  v1928_r0
def k0_mult138 (k0_t3 : Fin k0_t3_loop.trips) : BitVec 32 :=
  let c7424_i32_1326_r0 : BitVec 32 := 7424#32
  let c1_i32_1287_r0 : BitVec 32 := 1#32
  let c0_i32_364_r0 : BitVec 32 := 0#32
  let c1_i32_366_r0 : BitVec 32 := 1#32
  let arg11_r0 : BitVec 32 := Scf.iv c0_i32_364_r0 c1_i32_366_r0 k0_t3
  let c3_i32_1286_r0 : BitVec 32 := 3#32
  let v1853_r0 : BitVec 32 := Scalar.muli arg11_r0 c3_i32_1286_r0
  let v1854_r0 : BitVec 32 := Scalar.addi c1_i32_1287_r0 v1853_r0
  let c2_i32_r0 : BitVec 32 := 2#32
  let v1855_r0 : BitVec 32 := Scalar.addi v1854_r0 c2_i32_r0
  let c256_i32_1325_r0 : BitVec 32 := 256#32
  let v1934_r0 : BitVec 32 := Scalar.muli v1855_r0 c256_i32_1325_r0
  let v1935_r0 : BitVec 32 := Scalar.addi c7424_i32_1326_r0 v1934_r0
  v1935_r0
def k0_mult139 : BitVec 32 :=
  let c14592_i32_368_r0 : BitVec 32 := 14592#32
  c14592_i32_368_r0
def k0_mult140 : BitVec 32 :=
  let c3712_i32_371_r0 : BitVec 32 := 3712#32
  c3712_i32_371_r0
def k0_mult141 : BitVec 32 :=
  let c3712_i32_377_r0 : BitVec 32 := 3712#32
  c3712_i32_377_r0
def k0_mult142 : BitVec 32 :=
  let c14592_i32_383_r0 : BitVec 32 := 14592#32
  c14592_i32_383_r0
def k0_mult143 : BitVec 32 :=
  let c14592_i32_386_r0 : BitVec 32 := 14592#32
  c14592_i32_386_r0
def k0_mult144 : BitVec 32 :=
  let c14592_i32_389_r0 : BitVec 32 := 14592#32
  c14592_i32_389_r0
def k0_mult145 : BitVec 32 :=
  let c0_i32_416_r0 : BitVec 32 := 0#32
  c0_i32_416_r0
def k0_mult146 : BitVec 32 :=
  let c7424_i32_419_r0 : BitVec 32 := 7424#32
  c7424_i32_419_r0
def k0_mult147 : BitVec 32 :=
  let c3840_i32_422_r0 : BitVec 32 := 3840#32
  c3840_i32_422_r0
def k0_mult148 : BitVec 32 :=
  let c3840_i32_428_r0 : BitVec 32 := 3840#32
  c3840_i32_428_r0
def k0_mult149 : BitVec 32 :=
  let c0_i32_458_r0 : BitVec 32 := 0#32
  c0_i32_458_r0
def k0_mult150 : BitVec 32 :=
  let c7424_i32_461_r0 : BitVec 32 := 7424#32
  c7424_i32_461_r0
def k0_mult151 : BitVec 32 :=
  let c0_i32_488_r0 : BitVec 32 := 0#32
  c0_i32_488_r0
def k0_mult152 : BitVec 32 :=
  let c7424_i32_491_r0 : BitVec 32 := 7424#32
  c7424_i32_491_r0
def k0_mult153 : BitVec 32 :=
  let c0_i32_518_r0 : BitVec 32 := 0#32
  c0_i32_518_r0
def k0_mult154 : BitVec 32 :=
  let c7424_i32_521_r0 : BitVec 32 := 7424#32
  c7424_i32_521_r0
@[reducible] def k0_t4_loop : Scf.Loop 32 :=
  let c0_i32_525_r0 : BitVec 32 := 0#32
  let c9_i32_526_r0 : BitVec 32 := 9#32
  let v793_r0 : BitVec 32 := Scalar.addi c0_i32_525_r0 c9_i32_526_r0
  let c1_i32_527_r0 : BitVec 32 := 1#32
  ⟨c0_i32_525_r0, v793_r0, c1_i32_527_r0⟩
def k0_mult155 (k0_t4 : Fin k0_t4_loop.trips) : BitVec 32 :=
  let c0_i32_1203_r0 : BitVec 32 := 0#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  v1682_r0
def k0_off32 (k0_t4 : Fin k0_t4_loop.trips) (c0_i32_1203_r0 : BitVec 32) (c0_i32_1201_r0 : BitVec 32) : Fin 3 → Nat :=
  let c0_1204_r0 : Index := 0#32
  let c0_1205_r0 : Index := 0#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  let v1683_r0 : BitVec 32 := v1682_r0
  let v1684_r0 : Index := Scalar.indexCast v1683_r0
  ![0, 0, v1684_r0.toNat]
def k0_mult156 (k0_t4 : Fin k0_t4_loop.trips) : BitVec 32 :=
  let c7424_i32_1207_r0 : BitVec 32 := 7424#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c7424_i32_1207_r0 v1688_r0
  v1689_r0
def k0_mult157 (k0_t4 : Fin k0_t4_loop.trips) : BitVec 32 :=
  let c3712_i32_1211_r0 : BitVec 32 := 3712#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c3712_i32_1211_r0 v1696_r0
  v1697_r0
def k0_off33 (k0_t4 : Fin k0_t4_loop.trips) (c0_i32_1201_r0 : BitVec 32) : Fin 2 → Nat :=
  let c3712_i32_1211_r0 : BitVec 32 := 3712#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c3712_i32_1211_r0 v1696_r0
  let v1698_r0 : BitVec 32 := v1697_r0
  let v1699_r0 : Index := Scalar.indexCast v1698_r0
  let c0_1212_r0 : Index := 0#32
  ![v1699_r0.toNat, 0]
def k0_mult158 (k0_t4 : Fin k0_t4_loop.trips) : BitVec 32 :=
  let c3712_i32_1218_r0 : BitVec 32 := 3712#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1217_r0 : BitVec 32 := 128#32
  let v1712_r0 : BitVec 32 := Scalar.muli v1680_r0 c128_i32_1217_r0
  let v1713_r0 : BitVec 32 := Scalar.addi c3712_i32_1218_r0 v1712_r0
  v1713_r0
def k0_off34 (k0_t4 : Fin k0_t4_loop.trips) (c0_i32_1201_r0 : BitVec 32) : Fin 2 → Nat :=
  let c3712_i32_1218_r0 : BitVec 32 := 3712#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1217_r0 : BitVec 32 := 128#32
  let v1712_r0 : BitVec 32 := Scalar.muli v1680_r0 c128_i32_1217_r0
  let v1713_r0 : BitVec 32 := Scalar.addi c3712_i32_1218_r0 v1712_r0
  let v1714_r0 : BitVec 32 := v1713_r0
  let v1715_r0 : Index := Scalar.indexCast v1714_r0
  let c256_1219_r0 : Index := 256#32
  ![v1715_r0.toNat, 256]
def k0_mult159 (k0_t4 : Fin k0_t4_loop.trips) : BitVec 32 :=
  let c0_i32_1225_r0 : BitVec 32 := 0#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1224_r0 : BitVec 32 := 256#32
  let v1728_r0 : BitVec 32 := Scalar.muli v1679_r0 c256_i32_1224_r0
  let v1729_r0 : BitVec 32 := Scalar.addi c0_i32_1225_r0 v1728_r0
  v1729_r0
def k0_off35 (k0_t4 : Fin k0_t4_loop.trips) (c0_i32_1225_r0 : BitVec 32) (c0_i32_1201_r0 : BitVec 32) : Fin 3 → Nat :=
  let c0_1226_r0 : Index := 0#32
  let c256_1227_r0 : Index := 256#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1224_r0 : BitVec 32 := 256#32
  let v1728_r0 : BitVec 32 := Scalar.muli v1679_r0 c256_i32_1224_r0
  let v1729_r0 : BitVec 32 := Scalar.addi c0_i32_1225_r0 v1728_r0
  let v1730_r0 : BitVec 32 := v1729_r0
  let v1731_r0 : Index := Scalar.indexCast v1730_r0
  ![0, 256, v1731_r0.toNat]
def k0_mult160 (k0_t4 : Fin k0_t4_loop.trips) : BitVec 32 :=
  let c7424_i32_1229_r0 : BitVec 32 := 7424#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1228_r0 : BitVec 32 := 256#32
  let v1735_r0 : BitVec 32 := Scalar.muli v1679_r0 c256_i32_1228_r0
  let v1736_r0 : BitVec 32 := Scalar.addi c7424_i32_1229_r0 v1735_r0
  v1736_r0
def k0_mult161 (k0_t4 : Fin k0_t4_loop.trips) : BitVec 32 :=
  let c0_i32_1233_r0 : BitVec 32 := 0#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1232_r0 : BitVec 32 := 256#32
  let v1743_r0 : BitVec 32 := Scalar.muli v1679_r0 c256_i32_1232_r0
  let v1744_r0 : BitVec 32 := Scalar.addi c0_i32_1233_r0 v1743_r0
  v1744_r0
def k0_off36 (k0_t4 : Fin k0_t4_loop.trips) (c0_i32_1233_r0 : BitVec 32) (c0_i32_1201_r0 : BitVec 32) : Fin 3 → Nat :=
  let c0_1234_r0 : Index := 0#32
  let c512_1235_r0 : Index := 512#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1232_r0 : BitVec 32 := 256#32
  let v1743_r0 : BitVec 32 := Scalar.muli v1679_r0 c256_i32_1232_r0
  let v1744_r0 : BitVec 32 := Scalar.addi c0_i32_1233_r0 v1743_r0
  let v1745_r0 : BitVec 32 := v1744_r0
  let v1746_r0 : Index := Scalar.indexCast v1745_r0
  ![0, 512, v1746_r0.toNat]
def k0_mult162 (k0_t4 : Fin k0_t4_loop.trips) : BitVec 32 :=
  let c7424_i32_1237_r0 : BitVec 32 := 7424#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1236_r0 : BitVec 32 := 256#32
  let v1750_r0 : BitVec 32 := Scalar.muli v1679_r0 c256_i32_1236_r0
  let v1751_r0 : BitVec 32 := Scalar.addi c7424_i32_1237_r0 v1750_r0
  v1751_r0
def k0_mult163 (k0_t4 : Fin k0_t4_loop.trips) : BitVec 32 :=
  let c0_i32_1241_r0 : BitVec 32 := 0#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1240_r0 : BitVec 32 := 256#32
  let v1758_r0 : BitVec 32 := Scalar.muli v1679_r0 c256_i32_1240_r0
  let v1759_r0 : BitVec 32 := Scalar.addi c0_i32_1241_r0 v1758_r0
  v1759_r0
def k0_off37 (k0_t4 : Fin k0_t4_loop.trips) (c0_i32_1241_r0 : BitVec 32) (c0_i32_1201_r0 : BitVec 32) : Fin 3 → Nat :=
  let c0_1242_r0 : Index := 0#32
  let c768_1243_r0 : Index := 768#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1240_r0 : BitVec 32 := 256#32
  let v1758_r0 : BitVec 32 := Scalar.muli v1679_r0 c256_i32_1240_r0
  let v1759_r0 : BitVec 32 := Scalar.addi c0_i32_1241_r0 v1758_r0
  let v1760_r0 : BitVec 32 := v1759_r0
  let v1761_r0 : Index := Scalar.indexCast v1760_r0
  ![0, 768, v1761_r0.toNat]
def k0_mult164 (k0_t4 : Fin k0_t4_loop.trips) : BitVec 32 :=
  let c7424_i32_1245_r0 : BitVec 32 := 7424#32
  let c1_i32_1200_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1244_r0 : BitVec 32 := 256#32
  let v1765_r0 : BitVec 32 := Scalar.muli v1679_r0 c256_i32_1244_r0
  let v1766_r0 : BitVec 32 := Scalar.addi c7424_i32_1245_r0 v1765_r0
  v1766_r0
def k0_mult165 (k0_t4 : Fin k0_t4_loop.trips) : BitVec 32 :=
  let c0_i32_1253_r0 : BitVec 32 := 0#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1252_r0 : BitVec 32 := 256#32
  let v1777_r0 : BitVec 32 := Scalar.muli v1775_r0 c256_i32_1252_r0
  let v1778_r0 : BitVec 32 := Scalar.addi c0_i32_1253_r0 v1777_r0
  v1778_r0
def k0_mult166 (k0_t4 : Fin k0_t4_loop.trips) : BitVec 32 :=
  let c7424_i32_1257_r0 : BitVec 32 := 7424#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1256_r0 : BitVec 32 := 256#32
  let v1784_r0 : BitVec 32 := Scalar.muli v1775_r0 c256_i32_1256_r0
  let v1785_r0 : BitVec 32 := Scalar.addi c7424_i32_1257_r0 v1784_r0
  v1785_r0
def k0_mult167 (k0_t4 : Fin k0_t4_loop.trips) : BitVec 32 :=
  let c3712_i32_1261_r0 : BitVec 32 := 3712#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c1_i32_1251_r0 : BitVec 32 := 1#32
  let v1776_r0 : BitVec 32 := Scalar.addi v1775_r0 c1_i32_1251_r0
  let c128_i32_1260_r0 : BitVec 32 := 128#32
  let v1792_r0 : BitVec 32 := Scalar.muli v1776_r0 c128_i32_1260_r0
  let v1793_r0 : BitVec 32 := Scalar.addi c3712_i32_1261_r0 v1792_r0
  v1793_r0
def k0_mult168 (k0_t4 : Fin k0_t4_loop.trips) : BitVec 32 :=
  let c3712_i32_1268_r0 : BitVec 32 := 3712#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c1_i32_1251_r0 : BitVec 32 := 1#32
  let v1776_r0 : BitVec 32 := Scalar.addi v1775_r0 c1_i32_1251_r0
  let c128_i32_1267_r0 : BitVec 32 := 128#32
  let v1808_r0 : BitVec 32 := Scalar.muli v1776_r0 c128_i32_1267_r0
  let v1809_r0 : BitVec 32 := Scalar.addi c3712_i32_1268_r0 v1808_r0
  v1809_r0
def k0_mult169 (k0_t4 : Fin k0_t4_loop.trips) : BitVec 32 :=
  let c0_i32_1275_r0 : BitVec 32 := 0#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1274_r0 : BitVec 32 := 256#32
  let v1824_r0 : BitVec 32 := Scalar.muli v1775_r0 c256_i32_1274_r0
  let v1825_r0 : BitVec 32 := Scalar.addi c0_i32_1275_r0 v1824_r0
  v1825_r0
def k0_mult170 (k0_t4 : Fin k0_t4_loop.trips) : BitVec 32 :=
  let c7424_i32_1279_r0 : BitVec 32 := 7424#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1278_r0 : BitVec 32 := 256#32
  let v1831_r0 : BitVec 32 := Scalar.muli v1775_r0 c256_i32_1278_r0
  let v1832_r0 : BitVec 32 := Scalar.addi c7424_i32_1279_r0 v1831_r0
  v1832_r0
def k0_mult171 (k0_t4 : Fin k0_t4_loop.trips) : BitVec 32 :=
  let c0_i32_1283_r0 : BitVec 32 := 0#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1282_r0 : BitVec 32 := 256#32
  let v1839_r0 : BitVec 32 := Scalar.muli v1775_r0 c256_i32_1282_r0
  let v1840_r0 : BitVec 32 := Scalar.addi c0_i32_1283_r0 v1839_r0
  v1840_r0
def k0_mult172 (k0_t4 : Fin k0_t4_loop.trips) : BitVec 32 :=
  let c7424_i32_1287_r0 : BitVec 32 := 7424#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1286_r0 : BitVec 32 := 256#32
  let v1846_r0 : BitVec 32 := Scalar.muli v1775_r0 c256_i32_1286_r0
  let v1847_r0 : BitVec 32 := Scalar.addi c7424_i32_1287_r0 v1846_r0
  v1847_r0
def k0_mult173 (k0_t4 : Fin k0_t4_loop.trips) : BitVec 32 :=
  let c0_i32_1291_r0 : BitVec 32 := 0#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1290_r0 : BitVec 32 := 256#32
  let v1854_r0 : BitVec 32 := Scalar.muli v1775_r0 c256_i32_1290_r0
  let v1855_r0 : BitVec 32 := Scalar.addi c0_i32_1291_r0 v1854_r0
  v1855_r0
def k0_mult174 (k0_t4 : Fin k0_t4_loop.trips) : BitVec 32 :=
  let c7424_i32_1295_r0 : BitVec 32 := 7424#32
  let c1_i32_1249_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1294_r0 : BitVec 32 := 256#32
  let v1861_r0 : BitVec 32 := Scalar.muli v1775_r0 c256_i32_1294_r0
  let v1862_r0 : BitVec 32 := Scalar.addi c7424_i32_1295_r0 v1861_r0
  v1862_r0
def k0_mult175 (k0_t4 : Fin k0_t4_loop.trips) : BitVec 32 :=
  let c0_i32_1302_r0 : BitVec 32 := 0#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1301_r0 : BitVec 32 := 256#32
  let v1873_r0 : BitVec 32 := Scalar.muli v1871_r0 c256_i32_1301_r0
  let v1874_r0 : BitVec 32 := Scalar.addi c0_i32_1302_r0 v1873_r0
  v1874_r0
def k0_mult176 (k0_t4 : Fin k0_t4_loop.trips) : BitVec 32 :=
  let c7424_i32_1306_r0 : BitVec 32 := 7424#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1305_r0 : BitVec 32 := 256#32
  let v1880_r0 : BitVec 32 := Scalar.muli v1871_r0 c256_i32_1305_r0
  let v1881_r0 : BitVec 32 := Scalar.addi c7424_i32_1306_r0 v1880_r0
  v1881_r0
def k0_mult177 (k0_t4 : Fin k0_t4_loop.trips) : BitVec 32 :=
  let c3712_i32_1310_r0 : BitVec 32 := 3712#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c1_i32_1300_r0 : BitVec 32 := 1#32
  let v1872_r0 : BitVec 32 := Scalar.addi v1871_r0 c1_i32_1300_r0
  let c128_i32_1309_r0 : BitVec 32 := 128#32
  let v1888_r0 : BitVec 32 := Scalar.muli v1872_r0 c128_i32_1309_r0
  let v1889_r0 : BitVec 32 := Scalar.addi c3712_i32_1310_r0 v1888_r0
  v1889_r0
def k0_mult178 (k0_t4 : Fin k0_t4_loop.trips) : BitVec 32 :=
  let c3712_i32_1317_r0 : BitVec 32 := 3712#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c1_i32_1300_r0 : BitVec 32 := 1#32
  let v1872_r0 : BitVec 32 := Scalar.addi v1871_r0 c1_i32_1300_r0
  let c128_i32_1316_r0 : BitVec 32 := 128#32
  let v1904_r0 : BitVec 32 := Scalar.muli v1872_r0 c128_i32_1316_r0
  let v1905_r0 : BitVec 32 := Scalar.addi c3712_i32_1317_r0 v1904_r0
  v1905_r0
def k0_mult179 (k0_t4 : Fin k0_t4_loop.trips) : BitVec 32 :=
  let c0_i32_1324_r0 : BitVec 32 := 0#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1323_r0 : BitVec 32 := 256#32
  let v1920_r0 : BitVec 32 := Scalar.muli v1871_r0 c256_i32_1323_r0
  let v1921_r0 : BitVec 32 := Scalar.addi c0_i32_1324_r0 v1920_r0
  v1921_r0
def k0_mult180 (k0_t4 : Fin k0_t4_loop.trips) : BitVec 32 :=
  let c7424_i32_1328_r0 : BitVec 32 := 7424#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1327_r0 : BitVec 32 := 256#32
  let v1927_r0 : BitVec 32 := Scalar.muli v1871_r0 c256_i32_1327_r0
  let v1928_r0 : BitVec 32 := Scalar.addi c7424_i32_1328_r0 v1927_r0
  v1928_r0
def k0_mult181 (k0_t4 : Fin k0_t4_loop.trips) : BitVec 32 :=
  let c0_i32_1332_r0 : BitVec 32 := 0#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1331_r0 : BitVec 32 := 256#32
  let v1935_r0 : BitVec 32 := Scalar.muli v1871_r0 c256_i32_1331_r0
  let v1936_r0 : BitVec 32 := Scalar.addi c0_i32_1332_r0 v1935_r0
  v1936_r0
def k0_mult182 (k0_t4 : Fin k0_t4_loop.trips) : BitVec 32 :=
  let c7424_i32_1336_r0 : BitVec 32 := 7424#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1335_r0 : BitVec 32 := 256#32
  let v1942_r0 : BitVec 32 := Scalar.muli v1871_r0 c256_i32_1335_r0
  let v1943_r0 : BitVec 32 := Scalar.addi c7424_i32_1336_r0 v1942_r0
  v1943_r0
def k0_mult183 (k0_t4 : Fin k0_t4_loop.trips) : BitVec 32 :=
  let c0_i32_1340_r0 : BitVec 32 := 0#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1339_r0 : BitVec 32 := 256#32
  let v1950_r0 : BitVec 32 := Scalar.muli v1871_r0 c256_i32_1339_r0
  let v1951_r0 : BitVec 32 := Scalar.addi c0_i32_1340_r0 v1950_r0
  v1951_r0
def k0_mult184 (k0_t4 : Fin k0_t4_loop.trips) : BitVec 32 :=
  let c7424_i32_1344_r0 : BitVec 32 := 7424#32
  let c1_i32_1299_r0 : BitVec 32 := 1#32
  let c0_i32_525_r0 : BitVec 32 := 0#32
  let c1_i32_527_r0 : BitVec 32 := 1#32
  let arg11_r0 : BitVec 32 := Scf.iv c0_i32_525_r0 c1_i32_527_r0 k0_t4
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1343_r0 : BitVec 32 := 256#32
  let v1957_r0 : BitVec 32 := Scalar.muli v1871_r0 c256_i32_1343_r0
  let v1958_r0 : BitVec 32 := Scalar.addi c7424_i32_1344_r0 v1957_r0
  v1958_r0
def k0_mult185 : BitVec 32 :=
  let c7168_i32_529_r0 : BitVec 32 := 7168#32
  c7168_i32_529_r0
def k0_mult186 : BitVec 32 :=
  let c14592_i32_532_r0 : BitVec 32 := 14592#32
  c14592_i32_532_r0
def k0_mult187 : BitVec 32 :=
  let c3712_i32_535_r0 : BitVec 32 := 3712#32
  c3712_i32_535_r0
def k0_mult188 : BitVec 32 :=
  let c3712_i32_539_r0 : BitVec 32 := 3712#32
  c3712_i32_539_r0
def k0_mult189 : BitVec 32 :=
  let c3712_i32_545_r0 : BitVec 32 := 3712#32
  c3712_i32_545_r0
def k0_mult190 : BitVec 32 :=
  let c3712_i32_549_r0 : BitVec 32 := 3712#32
  c3712_i32_549_r0
def k0_mult191 : BitVec 32 :=
  let c7168_i32_555_r0 : BitVec 32 := 7168#32
  c7168_i32_555_r0
def k0_mult192 : BitVec 32 :=
  let c14592_i32_558_r0 : BitVec 32 := 14592#32
  c14592_i32_558_r0
def k0_mult193 : BitVec 32 :=
  let c7168_i32_561_r0 : BitVec 32 := 7168#32
  c7168_i32_561_r0
def k0_mult194 : BitVec 32 :=
  let c14592_i32_564_r0 : BitVec 32 := 14592#32
  c14592_i32_564_r0
def k0_mult195 : BitVec 32 :=
  let c7168_i32_567_r0 : BitVec 32 := 7168#32
  c7168_i32_567_r0
def k0_mult196 : BitVec 32 :=
  let c14592_i32_570_r0 : BitVec 32 := 14592#32
  c14592_i32_570_r0
def k0_mult197 : BitVec 32 :=
  let c7424_i32_605_r0 : BitVec 32 := 7424#32
  c7424_i32_605_r0
def k0_mult198 : BitVec 32 :=
  let c7424_i32_608_r0 : BitVec 32 := 7424#32
  c7424_i32_608_r0
def k0_mult199 : BitVec 32 :=
  let c3840_i32_611_r0 : BitVec 32 := 3840#32
  c3840_i32_611_r0
def k0_mult200 : BitVec 32 :=
  let c3840_i32_615_r0 : BitVec 32 := 3840#32
  c3840_i32_615_r0
def k0_mult201 : BitVec 32 :=
  let c3840_i32_621_r0 : BitVec 32 := 3840#32
  c3840_i32_621_r0
def k0_mult202 : BitVec 32 :=
  let c3840_i32_625_r0 : BitVec 32 := 3840#32
  c3840_i32_625_r0
def k0_mult203 : BitVec 32 :=
  let c7424_i32_663_r0 : BitVec 32 := 7424#32
  c7424_i32_663_r0
def k0_mult204 : BitVec 32 :=
  let c7424_i32_666_r0 : BitVec 32 := 7424#32
  c7424_i32_666_r0
def k0_mult205 : BitVec 32 :=
  let c7424_i32_701_r0 : BitVec 32 := 7424#32
  c7424_i32_701_r0
def k0_mult206 : BitVec 32 :=
  let c7424_i32_704_r0 : BitVec 32 := 7424#32
  c7424_i32_704_r0
def k0_mult207 : BitVec 32 :=
  let c7424_i32_739_r0 : BitVec 32 := 7424#32
  c7424_i32_739_r0
def k0_mult208 : BitVec 32 :=
  let c7424_i32_742_r0 : BitVec 32 := 7424#32
  c7424_i32_742_r0
@[reducible] def k0_t5_loop : Scf.Loop 32 :=
  let c0_i32_746_r0 : BitVec 32 := 0#32
  let c9_i32_747_r0 : BitVec 32 := 9#32
  let v1083_r0 : BitVec 32 := Scalar.addi c0_i32_746_r0 c9_i32_747_r0
  let c1_i32_748_r0 : BitVec 32 := 1#32
  ⟨c0_i32_746_r0, v1083_r0, c1_i32_748_r0⟩
def k0_mult209 (k0_t5 : Fin k0_t5_loop.trips) : BitVec 32 :=
  let c7424_i32_1203_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c7424_i32_1203_r0 v1681_r0
  v1682_r0
def k0_off38 (k0_t5 : Fin k0_t5_loop.trips) (c0_i32_1201_r0 : BitVec 32) : Fin 3 → Nat :=
  let c0_1204_r0 : Index := 0#32
  let c0_1205_r0 : Index := 0#32
  let c7424_i32_1203_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c7424_i32_1203_r0 v1681_r0
  let v1683_r0 : BitVec 32 := v1682_r0
  let v1684_r0 : Index := Scalar.indexCast v1683_r0
  ![0, 0, v1684_r0.toNat]
def k0_mult210 (k0_t5 : Fin k0_t5_loop.trips) : BitVec 32 :=
  let c7424_i32_1207_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c7424_i32_1207_r0 v1688_r0
  v1689_r0
def k0_off39 (k0_t5 : Fin k0_t5_loop.trips) (c0_i32_1201_r0 : BitVec 32) : Fin 3 → Nat :=
  let c1_1208_r0 : Index := 1#32
  let c0_1209_r0 : Index := 0#32
  let c7424_i32_1207_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c7424_i32_1207_r0 v1688_r0
  let v1690_r0 : BitVec 32 := v1689_r0
  let v1691_r0 : Index := Scalar.indexCast v1690_r0
  ![1, 0, v1691_r0.toNat]
def k0_mult211 (k0_t5 : Fin k0_t5_loop.trips) : BitVec 32 :=
  let c3712_i32_1211_r0 : BitVec 32 := 3712#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c3712_i32_1211_r0 v1696_r0
  v1697_r0
def k0_off40 (k0_t5 : Fin k0_t5_loop.trips) (c0_i32_1201_r0 : BitVec 32) : Fin 2 → Nat :=
  let c3712_i32_1211_r0 : BitVec 32 := 3712#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c3712_i32_1211_r0 v1696_r0
  let v1698_r0 : BitVec 32 := v1697_r0
  let v1699_r0 : Index := Scalar.indexCast v1698_r0
  let c0_1212_r0 : Index := 0#32
  ![v1699_r0.toNat, 0]
def k0_mult212 (k0_t5 : Fin k0_t5_loop.trips) : BitVec 32 :=
  let c3712_i32_1216_r0 : BitVec 32 := 3712#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1215_r0 : BitVec 32 := 128#32
  let v1707_r0 : BitVec 32 := Scalar.muli v1680_r0 c128_i32_1215_r0
  let v1708_r0 : BitVec 32 := Scalar.addi c3712_i32_1216_r0 v1707_r0
  v1708_r0
def k0_mult213 (k0_t5 : Fin k0_t5_loop.trips) : BitVec 32 :=
  let c3712_i32_1223_r0 : BitVec 32 := 3712#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1222_r0 : BitVec 32 := 128#32
  let v1724_r0 : BitVec 32 := Scalar.muli v1680_r0 c128_i32_1222_r0
  let v1725_r0 : BitVec 32 := Scalar.addi c3712_i32_1223_r0 v1724_r0
  v1725_r0
def k0_off41 (k0_t5 : Fin k0_t5_loop.trips) (c0_i32_1201_r0 : BitVec 32) : Fin 2 → Nat :=
  let c3712_i32_1223_r0 : BitVec 32 := 3712#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1222_r0 : BitVec 32 := 128#32
  let v1724_r0 : BitVec 32 := Scalar.muli v1680_r0 c128_i32_1222_r0
  let v1725_r0 : BitVec 32 := Scalar.addi c3712_i32_1223_r0 v1724_r0
  let v1726_r0 : BitVec 32 := v1725_r0
  let v1727_r0 : Index := Scalar.indexCast v1726_r0
  let c256_1224_r0 : Index := 256#32
  ![v1727_r0.toNat, 256]
def k0_mult214 (k0_t5 : Fin k0_t5_loop.trips) : BitVec 32 :=
  let c3712_i32_1228_r0 : BitVec 32 := 3712#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1227_r0 : BitVec 32 := 128#32
  let v1735_r0 : BitVec 32 := Scalar.muli v1680_r0 c128_i32_1227_r0
  let v1736_r0 : BitVec 32 := Scalar.addi c3712_i32_1228_r0 v1735_r0
  v1736_r0
def k0_mult215 (k0_t5 : Fin k0_t5_loop.trips) : BitVec 32 :=
  let c7424_i32_1235_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1234_r0 : BitVec 32 := 256#32
  let v1752_r0 : BitVec 32 := Scalar.muli v1679_r0 c256_i32_1234_r0
  let v1753_r0 : BitVec 32 := Scalar.addi c7424_i32_1235_r0 v1752_r0
  v1753_r0
def k0_off42 (k0_t5 : Fin k0_t5_loop.trips) (c0_i32_1201_r0 : BitVec 32) : Fin 3 → Nat :=
  let c0_1236_r0 : Index := 0#32
  let c256_1237_r0 : Index := 256#32
  let c7424_i32_1235_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1234_r0 : BitVec 32 := 256#32
  let v1752_r0 : BitVec 32 := Scalar.muli v1679_r0 c256_i32_1234_r0
  let v1753_r0 : BitVec 32 := Scalar.addi c7424_i32_1235_r0 v1752_r0
  let v1754_r0 : BitVec 32 := v1753_r0
  let v1755_r0 : Index := Scalar.indexCast v1754_r0
  ![0, 256, v1755_r0.toNat]
def k0_mult216 (k0_t5 : Fin k0_t5_loop.trips) : BitVec 32 :=
  let c7424_i32_1239_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1238_r0 : BitVec 32 := 256#32
  let v1759_r0 : BitVec 32 := Scalar.muli v1679_r0 c256_i32_1238_r0
  let v1760_r0 : BitVec 32 := Scalar.addi c7424_i32_1239_r0 v1759_r0
  v1760_r0
def k0_off43 (k0_t5 : Fin k0_t5_loop.trips) (c0_i32_1201_r0 : BitVec 32) : Fin 3 → Nat :=
  let c1_1240_r0 : Index := 1#32
  let c256_1241_r0 : Index := 256#32
  let c7424_i32_1239_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1238_r0 : BitVec 32 := 256#32
  let v1759_r0 : BitVec 32 := Scalar.muli v1679_r0 c256_i32_1238_r0
  let v1760_r0 : BitVec 32 := Scalar.addi c7424_i32_1239_r0 v1759_r0
  let v1761_r0 : BitVec 32 := v1760_r0
  let v1762_r0 : Index := Scalar.indexCast v1761_r0
  ![1, 256, v1762_r0.toNat]
def k0_mult217 (k0_t5 : Fin k0_t5_loop.trips) : BitVec 32 :=
  let c7424_i32_1243_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1242_r0 : BitVec 32 := 256#32
  let v1767_r0 : BitVec 32 := Scalar.muli v1679_r0 c256_i32_1242_r0
  let v1768_r0 : BitVec 32 := Scalar.addi c7424_i32_1243_r0 v1767_r0
  v1768_r0
def k0_off44 (k0_t5 : Fin k0_t5_loop.trips) (c0_i32_1201_r0 : BitVec 32) : Fin 3 → Nat :=
  let c0_1244_r0 : Index := 0#32
  let c512_1245_r0 : Index := 512#32
  let c7424_i32_1243_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1242_r0 : BitVec 32 := 256#32
  let v1767_r0 : BitVec 32 := Scalar.muli v1679_r0 c256_i32_1242_r0
  let v1768_r0 : BitVec 32 := Scalar.addi c7424_i32_1243_r0 v1767_r0
  let v1769_r0 : BitVec 32 := v1768_r0
  let v1770_r0 : Index := Scalar.indexCast v1769_r0
  ![0, 512, v1770_r0.toNat]
def k0_mult218 (k0_t5 : Fin k0_t5_loop.trips) : BitVec 32 :=
  let c7424_i32_1247_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1246_r0 : BitVec 32 := 256#32
  let v1774_r0 : BitVec 32 := Scalar.muli v1679_r0 c256_i32_1246_r0
  let v1775_r0 : BitVec 32 := Scalar.addi c7424_i32_1247_r0 v1774_r0
  v1775_r0
def k0_off45 (k0_t5 : Fin k0_t5_loop.trips) (c0_i32_1201_r0 : BitVec 32) : Fin 3 → Nat :=
  let c1_1248_r0 : Index := 1#32
  let c512_1249_r0 : Index := 512#32
  let c7424_i32_1247_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1246_r0 : BitVec 32 := 256#32
  let v1774_r0 : BitVec 32 := Scalar.muli v1679_r0 c256_i32_1246_r0
  let v1775_r0 : BitVec 32 := Scalar.addi c7424_i32_1247_r0 v1774_r0
  let v1776_r0 : BitVec 32 := v1775_r0
  let v1777_r0 : Index := Scalar.indexCast v1776_r0
  ![1, 512, v1777_r0.toNat]
def k0_mult219 (k0_t5 : Fin k0_t5_loop.trips) : BitVec 32 :=
  let c7424_i32_1251_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1250_r0 : BitVec 32 := 256#32
  let v1782_r0 : BitVec 32 := Scalar.muli v1679_r0 c256_i32_1250_r0
  let v1783_r0 : BitVec 32 := Scalar.addi c7424_i32_1251_r0 v1782_r0
  v1783_r0
def k0_off46 (k0_t5 : Fin k0_t5_loop.trips) (c0_i32_1201_r0 : BitVec 32) : Fin 3 → Nat :=
  let c0_1252_r0 : Index := 0#32
  let c768_1253_r0 : Index := 768#32
  let c7424_i32_1251_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1250_r0 : BitVec 32 := 256#32
  let v1782_r0 : BitVec 32 := Scalar.muli v1679_r0 c256_i32_1250_r0
  let v1783_r0 : BitVec 32 := Scalar.addi c7424_i32_1251_r0 v1782_r0
  let v1784_r0 : BitVec 32 := v1783_r0
  let v1785_r0 : Index := Scalar.indexCast v1784_r0
  ![0, 768, v1785_r0.toNat]
def k0_mult220 (k0_t5 : Fin k0_t5_loop.trips) : BitVec 32 :=
  let c7424_i32_1255_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1254_r0 : BitVec 32 := 256#32
  let v1789_r0 : BitVec 32 := Scalar.muli v1679_r0 c256_i32_1254_r0
  let v1790_r0 : BitVec 32 := Scalar.addi c7424_i32_1255_r0 v1789_r0
  v1790_r0
def k0_off47 (k0_t5 : Fin k0_t5_loop.trips) (c0_i32_1201_r0 : BitVec 32) : Fin 3 → Nat :=
  let c1_1256_r0 : Index := 1#32
  let c768_1257_r0 : Index := 768#32
  let c7424_i32_1255_r0 : BitVec 32 := 7424#32
  let c1_i32_1200_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1254_r0 : BitVec 32 := 256#32
  let v1789_r0 : BitVec 32 := Scalar.muli v1679_r0 c256_i32_1254_r0
  let v1790_r0 : BitVec 32 := Scalar.addi c7424_i32_1255_r0 v1789_r0
  let v1791_r0 : BitVec 32 := v1790_r0
  let v1792_r0 : Index := Scalar.indexCast v1791_r0
  ![1, 768, v1792_r0.toNat]
def k0_mult221 (k0_t5 : Fin k0_t5_loop.trips) : BitVec 32 :=
  let c7424_i32_1263_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1262_r0 : BitVec 32 := 256#32
  let v1801_r0 : BitVec 32 := Scalar.muli v1799_r0 c256_i32_1262_r0
  let v1802_r0 : BitVec 32 := Scalar.addi c7424_i32_1263_r0 v1801_r0
  v1802_r0
def k0_mult222 (k0_t5 : Fin k0_t5_loop.trips) : BitVec 32 :=
  let c7424_i32_1267_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1266_r0 : BitVec 32 := 256#32
  let v1808_r0 : BitVec 32 := Scalar.muli v1799_r0 c256_i32_1266_r0
  let v1809_r0 : BitVec 32 := Scalar.addi c7424_i32_1267_r0 v1808_r0
  v1809_r0
def k0_mult223 (k0_t5 : Fin k0_t5_loop.trips) : BitVec 32 :=
  let c3712_i32_1271_r0 : BitVec 32 := 3712#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1270_r0 : BitVec 32 := 128#32
  let v1816_r0 : BitVec 32 := Scalar.muli v1800_r0 c128_i32_1270_r0
  let v1817_r0 : BitVec 32 := Scalar.addi c3712_i32_1271_r0 v1816_r0
  v1817_r0
def k0_mult224 (k0_t5 : Fin k0_t5_loop.trips) : BitVec 32 :=
  let c3712_i32_1276_r0 : BitVec 32 := 3712#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1275_r0 : BitVec 32 := 128#32
  let v1827_r0 : BitVec 32 := Scalar.muli v1800_r0 c128_i32_1275_r0
  let v1828_r0 : BitVec 32 := Scalar.addi c3712_i32_1276_r0 v1827_r0
  v1828_r0
def k0_mult225 (k0_t5 : Fin k0_t5_loop.trips) : BitVec 32 :=
  let c3712_i32_1283_r0 : BitVec 32 := 3712#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1282_r0 : BitVec 32 := 128#32
  let v1844_r0 : BitVec 32 := Scalar.muli v1800_r0 c128_i32_1282_r0
  let v1845_r0 : BitVec 32 := Scalar.addi c3712_i32_1283_r0 v1844_r0
  v1845_r0
def k0_mult226 (k0_t5 : Fin k0_t5_loop.trips) : BitVec 32 :=
  let c3712_i32_1288_r0 : BitVec 32 := 3712#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1287_r0 : BitVec 32 := 128#32
  let v1855_r0 : BitVec 32 := Scalar.muli v1800_r0 c128_i32_1287_r0
  let v1856_r0 : BitVec 32 := Scalar.addi c3712_i32_1288_r0 v1855_r0
  v1856_r0
def k0_mult227 (k0_t5 : Fin k0_t5_loop.trips) : BitVec 32 :=
  let c7424_i32_1295_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1294_r0 : BitVec 32 := 256#32
  let v1872_r0 : BitVec 32 := Scalar.muli v1799_r0 c256_i32_1294_r0
  let v1873_r0 : BitVec 32 := Scalar.addi c7424_i32_1295_r0 v1872_r0
  v1873_r0
def k0_mult228 (k0_t5 : Fin k0_t5_loop.trips) : BitVec 32 :=
  let c7424_i32_1299_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1298_r0 : BitVec 32 := 256#32
  let v1879_r0 : BitVec 32 := Scalar.muli v1799_r0 c256_i32_1298_r0
  let v1880_r0 : BitVec 32 := Scalar.addi c7424_i32_1299_r0 v1879_r0
  v1880_r0
def k0_mult229 (k0_t5 : Fin k0_t5_loop.trips) : BitVec 32 :=
  let c7424_i32_1303_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1302_r0 : BitVec 32 := 256#32
  let v1887_r0 : BitVec 32 := Scalar.muli v1799_r0 c256_i32_1302_r0
  let v1888_r0 : BitVec 32 := Scalar.addi c7424_i32_1303_r0 v1887_r0
  v1888_r0
def k0_mult230 (k0_t5 : Fin k0_t5_loop.trips) : BitVec 32 :=
  let c7424_i32_1307_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1306_r0 : BitVec 32 := 256#32
  let v1894_r0 : BitVec 32 := Scalar.muli v1799_r0 c256_i32_1306_r0
  let v1895_r0 : BitVec 32 := Scalar.addi c7424_i32_1307_r0 v1894_r0
  v1895_r0
def k0_mult231 (k0_t5 : Fin k0_t5_loop.trips) : BitVec 32 :=
  let c7424_i32_1311_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1310_r0 : BitVec 32 := 256#32
  let v1902_r0 : BitVec 32 := Scalar.muli v1799_r0 c256_i32_1310_r0
  let v1903_r0 : BitVec 32 := Scalar.addi c7424_i32_1311_r0 v1902_r0
  v1903_r0
def k0_mult232 (k0_t5 : Fin k0_t5_loop.trips) : BitVec 32 :=
  let c7424_i32_1315_r0 : BitVec 32 := 7424#32
  let c1_i32_1259_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1314_r0 : BitVec 32 := 256#32
  let v1909_r0 : BitVec 32 := Scalar.muli v1799_r0 c256_i32_1314_r0
  let v1910_r0 : BitVec 32 := Scalar.addi c7424_i32_1315_r0 v1909_r0
  v1910_r0
def k0_mult233 (k0_t5 : Fin k0_t5_loop.trips) : BitVec 32 :=
  let c7424_i32_1322_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1321_r0 : BitVec 32 := 256#32
  let v1921_r0 : BitVec 32 := Scalar.muli v1919_r0 c256_i32_1321_r0
  let v1922_r0 : BitVec 32 := Scalar.addi c7424_i32_1322_r0 v1921_r0
  v1922_r0
def k0_mult234 (k0_t5 : Fin k0_t5_loop.trips) : BitVec 32 :=
  let c7424_i32_1326_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1325_r0 : BitVec 32 := 256#32
  let v1928_r0 : BitVec 32 := Scalar.muli v1919_r0 c256_i32_1325_r0
  let v1929_r0 : BitVec 32 := Scalar.addi c7424_i32_1326_r0 v1928_r0
  v1929_r0
def k0_mult235 (k0_t5 : Fin k0_t5_loop.trips) : BitVec 32 :=
  let c3712_i32_1330_r0 : BitVec 32 := 3712#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1329_r0 : BitVec 32 := 128#32
  let v1936_r0 : BitVec 32 := Scalar.muli v1920_r0 c128_i32_1329_r0
  let v1937_r0 : BitVec 32 := Scalar.addi c3712_i32_1330_r0 v1936_r0
  v1937_r0
def k0_mult236 (k0_t5 : Fin k0_t5_loop.trips) : BitVec 32 :=
  let c3712_i32_1335_r0 : BitVec 32 := 3712#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1334_r0 : BitVec 32 := 128#32
  let v1947_r0 : BitVec 32 := Scalar.muli v1920_r0 c128_i32_1334_r0
  let v1948_r0 : BitVec 32 := Scalar.addi c3712_i32_1335_r0 v1947_r0
  v1948_r0
def k0_mult237 (k0_t5 : Fin k0_t5_loop.trips) : BitVec 32 :=
  let c3712_i32_1342_r0 : BitVec 32 := 3712#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1341_r0 : BitVec 32 := 128#32
  let v1964_r0 : BitVec 32 := Scalar.muli v1920_r0 c128_i32_1341_r0
  let v1965_r0 : BitVec 32 := Scalar.addi c3712_i32_1342_r0 v1964_r0
  v1965_r0
def k0_mult238 (k0_t5 : Fin k0_t5_loop.trips) : BitVec 32 :=
  let c3712_i32_1347_r0 : BitVec 32 := 3712#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1346_r0 : BitVec 32 := 128#32
  let v1975_r0 : BitVec 32 := Scalar.muli v1920_r0 c128_i32_1346_r0
  let v1976_r0 : BitVec 32 := Scalar.addi c3712_i32_1347_r0 v1975_r0
  v1976_r0
def k0_mult239 (k0_t5 : Fin k0_t5_loop.trips) : BitVec 32 :=
  let c7424_i32_1354_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1353_r0 : BitVec 32 := 256#32
  let v1992_r0 : BitVec 32 := Scalar.muli v1919_r0 c256_i32_1353_r0
  let v1993_r0 : BitVec 32 := Scalar.addi c7424_i32_1354_r0 v1992_r0
  v1993_r0
def k0_mult240 (k0_t5 : Fin k0_t5_loop.trips) : BitVec 32 :=
  let c7424_i32_1358_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1357_r0 : BitVec 32 := 256#32
  let v1999_r0 : BitVec 32 := Scalar.muli v1919_r0 c256_i32_1357_r0
  let v2000_r0 : BitVec 32 := Scalar.addi c7424_i32_1358_r0 v1999_r0
  v2000_r0
def k0_mult241 (k0_t5 : Fin k0_t5_loop.trips) : BitVec 32 :=
  let c7424_i32_1362_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1361_r0 : BitVec 32 := 256#32
  let v2007_r0 : BitVec 32 := Scalar.muli v1919_r0 c256_i32_1361_r0
  let v2008_r0 : BitVec 32 := Scalar.addi c7424_i32_1362_r0 v2007_r0
  v2008_r0
def k0_mult242 (k0_t5 : Fin k0_t5_loop.trips) : BitVec 32 :=
  let c7424_i32_1366_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1365_r0 : BitVec 32 := 256#32
  let v2014_r0 : BitVec 32 := Scalar.muli v1919_r0 c256_i32_1365_r0
  let v2015_r0 : BitVec 32 := Scalar.addi c7424_i32_1366_r0 v2014_r0
  v2015_r0
def k0_mult243 (k0_t5 : Fin k0_t5_loop.trips) : BitVec 32 :=
  let c7424_i32_1370_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1369_r0 : BitVec 32 := 256#32
  let v2022_r0 : BitVec 32 := Scalar.muli v1919_r0 c256_i32_1369_r0
  let v2023_r0 : BitVec 32 := Scalar.addi c7424_i32_1370_r0 v2022_r0
  v2023_r0
def k0_mult244 (k0_t5 : Fin k0_t5_loop.trips) : BitVec 32 :=
  let c7424_i32_1374_r0 : BitVec 32 := 7424#32
  let c1_i32_1319_r0 : BitVec 32 := 1#32
  let c0_i32_746_r0 : BitVec 32 := 0#32
  let c1_i32_748_r0 : BitVec 32 := 1#32
  let arg11_r0 : BitVec 32 := Scf.iv c0_i32_746_r0 c1_i32_748_r0 k0_t5
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1373_r0 : BitVec 32 := 256#32
  let v2029_r0 : BitVec 32 := Scalar.muli v1919_r0 c256_i32_1373_r0
  let v2030_r0 : BitVec 32 := Scalar.addi c7424_i32_1374_r0 v2029_r0
  v2030_r0
def k0_mult245 : BitVec 32 :=
  let c14592_i32_750_r0 : BitVec 32 := 14592#32
  c14592_i32_750_r0
def k0_mult246 : BitVec 32 :=
  let c14592_i32_753_r0 : BitVec 32 := 14592#32
  c14592_i32_753_r0
def k0_mult247 : BitVec 32 :=
  let c0_i32_756_r0 : BitVec 32 := 0#32
  c0_i32_756_r0
def k0_mult248 : BitVec 32 :=
  let c0_i32_762_r0 : BitVec 32 := 0#32
  c0_i32_762_r0
def k0_mult249 : BitVec 32 :=
  let c14592_i32_768_r0 : BitVec 32 := 14592#32
  c14592_i32_768_r0
def k0_mult250 : BitVec 32 :=
  let c14592_i32_771_r0 : BitVec 32 := 14592#32
  c14592_i32_771_r0
def k0_mult251 : BitVec 32 :=
  let c14592_i32_774_r0 : BitVec 32 := 14592#32
  c14592_i32_774_r0
def k0_mult252 : BitVec 32 :=
  let c14592_i32_777_r0 : BitVec 32 := 14592#32
  c14592_i32_777_r0
def k0_mult253 : BitVec 32 :=
  let c14592_i32_780_r0 : BitVec 32 := 14592#32
  c14592_i32_780_r0
def k0_mult254 : BitVec 32 :=
  let c14592_i32_783_r0 : BitVec 32 := 14592#32
  c14592_i32_783_r0
def k0_mult255 : BitVec 32 :=
  let c0_i32_802_r0 : BitVec 32 := 0#32
  c0_i32_802_r0
def k0_mult256 : BitVec 32 :=
  let c7424_i32_805_r0 : BitVec 32 := 7424#32
  c7424_i32_805_r0
def k0_mult257 : BitVec 32 :=
  let c128_i32_808_r0 : BitVec 32 := 128#32
  c128_i32_808_r0
def k0_mult258 : BitVec 32 :=
  let c128_i32_814_r0 : BitVec 32 := 128#32
  c128_i32_814_r0
def k0_mult259 : BitVec 32 :=
  let c0_i32_836_r0 : BitVec 32 := 0#32
  c0_i32_836_r0
def k0_mult260 : BitVec 32 :=
  let c7424_i32_839_r0 : BitVec 32 := 7424#32
  c7424_i32_839_r0
def k0_mult261 : BitVec 32 :=
  let c0_i32_858_r0 : BitVec 32 := 0#32
  c0_i32_858_r0
def k0_mult262 : BitVec 32 :=
  let c7424_i32_861_r0 : BitVec 32 := 7424#32
  c7424_i32_861_r0
def k0_mult263 : BitVec 32 :=
  let c0_i32_880_r0 : BitVec 32 := 0#32
  c0_i32_880_r0
def k0_mult264 : BitVec 32 :=
  let c7424_i32_883_r0 : BitVec 32 := 7424#32
  c7424_i32_883_r0
@[reducible] def k0_t6_loop : Scf.Loop 32 :=
  let c0_i32_887_r0 : BitVec 32 := 0#32
  let c9_i32_888_r0 : BitVec 32 := 9#32
  let v1285_r0 : BitVec 32 := Scalar.addi c0_i32_887_r0 c9_i32_888_r0
  let c1_i32_889_r0 : BitVec 32 := 1#32
  ⟨c0_i32_887_r0, v1285_r0, c1_i32_889_r0⟩
def k0_mult265 (k0_t6 : Fin k0_t6_loop.trips) : BitVec 32 :=
  let c0_i32_1203_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  v1682_r0
def k0_off48 (k0_t6 : Fin k0_t6_loop.trips) (c0_i32_1203_r0 : BitVec 32) (c0_i32_1201_r0 : BitVec 32) : Fin 3 → Nat :=
  let c1_1204_r0 : Index := 1#32
  let c0_1205_r0 : Index := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  let v1683_r0 : BitVec 32 := v1682_r0
  let v1684_r0 : Index := Scalar.indexCast v1683_r0
  ![1, 0, v1684_r0.toNat]
def k0_mult266 (k0_t6 : Fin k0_t6_loop.trips) : BitVec 32 :=
  let c7424_i32_1207_r0 : BitVec 32 := 7424#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c7424_i32_1207_r0 v1688_r0
  v1689_r0
def k0_mult267 (k0_t6 : Fin k0_t6_loop.trips) : BitVec 32 :=
  let c0_i32_1211_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c0_i32_1211_r0 v1696_r0
  v1697_r0
def k0_off49 (k0_t6 : Fin k0_t6_loop.trips) (c0_i32_1201_r0 : BitVec 32) : Fin 2 → Nat :=
  let c0_i32_1211_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c0_i32_1211_r0 v1696_r0
  let v1698_r0 : BitVec 32 := v1697_r0
  let v1699_r0 : Index := Scalar.indexCast v1698_r0
  let c0_1212_r0 : Index := 0#32
  ![v1699_r0.toNat, 0]
def k0_mult268 (k0_t6 : Fin k0_t6_loop.trips) : BitVec 32 :=
  let c0_i32_1218_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1217_r0 : BitVec 32 := 128#32
  let v1712_r0 : BitVec 32 := Scalar.muli v1680_r0 c128_i32_1217_r0
  let v1713_r0 : BitVec 32 := Scalar.addi c0_i32_1218_r0 v1712_r0
  v1713_r0
def k0_off50 (k0_t6 : Fin k0_t6_loop.trips) (c0_i32_1201_r0 : BitVec 32) : Fin 2 → Nat :=
  let c0_i32_1218_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1217_r0 : BitVec 32 := 128#32
  let v1712_r0 : BitVec 32 := Scalar.muli v1680_r0 c128_i32_1217_r0
  let v1713_r0 : BitVec 32 := Scalar.addi c0_i32_1218_r0 v1712_r0
  let v1714_r0 : BitVec 32 := v1713_r0
  let v1715_r0 : Index := Scalar.indexCast v1714_r0
  let c256_1219_r0 : Index := 256#32
  ![v1715_r0.toNat, 256]
def k0_mult269 (k0_t6 : Fin k0_t6_loop.trips) : BitVec 32 :=
  let c0_i32_1225_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1224_r0 : BitVec 32 := 256#32
  let v1728_r0 : BitVec 32 := Scalar.muli v1679_r0 c256_i32_1224_r0
  let v1729_r0 : BitVec 32 := Scalar.addi c0_i32_1225_r0 v1728_r0
  v1729_r0
def k0_off51 (k0_t6 : Fin k0_t6_loop.trips) (c0_i32_1225_r0 : BitVec 32) (c0_i32_1201_r0 : BitVec 32) : Fin 3 → Nat :=
  let c1_1226_r0 : Index := 1#32
  let c256_1227_r0 : Index := 256#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1224_r0 : BitVec 32 := 256#32
  let v1728_r0 : BitVec 32 := Scalar.muli v1679_r0 c256_i32_1224_r0
  let v1729_r0 : BitVec 32 := Scalar.addi c0_i32_1225_r0 v1728_r0
  let v1730_r0 : BitVec 32 := v1729_r0
  let v1731_r0 : Index := Scalar.indexCast v1730_r0
  ![1, 256, v1731_r0.toNat]
def k0_mult270 (k0_t6 : Fin k0_t6_loop.trips) : BitVec 32 :=
  let c7424_i32_1229_r0 : BitVec 32 := 7424#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1228_r0 : BitVec 32 := 256#32
  let v1735_r0 : BitVec 32 := Scalar.muli v1679_r0 c256_i32_1228_r0
  let v1736_r0 : BitVec 32 := Scalar.addi c7424_i32_1229_r0 v1735_r0
  v1736_r0
def k0_mult271 (k0_t6 : Fin k0_t6_loop.trips) : BitVec 32 :=
  let c0_i32_1233_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1232_r0 : BitVec 32 := 256#32
  let v1743_r0 : BitVec 32 := Scalar.muli v1679_r0 c256_i32_1232_r0
  let v1744_r0 : BitVec 32 := Scalar.addi c0_i32_1233_r0 v1743_r0
  v1744_r0
def k0_off52 (k0_t6 : Fin k0_t6_loop.trips) (c0_i32_1233_r0 : BitVec 32) (c0_i32_1201_r0 : BitVec 32) : Fin 3 → Nat :=
  let c1_1234_r0 : Index := 1#32
  let c512_1235_r0 : Index := 512#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1232_r0 : BitVec 32 := 256#32
  let v1743_r0 : BitVec 32 := Scalar.muli v1679_r0 c256_i32_1232_r0
  let v1744_r0 : BitVec 32 := Scalar.addi c0_i32_1233_r0 v1743_r0
  let v1745_r0 : BitVec 32 := v1744_r0
  let v1746_r0 : Index := Scalar.indexCast v1745_r0
  ![1, 512, v1746_r0.toNat]
def k0_mult272 (k0_t6 : Fin k0_t6_loop.trips) : BitVec 32 :=
  let c7424_i32_1237_r0 : BitVec 32 := 7424#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1236_r0 : BitVec 32 := 256#32
  let v1750_r0 : BitVec 32 := Scalar.muli v1679_r0 c256_i32_1236_r0
  let v1751_r0 : BitVec 32 := Scalar.addi c7424_i32_1237_r0 v1750_r0
  v1751_r0
def k0_mult273 (k0_t6 : Fin k0_t6_loop.trips) : BitVec 32 :=
  let c0_i32_1241_r0 : BitVec 32 := 0#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1240_r0 : BitVec 32 := 256#32
  let v1758_r0 : BitVec 32 := Scalar.muli v1679_r0 c256_i32_1240_r0
  let v1759_r0 : BitVec 32 := Scalar.addi c0_i32_1241_r0 v1758_r0
  v1759_r0
def k0_off53 (k0_t6 : Fin k0_t6_loop.trips) (c0_i32_1241_r0 : BitVec 32) (c0_i32_1201_r0 : BitVec 32) : Fin 3 → Nat :=
  let c1_1242_r0 : Index := 1#32
  let c768_1243_r0 : Index := 768#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1240_r0 : BitVec 32 := 256#32
  let v1758_r0 : BitVec 32 := Scalar.muli v1679_r0 c256_i32_1240_r0
  let v1759_r0 : BitVec 32 := Scalar.addi c0_i32_1241_r0 v1758_r0
  let v1760_r0 : BitVec 32 := v1759_r0
  let v1761_r0 : Index := Scalar.indexCast v1760_r0
  ![1, 768, v1761_r0.toNat]
def k0_mult274 (k0_t6 : Fin k0_t6_loop.trips) : BitVec 32 :=
  let c7424_i32_1245_r0 : BitVec 32 := 7424#32
  let c1_i32_1200_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1244_r0 : BitVec 32 := 256#32
  let v1765_r0 : BitVec 32 := Scalar.muli v1679_r0 c256_i32_1244_r0
  let v1766_r0 : BitVec 32 := Scalar.addi c7424_i32_1245_r0 v1765_r0
  v1766_r0
def k0_mult275 (k0_t6 : Fin k0_t6_loop.trips) : BitVec 32 :=
  let c0_i32_1253_r0 : BitVec 32 := 0#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1252_r0 : BitVec 32 := 256#32
  let v1777_r0 : BitVec 32 := Scalar.muli v1775_r0 c256_i32_1252_r0
  let v1778_r0 : BitVec 32 := Scalar.addi c0_i32_1253_r0 v1777_r0
  v1778_r0
def k0_mult276 (k0_t6 : Fin k0_t6_loop.trips) : BitVec 32 :=
  let c7424_i32_1257_r0 : BitVec 32 := 7424#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1256_r0 : BitVec 32 := 256#32
  let v1784_r0 : BitVec 32 := Scalar.muli v1775_r0 c256_i32_1256_r0
  let v1785_r0 : BitVec 32 := Scalar.addi c7424_i32_1257_r0 v1784_r0
  v1785_r0
def k0_mult277 (k0_t6 : Fin k0_t6_loop.trips) : BitVec 32 :=
  let c0_i32_1261_r0 : BitVec 32 := 0#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c1_i32_1251_r0 : BitVec 32 := 1#32
  let v1776_r0 : BitVec 32 := Scalar.addi v1775_r0 c1_i32_1251_r0
  let c128_i32_1260_r0 : BitVec 32 := 128#32
  let v1792_r0 : BitVec 32 := Scalar.muli v1776_r0 c128_i32_1260_r0
  let v1793_r0 : BitVec 32 := Scalar.addi c0_i32_1261_r0 v1792_r0
  v1793_r0
def k0_mult278 (k0_t6 : Fin k0_t6_loop.trips) : BitVec 32 :=
  let c0_i32_1268_r0 : BitVec 32 := 0#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c1_i32_1251_r0 : BitVec 32 := 1#32
  let v1776_r0 : BitVec 32 := Scalar.addi v1775_r0 c1_i32_1251_r0
  let c128_i32_1267_r0 : BitVec 32 := 128#32
  let v1808_r0 : BitVec 32 := Scalar.muli v1776_r0 c128_i32_1267_r0
  let v1809_r0 : BitVec 32 := Scalar.addi c0_i32_1268_r0 v1808_r0
  v1809_r0
def k0_mult279 (k0_t6 : Fin k0_t6_loop.trips) : BitVec 32 :=
  let c0_i32_1275_r0 : BitVec 32 := 0#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1274_r0 : BitVec 32 := 256#32
  let v1824_r0 : BitVec 32 := Scalar.muli v1775_r0 c256_i32_1274_r0
  let v1825_r0 : BitVec 32 := Scalar.addi c0_i32_1275_r0 v1824_r0
  v1825_r0
def k0_mult280 (k0_t6 : Fin k0_t6_loop.trips) : BitVec 32 :=
  let c7424_i32_1279_r0 : BitVec 32 := 7424#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1278_r0 : BitVec 32 := 256#32
  let v1831_r0 : BitVec 32 := Scalar.muli v1775_r0 c256_i32_1278_r0
  let v1832_r0 : BitVec 32 := Scalar.addi c7424_i32_1279_r0 v1831_r0
  v1832_r0
def k0_mult281 (k0_t6 : Fin k0_t6_loop.trips) : BitVec 32 :=
  let c0_i32_1283_r0 : BitVec 32 := 0#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1282_r0 : BitVec 32 := 256#32
  let v1839_r0 : BitVec 32 := Scalar.muli v1775_r0 c256_i32_1282_r0
  let v1840_r0 : BitVec 32 := Scalar.addi c0_i32_1283_r0 v1839_r0
  v1840_r0
def k0_mult282 (k0_t6 : Fin k0_t6_loop.trips) : BitVec 32 :=
  let c7424_i32_1287_r0 : BitVec 32 := 7424#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1286_r0 : BitVec 32 := 256#32
  let v1846_r0 : BitVec 32 := Scalar.muli v1775_r0 c256_i32_1286_r0
  let v1847_r0 : BitVec 32 := Scalar.addi c7424_i32_1287_r0 v1846_r0
  v1847_r0
def k0_mult283 (k0_t6 : Fin k0_t6_loop.trips) : BitVec 32 :=
  let c0_i32_1291_r0 : BitVec 32 := 0#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1290_r0 : BitVec 32 := 256#32
  let v1854_r0 : BitVec 32 := Scalar.muli v1775_r0 c256_i32_1290_r0
  let v1855_r0 : BitVec 32 := Scalar.addi c0_i32_1291_r0 v1854_r0
  v1855_r0
def k0_mult284 (k0_t6 : Fin k0_t6_loop.trips) : BitVec 32 :=
  let c7424_i32_1295_r0 : BitVec 32 := 7424#32
  let c1_i32_1249_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1248_r0 : BitVec 32 := 3#32
  let v1773_r0 : BitVec 32 := Scalar.muli arg11_r0 c3_i32_1248_r0
  let v1774_r0 : BitVec 32 := Scalar.addi c1_i32_1249_r0 v1773_r0
  let c1_i32_1250_r0 : BitVec 32 := 1#32
  let v1775_r0 : BitVec 32 := Scalar.addi v1774_r0 c1_i32_1250_r0
  let c256_i32_1294_r0 : BitVec 32 := 256#32
  let v1861_r0 : BitVec 32 := Scalar.muli v1775_r0 c256_i32_1294_r0
  let v1862_r0 : BitVec 32 := Scalar.addi c7424_i32_1295_r0 v1861_r0
  v1862_r0
def k0_mult285 (k0_t6 : Fin k0_t6_loop.trips) : BitVec 32 :=
  let c0_i32_1302_r0 : BitVec 32 := 0#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1301_r0 : BitVec 32 := 256#32
  let v1873_r0 : BitVec 32 := Scalar.muli v1871_r0 c256_i32_1301_r0
  let v1874_r0 : BitVec 32 := Scalar.addi c0_i32_1302_r0 v1873_r0
  v1874_r0
def k0_mult286 (k0_t6 : Fin k0_t6_loop.trips) : BitVec 32 :=
  let c7424_i32_1306_r0 : BitVec 32 := 7424#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1305_r0 : BitVec 32 := 256#32
  let v1880_r0 : BitVec 32 := Scalar.muli v1871_r0 c256_i32_1305_r0
  let v1881_r0 : BitVec 32 := Scalar.addi c7424_i32_1306_r0 v1880_r0
  v1881_r0
def k0_mult287 (k0_t6 : Fin k0_t6_loop.trips) : BitVec 32 :=
  let c0_i32_1310_r0 : BitVec 32 := 0#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c1_i32_1300_r0 : BitVec 32 := 1#32
  let v1872_r0 : BitVec 32 := Scalar.addi v1871_r0 c1_i32_1300_r0
  let c128_i32_1309_r0 : BitVec 32 := 128#32
  let v1888_r0 : BitVec 32 := Scalar.muli v1872_r0 c128_i32_1309_r0
  let v1889_r0 : BitVec 32 := Scalar.addi c0_i32_1310_r0 v1888_r0
  v1889_r0
def k0_mult288 (k0_t6 : Fin k0_t6_loop.trips) : BitVec 32 :=
  let c0_i32_1317_r0 : BitVec 32 := 0#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c1_i32_1300_r0 : BitVec 32 := 1#32
  let v1872_r0 : BitVec 32 := Scalar.addi v1871_r0 c1_i32_1300_r0
  let c128_i32_1316_r0 : BitVec 32 := 128#32
  let v1904_r0 : BitVec 32 := Scalar.muli v1872_r0 c128_i32_1316_r0
  let v1905_r0 : BitVec 32 := Scalar.addi c0_i32_1317_r0 v1904_r0
  v1905_r0
def k0_mult289 (k0_t6 : Fin k0_t6_loop.trips) : BitVec 32 :=
  let c0_i32_1324_r0 : BitVec 32 := 0#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1323_r0 : BitVec 32 := 256#32
  let v1920_r0 : BitVec 32 := Scalar.muli v1871_r0 c256_i32_1323_r0
  let v1921_r0 : BitVec 32 := Scalar.addi c0_i32_1324_r0 v1920_r0
  v1921_r0
def k0_mult290 (k0_t6 : Fin k0_t6_loop.trips) : BitVec 32 :=
  let c7424_i32_1328_r0 : BitVec 32 := 7424#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1327_r0 : BitVec 32 := 256#32
  let v1927_r0 : BitVec 32 := Scalar.muli v1871_r0 c256_i32_1327_r0
  let v1928_r0 : BitVec 32 := Scalar.addi c7424_i32_1328_r0 v1927_r0
  v1928_r0
def k0_mult291 (k0_t6 : Fin k0_t6_loop.trips) : BitVec 32 :=
  let c0_i32_1332_r0 : BitVec 32 := 0#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1331_r0 : BitVec 32 := 256#32
  let v1935_r0 : BitVec 32 := Scalar.muli v1871_r0 c256_i32_1331_r0
  let v1936_r0 : BitVec 32 := Scalar.addi c0_i32_1332_r0 v1935_r0
  v1936_r0
def k0_mult292 (k0_t6 : Fin k0_t6_loop.trips) : BitVec 32 :=
  let c7424_i32_1336_r0 : BitVec 32 := 7424#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1335_r0 : BitVec 32 := 256#32
  let v1942_r0 : BitVec 32 := Scalar.muli v1871_r0 c256_i32_1335_r0
  let v1943_r0 : BitVec 32 := Scalar.addi c7424_i32_1336_r0 v1942_r0
  v1943_r0
def k0_mult293 (k0_t6 : Fin k0_t6_loop.trips) : BitVec 32 :=
  let c0_i32_1340_r0 : BitVec 32 := 0#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1339_r0 : BitVec 32 := 256#32
  let v1950_r0 : BitVec 32 := Scalar.muli v1871_r0 c256_i32_1339_r0
  let v1951_r0 : BitVec 32 := Scalar.addi c0_i32_1340_r0 v1950_r0
  v1951_r0
def k0_mult294 (k0_t6 : Fin k0_t6_loop.trips) : BitVec 32 :=
  let c7424_i32_1344_r0 : BitVec 32 := 7424#32
  let c1_i32_1299_r0 : BitVec 32 := 1#32
  let c0_i32_887_r0 : BitVec 32 := 0#32
  let c1_i32_889_r0 : BitVec 32 := 1#32
  let arg11_r0 : BitVec 32 := Scf.iv c0_i32_887_r0 c1_i32_889_r0 k0_t6
  let c3_i32_1298_r0 : BitVec 32 := 3#32
  let v1869_r0 : BitVec 32 := Scalar.muli arg11_r0 c3_i32_1298_r0
  let v1870_r0 : BitVec 32 := Scalar.addi c1_i32_1299_r0 v1869_r0
  let c2_i32_r0 : BitVec 32 := 2#32
  let v1871_r0 : BitVec 32 := Scalar.addi v1870_r0 c2_i32_r0
  let c256_i32_1343_r0 : BitVec 32 := 256#32
  let v1957_r0 : BitVec 32 := Scalar.muli v1871_r0 c256_i32_1343_r0
  let v1958_r0 : BitVec 32 := Scalar.addi c7424_i32_1344_r0 v1957_r0
  v1958_r0
def k0_mult295 : BitVec 32 :=
  let c7168_i32_891_r0 : BitVec 32 := 7168#32
  c7168_i32_891_r0
def k0_mult296 : BitVec 32 :=
  let c14592_i32_894_r0 : BitVec 32 := 14592#32
  c14592_i32_894_r0
def k0_mult297 : BitVec 32 :=
  let c0_i32_897_r0 : BitVec 32 := 0#32
  c0_i32_897_r0
def k0_mult298 : BitVec 32 :=
  let c0_i32_901_r0 : BitVec 32 := 0#32
  c0_i32_901_r0
def k0_mult299 : BitVec 32 :=
  let c0_i32_907_r0 : BitVec 32 := 0#32
  c0_i32_907_r0
def k0_mult300 : BitVec 32 :=
  let c0_i32_911_r0 : BitVec 32 := 0#32
  c0_i32_911_r0
def k0_mult301 : BitVec 32 :=
  let c7168_i32_917_r0 : BitVec 32 := 7168#32
  c7168_i32_917_r0
def k0_mult302 : BitVec 32 :=
  let c14592_i32_920_r0 : BitVec 32 := 14592#32
  c14592_i32_920_r0
def k0_mult303 : BitVec 32 :=
  let c7168_i32_923_r0 : BitVec 32 := 7168#32
  c7168_i32_923_r0
def k0_mult304 : BitVec 32 :=
  let c14592_i32_926_r0 : BitVec 32 := 14592#32
  c14592_i32_926_r0
def k0_mult305 : BitVec 32 :=
  let c7168_i32_929_r0 : BitVec 32 := 7168#32
  c7168_i32_929_r0
def k0_mult306 : BitVec 32 :=
  let c14592_i32_932_r0 : BitVec 32 := 14592#32
  c14592_i32_932_r0
def k0_mult307 : BitVec 32 :=
  let c0_i32_967_r0 : BitVec 32 := 0#32
  c0_i32_967_r0
def k0_mult308 : BitVec 32 :=
  let c0_i32_970_r0 : BitVec 32 := 0#32
  c0_i32_970_r0
def k0_mult309 : BitVec 32 :=
  let c128_i32_973_r0 : BitVec 32 := 128#32
  c128_i32_973_r0
def k0_mult310 : BitVec 32 :=
  let c128_i32_977_r0 : BitVec 32 := 128#32
  c128_i32_977_r0
def k0_mult311 : BitVec 32 :=
  let c128_i32_983_r0 : BitVec 32 := 128#32
  c128_i32_983_r0
def k0_mult312 : BitVec 32 :=
  let c128_i32_987_r0 : BitVec 32 := 128#32
  c128_i32_987_r0
def k0_mult313 : BitVec 32 :=
  let c0_i32_1025_r0 : BitVec 32 := 0#32
  c0_i32_1025_r0
def k0_mult314 : BitVec 32 :=
  let c0_i32_1028_r0 : BitVec 32 := 0#32
  c0_i32_1028_r0
def k0_mult315 : BitVec 32 :=
  let c0_i32_1063_r0 : BitVec 32 := 0#32
  c0_i32_1063_r0
def k0_mult316 : BitVec 32 :=
  let c0_i32_1066_r0 : BitVec 32 := 0#32
  c0_i32_1066_r0
def k0_mult317 : BitVec 32 :=
  let c0_i32_1101_r0 : BitVec 32 := 0#32
  c0_i32_1101_r0
def k0_mult318 : BitVec 32 :=
  let c0_i32_1104_r0 : BitVec 32 := 0#32
  c0_i32_1104_r0
@[reducible] def k0_t7_loop : Scf.Loop 32 :=
  let c0_i32_1108_r0 : BitVec 32 := 0#32
  let c9_i32_1109_r0 : BitVec 32 := 9#32
  let v1575_r0 : BitVec 32 := Scalar.addi c0_i32_1108_r0 c9_i32_1109_r0
  let c1_i32_1110_r0 : BitVec 32 := 1#32
  ⟨c0_i32_1108_r0, v1575_r0, c1_i32_1110_r0⟩
def k0_mult319 (k0_t7 : Fin k0_t7_loop.trips) : BitVec 32 :=
  let c0_i32_1203_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  v1682_r0
def k0_off54 (k0_t7 : Fin k0_t7_loop.trips) (c0_i32_1201_r0 : BitVec 32) : Fin 3 → Nat :=
  let c1_1204_r0 : Index := 1#32
  let c0_1205_r0 : Index := 0#32
  let c0_i32_1203_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_r0 : BitVec 32 := 256#32
  let v1681_r0 : BitVec 32 := Scalar.muli v1679_r0 c256_i32_r0
  let v1682_r0 : BitVec 32 := Scalar.addi c0_i32_1203_r0 v1681_r0
  let v1683_r0 : BitVec 32 := v1682_r0
  let v1684_r0 : Index := Scalar.indexCast v1683_r0
  ![1, 0, v1684_r0.toNat]
def k0_mult320 (k0_t7 : Fin k0_t7_loop.trips) : BitVec 32 :=
  let c0_i32_1207_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c0_i32_1207_r0 v1688_r0
  v1689_r0
def k0_off55 (k0_t7 : Fin k0_t7_loop.trips) (c0_i32_1201_r0 : BitVec 32) : Fin 3 → Nat :=
  let c0_1208_r0 : Index := 0#32
  let c0_1209_r0 : Index := 0#32
  let c0_i32_1207_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1206_r0 : BitVec 32 := 256#32
  let v1688_r0 : BitVec 32 := Scalar.muli v1679_r0 c256_i32_1206_r0
  let v1689_r0 : BitVec 32 := Scalar.addi c0_i32_1207_r0 v1688_r0
  let v1690_r0 : BitVec 32 := v1689_r0
  let v1691_r0 : Index := Scalar.indexCast v1690_r0
  ![0, 0, v1691_r0.toNat]
def k0_mult321 (k0_t7 : Fin k0_t7_loop.trips) : BitVec 32 :=
  let c0_i32_1211_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c0_i32_1211_r0 v1696_r0
  v1697_r0
def k0_off56 (k0_t7 : Fin k0_t7_loop.trips) (c0_i32_1201_r0 : BitVec 32) : Fin 2 → Nat :=
  let c0_i32_1211_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1210_r0 : BitVec 32 := 128#32
  let v1696_r0 : BitVec 32 := Scalar.muli v1680_r0 c128_i32_1210_r0
  let v1697_r0 : BitVec 32 := Scalar.addi c0_i32_1211_r0 v1696_r0
  let v1698_r0 : BitVec 32 := v1697_r0
  let v1699_r0 : Index := Scalar.indexCast v1698_r0
  let c0_1212_r0 : Index := 0#32
  ![v1699_r0.toNat, 0]
def k0_mult322 (k0_t7 : Fin k0_t7_loop.trips) : BitVec 32 :=
  let c0_i32_1216_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1215_r0 : BitVec 32 := 128#32
  let v1707_r0 : BitVec 32 := Scalar.muli v1680_r0 c128_i32_1215_r0
  let v1708_r0 : BitVec 32 := Scalar.addi c0_i32_1216_r0 v1707_r0
  v1708_r0
def k0_mult323 (k0_t7 : Fin k0_t7_loop.trips) : BitVec 32 :=
  let c0_i32_1223_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1222_r0 : BitVec 32 := 128#32
  let v1724_r0 : BitVec 32 := Scalar.muli v1680_r0 c128_i32_1222_r0
  let v1725_r0 : BitVec 32 := Scalar.addi c0_i32_1223_r0 v1724_r0
  v1725_r0
def k0_off57 (k0_t7 : Fin k0_t7_loop.trips) (c0_i32_1201_r0 : BitVec 32) : Fin 2 → Nat :=
  let c0_i32_1223_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1222_r0 : BitVec 32 := 128#32
  let v1724_r0 : BitVec 32 := Scalar.muli v1680_r0 c128_i32_1222_r0
  let v1725_r0 : BitVec 32 := Scalar.addi c0_i32_1223_r0 v1724_r0
  let v1726_r0 : BitVec 32 := v1725_r0
  let v1727_r0 : Index := Scalar.indexCast v1726_r0
  let c256_1224_r0 : Index := 256#32
  ![v1727_r0.toNat, 256]
def k0_mult324 (k0_t7 : Fin k0_t7_loop.trips) : BitVec 32 :=
  let c0_i32_1228_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c1_i32_1202_r0 : BitVec 32 := 1#32
  let v1680_r0 : BitVec 32 := Scalar.addi v1679_r0 c1_i32_1202_r0
  let c128_i32_1227_r0 : BitVec 32 := 128#32
  let v1735_r0 : BitVec 32 := Scalar.muli v1680_r0 c128_i32_1227_r0
  let v1736_r0 : BitVec 32 := Scalar.addi c0_i32_1228_r0 v1735_r0
  v1736_r0
def k0_mult325 (k0_t7 : Fin k0_t7_loop.trips) : BitVec 32 :=
  let c0_i32_1235_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1234_r0 : BitVec 32 := 256#32
  let v1752_r0 : BitVec 32 := Scalar.muli v1679_r0 c256_i32_1234_r0
  let v1753_r0 : BitVec 32 := Scalar.addi c0_i32_1235_r0 v1752_r0
  v1753_r0
def k0_off58 (k0_t7 : Fin k0_t7_loop.trips) (c0_i32_1201_r0 : BitVec 32) : Fin 3 → Nat :=
  let c1_1236_r0 : Index := 1#32
  let c256_1237_r0 : Index := 256#32
  let c0_i32_1235_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1234_r0 : BitVec 32 := 256#32
  let v1752_r0 : BitVec 32 := Scalar.muli v1679_r0 c256_i32_1234_r0
  let v1753_r0 : BitVec 32 := Scalar.addi c0_i32_1235_r0 v1752_r0
  let v1754_r0 : BitVec 32 := v1753_r0
  let v1755_r0 : Index := Scalar.indexCast v1754_r0
  ![1, 256, v1755_r0.toNat]
def k0_mult326 (k0_t7 : Fin k0_t7_loop.trips) : BitVec 32 :=
  let c0_i32_1239_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1238_r0 : BitVec 32 := 256#32
  let v1759_r0 : BitVec 32 := Scalar.muli v1679_r0 c256_i32_1238_r0
  let v1760_r0 : BitVec 32 := Scalar.addi c0_i32_1239_r0 v1759_r0
  v1760_r0
def k0_off59 (k0_t7 : Fin k0_t7_loop.trips) (c0_i32_1201_r0 : BitVec 32) : Fin 3 → Nat :=
  let c0_1240_r0 : Index := 0#32
  let c256_1241_r0 : Index := 256#32
  let c0_i32_1239_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1238_r0 : BitVec 32 := 256#32
  let v1759_r0 : BitVec 32 := Scalar.muli v1679_r0 c256_i32_1238_r0
  let v1760_r0 : BitVec 32 := Scalar.addi c0_i32_1239_r0 v1759_r0
  let v1761_r0 : BitVec 32 := v1760_r0
  let v1762_r0 : Index := Scalar.indexCast v1761_r0
  ![0, 256, v1762_r0.toNat]
def k0_mult327 (k0_t7 : Fin k0_t7_loop.trips) : BitVec 32 :=
  let c0_i32_1243_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1242_r0 : BitVec 32 := 256#32
  let v1767_r0 : BitVec 32 := Scalar.muli v1679_r0 c256_i32_1242_r0
  let v1768_r0 : BitVec 32 := Scalar.addi c0_i32_1243_r0 v1767_r0
  v1768_r0
def k0_off60 (k0_t7 : Fin k0_t7_loop.trips) (c0_i32_1201_r0 : BitVec 32) : Fin 3 → Nat :=
  let c1_1244_r0 : Index := 1#32
  let c512_1245_r0 : Index := 512#32
  let c0_i32_1243_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1242_r0 : BitVec 32 := 256#32
  let v1767_r0 : BitVec 32 := Scalar.muli v1679_r0 c256_i32_1242_r0
  let v1768_r0 : BitVec 32 := Scalar.addi c0_i32_1243_r0 v1767_r0
  let v1769_r0 : BitVec 32 := v1768_r0
  let v1770_r0 : Index := Scalar.indexCast v1769_r0
  ![1, 512, v1770_r0.toNat]
def k0_mult328 (k0_t7 : Fin k0_t7_loop.trips) : BitVec 32 :=
  let c0_i32_1247_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1246_r0 : BitVec 32 := 256#32
  let v1774_r0 : BitVec 32 := Scalar.muli v1679_r0 c256_i32_1246_r0
  let v1775_r0 : BitVec 32 := Scalar.addi c0_i32_1247_r0 v1774_r0
  v1775_r0
def k0_off61 (k0_t7 : Fin k0_t7_loop.trips) (c0_i32_1201_r0 : BitVec 32) : Fin 3 → Nat :=
  let c0_1248_r0 : Index := 0#32
  let c512_1249_r0 : Index := 512#32
  let c0_i32_1247_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1246_r0 : BitVec 32 := 256#32
  let v1774_r0 : BitVec 32 := Scalar.muli v1679_r0 c256_i32_1246_r0
  let v1775_r0 : BitVec 32 := Scalar.addi c0_i32_1247_r0 v1774_r0
  let v1776_r0 : BitVec 32 := v1775_r0
  let v1777_r0 : Index := Scalar.indexCast v1776_r0
  ![0, 512, v1777_r0.toNat]
def k0_mult329 (k0_t7 : Fin k0_t7_loop.trips) : BitVec 32 :=
  let c0_i32_1251_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1250_r0 : BitVec 32 := 256#32
  let v1782_r0 : BitVec 32 := Scalar.muli v1679_r0 c256_i32_1250_r0
  let v1783_r0 : BitVec 32 := Scalar.addi c0_i32_1251_r0 v1782_r0
  v1783_r0
def k0_off62 (k0_t7 : Fin k0_t7_loop.trips) (c0_i32_1201_r0 : BitVec 32) : Fin 3 → Nat :=
  let c1_1252_r0 : Index := 1#32
  let c768_1253_r0 : Index := 768#32
  let c0_i32_1251_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1250_r0 : BitVec 32 := 256#32
  let v1782_r0 : BitVec 32 := Scalar.muli v1679_r0 c256_i32_1250_r0
  let v1783_r0 : BitVec 32 := Scalar.addi c0_i32_1251_r0 v1782_r0
  let v1784_r0 : BitVec 32 := v1783_r0
  let v1785_r0 : Index := Scalar.indexCast v1784_r0
  ![1, 768, v1785_r0.toNat]
def k0_mult330 (k0_t7 : Fin k0_t7_loop.trips) : BitVec 32 :=
  let c0_i32_1255_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let c0_i32_1201_r0 : BitVec 32 := 0#32
  let v1679_r0 : BitVec 32 := Scalar.addi v1678_r0 c0_i32_1201_r0
  let c256_i32_1254_r0 : BitVec 32 := 256#32
  let v1789_r0 : BitVec 32 := Scalar.muli v1679_r0 c256_i32_1254_r0
  let v1790_r0 : BitVec 32 := Scalar.addi c0_i32_1255_r0 v1789_r0
  v1790_r0
def k0_off63 (k0_t7 : Fin k0_t7_loop.trips) (c0_i32_1201_r0 : BitVec 32) : Fin 3 → Nat :=
  let c0_1256_r0 : Index := 0#32
  let c768_1257_r0 : Index := 768#32
  let c0_i32_1255_r0 : BitVec 32 := 0#32
  let c1_i32_1200_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_r0 : BitVec 32 := 3#32
  let v1677_r0 : BitVec 32 := Scalar.muli arg11_r0 c3_i32_r0
  let v1678_r0 : BitVec 32 := Scalar.addi c1_i32_1200_r0 v1677_r0
  let v1679_r0 : BitVec 32 := Scalar.addi v1678_r0 c0_i32_1201_r0
  let c256_i32_1254_r0 : BitVec 32 := 256#32
  let v1789_r0 : BitVec 32 := Scalar.muli v1679_r0 c256_i32_1254_r0
  let v1790_r0 : BitVec 32 := Scalar.addi c0_i32_1255_r0 v1789_r0
  let v1791_r0 : BitVec 32 := v1790_r0
  let v1792_r0 : Index := Scalar.indexCast v1791_r0
  ![0, 768, v1792_r0.toNat]
def k0_mult331 (k0_t7 : Fin k0_t7_loop.trips) : BitVec 32 :=
  let c0_i32_1263_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1262_r0 : BitVec 32 := 256#32
  let v1801_r0 : BitVec 32 := Scalar.muli v1799_r0 c256_i32_1262_r0
  let v1802_r0 : BitVec 32 := Scalar.addi c0_i32_1263_r0 v1801_r0
  v1802_r0
def k0_mult332 (k0_t7 : Fin k0_t7_loop.trips) : BitVec 32 :=
  let c0_i32_1267_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1266_r0 : BitVec 32 := 256#32
  let v1808_r0 : BitVec 32 := Scalar.muli v1799_r0 c256_i32_1266_r0
  let v1809_r0 : BitVec 32 := Scalar.addi c0_i32_1267_r0 v1808_r0
  v1809_r0
def k0_mult333 (k0_t7 : Fin k0_t7_loop.trips) : BitVec 32 :=
  let c0_i32_1271_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1270_r0 : BitVec 32 := 128#32
  let v1816_r0 : BitVec 32 := Scalar.muli v1800_r0 c128_i32_1270_r0
  let v1817_r0 : BitVec 32 := Scalar.addi c0_i32_1271_r0 v1816_r0
  v1817_r0
def k0_mult334 (k0_t7 : Fin k0_t7_loop.trips) : BitVec 32 :=
  let c0_i32_1276_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1275_r0 : BitVec 32 := 128#32
  let v1827_r0 : BitVec 32 := Scalar.muli v1800_r0 c128_i32_1275_r0
  let v1828_r0 : BitVec 32 := Scalar.addi c0_i32_1276_r0 v1827_r0
  v1828_r0
def k0_mult335 (k0_t7 : Fin k0_t7_loop.trips) : BitVec 32 :=
  let c0_i32_1283_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1282_r0 : BitVec 32 := 128#32
  let v1844_r0 : BitVec 32 := Scalar.muli v1800_r0 c128_i32_1282_r0
  let v1845_r0 : BitVec 32 := Scalar.addi c0_i32_1283_r0 v1844_r0
  v1845_r0
def k0_mult336 (k0_t7 : Fin k0_t7_loop.trips) : BitVec 32 :=
  let c0_i32_1288_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c1_i32_1261_r0 : BitVec 32 := 1#32
  let v1800_r0 : BitVec 32 := Scalar.addi v1799_r0 c1_i32_1261_r0
  let c128_i32_1287_r0 : BitVec 32 := 128#32
  let v1855_r0 : BitVec 32 := Scalar.muli v1800_r0 c128_i32_1287_r0
  let v1856_r0 : BitVec 32 := Scalar.addi c0_i32_1288_r0 v1855_r0
  v1856_r0
def k0_mult337 (k0_t7 : Fin k0_t7_loop.trips) : BitVec 32 :=
  let c0_i32_1295_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1294_r0 : BitVec 32 := 256#32
  let v1872_r0 : BitVec 32 := Scalar.muli v1799_r0 c256_i32_1294_r0
  let v1873_r0 : BitVec 32 := Scalar.addi c0_i32_1295_r0 v1872_r0
  v1873_r0
def k0_mult338 (k0_t7 : Fin k0_t7_loop.trips) : BitVec 32 :=
  let c0_i32_1299_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1298_r0 : BitVec 32 := 256#32
  let v1879_r0 : BitVec 32 := Scalar.muli v1799_r0 c256_i32_1298_r0
  let v1880_r0 : BitVec 32 := Scalar.addi c0_i32_1299_r0 v1879_r0
  v1880_r0
def k0_mult339 (k0_t7 : Fin k0_t7_loop.trips) : BitVec 32 :=
  let c0_i32_1303_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1302_r0 : BitVec 32 := 256#32
  let v1887_r0 : BitVec 32 := Scalar.muli v1799_r0 c256_i32_1302_r0
  let v1888_r0 : BitVec 32 := Scalar.addi c0_i32_1303_r0 v1887_r0
  v1888_r0
def k0_mult340 (k0_t7 : Fin k0_t7_loop.trips) : BitVec 32 :=
  let c0_i32_1307_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1306_r0 : BitVec 32 := 256#32
  let v1894_r0 : BitVec 32 := Scalar.muli v1799_r0 c256_i32_1306_r0
  let v1895_r0 : BitVec 32 := Scalar.addi c0_i32_1307_r0 v1894_r0
  v1895_r0
def k0_mult341 (k0_t7 : Fin k0_t7_loop.trips) : BitVec 32 :=
  let c0_i32_1311_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1310_r0 : BitVec 32 := 256#32
  let v1902_r0 : BitVec 32 := Scalar.muli v1799_r0 c256_i32_1310_r0
  let v1903_r0 : BitVec 32 := Scalar.addi c0_i32_1311_r0 v1902_r0
  v1903_r0
def k0_mult342 (k0_t7 : Fin k0_t7_loop.trips) : BitVec 32 :=
  let c0_i32_1315_r0 : BitVec 32 := 0#32
  let c1_i32_1259_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1258_r0 : BitVec 32 := 3#32
  let v1797_r0 : BitVec 32 := Scalar.muli arg11_r0 c3_i32_1258_r0
  let v1798_r0 : BitVec 32 := Scalar.addi c1_i32_1259_r0 v1797_r0
  let c1_i32_1260_r0 : BitVec 32 := 1#32
  let v1799_r0 : BitVec 32 := Scalar.addi v1798_r0 c1_i32_1260_r0
  let c256_i32_1314_r0 : BitVec 32 := 256#32
  let v1909_r0 : BitVec 32 := Scalar.muli v1799_r0 c256_i32_1314_r0
  let v1910_r0 : BitVec 32 := Scalar.addi c0_i32_1315_r0 v1909_r0
  v1910_r0
def k0_mult343 (k0_t7 : Fin k0_t7_loop.trips) : BitVec 32 :=
  let c0_i32_1322_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1321_r0 : BitVec 32 := 256#32
  let v1921_r0 : BitVec 32 := Scalar.muli v1919_r0 c256_i32_1321_r0
  let v1922_r0 : BitVec 32 := Scalar.addi c0_i32_1322_r0 v1921_r0
  v1922_r0
def k0_mult344 (k0_t7 : Fin k0_t7_loop.trips) : BitVec 32 :=
  let c0_i32_1326_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1325_r0 : BitVec 32 := 256#32
  let v1928_r0 : BitVec 32 := Scalar.muli v1919_r0 c256_i32_1325_r0
  let v1929_r0 : BitVec 32 := Scalar.addi c0_i32_1326_r0 v1928_r0
  v1929_r0
def k0_mult345 (k0_t7 : Fin k0_t7_loop.trips) : BitVec 32 :=
  let c0_i32_1330_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1329_r0 : BitVec 32 := 128#32
  let v1936_r0 : BitVec 32 := Scalar.muli v1920_r0 c128_i32_1329_r0
  let v1937_r0 : BitVec 32 := Scalar.addi c0_i32_1330_r0 v1936_r0
  v1937_r0
def k0_mult346 (k0_t7 : Fin k0_t7_loop.trips) : BitVec 32 :=
  let c0_i32_1335_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1334_r0 : BitVec 32 := 128#32
  let v1947_r0 : BitVec 32 := Scalar.muli v1920_r0 c128_i32_1334_r0
  let v1948_r0 : BitVec 32 := Scalar.addi c0_i32_1335_r0 v1947_r0
  v1948_r0
def k0_mult347 (k0_t7 : Fin k0_t7_loop.trips) : BitVec 32 :=
  let c0_i32_1342_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1341_r0 : BitVec 32 := 128#32
  let v1964_r0 : BitVec 32 := Scalar.muli v1920_r0 c128_i32_1341_r0
  let v1965_r0 : BitVec 32 := Scalar.addi c0_i32_1342_r0 v1964_r0
  v1965_r0
def k0_mult348 (k0_t7 : Fin k0_t7_loop.trips) : BitVec 32 :=
  let c0_i32_1347_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c1_i32_1320_r0 : BitVec 32 := 1#32
  let v1920_r0 : BitVec 32 := Scalar.addi v1919_r0 c1_i32_1320_r0
  let c128_i32_1346_r0 : BitVec 32 := 128#32
  let v1975_r0 : BitVec 32 := Scalar.muli v1920_r0 c128_i32_1346_r0
  let v1976_r0 : BitVec 32 := Scalar.addi c0_i32_1347_r0 v1975_r0
  v1976_r0
def k0_mult349 (k0_t7 : Fin k0_t7_loop.trips) : BitVec 32 :=
  let c0_i32_1354_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1353_r0 : BitVec 32 := 256#32
  let v1992_r0 : BitVec 32 := Scalar.muli v1919_r0 c256_i32_1353_r0
  let v1993_r0 : BitVec 32 := Scalar.addi c0_i32_1354_r0 v1992_r0
  v1993_r0
def k0_mult350 (k0_t7 : Fin k0_t7_loop.trips) : BitVec 32 :=
  let c0_i32_1358_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1357_r0 : BitVec 32 := 256#32
  let v1999_r0 : BitVec 32 := Scalar.muli v1919_r0 c256_i32_1357_r0
  let v2000_r0 : BitVec 32 := Scalar.addi c0_i32_1358_r0 v1999_r0
  v2000_r0
def k0_mult351 (k0_t7 : Fin k0_t7_loop.trips) : BitVec 32 :=
  let c0_i32_1362_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1361_r0 : BitVec 32 := 256#32
  let v2007_r0 : BitVec 32 := Scalar.muli v1919_r0 c256_i32_1361_r0
  let v2008_r0 : BitVec 32 := Scalar.addi c0_i32_1362_r0 v2007_r0
  v2008_r0
def k0_mult352 (k0_t7 : Fin k0_t7_loop.trips) : BitVec 32 :=
  let c0_i32_1366_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1365_r0 : BitVec 32 := 256#32
  let v2014_r0 : BitVec 32 := Scalar.muli v1919_r0 c256_i32_1365_r0
  let v2015_r0 : BitVec 32 := Scalar.addi c0_i32_1366_r0 v2014_r0
  v2015_r0
def k0_mult353 (k0_t7 : Fin k0_t7_loop.trips) : BitVec 32 :=
  let c0_i32_1370_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1369_r0 : BitVec 32 := 256#32
  let v2022_r0 : BitVec 32 := Scalar.muli v1919_r0 c256_i32_1369_r0
  let v2023_r0 : BitVec 32 := Scalar.addi c0_i32_1370_r0 v2022_r0
  v2023_r0
def k0_mult354 (k0_t7 : Fin k0_t7_loop.trips) : BitVec 32 :=
  let c0_i32_1374_r0 : BitVec 32 := 0#32
  let c1_i32_1319_r0 : BitVec 32 := 1#32
  let c0_i32_1108_r0 : BitVec 32 := 0#32
  let c1_i32_1110_r0 : BitVec 32 := 1#32
  let arg11_r0 : BitVec 32 := Scf.iv c0_i32_1108_r0 c1_i32_1110_r0 k0_t7
  let c3_i32_1318_r0 : BitVec 32 := 3#32
  let v1917_r0 : BitVec 32 := Scalar.muli arg11_r0 c3_i32_1318_r0
  let v1918_r0 : BitVec 32 := Scalar.addi c1_i32_1319_r0 v1917_r0
  let c2_i32_r0 : BitVec 32 := 2#32
  let v1919_r0 : BitVec 32 := Scalar.addi v1918_r0 c2_i32_r0
  let c256_i32_1373_r0 : BitVec 32 := 256#32
  let v2029_r0 : BitVec 32 := Scalar.muli v1919_r0 c256_i32_1373_r0
  let v2030_r0 : BitVec 32 := Scalar.addi c0_i32_1374_r0 v2029_r0
  v2030_r0
def k0_mult355 : BitVec 32 :=
  let c7168_i32_1112_r0 : BitVec 32 := 7168#32
  c7168_i32_1112_r0
def k0_mult356 : BitVec 32 :=
  let c7168_i32_1115_r0 : BitVec 32 := 7168#32
  c7168_i32_1115_r0
def k0_mult357 : BitVec 32 :=
  let c7168_i32_1118_r0 : BitVec 32 := 7168#32
  c7168_i32_1118_r0
def k0_mult358 : BitVec 32 :=
  let c7168_i32_1121_r0 : BitVec 32 := 7168#32
  c7168_i32_1121_r0
def k0_mult359 : BitVec 32 :=
  let c7168_i32_1124_r0 : BitVec 32 := 7168#32
  c7168_i32_1124_r0
def k0_mult360 : BitVec 32 :=
  let c7168_i32_1127_r0 : BitVec 32 := 7168#32
  c7168_i32_1127_r0
def k0_mult361 : BitVec 32 :=
  let c7168_i32_1130_r0 : BitVec 32 := 7168#32
  c7168_i32_1130_r0
def k0_mult362 : BitVec 32 :=
  let c7168_i32_1133_r0 : BitVec 32 := 7168#32
  c7168_i32_1133_r0
def k0_cond4 (i : grid0.Coords) : BitVec 1 :=
  let arg0 : BitVec 32 := BitVec.ofNat 32 (i 0).val
  let c52_i32_5_r0 : BitVec 32 := 52#32
  let v12_r0 : BitVec 1 := Scalar.cmpi .eq arg0 c52_i32_5_r0
  let v13_r0 : BitVec 32 := Scalar.extui v12_r0
  let c0_i32_6_r0 : BitVec 32 := 0#32
  let v14_r0 : BitVec 1 := Scalar.cmpi .ne v13_r0 c0_i32_6_r0
  v14_r0

@[reducible] def k0_t8_loop : Scf.Loop 32 :=
  let c0_i32_8_r0 : BitVec 32 := 0#32
  let c8_i32_r0 : BitVec 32 := 8#32
  let v15_r0 : BitVec 32 := Scalar.addi c0_i32_8_r0 c8_i32_r0
  let c1_i32_r0 : BitVec 32 := 1#32
  ⟨c0_i32_8_r0, v15_r0, c1_i32_r0⟩
def k0_mult363 (k0_t8 : Fin k0_t8_loop.trips) : BitVec 32 :=
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  v17_r0
def k0_off64 (k0_t8 : Fin k0_t8_loop.trips) : Fin 3 → Nat :=
  let c0_r0 : Index := 0#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v19_r0 : Index := Scalar.indexCast v18_r0
  let c0_10_r0 : Index := 0#32
  ![0, v19_r0.toNat, 0]
def k0_off65 (k0_t8 : Fin k0_t8_loop.trips) : Fin 4 → Nat :=
  let c0_11_r0 : Index := 0#32
  let c0_12_r0 : Index := 0#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v22_r0 : Index := Scalar.indexCast v18_r0
  let c0_13_r0 : Index := 0#32
  ![0, 0, v22_r0.toNat, 0]
def k0_off66 (k0_t8 : Fin k0_t8_loop.trips) : Fin 4 → Nat :=
  let c0_16_r0 : Index := 0#32
  let c1_r0 : Index := 1#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v30_r0 : Index := Scalar.indexCast v18_r0
  let c0_17_r0 : Index := 0#32
  ![0, 1, v30_r0.toNat, 0]
def k0_off67 (k0_t8 : Fin k0_t8_loop.trips) : Fin 3 → Nat :=
  let c0_20_r0 : Index := 0#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v42_r0 : Index := Scalar.indexCast v18_r0
  let c0_21_r0 : Index := 0#32
  ![0, v42_r0.toNat, 0]
def k0_off68 (k0_t8 : Fin k0_t8_loop.trips) : Fin 3 → Nat :=
  let c1_22_r0 : Index := 1#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v46_r0 : Index := Scalar.indexCast v18_r0
  let c0_23_r0 : Index := 0#32
  ![1, v46_r0.toNat, 0]
def k0_off69 (k0_t8 : Fin k0_t8_loop.trips) : Fin 4 → Nat :=
  let c1_24_r0 : Index := 1#32
  let c0_25_r0 : Index := 0#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v49_r0 : Index := Scalar.indexCast v18_r0
  let c0_26_r0 : Index := 0#32
  ![1, 0, v49_r0.toNat, 0]
def k0_off70 (k0_t8 : Fin k0_t8_loop.trips) : Fin 4 → Nat :=
  let c1_29_r0 : Index := 1#32
  let c1_30_r0 : Index := 1#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v57_r0 : Index := Scalar.indexCast v18_r0
  let c0_31_r0 : Index := 0#32
  ![1, 1, v57_r0.toNat, 0]
def k0_off71 (k0_t8 : Fin k0_t8_loop.trips) : Fin 3 → Nat :=
  let c1_34_r0 : Index := 1#32
  let c0_i32_8_r0 : BitVec 32 := 0#32
  let c1_i32_r0 : BitVec 32 := 1#32
  let arg11_r0 : BitVec 32 := Scf.iv c0_i32_8_r0 c1_i32_r0 k0_t8
  let c128_i32_r0 : BitVec 32 := 128#32
  let v17_r0 : BitVec 32 := Scalar.muli arg11_r0 c128_i32_r0
  let v18_r0 : BitVec 32 := v17_r0
  let v69_r0 : Index := Scalar.indexCast v18_r0
  let c0_35_r0 : Index := 0#32
  ![1, v69_r0.toNat, 0]
def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32 : BitVec 32 := 26#32
  let v2 : BitVec 32 := Scalar.divsi v1 c26_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c51_i32 : BitVec 32 := 51#32
  let v0 : BitVec 32 := Scalar.minsi arg0 c51_i32
  let c26_i32 : BitVec 32 := 26#32
  let v1 : BitVec 32 := Scalar.remsi v0 c26_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c51_i32 : BitVec 32 := 51#32
  let v0 : BitVec 32 := Scalar.minsi arg0 c51_i32
  let c26_i32 : BitVec 32 := 26#32
  let v1 : BitVec 32 := Scalar.remsi v0 c26_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32 : BitVec 32 := 26#32
  let v2 : BitVec 32 := Scalar.remsi v1 c26_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32 : BitVec 32 := 26#32
  let v2 : BitVec 32 := Scalar.remsi v1 c26_i32
  let c0_i32_0 : BitVec 32 := 0#32
  let c0_i32_1 : BitVec 32 := 0#32
  ![c0_i32_0.toNat, v2.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c26_i32 : BitVec 32 := 26#32
  let v2 : BitVec 32 := Scalar.divsi v1 c26_i32
  let c1_i32_0 : BitVec 32 := 1#32
  let v3 : BitVec 32 := Scalar.subi arg0 c1_i32_0
  let c0_i32_1 : BitVec 32 := 0#32
  let v4 : BitVec 32 := Scalar.maxsi v3 c0_i32_1
  let c26_i32_2 : BitVec 32 := 26#32
  let v5 : BitVec 32 := Scalar.remsi v4 c26_i32_2
  let c0_i32_3 : BitVec 32 := 0#32
  let c0_i32_4 : BitVec 32 := 0#32
  ![c0_i32_3.toNat, v2.toNat, v5.toNat]

abbrev stage0_0 : Fin 2 → Memref sig .tc .vmem S2x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7424x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7424x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x2048x14848 : Shape := ⟨3, ![2, 2048, 14848]⟩
abbrev S2x2048x1 : Shape := ⟨3, ![2, 2048, 1]⟩
abbrev S7424x13312 : Shape := ⟨2, ![7424, 13312]⟩
abbrev S1x13312 : Shape := ⟨2, ![1, 13312]⟩
abbrev S4096x7424x2 : Shape := ⟨3, ![4096, 7424, 2]⟩
abbrev S4096x7424x1 : Shape := ⟨3, ![4096, 7424, 1]⟩
abbrev S4096x7424 : Shape := ⟨2, ![4096, 7424]⟩
abbrev S4096x1 : Shape := ⟨2, ![4096, 1]⟩
abbrev S_ : Shape := ⟨0, ![]⟩
abbrev S4096x13312 : Shape := ⟨2, ![4096, 13312]⟩
abbrev S2x2048x13312 : Shape := ⟨3, ![2, 2048, 13312]⟩

abbrev nBuf : Space → Nat
  | .hbm => 70
  | .vmem => 0
  | .smem => 0
  | _ => 0

abbrev bufTy : (tb : Table) → Fin (tcTables nBuf tb) → BufTy
  | .hbm, ⟨0, _⟩ => ⟨S2x2048x14848, .i8⟩
  | .hbm, ⟨1, _⟩ => ⟨S2x2048x1, .f32⟩
  | .hbm, ⟨2, _⟩ => ⟨S7424x13312, .i8⟩
  | .hbm, ⟨3, _⟩ => ⟨S1x13312, .f32⟩
  | .hbm, ⟨4, _⟩ => ⟨S7424x13312, .i8⟩
  | .hbm, ⟨5, _⟩ => ⟨S1x13312, .f32⟩
  | .hbm, ⟨6, _⟩ => ⟨S4096x7424x2, .i8⟩
  | .hbm, ⟨7, _⟩ => ⟨S4096x7424x2, .i32⟩
  | .hbm, ⟨8, _⟩ => ⟨S4096x7424x2, .bf16⟩
  | .hbm, ⟨9, _⟩ => ⟨S4096x7424x1, .bf16⟩
  | .hbm, ⟨10, _⟩ => ⟨S4096x7424, .bf16⟩
  | .hbm, ⟨11, _⟩ => ⟨S4096x7424x1, .bf16⟩
  | .hbm, ⟨12, _⟩ => ⟨S4096x7424, .bf16⟩
  | .hbm, ⟨13, _⟩ => ⟨S4096x1, .f32⟩
  | .hbm, ⟨14, _⟩ => ⟨S7424x13312, .i32⟩
  | .hbm, ⟨15, _⟩ => ⟨S_, .i32⟩
  | .hbm, ⟨16, _⟩ => ⟨S7424x13312, .i32⟩
  | .hbm, ⟨17, _⟩ => ⟨S7424x13312, .i32⟩
  | .hbm, ⟨18, _⟩ => ⟨S7424x13312, .bf16⟩
  | .hbm, ⟨19, _⟩ => ⟨S_, .bf16⟩
  | .hbm, ⟨20, _⟩ => ⟨S7424x13312, .bf16⟩
  | .hbm, ⟨21, _⟩ => ⟨S7424x13312, .bf16⟩
  | .hbm, ⟨22, _⟩ => ⟨S_, .i32⟩
  | .hbm, ⟨23, _⟩ => ⟨S7424x13312, .i32⟩
  | .hbm, ⟨24, _⟩ => ⟨S7424x13312, .i32⟩
  | .hbm, ⟨25, _⟩ => ⟨S7424x13312, .bf16⟩
  | .hbm, ⟨26, _⟩ => ⟨S_, .bf16⟩
  | .hbm, ⟨27, _⟩ => ⟨S7424x13312, .bf16⟩
  | .hbm, ⟨28, _⟩ => ⟨S7424x13312, .bf16⟩
  | .hbm, ⟨29, _⟩ => ⟨S4096x13312, .f32⟩
  | .hbm, ⟨30, _⟩ => ⟨S4096x13312, .f32⟩
  | .hbm, ⟨31, _⟩ => ⟨S4096x13312, .f32⟩
  | .hbm, ⟨32, _⟩ => ⟨S4096x13312, .f32⟩
  | .hbm, ⟨33, _⟩ => ⟨S4096x13312, .f32⟩
  | .hbm, ⟨34, _⟩ => ⟨S4096x13312, .f32⟩
  | .hbm, ⟨35, _⟩ => ⟨S4096x13312, .f32⟩
  | .hbm, ⟨36, _⟩ => ⟨S7424x13312, .i32⟩
  | .hbm, ⟨37, _⟩ => ⟨S_, .i32⟩
  | .hbm, ⟨38, _⟩ => ⟨S7424x13312, .i32⟩
  | .hbm, ⟨39, _⟩ => ⟨S7424x13312, .i32⟩
  | .hbm, ⟨40, _⟩ => ⟨S7424x13312, .bf16⟩
  | .hbm, ⟨41, _⟩ => ⟨S_, .bf16⟩
  | .hbm, ⟨42, _⟩ => ⟨S7424x13312, .bf16⟩
  | .hbm, ⟨43, _⟩ => ⟨S7424x13312, .bf16⟩
  | .hbm, ⟨44, _⟩ => ⟨S_, .i32⟩
  | .hbm, ⟨45, _⟩ => ⟨S7424x13312, .i32⟩
  | .hbm, ⟨46, _⟩ => ⟨S7424x13312, .i32⟩
  | .hbm, ⟨47, _⟩ => ⟨S7424x13312, .bf16⟩
  | .hbm, ⟨48, _⟩ => ⟨S_, .bf16⟩
  | .hbm, ⟨49, _⟩ => ⟨S7424x13312, .bf16⟩
  | .hbm, ⟨50, _⟩ => ⟨S7424x13312, .bf16⟩
  | .hbm, ⟨51, _⟩ => ⟨S4096x13312, .f32⟩
  | .hbm, ⟨52, _⟩ => ⟨S4096x13312, .f32⟩
  | .hbm, ⟨53, _⟩ => ⟨S4096x13312, .f32⟩
  | .hbm, ⟨54, _⟩ => ⟨S4096x13312, .f32⟩
  | .hbm, ⟨55, _⟩ => ⟨S4096x13312, .f32⟩
  | .hbm, ⟨56, _⟩ => ⟨S4096x13312, .f32⟩
  | .hbm, ⟨57, _⟩ => ⟨S4096x13312, .f32⟩
  | .hbm, ⟨58, _⟩ => ⟨S4096x13312, .f32⟩
  | .hbm, ⟨59, _⟩ => ⟨S4096x13312, .f32⟩
  | .hbm, ⟨60, _⟩ => ⟨S_, .f32⟩
  | .hbm, ⟨61, _⟩ => ⟨S4096x13312, .f32⟩
  | .hbm, ⟨62, _⟩ => ⟨S4096x13312, .f32⟩
  | .hbm, ⟨63, _⟩ => ⟨S_, .f32⟩
  | .hbm, ⟨64, _⟩ => ⟨S4096x13312, .f32⟩
  | .hbm, ⟨65, _⟩ => ⟨S4096x13312, .f32⟩
  | .hbm, ⟨66, _⟩ => ⟨S4096x13312, .f32⟩
  | .hbm, ⟨67, _⟩ => ⟨S4096x13312, .f32⟩
  | .hbm, ⟨68, _⟩ => ⟨S4096x13312, .bf16⟩
  | .hbm, ⟨69, _⟩ => ⟨S2x2048x13312, .bf16⟩
  | _, _ => ⟨S2x2048x14848, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_c_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Quantise.lean ====
abbrev S2x2048x14848 : Shape := ⟨3, ![2, 2048, 14848]⟩
abbrev S4096x14848 : Shape := ⟨2, ![4096, 14848]⟩
abbrev S4096x1 : Shape := ⟨2, ![4096, 1]⟩
abbrev S128x14848 : Shape := ⟨2, ![128, 14848]⟩
abbrev S128x1 : Shape := ⟨2, ![128, 1]⟩
abbrev S128 : Shape := ⟨1, ![128]⟩

abbrev nBuf : Space → Nat
  | .hbm => 4
  | .vmem => 6
  | .smem => 0
  | _ => 0

abbrev bufTy : (tb : Table) → Fin (tcTables nBuf tb) → BufTy
  | .hbm, ⟨0, _⟩ => ⟨S2x2048x14848, .bf16⟩
  | .hbm, ⟨1, _⟩ => ⟨S4096x14848, .bf16⟩
  | .hbm, ⟨2, _⟩ => ⟨S4096x14848, .i8⟩
  | .hbm, ⟨3, _⟩ => ⟨S4096x1, .f32⟩
  | .local _ .vmem, ⟨0, _⟩ => ⟨S128x14848, .bf16⟩
  | .local _ .vmem, ⟨1, _⟩ => ⟨S128x14848, .bf16⟩
  | .local _ .vmem, ⟨2, _⟩ => ⟨S128x14848, .i8⟩
  | .local _ .vmem, ⟨3, _⟩ => ⟨S128x14848, .i8⟩
  | .local _ .vmem, ⟨4, _⟩ => ⟨S128x1, .f32⟩
  | .local _ .vmem, ⟨5, _⟩ => ⟨S128x1, .f32⟩
  | _, _ => ⟨S2x2048x14848, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x14848 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x14848 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QuantiseReferenceIdeal.lean ====
abbrev S2x2048x14848 : Shape := ⟨3, ![2, 2048, 14848]⟩
abbrev S4096x14848 : Shape := ⟨2, ![4096, 14848]⟩
abbrev S4096x1 : Shape := ⟨2, ![4096, 1]⟩
abbrev S4096 : Shape := ⟨1, ![4096]⟩

abbrev nBuf : Space → Nat
  | .hbm => 4
  | .vmem => 3
  | .smem => 0
  | _ => 0

abbrev bufTy : (tb : Table) → Fin (tcTables nBuf tb) → BufTy
  | .hbm, ⟨0, _⟩ => ⟨S2x2048x14848, .bf16⟩
  | .hbm, ⟨1, _⟩ => ⟨S4096x14848, .bf16⟩
  | .hbm, ⟨2, _⟩ => ⟨S4096x14848, .i8⟩
  | .hbm, ⟨3, _⟩ => ⟨S4096x1, .f32⟩
  | .local _ .vmem, ⟨0, _⟩ => ⟨S4096x14848, .bf16⟩
  | .local _ .vmem, ⟨1, _⟩ => ⟨S4096x14848, .i8⟩
  | .local _ .vmem, ⟨2, _⟩ => ⟨S4096x1, .f32⟩
  | _, _ => ⟨S2x2048x14848, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x14848 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x14848 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Unit.lean ====
/-
  The state of the two matrix units in normal form: per unit, the tile waiting in register 0, the loaded
  tile, and the four 256-row blocks of the result buffer, each empty or holding a value. One equation per
  operation on such a state.
-/
module

public import Idealize.ShloMosaic.Lib.Mxu.Lemmas

@[expose] public section

noncomputable section

namespace Cert.Proof.Unit

open Idealize.ShloMosaic Idealize.ShloMosaic.Mxu

variable {F : FTy → Type} [FloatOps F]

/-- A 256-row block of a result buffer. -/
abbrev Blk (F : FTy → Type) : Type := FVec F (STile 256) .f32

/-- Depositing the pass `x` into a block: an empty one stores it, a filled one adds it. -/
def dep : Option (Blk F) → Blk F → Blk F
  | none, x => x
  | some e, x => addf e x

/-- The block holding row `R`. -/
def blkOf (R : Fin 1024) : Fin 4 := ⟨R.val / 256, by have := R.isLt; omega⟩

/-- The row of its block that row `R` is. -/
def rowOf (R : Fin 1024) : Fin 256 := ⟨R.val % 256, by omega⟩

/-- The state with waiting tiles `r`, loaded tiles `g` and blocks `a`. -/
def gen (r g : Fin 2 → Option (Staged F)) (a : Fin 2 → Fin 4 → Option (Blk F)) : Mxu F where
  reg q s := if s = 0 then r q else none
  gmr := g
  acc q R C := ((a q (blkOf R)).map fun v => v (ix (rowOf R) C)).getD (FloatOps.ofBits .f32 0)
  live q R := (a q (blkOf R)).isSome
  clean q R C h := by
    have : a q (blkOf R) = none := by simpa using h
    rw [this]; rfl

theorem ext_of {s t : Mxu F} (h1 : s.reg = t.reg) (h2 : s.gmr = t.gmr) (h3 : s.acc = t.acc) (h4 : s.live = t.live) : s = t := by
  cases s; cases t; cases h1; cases h2; cases h3; cases h4; rfl

/-- Replacing the entry of one unit. -/
def set1 {α : Type _} (f : Fin 2 → α) (q : Fin 2) (v : α) : Fin 2 → α := fun q' => if q' = q then v else f q'

/-- Replacing one block. -/
def set2 {α : Type _} (f : Fin 2 → Fin 4 → α) (q : Fin 2) (c : Fin 4) (v : α) : Fin 2 → Fin 4 → α :=
  fun q' c' => if q' = q ∧ c' = c then v else f q' c'

theorem init_eq : (Mxu.init : Mxu F) = gen (fun _ => none) (fun _ => none) (fun _ _ => none) := by
  refine ext_of ?_ rfl rfl rfl
  funext q s; simp [Mxu.init, gen]

theorem pushed_gen (r g : Fin 2 → Option (Staged F)) (a) (q : Fin 2) {φ : FTy} (v : FVec F (STile 256) φ) (h : r q = none) :
    (gen r g a).pushed q 0 false v = gen (set1 r q (some ⟨φ, false, v⟩)) g a := by
  have hn : (gen r g a).reg q 0 = none := by simp [gen, h]
  unfold Mxu.pushed
  rw [hn]
  refine ext_of ?_ rfl rfl rfl
  funext q' s
  simp only [gen, set1]
  by_cases hs : s = 0 <;> by_cases hq : q' = q <;> simp [hs, hq]

theorem blk_iff (R : Fin 1024) (c : Fin 4) : (4 * (64 * c.val) ≤ R.val ∧ R.val < 4 * (64 * c.val) + 256) ↔ blkOf R = c := by
  have := R.isLt; have := c.isLt
  simp only [blkOf, Fin.ext_iff]; omega

theorem row_fin {A : ℕ} (hA : Fits A 256) (c : Fin 4) (hc : A = 64 * c.val) (r : Fin 256) :
    blkOf (row hA r) = c ∧ rowOf (row hA r) = r := by
  subst hc
  have := r.isLt; have := c.isLt
  constructor <;> simp only [blkOf, rowOf, row, Fin.ext_iff] <;> omega

theorem accBy_gen (r g : Fin 2 → Option (Staged F)) (a) (q : Fin 2) (t : Staged F) (A : ℕ) {φ : FTy} (lhs : FVec F (STile 256) φ)
    (hA : Fits A 256) (c : Fin 4) (hc : A = 64 * c.val) :
    (gen r g a).accBy q t A lhs hA = gen r g (set2 a q c (some (dep (a q c) (t.pass lhs)))) := by
  subst hc
  refine ext_of rfl rfl ?_ ?_
  · funext q' R C
    simp only [Mxu.accBy, gen, set2]
    by_cases hq : q' = q ∧ blkOf R = c
    · have h' : q' = q ∧ 4 * (64 * c.val) ≤ R.val ∧ R.val < 4 * (64 * c.val) + 256 := ⟨hq.1, (blk_iff R c).2 hq.2⟩
      rw [dif_pos h', if_pos hq]
      obtain ⟨rfl, rfl⟩ := hq
      have e : (⟨R.val - 4 * (64 * (blkOf R).val), by omega⟩ : Fin 256) = rowOf R := by
        have := R.isLt
        simp only [blkOf, rowOf, Fin.ext_iff]; omega
      rw [e]
      rcases h0 : a q' (blkOf R) with _ | e0 <;> rfl
    · have h' : ¬ (q' = q ∧ 4 * (64 * c.val) ≤ R.val ∧ R.val < 4 * (64 * c.val) + 256) :=
        fun h => hq ⟨h.1, (blk_iff R c).1 h.2⟩
      rw [dif_neg h', if_neg hq]
  · funext q' R
    simp only [Mxu.accBy, gen, set2]
    by_cases hq : q' = q ∧ blkOf R = c
    · have h' : q' = q ∧ 4 * (64 * c.val) ≤ R.val ∧ R.val < 4 * (64 * c.val) + 256 := ⟨hq.1, (blk_iff R c).2 hq.2⟩
      rw [if_pos h', if_pos hq]; rfl
    · have h' : ¬ (q' = q ∧ 4 * (64 * c.val) ≤ R.val ∧ R.val < 4 * (64 * c.val) + 256) :=
        fun h => hq ⟨h.1, (blk_iff R c).1 h.2⟩
      rw [if_neg h', if_neg hq]

theorem accLhs_gen (r g : Fin 2 → Option (Staged F)) (a) (q : Fin 2) (A : ℕ) {φ : FTy} (lhs : FVec F (STile 256) φ)
    (hA : Fits A 256) (c : Fin 4) (hc : A = 64 * c.val) (t : Staged F) (ht : r q = some t) :
    (gen r g a).accLhs q 0 A lhs hA =
      gen (set1 r q none) (set1 g q (some t)) (set2 a q c (some (dep (a q c) (t.pass lhs)))) := by
  have hst : (gen r g a).staged q 0 = t := by simp [Mxu.staged, gen, ht]
  unfold Mxu.accLhs
  rw [hst]
  have e := accBy_gen r g a q t A lhs hA c hc
  have e3 := congrArg Mxu.acc e
  have e4 := congrArg Mxu.live e
  refine ext_of ?_ ?_ e3 e4
  · funext q' s
    simp only [gen, set1]
    by_cases hs : s = 0 <;> by_cases hq : q' = q <;> simp [hs, hq]
  · funext q'
    rfl

theorem read_gen (r g : Fin 2 → Option (Staged F)) (a) (q : Fin 2) (A : ℕ) (hA : Fits A 256) (c : Fin 4) (hc : A = 64 * c.val)
    (v : Blk F) (hv : a q c = some v) : (gen r g a).read q A hA = v := by
  funext i
  obtain ⟨h1, h2⟩ := row_fin hA c hc (i 0)
  simp only [Mxu.read, gen, h1, hv, h2, Option.map_some, Option.getD_some]
  refine congrArg v ?_
  funext d
  match d with
  | ⟨0, _⟩ => rfl
  | ⟨1, _⟩ => rfl

theorem pop_gen (r g : Fin 2 → Option (Staged F)) (a) (q : Fin 2) (A : ℕ) (hA : Fits A 256) (c : Fin 4) (hc : A = 64 * c.val) :
    (gen r g a).pop q A 256 hA = gen r g (set2 a q c none) := by
  subst hc
  refine ext_of rfl rfl ?_ ?_
  · funext q' R C
    simp only [Mxu.pop, gen, set2]
    by_cases hq : q' = q ∧ blkOf R = c
    · have h' : q' = q ∧ 4 * (64 * c.val) ≤ R.val ∧ R.val < 4 * (64 * c.val) + 256 := ⟨hq.1, (blk_iff R c).2 hq.2⟩
      rw [if_pos h', if_pos hq]; rfl
    · have h' : ¬ (q' = q ∧ 4 * (64 * c.val) ≤ R.val ∧ R.val < 4 * (64 * c.val) + 256) :=
        fun h => hq ⟨h.1, (blk_iff R c).1 h.2⟩
      rw [if_neg h', if_neg hq]
  · funext q' R
    simp only [Mxu.pop, gen, set2]
    by_cases hq : q' = q ∧ blkOf R = c
    · have h' : q' = q ∧ 4 * (64 * c.val) ≤ R.val ∧ R.val < 4 * (64 * c.val) + 256 := ⟨hq.1, (blk_iff R c).2 hq.2⟩
      rw [if_pos h', if_pos hq]; rfl
    · have h' : ¬ (q' = q ∧ 4 * (64 * c.val) ≤ R.val ∧ R.val < 4 * (64 * c.val) + 256) :=
        fun h => hq ⟨h.1, (blk_iff R c).1 h.2⟩
      rw [if_neg h', if_neg hq]

/-- The state written out: waiting tiles `t`, loaded tiles `g`, blocks `a` of unit 0 and of unit 1. -/
def mk (t0 t1 g0 g1 : Option (Staged F)) (a00 a01 a02 a03 a10 a11 a12 a13 : Option (Blk F)) : Mxu F :=
  gen ![t0, t1] ![g0, g1] ![![a00, a01, a02, a03], ![a10, a11, a12, a13]]

/-- A waiting tile, pushed as it is. -/
def tile {φ : FTy} (v : FVec F (STile 256) φ) : Option (Staged F) := some ⟨φ, false, v⟩

/-- The pass of `lhs` by the tile `v`. -/
def pass (v : FVec F (STile 256) .bf16) (lhs : FVec F (STile 256) .bf16) : Blk F :=
  FloatOps.mxuPass (DotDims.plain 256 256 256) lhs v

variable (t0 t1 g0 g1 : Option (Staged F)) (a00 a01 a02 a03 a10 a11 a12 a13 : Option (Blk F))

theorem init_mk : (Mxu.init : Mxu F) = mk none none none none none none none none none none none none := by
  rw [init_eq]
  unfold mk
  congr 1
  · funext q; fin_cases q <;> rfl
  · funext q; fin_cases q <;> rfl
  · funext q c; fin_cases q <;> fin_cases c <;> rfl

theorem push0 {φ : FTy} (v : FVec F (STile 256) φ) :
    (mk none t1 g0 g1 a00 a01 a02 a03 a10 a11 a12 a13).pushed 0 0 false v = mk (tile v) t1 g0 g1 a00 a01 a02 a03 a10 a11 a12 a13 := by
  unfold mk
  rw [pushed_gen _ _ _ 0 v rfl]
  congr 1
  funext q; fin_cases q <;> rfl

theorem pushOk0 : (mk none t1 g0 g1 a00 a01 a02 a03 a10 a11 a12 a13).PushOk 0 0 false :=
  pushOk_of_none _ _ _ _ rfl

theorem accL00 (v lhs : FVec F (STile 256) .bf16) (h : Fits 0 256) :
    (mk (tile v) t1 g0 g1 a00 a01 a02 a03 a10 a11 a12 a13).accLhs 0 0 0 lhs h =
      mk none t1 (tile v) g1 (some (dep a00 (pass v lhs))) a01 a02 a03 a10 a11 a12 a13 := by
  unfold mk
  rw [accLhs_gen _ _ _ 0 0 lhs h 0 rfl ⟨.bf16, false, v⟩ rfl]
  congr 1
  · funext q; fin_cases q <;> rfl
  · funext q; fin_cases q <;> rfl
  · funext q c; fin_cases q <;> fin_cases c <;> rfl

theorem accB00 (v lhs : FVec F (STile 256) .bf16) (h : Fits 0 256) :
    (mk t0 t1 g0 g1 a00 a01 a02 a03 a10 a11 a12 a13).accBy 0 ⟨.bf16, false, v⟩ 0 lhs h = mk t0 t1 g0 g1 (some (dep a00 (pass v lhs))) a01 a02 a03 a10 a11 a12 a13 := by
  unfold mk
  rw [accBy_gen _ _ _ 0 ⟨.bf16, false, v⟩ 0 lhs h 0 rfl]
  congr 1
  funext q c; fin_cases q <;> fin_cases c <;> rfl

theorem read00 (v : Blk F) (h : Fits 0 256) :
    (mk t0 t1 g0 g1 (some v) a01 a02 a03 a10 a11 a12 a13).read 0 0 h = v := by
  unfold mk
  exact read_gen _ _ _ 0 0 h 0 rfl v rfl

theorem pop00 (h : Fits 0 256) :
    (mk t0 t1 g0 g1 a00 a01 a02 a03 a10 a11 a12 a13).pop 0 0 256 h = mk t0 t1 g0 g1 none a01 a02 a03 a10 a11 a12 a13 := by
  unfold mk
  rw [pop_gen _ _ _ 0 0 h 0 rfl]
  congr 1
  funext q c; fin_cases q <;> fin_cases c <;> rfl

theorem accL01 (v lhs : FVec F (STile 256) .bf16) (h : Fits 64 256) :
    (mk (tile v) t1 g0 g1 a00 a01 a02 a03 a10 a11 a12 a13).accLhs 0 0 64 lhs h =
      mk none t1 (tile v) g1 a00 (some (dep a01 (pass v lhs))) a02 a03 a10 a11 a12 a13 := by
  unfold mk
  rw [accLhs_gen _ _ _ 0 64 lhs h 1 rfl ⟨.bf16, false, v⟩ rfl]
  congr 1
  · funext q; fin_cases q <;> rfl
  · funext q; fin_cases q <;> rfl
  · funext q c; fin_cases q <;> fin_cases c <;> rfl

theorem accB01 (v lhs : FVec F (STile 256) .bf16) (h : Fits 64 256) :
    (mk t0 t1 g0 g1 a00 a01 a02 a03 a10 a11 a12 a13).accBy 0 ⟨.bf16, false, v⟩ 64 lhs h = mk t0 t1 g0 g1 a00 (some (dep a01 (pass v lhs))) a02 a03 a10 a11 a12 a13 := by
  unfold mk
  rw [accBy_gen _ _ _ 0 ⟨.bf16, false, v⟩ 64 lhs h 1 rfl]
  congr 1
  funext q c; fin_cases q <;> fin_cases c <;> rfl

theorem read01 (v : Blk F) (h : Fits 64 256) :
    (mk t0 t1 g0 g1 a00 (some v) a02 a03 a10 a11 a12 a13).read 0 64 h = v := by
  unfold mk
  exact read_gen _ _ _ 0 64 h 1 rfl v rfl

theorem pop01 (h : Fits 64 256) :
    (mk t0 t1 g0 g1 a00 a01 a02 a03 a10 a11 a12 a13).pop 0 64 256 h = mk t0 t1 g0 g1 a00 none a02 a03 a10 a11 a12 a13 := by
  unfold mk
  rw [pop_gen _ _ _ 0 64 h 1 rfl]
  congr 1
  funext q c; fin_cases q <;> fin_cases c <;> rfl

theorem accL02 (v lhs : FVec F (STile 256) .bf16) (h : Fits 128 256) :
    (mk (tile v) t1 g0 g1 a00 a01 a02 a03 a10 a11 a12 a13).accLhs 0 0 128 lhs h =
      mk none t1 (tile v) g1 a00 a01 (some (dep a02 (pass v lhs))) a03 a10 a11 a12 a13 := by
  unfold mk
  rw [accLhs_gen _ _ _ 0 128 lhs h 2 rfl ⟨.bf16, false, v⟩ rfl]
  congr 1
  · funext q; fin_cases q <;> rfl
  · funext q; fin_cases q <;> rfl
  · funext q c; fin_cases q <;> fin_cases c <;> rfl

theorem accB02 (v lhs : FVec F (STile 256) .bf16) (h : Fits 128 256) :
    (mk t0 t1 g0 g1 a00 a01 a02 a03 a10 a11 a12 a13).accBy 0 ⟨.bf16, false, v⟩ 128 lhs h = mk t0 t1 g0 g1 a00 a01 (some (dep a02 (pass v lhs))) a03 a10 a11 a12 a13 := by
  unfold mk
  rw [accBy_gen _ _ _ 0 ⟨.bf16, false, v⟩ 128 lhs h 2 rfl]
  congr 1
  funext q c; fin_cases q <;> fin_cases c <;> rfl

theorem read02 (v : Blk F) (h : Fits 128 256) :
    (mk t0 t1 g0 g1 a00 a01 (some v) a03 a10 a11 a12 a13).read 0 128 h = v := by
  unfold mk
  exact read_gen _ _ _ 0 128 h 2 rfl v rfl

theorem pop02 (h : Fits 128 256) :
    (mk t0 t1 g0 g1 a00 a01 a02 a03 a10 a11 a12 a13).pop 0 128 256 h = mk t0 t1 g0 g1 a00 a01 none a03 a10 a11 a12 a13 := by
  unfold mk
  rw [pop_gen _ _ _ 0 128 h 2 rfl]
  congr 1
  funext q c; fin_cases q <;> fin_cases c <;> rfl

theorem accL03 (v lhs : FVec F (STile 256) .bf16) (h : Fits 192 256) :
    (mk (tile v) t1 g0 g1 a00 a01 a02 a03 a10 a11 a12 a13).accLhs 0 0 192 lhs h =
      mk none t1 (tile v) g1 a00 a01 a02 (some (dep a03 (pass v lhs))) a10 a11 a12 a13 := by
  unfold mk
  rw [accLhs_gen _ _ _ 0 192 lhs h 3 rfl ⟨.bf16, false, v⟩ rfl]
  congr 1
  · funext q; fin_cases q <;> rfl
  · funext q; fin_cases q <;> rfl
  · funext q c; fin_cases q <;> fin_cases c <;> rfl

theorem accB03 (v lhs : FVec F (STile 256) .bf16) (h : Fits 192 256) :
    (mk t0 t1 g0 g1 a00 a01 a02 a03 a10 a11 a12 a13).accBy 0 ⟨.bf16, false, v⟩ 192 lhs h = mk t0 t1 g0 g1 a00 a01 a02 (some (dep a03 (pass v lhs))) a10 a11 a12 a13 := by
  unfold mk
  rw [accBy_gen _ _ _ 0 ⟨.bf16, false, v⟩ 192 lhs h 3 rfl]
  congr 1
  funext q c; fin_cases q <;> fin_cases c <;> rfl

theorem read03 (v : Blk F) (h : Fits 192 256) :
    (mk t0 t1 g0 g1 a00 a01 a02 (some v) a10 a11 a12 a13).read 0 192 h = v := by
  unfold mk
  exact read_gen _ _ _ 0 192 h 3 rfl v rfl

theorem pop03 (h : Fits 192 256) :
    (mk t0 t1 g0 g1 a00 a01 a02 a03 a10 a11 a12 a13).pop 0 192 256 h = mk t0 t1 g0 g1 a00 a01 a02 none a10 a11 a12 a13 := by
  unfold mk
  rw [pop_gen _ _ _ 0 192 h 3 rfl]
  congr 1
  funext q c; fin_cases q <;> fin_cases c <;> rfl

theorem gmr0 : (mk t0 t1 g0 g1 a00 a01 a02 a03 a10 a11 a12 a13).gmr 0 = g0 := rfl

theorem isSome_gmr0 (v : FVec F (STile 256) .bf16) : ((mk t0 t1 (tile v) g1 a00 a01 a02 a03 a10 a11 a12 a13).gmr 0).isSome = true := rfl

theorem get_gmr0 (v : FVec F (STile 256) .bf16) (h) :
    ((mk t0 t1 (tile v) g1 a00 a01 a02 a03 a10 a11 a12 a13).gmr 0).get h = ⟨.bf16, false, v⟩ := rfl

theorem push1 {φ : FTy} (v : FVec F (STile 256) φ) :
    (mk t0 none g0 g1 a00 a01 a02 a03 a10 a11 a12 a13).pushed 1 0 false v = mk t0 (tile v) g0 g1 a00 a01 a02 a03 a10 a11 a12 a13 := by
  unfold mk
  rw [pushed_gen _ _ _ 1 v rfl]
  congr 1
  funext q; fin_cases q <;> rfl

theorem pushOk1 : (mk t0 none g0 g1 a00 a01 a02 a03 a10 a11 a12 a13).PushOk 1 0 false :=
  pushOk_of_none _ _ _ _ rfl

theorem accL10 (v lhs : FVec F (STile 256) .bf16) (h : Fits 0 256) :
    (mk t0 (tile v) g0 g1 a00 a01 a02 a03 a10 a11 a12 a13).accLhs 1 0 0 lhs h =
      mk t0 none g0 (tile v) a00 a01 a02 a03 (some (dep a10 (pass v lhs))) a11 a12 a13 := by
  unfold mk
  rw [accLhs_gen _ _ _ 1 0 lhs h 0 rfl ⟨.bf16, false, v⟩ rfl]
  congr 1
  · funext q; fin_cases q <;> rfl
  · funext q; fin_cases q <;> rfl
  · funext q c; fin_cases q <;> fin_cases c <;> rfl

theorem accB10 (v lhs : FVec F (STile 256) .bf16) (h : Fits 0 256) :
    (mk t0 t1 g0 g1 a00 a01 a02 a03 a10 a11 a12 a13).accBy 1 ⟨.bf16, false, v⟩ 0 lhs h = mk t0 t1 g0 g1 a00 a01 a02 a03 (some (dep a10 (pass v lhs))) a11 a12 a13 := by
  unfold mk
  rw [accBy_gen _ _ _ 1 ⟨.bf16, false, v⟩ 0 lhs h 0 rfl]
  congr 1
  funext q c; fin_cases q <;> fin_cases c <;> rfl

theorem read10 (v : Blk F) (h : Fits 0 256) :
    (mk t0 t1 g0 g1 a00 a01 a02 a03 (some v) a11 a12 a13).read 1 0 h = v := by
  unfold mk
  exact read_gen _ _ _ 1 0 h 0 rfl v rfl

theorem pop10 (h : Fits 0 256) :
    (mk t0 t1 g0 g1 a00 a01 a02 a03 a10 a11 a12 a13).pop 1 0 256 h = mk t0 t1 g0 g1 a00 a01 a02 a03 none a11 a12 a13 := by
  unfold mk
  rw [pop_gen _ _ _ 1 0 h 0 rfl]
  congr 1
  funext q c; fin_cases q <;> fin_cases c <;> rfl

theorem accL11 (v lhs : FVec F (STile 256) .bf16) (h : Fits 64 256) :
    (mk t0 (tile v) g0 g1 a00 a01 a02 a03 a10 a11 a12 a13).accLhs 1 0 64 lhs h =
      mk t0 none g0 (tile v) a00 a01 a02 a03 a10 (some (dep a11 (pass v lhs))) a12 a13 := by
  unfold mk
  rw [accLhs_gen _ _ _ 1 64 lhs h 1 rfl ⟨.bf16, false, v⟩ rfl]
  congr 1
  · funext q; fin_cases q <;> rfl
  · funext q; fin_cases q <;> rfl
  · funext q c; fin_cases q <;> fin_cases c <;> rfl

theorem accB11 (v lhs : FVec F (STile 256) .bf16) (h : Fits 64 256) :
    (mk t0 t1 g0 g1 a00 a01 a02 a03 a10 a11 a12 a13).accBy 1 ⟨.bf16, false, v⟩ 64 lhs h = mk t0 t1 g0 g1 a00 a01 a02 a03 a10 (some (dep a11 (pass v lhs))) a12 a13 := by
  unfold mk
  rw [accBy_gen _ _ _ 1 ⟨.bf16, false, v⟩ 64 lhs h 1 rfl]
  congr 1
  funext q c; fin_cases q <;> fin_cases c <;> rfl

theorem read11 (v : Blk F) (h : Fits 64 256) :
    (mk t0 t1 g0 g1 a00 a01 a02 a03 a10 (some v) a12 a13).read 1 64 h = v := by
  unfold mk
  exact read_gen _ _ _ 1 64 h 1 rfl v rfl

theorem pop11 (h : Fits 64 256) :
    (mk t0 t1 g0 g1 a00 a01 a02 a03 a10 a11 a12 a13).pop 1 64 256 h = mk t0 t1 g0 g1 a00 a01 a02 a03 a10 none a12 a13 := by
  unfold mk
  rw [pop_gen _ _ _ 1 64 h 1 rfl]
  congr 1
  funext q c; fin_cases q <;> fin_cases c <;> rfl

theorem accL12 (v lhs : FVec F (STile 256) .bf16) (h : Fits 128 256) :
    (mk t0 (tile v) g0 g1 a00 a01 a02 a03 a10 a11 a12 a13).accLhs 1 0 128 lhs h =
      mk t0 none g0 (tile v) a00 a01 a02 a03 a10 a11 (some (dep a12 (pass v lhs))) a13 := by
  unfold mk
  rw [accLhs_gen _ _ _ 1 128 lhs h 2 rfl ⟨.bf16, false, v⟩ rfl]
  congr 1
  · funext q; fin_cases q <;> rfl
  · funext q; fin_cases q <;> rfl
  · funext q c; fin_cases q <;> fin_cases c <;> rfl

theorem accB12 (v lhs : FVec F (STile 256) .bf16) (h : Fits 128 256) :
    (mk t0 t1 g0 g1 a00 a01 a02 a03 a10 a11 a12 a13).accBy 1 ⟨.bf16, false, v⟩ 128 lhs h = mk t0 t1 g0 g1 a00 a01 a02 a03 a10 a11 (some (dep a12 (pass v lhs))) a13 := by
  unfold mk
  rw [accBy_gen _ _ _ 1 ⟨.bf16, false, v⟩ 128 lhs h 2 rfl]
  congr 1
  funext q c; fin_cases q <;> fin_cases c <;> rfl

theorem read12 (v : Blk F) (h : Fits 128 256) :
    (mk t0 t1 g0 g1 a00 a01 a02 a03 a10 a11 (some v) a13).read 1 128 h = v := by
  unfold mk
  exact read_gen _ _ _ 1 128 h 2 rfl v rfl

theorem pop12 (h : Fits 128 256) :
    (mk t0 t1 g0 g1 a00 a01 a02 a03 a10 a11 a12 a13).pop 1 128 256 h = mk t0 t1 g0 g1 a00 a01 a02 a03 a10 a11 none a13 := by
  unfold mk
  rw [pop_gen _ _ _ 1 128 h 2 rfl]
  congr 1
  funext q c; fin_cases q <;> fin_cases c <;> rfl

theorem accL13 (v lhs : FVec F (STile 256) .bf16) (h : Fits 192 256) :
    (mk t0 (tile v) g0 g1 a00 a01 a02 a03 a10 a11 a12 a13).accLhs 1 0 192 lhs h =
      mk t0 none g0 (tile v) a00 a01 a02 a03 a10 a11 a12 (some (dep a13 (pass v lhs))) := by
  unfold mk
  rw [accLhs_gen _ _ _ 1 192 lhs h 3 rfl ⟨.bf16, false, v⟩ rfl]
  congr 1
  · funext q; fin_cases q <;> rfl
  · funext q; fin_cases q <;> rfl
  · funext q c; fin_cases q <;> fin_cases c <;> rfl

theorem accB13 (v lhs : FVec F (STile 256) .bf16) (h : Fits 192 256) :
    (mk t0 t1 g0 g1 a00 a01 a02 a03 a10 a11 a12 a13).accBy 1 ⟨.bf16, false, v⟩ 192 lhs h = mk t0 t1 g0 g1 a00 a01 a02 a03 a10 a11 a12 (some (dep a13 (pass v lhs))) := by
  unfold mk
  rw [accBy_gen _ _ _ 1 ⟨.bf16, false, v⟩ 192 lhs h 3 rfl]
  congr 1
  funext q c; fin_cases q <;> fin_cases c <;> rfl

theorem read13 (v : Blk F) (h : Fits 192 256) :
    (mk t0 t1 g0 g1 a00 a01 a02 a03 a10 a11 a12 (some v)).read 1 192 h = v := by
  unfold mk
  exact read_gen _ _ _ 1 192 h 3 rfl v rfl

theorem pop13 (h : Fits 192 256) :
    (mk t0 t1 g0 g1 a00 a01 a02 a03 a10 a11 a12 a13).pop 1 192 256 h = mk t0 t1 g0 g1 a00 a01 a02 a03 a10 a11 a12 none := by
  unfold mk
  rw [pop_gen _ _ _ 1 192 h 3 rfl]
  congr 1
  funext q c; fin_cases q <;> fin_cases c <;> rfl

theorem gmr1 : (mk t0 t1 g0 g1 a00 a01 a02 a03 a10 a11 a12 a13).gmr 1 = g1 := rfl

theorem isSome_gmr1 (v : FVec F (STile 256) .bf16) : ((mk t0 t1 g0 (tile v) a00 a01 a02 a03 a10 a11 a12 a13).gmr 1).isSome = true := rfl

theorem get_gmr1 (v : FVec F (STile 256) .bf16) (h) :
    ((mk t0 t1 g0 (tile v) a00 a01 a02 a03 a10 a11 a12 a13).gmr 1).get h = ⟨.bf16, false, v⟩ := rfl

theorem get_tile (v : FVec F (STile 256) .bf16) (h) : Option.get (tile v) h = ⟨.bf16, false, v⟩ := rfl

theorem drained_mk : (mk none none g0 g1 none none none none none none none none : Mxu F).Drained := by
  constructor
  · intro q r; fin_cases q <;> fin_cases r <;> rfl
  · intro q R
    show Option.isSome _ = false
    have hb := (blkOf R).isLt
    generalize blkOf R = b at hb
    fin_cases q <;> fin_cases b <;> rfl

end Cert.Proof.Unit

end
-- ==== Proof.KernelSpec.lean ====
/-
  What the products of the matrix units are made of: the left and right tiles of the seven products as functions
  of the contents of the code buffers, and the blocks of the result buffers after a number of tiles.
-/
module

public import proofs.«01_k».proof.Proof.Gen.Kernel
public import proofs.«01_k».proof.Proof.Unit
public import Idealize.ShloMosaic.Lib.Pipeline.FrameBody

@[expose] public section

set_option maxRecDepth 16384

noncomputable section

namespace Cert.Proof.GateUp.Kernel

open Cert.Kernel Cert.Kernel.Gen Idealize.ShloMosaic Idealize.ShloMosaic.TcCoe Idealize.SL.Sem
open Cert.Proof.Unit

variable {F : FTy → Type} [FloatOps F]

/-- Entry `(b, r, k)` of the activation codes, zero outside. -/
def x8 (X : Vec F S2x1024x14848 .i8) (b r k : ℕ) : Elt F .i8 :=
  if h : b < 2 ∧ r < 1024 ∧ k < 14848 then
    X (fun a => match a with | ⟨0, _⟩ => ⟨b, h.1⟩ | ⟨1, _⟩ => ⟨r, h.2.1⟩ | ⟨2, _⟩ => ⟨k, h.2.2⟩)
  else (0#8 : BitVec 8)

/-- The `256 × 256` window of the activation codes at offsets `o`. -/
def xw (X : Vec F S2x1024x14848 .i8) (o : Fin 3 → ℕ) : Vec F S1x256x256 .i8 :=
  fun i => x8 X (o 0 + (i 0).val) (o 1 + (i 1).val) (o 2 + (i 2).val)

/-- Entry `(r, j)` of a weight tile, zero outside. -/
def w8 (W : Vec F S7424x512 .i8) (r j : ℕ) : Elt F .i8 :=
  if h : r < 7424 ∧ j < 512 then W (fun a => match a with | ⟨0, _⟩ => ⟨r, h.1⟩ | ⟨1, _⟩ => ⟨j, h.2⟩) else (0#8 : BitVec 8)

/-- The `128 × 256` window of a weight tile at offsets `o`. -/
def ww (W : Vec F S7424x512 .i8) (o : Fin 2 → ℕ) : Vec F S128x256 .i8 :=
  fun i => w8 W (o 0 + (i 0).val) (o 1 + (i 1).val)

theorem readAt_xw {κ : Kind} {sp : Space} (v : View sig κ sp S2x1024x14848 .i8) (f : v.ty.Contents (Elt F)) (o : Fin 3 → ℕ)
    (inb : ∀ a, o a + S1x256x256.size a ≤ S2x1024x14848.size a) :
    v.readAt (Elt F) (Rect.unit (s := S2x1024x14848) o ![1, 256, 256] inb).toLoadRect f = xw (v.read (Elt F) f) o := by
  funext i
  have h0 := inb 0; have h1 := inb 1; have h2 := inb 2
  have e0 := (i 0).isLt; have e1 := (i 1).isLt; have e2 := (i 2).isLt
  have hb : o 0 + (i 0).val < 2 ∧ o 1 + (i 1).val < 1024 ∧ o 2 + (i 2).val < 14848 := ⟨by
    exact lt_of_lt_of_le (Nat.add_lt_add_left e0 _) h0, lt_of_lt_of_le (Nat.add_lt_add_left e1 _) h1,
    lt_of_lt_of_le (Nat.add_lt_add_left e2 _) h2⟩
  unfold xw x8
  rw [dif_pos hb, View.readAt_eq_ld]
  refine congrArg (v.read (Elt F) f) (funext fun a => Fin.ext ?_)
  match a with
  | ⟨0, _⟩ => exact congrArg (o 0 + ·) (Nat.one_mul _)
  | ⟨1, _⟩ => exact congrArg (o 1 + ·) (Nat.one_mul _)
  | ⟨2, _⟩ => exact congrArg (o 2 + ·) (Nat.one_mul _)

theorem readAt_ww {κ : Kind} {sp : Space} (v : View sig κ sp S7424x512 .i8) (f : v.ty.Contents (Elt F)) (o : Fin 2 → ℕ)
    (inb : ∀ a, o a + S128x256.size a ≤ S7424x512.size a) :
    v.readAt (Elt F) (Rect.unit (s := S7424x512) o ![128, 256] inb).toLoadRect f = ww (v.read (Elt F) f) o := by
  funext i
  have h0 := inb 0; have h1 := inb 1
  have e0 := (i 0).isLt; have e1 := (i 1).isLt
  have hb : o 0 + (i 0).val < 7424 ∧ o 1 + (i 1).val < 512 := ⟨
    lt_of_lt_of_le (Nat.add_lt_add_left e0 _) h0, lt_of_lt_of_le (Nat.add_lt_add_left e1 _) h1⟩
  unfold ww w8
  rw [dif_pos hb, View.readAt_eq_ld]
  refine congrArg (v.read (Elt F) f) (funext fun a => Fin.ext ?_)
  match a with
  | ⟨0, _⟩ => exact congrArg (o 0 + ·) (Nat.one_mul _)
  | ⟨1, _⟩ => exact congrArg (o 1 + ·) (Nat.one_mul _)

/-- The activation codes of batch `b`, half `h`, rows `256 c …`, tile `n` of the contracted axis. -/
abbrev xt (X : Vec F S2x1024x14848 .i8) (b h c n : ℕ) : Vec F S1x256x256 .i8 := xw X ![b, 256 * c, 7424 * h + 256 * n]

/-- The packed weights of half `h`, tile `n` of the contracted axis, columns `256 q …`. -/
abbrev wt (W : Vec F S7424x512 .i8) (h q n : ℕ) : Vec F S128x256 .i8 := ww W ![3712 * h + 128 * n, 256 * q]

/-- Activation codes as floats. -/
def l1 (v : Vec F S1x256x256 .i8) : FVec F S256x256 .bf16 := sitofp .bf16 (shapeCast S256x256 v shapeCasts_S1x256x256_S256x256 : IVec S256x256 8)

/-- The sum of two tiles of activation codes. -/
def lP (v w : Vec F S1x256x256 .i8) : FVec F S256x256 .bf16 := addf (l1 v) (l1 w)

/-- The difference of two tiles of activation codes. -/
def lM (v w : Vec F S1x256x256 .i8) : FVec F S256x256 .bf16 := subf (l1 v) (l1 w)

/-- The two nibbles of a packed code, each in one half of a word. -/
def nib (v : Vec F S128x256 .i8) : IVec S128x256 32 :=
  andi (ori (extui 32 v natLt_8_32 : IVec S128x256 32) (shli (extui 32 v natLt_8_32) (broadcast S128x256 12#32))) (broadcast S128x256 983055#32)

/-- The halves of words read as floats, less an offset. -/
def dec (w : IVec S128x256 32) (o : BitVec 16) : FVec F S256x256 .bf16 :=
  subf (bitcastToFloat .bf16 (bitcast S256x256 16 w bitcasts_S128x256_w32_S256x256_w16)) (broadcast S256x256 (Scalar.ofBits .bf16 o))

/-- One weight tile. -/
def r1 (v : Vec F S128x256 .i8) : FVec F S256x256 .bf16 := dec (addi (nib v) (broadcast S128x256 1124090624#32)) 0x4308#16

/-- The sum of two weight tiles. -/
def rP (v w : Vec F S128x256 .i8) : FVec F S256x256 .bf16 := dec (addi (addi (nib v) (nib w)) (broadcast S128x256 1124090624#32)) 0x4310#16

/-- The difference of two weight tiles. -/
def rM (v w : Vec F S128x256 .i8) : FVec F S256x256 .bf16 := dec (addi (subi (nib v) (nib w)) (broadcast S128x256 1125139216#32)) 0x4310#16

/-- The left tile of product 0. -/
abbrev lhs0 (X : Vec F S2x1024x14848 .i8) (c n : ℕ) : FVec F S256x256 .bf16 := lP (xt X 0 0 c n) (xt X 1 1 c n)

/-- The right tile of product 0. -/
abbrev rhs0 (Wg Wu : Vec F S7424x512 .i8) (q n : ℕ) : FVec F S256x256 .bf16 := rP (wt Wg 0 q n) (wt Wu 1 q n)

/-- The left tile of product 1. -/
abbrev lhs1 (X : Vec F S2x1024x14848 .i8) (c n : ℕ) : FVec F S256x256 .bf16 := l1 (xt X 0 0 c n)

/-- The right tile of product 1. -/
abbrev rhs1 (Wg Wu : Vec F S7424x512 .i8) (q n : ℕ) : FVec F S256x256 .bf16 := rM (wt Wu 0 q n) (wt Wu 1 q n)

/-- The left tile of product 2. -/
abbrev lhs2 (X : Vec F S2x1024x14848 .i8) (c n : ℕ) : FVec F S256x256 .bf16 := l1 (xt X 1 1 c n)

/-- The right tile of product 2. -/
abbrev rhs2 (Wg Wu : Vec F S7424x512 .i8) (q n : ℕ) : FVec F S256x256 .bf16 := rM (wt Wg 1 q n) (wt Wg 0 q n)

/-- The left tile of product 3. -/
abbrev lhs3 (X : Vec F S2x1024x14848 .i8) (c n : ℕ) : FVec F S256x256 .bf16 := lP (xt X 0 0 c n) (xt X 0 1 c n)

/-- The right tile of product 3. -/
abbrev rhs3 (Wg Wu : Vec F S7424x512 .i8) (q n : ℕ) : FVec F S256x256 .bf16 := r1 (wt Wu 1 q n)

/-- The left tile of product 4. -/
abbrev lhs4 (X : Vec F S2x1024x14848 .i8) (c n : ℕ) : FVec F S256x256 .bf16 := lM (xt X 0 1 c n) (xt X 1 1 c n)

/-- The right tile of product 4. -/
abbrev rhs4 (Wg Wu : Vec F S7424x512 .i8) (q n : ℕ) : FVec F S256x256 .bf16 := rP (wt Wg 1 q n) (wt Wu 1 q n)

/-- The left tile of product 5. -/
abbrev lhs5 (X : Vec F S2x1024x14848 .i8) (c n : ℕ) : FVec F S256x256 .bf16 := lP (xt X 1 0 c n) (xt X 1 1 c n)

/-- The right tile of product 5. -/
abbrev rhs5 (Wg Wu : Vec F S7424x512 .i8) (q n : ℕ) : FVec F S256x256 .bf16 := r1 (wt Wg 0 q n)

/-- The left tile of product 6. -/
abbrev lhs6 (X : Vec F S2x1024x14848 .i8) (c n : ℕ) : FVec F S256x256 .bf16 := lM (xt X 1 0 c n) (xt X 0 0 c n)

/-- The right tile of product 6. -/
abbrev rhs6 (Wg Wu : Vec F S7424x512 .i8) (q n : ℕ) : FVec F S256x256 .bf16 := rP (wt Wg 0 q n) (wt Wu 0 q n)

/-- The left tile of product `p`, row block `c`, tile `n` of the contracted axis. -/
def lhs (X : Vec F S2x1024x14848 .i8) : ℕ → ℕ → ℕ → FVec F S256x256 .bf16
  | 0 => lhs0 X
  | 1 => lhs1 X
  | 2 => lhs2 X
  | 3 => lhs3 X
  | 4 => lhs4 X
  | 5 => lhs5 X
  | _ => lhs6 X

/-- The right tile of product `p`, column block `q`, tile `n` of the contracted axis. -/
def rhs (Wg Wu : Vec F S7424x512 .i8) : ℕ → ℕ → ℕ → FVec F S256x256 .bf16
  | 0 => rhs0 Wg Wu
  | 1 => rhs1 Wg Wu
  | 2 => rhs2 Wg Wu
  | 3 => rhs3 Wg Wu
  | 4 => rhs4 Wg Wu
  | 5 => rhs5 Wg Wu
  | _ => rhs6 Wg Wu

/-- Block `c` of unit `q` after the first `n` tiles of product `p`. -/
def cell (X : Vec F S2x1024x14848 .i8) (Wg Wu : Vec F S7424x512 .i8) (p q c : ℕ) : ℕ → Option (Blk F)
  | 0 => none
  | n + 1 => some (dep (cell X Wg Wu p q c n) (pass (rhs Wg Wu p q n) (lhs X p c n)))

/-- The units after `n` tiles of product `p`, tile `n` of the right side waiting. -/
def St (X : Vec F S2x1024x14848 .i8) (Wg Wu : Vec F S7424x512 .i8) (p n : ℕ) : Mxu F :=
  mk (tile (rhs Wg Wu p 0 n)) (tile (rhs Wg Wu p 1 n)) (tile (rhs Wg Wu p 0 (n - 1))) (tile (rhs Wg Wu p 1 (n - 1)))
    (cell X Wg Wu p 0 0 n) (cell X Wg Wu p 0 1 n) (cell X Wg Wu p 0 2 n) (cell X Wg Wu p 0 3 n) (cell X Wg Wu p 1 0 n) (cell X Wg Wu p 1 1 n) (cell X Wg Wu p 1 2 n) (cell X Wg Wu p 1 3 n)

end Cert.Proof.GateUp.Kernel

end
-- ==== Proof.KernelOffs.lean ====
/-
  The offsets of the accesses in the product loops, in terms of the tile of the contracted axis a trip works on.
-/
module

public import proofs.«01_k».proof.Proof.Gen.Kernel
public import proofs.«01_k».proof.Proof.Unit
public import Idealize.ShloMosaic.Lib.Pipeline.FrameBody

@[expose] public section

set_option maxRecDepth 16384

noncomputable section

namespace Cert.Proof.GateUp.Kernel

open Cert.Kernel Cert.Kernel.Gen Idealize.ShloMosaic Idealize.ShloMosaic.TcCoe Idealize.SL.Sem
open Cert.Proof.Unit

variable {F : FTy → Type} [FloatOps F]

theorem o2_0 : ∀ k0_t1 : Fin k0_t1_loop.trips, k0_off2 k0_t1 0#32 = ![0, 256 * 0, 7424 * 0 + 256 * (3 * k0_t1.val + 1)] := by decide +kernel
theorem o2_1 : ∀ k0_t1 : Fin k0_t1_loop.trips, k0_off2 k0_t1 1#32 = ![0, 256 * 0, 7424 * 0 + 256 * (3 * k0_t1.val + 2)] := by decide +kernel
theorem o2_2 : ∀ k0_t1 : Fin k0_t1_loop.trips, k0_off2 k0_t1 2#32 = ![0, 256 * 0, 7424 * 0 + 256 * (3 * k0_t1.val + 3)] := by decide +kernel
theorem o3_0 : ∀ k0_t1 : Fin k0_t1_loop.trips, k0_off3 k0_t1 0#32 = ![1, 256 * 0, 7424 * 1 + 256 * (3 * k0_t1.val + 1)] := by decide +kernel
theorem o3_1 : ∀ k0_t1 : Fin k0_t1_loop.trips, k0_off3 k0_t1 1#32 = ![1, 256 * 0, 7424 * 1 + 256 * (3 * k0_t1.val + 2)] := by decide +kernel
theorem o3_2 : ∀ k0_t1 : Fin k0_t1_loop.trips, k0_off3 k0_t1 2#32 = ![1, 256 * 0, 7424 * 1 + 256 * (3 * k0_t1.val + 3)] := by decide +kernel
theorem o4_0_0 : ∀ k0_t1 : Fin k0_t1_loop.trips, k0_off4 k0_t1 0#32 0#32 = ![3712 * 0 + 128 * (3 * k0_t1.val + 2), 256 * 0] := by decide +kernel
theorem o4_0_1 : ∀ k0_t1 : Fin k0_t1_loop.trips, k0_off4 k0_t1 0#32 1#32 = ![3712 * 0 + 128 * (3 * k0_t1.val + 3), 256 * 0] := by decide +kernel
theorem o4_0_2 : ∀ k0_t1 : Fin k0_t1_loop.trips, k0_off4 k0_t1 0#32 2#32 = ![3712 * 0 + 128 * (3 * k0_t1.val + 4), 256 * 0] := by decide +kernel
theorem o4_1_0 : ∀ k0_t1 : Fin k0_t1_loop.trips, k0_off4 k0_t1 3712#32 0#32 = ![3712 * 1 + 128 * (3 * k0_t1.val + 2), 256 * 0] := by decide +kernel
theorem o4_1_1 : ∀ k0_t1 : Fin k0_t1_loop.trips, k0_off4 k0_t1 3712#32 1#32 = ![3712 * 1 + 128 * (3 * k0_t1.val + 3), 256 * 0] := by decide +kernel
theorem o4_1_2 : ∀ k0_t1 : Fin k0_t1_loop.trips, k0_off4 k0_t1 3712#32 2#32 = ![3712 * 1 + 128 * (3 * k0_t1.val + 4), 256 * 0] := by decide +kernel
theorem o5_0_0 : ∀ k0_t1 : Fin k0_t1_loop.trips, k0_off5 k0_t1 0#32 0#32 = ![3712 * 0 + 128 * (3 * k0_t1.val + 2), 256 * 1] := by decide +kernel
theorem o5_0_1 : ∀ k0_t1 : Fin k0_t1_loop.trips, k0_off5 k0_t1 0#32 1#32 = ![3712 * 0 + 128 * (3 * k0_t1.val + 3), 256 * 1] := by decide +kernel
theorem o5_0_2 : ∀ k0_t1 : Fin k0_t1_loop.trips, k0_off5 k0_t1 0#32 2#32 = ![3712 * 0 + 128 * (3 * k0_t1.val + 4), 256 * 1] := by decide +kernel
theorem o5_1_0 : ∀ k0_t1 : Fin k0_t1_loop.trips, k0_off5 k0_t1 3712#32 0#32 = ![3712 * 1 + 128 * (3 * k0_t1.val + 2), 256 * 1] := by decide +kernel
theorem o5_1_1 : ∀ k0_t1 : Fin k0_t1_loop.trips, k0_off5 k0_t1 3712#32 1#32 = ![3712 * 1 + 128 * (3 * k0_t1.val + 3), 256 * 1] := by decide +kernel
theorem o5_1_2 : ∀ k0_t1 : Fin k0_t1_loop.trips, k0_off5 k0_t1 3712#32 2#32 = ![3712 * 1 + 128 * (3 * k0_t1.val + 4), 256 * 1] := by decide +kernel
theorem o6_0 : ∀ k0_t1 : Fin k0_t1_loop.trips, k0_off6 k0_t1 0#32 = ![0, 256 * 1, 7424 * 0 + 256 * (3 * k0_t1.val + 1)] := by decide +kernel
theorem o6_1 : ∀ k0_t1 : Fin k0_t1_loop.trips, k0_off6 k0_t1 1#32 = ![0, 256 * 1, 7424 * 0 + 256 * (3 * k0_t1.val + 2)] := by decide +kernel
theorem o6_2 : ∀ k0_t1 : Fin k0_t1_loop.trips, k0_off6 k0_t1 2#32 = ![0, 256 * 1, 7424 * 0 + 256 * (3 * k0_t1.val + 3)] := by decide +kernel
theorem o7_0 : ∀ k0_t1 : Fin k0_t1_loop.trips, k0_off7 k0_t1 0#32 = ![1, 256 * 1, 7424 * 1 + 256 * (3 * k0_t1.val + 1)] := by decide +kernel
theorem o7_1 : ∀ k0_t1 : Fin k0_t1_loop.trips, k0_off7 k0_t1 1#32 = ![1, 256 * 1, 7424 * 1 + 256 * (3 * k0_t1.val + 2)] := by decide +kernel
theorem o7_2 : ∀ k0_t1 : Fin k0_t1_loop.trips, k0_off7 k0_t1 2#32 = ![1, 256 * 1, 7424 * 1 + 256 * (3 * k0_t1.val + 3)] := by decide +kernel
theorem o8_0 : ∀ k0_t1 : Fin k0_t1_loop.trips, k0_off8 k0_t1 0#32 = ![0, 256 * 2, 7424 * 0 + 256 * (3 * k0_t1.val + 1)] := by decide +kernel
theorem o8_1 : ∀ k0_t1 : Fin k0_t1_loop.trips, k0_off8 k0_t1 1#32 = ![0, 256 * 2, 7424 * 0 + 256 * (3 * k0_t1.val + 2)] := by decide +kernel
theorem o8_2 : ∀ k0_t1 : Fin k0_t1_loop.trips, k0_off8 k0_t1 2#32 = ![0, 256 * 2, 7424 * 0 + 256 * (3 * k0_t1.val + 3)] := by decide +kernel
theorem o9_0 : ∀ k0_t1 : Fin k0_t1_loop.trips, k0_off9 k0_t1 0#32 = ![1, 256 * 2, 7424 * 1 + 256 * (3 * k0_t1.val + 1)] := by decide +kernel
theorem o9_1 : ∀ k0_t1 : Fin k0_t1_loop.trips, k0_off9 k0_t1 1#32 = ![1, 256 * 2, 7424 * 1 + 256 * (3 * k0_t1.val + 2)] := by decide +kernel
theorem o9_2 : ∀ k0_t1 : Fin k0_t1_loop.trips, k0_off9 k0_t1 2#32 = ![1, 256 * 2, 7424 * 1 + 256 * (3 * k0_t1.val + 3)] := by decide +kernel
theorem o10_0 : ∀ k0_t1 : Fin k0_t1_loop.trips, k0_off10 k0_t1 0#32 = ![0, 256 * 3, 7424 * 0 + 256 * (3 * k0_t1.val + 1)] := by decide +kernel
theorem o10_1 : ∀ k0_t1 : Fin k0_t1_loop.trips, k0_off10 k0_t1 1#32 = ![0, 256 * 3, 7424 * 0 + 256 * (3 * k0_t1.val + 2)] := by decide +kernel
theorem o10_2 : ∀ k0_t1 : Fin k0_t1_loop.trips, k0_off10 k0_t1 2#32 = ![0, 256 * 3, 7424 * 0 + 256 * (3 * k0_t1.val + 3)] := by decide +kernel
theorem o11_0 : ∀ k0_t1 : Fin k0_t1_loop.trips, k0_off11 k0_t1 0#32 = ![1, 256 * 3, 7424 * 1 + 256 * (3 * k0_t1.val + 1)] := by decide +kernel
theorem o11_1 : ∀ k0_t1 : Fin k0_t1_loop.trips, k0_off11 k0_t1 1#32 = ![1, 256 * 3, 7424 * 1 + 256 * (3 * k0_t1.val + 2)] := by decide +kernel
theorem o11_2 : ∀ k0_t1 : Fin k0_t1_loop.trips, k0_off11 k0_t1 2#32 = ![1, 256 * 3, 7424 * 1 + 256 * (3 * k0_t1.val + 3)] := by decide +kernel
theorem o20_0 : ∀ k0_t2 : Fin k0_t2_loop.trips, k0_off20 k0_t2 0#32 = ![0, 256 * 0, 7424 * 0 + 256 * (3 * k0_t2.val + 1)] := by decide +kernel
theorem o20_1 : ∀ k0_t2 : Fin k0_t2_loop.trips, k0_off20 k0_t2 1#32 = ![0, 256 * 0, 7424 * 0 + 256 * (3 * k0_t2.val + 2)] := by decide +kernel
theorem o20_2 : ∀ k0_t2 : Fin k0_t2_loop.trips, k0_off20 k0_t2 2#32 = ![0, 256 * 0, 7424 * 0 + 256 * (3 * k0_t2.val + 3)] := by decide +kernel
theorem o21_0_0 : ∀ k0_t2 : Fin k0_t2_loop.trips, k0_off21 k0_t2 0#32 0#32 = ![3712 * 0 + 128 * (3 * k0_t2.val + 2), 256 * 0] := by decide +kernel
theorem o21_0_1 : ∀ k0_t2 : Fin k0_t2_loop.trips, k0_off21 k0_t2 0#32 1#32 = ![3712 * 0 + 128 * (3 * k0_t2.val + 3), 256 * 0] := by decide +kernel
theorem o21_0_2 : ∀ k0_t2 : Fin k0_t2_loop.trips, k0_off21 k0_t2 0#32 2#32 = ![3712 * 0 + 128 * (3 * k0_t2.val + 4), 256 * 0] := by decide +kernel
theorem o21_1_0 : ∀ k0_t2 : Fin k0_t2_loop.trips, k0_off21 k0_t2 3712#32 0#32 = ![3712 * 1 + 128 * (3 * k0_t2.val + 2), 256 * 0] := by decide +kernel
theorem o21_1_1 : ∀ k0_t2 : Fin k0_t2_loop.trips, k0_off21 k0_t2 3712#32 1#32 = ![3712 * 1 + 128 * (3 * k0_t2.val + 3), 256 * 0] := by decide +kernel
theorem o21_1_2 : ∀ k0_t2 : Fin k0_t2_loop.trips, k0_off21 k0_t2 3712#32 2#32 = ![3712 * 1 + 128 * (3 * k0_t2.val + 4), 256 * 0] := by decide +kernel
theorem o22_0_0 : ∀ k0_t2 : Fin k0_t2_loop.trips, k0_off22 k0_t2 0#32 0#32 = ![3712 * 0 + 128 * (3 * k0_t2.val + 2), 256 * 1] := by decide +kernel
theorem o22_0_1 : ∀ k0_t2 : Fin k0_t2_loop.trips, k0_off22 k0_t2 0#32 1#32 = ![3712 * 0 + 128 * (3 * k0_t2.val + 3), 256 * 1] := by decide +kernel
theorem o22_0_2 : ∀ k0_t2 : Fin k0_t2_loop.trips, k0_off22 k0_t2 0#32 2#32 = ![3712 * 0 + 128 * (3 * k0_t2.val + 4), 256 * 1] := by decide +kernel
theorem o22_1_0 : ∀ k0_t2 : Fin k0_t2_loop.trips, k0_off22 k0_t2 3712#32 0#32 = ![3712 * 1 + 128 * (3 * k0_t2.val + 2), 256 * 1] := by decide +kernel
theorem o22_1_1 : ∀ k0_t2 : Fin k0_t2_loop.trips, k0_off22 k0_t2 3712#32 1#32 = ![3712 * 1 + 128 * (3 * k0_t2.val + 3), 256 * 1] := by decide +kernel
theorem o22_1_2 : ∀ k0_t2 : Fin k0_t2_loop.trips, k0_off22 k0_t2 3712#32 2#32 = ![3712 * 1 + 128 * (3 * k0_t2.val + 4), 256 * 1] := by decide +kernel
theorem o23_0 : ∀ k0_t2 : Fin k0_t2_loop.trips, k0_off23 k0_t2 0#32 = ![0, 256 * 1, 7424 * 0 + 256 * (3 * k0_t2.val + 1)] := by decide +kernel
theorem o23_1 : ∀ k0_t2 : Fin k0_t2_loop.trips, k0_off23 k0_t2 1#32 = ![0, 256 * 1, 7424 * 0 + 256 * (3 * k0_t2.val + 2)] := by decide +kernel
theorem o23_2 : ∀ k0_t2 : Fin k0_t2_loop.trips, k0_off23 k0_t2 2#32 = ![0, 256 * 1, 7424 * 0 + 256 * (3 * k0_t2.val + 3)] := by decide +kernel
theorem o24_0 : ∀ k0_t2 : Fin k0_t2_loop.trips, k0_off24 k0_t2 0#32 = ![0, 256 * 2, 7424 * 0 + 256 * (3 * k0_t2.val + 1)] := by decide +kernel
theorem o24_1 : ∀ k0_t2 : Fin k0_t2_loop.trips, k0_off24 k0_t2 1#32 = ![0, 256 * 2, 7424 * 0 + 256 * (3 * k0_t2.val + 2)] := by decide +kernel
theorem o24_2 : ∀ k0_t2 : Fin k0_t2_loop.trips, k0_off24 k0_t2 2#32 = ![0, 256 * 2, 7424 * 0 + 256 * (3 * k0_t2.val + 3)] := by decide +kernel
theorem o25_0 : ∀ k0_t2 : Fin k0_t2_loop.trips, k0_off25 k0_t2 0#32 = ![0, 256 * 3, 7424 * 0 + 256 * (3 * k0_t2.val + 1)] := by decide +kernel
theorem o25_1 : ∀ k0_t2 : Fin k0_t2_loop.trips, k0_off25 k0_t2 1#32 = ![0, 256 * 3, 7424 * 0 + 256 * (3 * k0_t2.val + 2)] := by decide +kernel
theorem o25_2 : ∀ k0_t2 : Fin k0_t2_loop.trips, k0_off25 k0_t2 2#32 = ![0, 256 * 3, 7424 * 0 + 256 * (3 * k0_t2.val + 3)] := by decide +kernel
theorem o26_0 : ∀ k0_t3 : Fin k0_t3_loop.trips, k0_off26 k0_t3 0#32 = ![1, 256 * 0, 7424 * 1 + 256 * (3 * k0_t3.val + 1)] := by decide +kernel
theorem o26_1 : ∀ k0_t3 : Fin k0_t3_loop.trips, k0_off26 k0_t3 1#32 = ![1, 256 * 0, 7424 * 1 + 256 * (3 * k0_t3.val + 2)] := by decide +kernel
theorem o26_2 : ∀ k0_t3 : Fin k0_t3_loop.trips, k0_off26 k0_t3 2#32 = ![1, 256 * 0, 7424 * 1 + 256 * (3 * k0_t3.val + 3)] := by decide +kernel
theorem o27_0_0 : ∀ k0_t3 : Fin k0_t3_loop.trips, k0_off27 k0_t3 0#32 0#32 = ![3712 * 0 + 128 * (3 * k0_t3.val + 2), 256 * 0] := by decide +kernel
theorem o27_0_1 : ∀ k0_t3 : Fin k0_t3_loop.trips, k0_off27 k0_t3 0#32 1#32 = ![3712 * 0 + 128 * (3 * k0_t3.val + 3), 256 * 0] := by decide +kernel
theorem o27_0_2 : ∀ k0_t3 : Fin k0_t3_loop.trips, k0_off27 k0_t3 0#32 2#32 = ![3712 * 0 + 128 * (3 * k0_t3.val + 4), 256 * 0] := by decide +kernel
theorem o27_1_0 : ∀ k0_t3 : Fin k0_t3_loop.trips, k0_off27 k0_t3 3712#32 0#32 = ![3712 * 1 + 128 * (3 * k0_t3.val + 2), 256 * 0] := by decide +kernel
theorem o27_1_1 : ∀ k0_t3 : Fin k0_t3_loop.trips, k0_off27 k0_t3 3712#32 1#32 = ![3712 * 1 + 128 * (3 * k0_t3.val + 3), 256 * 0] := by decide +kernel
theorem o27_1_2 : ∀ k0_t3 : Fin k0_t3_loop.trips, k0_off27 k0_t3 3712#32 2#32 = ![3712 * 1 + 128 * (3 * k0_t3.val + 4), 256 * 0] := by decide +kernel
theorem o28_0_0 : ∀ k0_t3 : Fin k0_t3_loop.trips, k0_off28 k0_t3 0#32 0#32 = ![3712 * 0 + 128 * (3 * k0_t3.val + 2), 256 * 1] := by decide +kernel
theorem o28_0_1 : ∀ k0_t3 : Fin k0_t3_loop.trips, k0_off28 k0_t3 0#32 1#32 = ![3712 * 0 + 128 * (3 * k0_t3.val + 3), 256 * 1] := by decide +kernel
theorem o28_0_2 : ∀ k0_t3 : Fin k0_t3_loop.trips, k0_off28 k0_t3 0#32 2#32 = ![3712 * 0 + 128 * (3 * k0_t3.val + 4), 256 * 1] := by decide +kernel
theorem o28_1_0 : ∀ k0_t3 : Fin k0_t3_loop.trips, k0_off28 k0_t3 3712#32 0#32 = ![3712 * 1 + 128 * (3 * k0_t3.val + 2), 256 * 1] := by decide +kernel
theorem o28_1_1 : ∀ k0_t3 : Fin k0_t3_loop.trips, k0_off28 k0_t3 3712#32 1#32 = ![3712 * 1 + 128 * (3 * k0_t3.val + 3), 256 * 1] := by decide +kernel
theorem o28_1_2 : ∀ k0_t3 : Fin k0_t3_loop.trips, k0_off28 k0_t3 3712#32 2#32 = ![3712 * 1 + 128 * (3 * k0_t3.val + 4), 256 * 1] := by decide +kernel
theorem o29_0 : ∀ k0_t3 : Fin k0_t3_loop.trips, k0_off29 k0_t3 0#32 = ![1, 256 * 1, 7424 * 1 + 256 * (3 * k0_t3.val + 1)] := by decide +kernel
theorem o29_1 : ∀ k0_t3 : Fin k0_t3_loop.trips, k0_off29 k0_t3 1#32 = ![1, 256 * 1, 7424 * 1 + 256 * (3 * k0_t3.val + 2)] := by decide +kernel
theorem o29_2 : ∀ k0_t3 : Fin k0_t3_loop.trips, k0_off29 k0_t3 2#32 = ![1, 256 * 1, 7424 * 1 + 256 * (3 * k0_t3.val + 3)] := by decide +kernel
theorem o30_0 : ∀ k0_t3 : Fin k0_t3_loop.trips, k0_off30 k0_t3 0#32 = ![1, 256 * 2, 7424 * 1 + 256 * (3 * k0_t3.val + 1)] := by decide +kernel
theorem o30_1 : ∀ k0_t3 : Fin k0_t3_loop.trips, k0_off30 k0_t3 1#32 = ![1, 256 * 2, 7424 * 1 + 256 * (3 * k0_t3.val + 2)] := by decide +kernel
theorem o30_2 : ∀ k0_t3 : Fin k0_t3_loop.trips, k0_off30 k0_t3 2#32 = ![1, 256 * 2, 7424 * 1 + 256 * (3 * k0_t3.val + 3)] := by decide +kernel
theorem o31_0 : ∀ k0_t3 : Fin k0_t3_loop.trips, k0_off31 k0_t3 0#32 = ![1, 256 * 3, 7424 * 1 + 256 * (3 * k0_t3.val + 1)] := by decide +kernel
theorem o31_1 : ∀ k0_t3 : Fin k0_t3_loop.trips, k0_off31 k0_t3 1#32 = ![1, 256 * 3, 7424 * 1 + 256 * (3 * k0_t3.val + 2)] := by decide +kernel
theorem o31_2 : ∀ k0_t3 : Fin k0_t3_loop.trips, k0_off31 k0_t3 2#32 = ![1, 256 * 3, 7424 * 1 + 256 * (3 * k0_t3.val + 3)] := by decide +kernel
theorem o32_0_0 : ∀ k0_t4 : Fin k0_t4_loop.trips, k0_off32 k0_t4 0#32 0#32 = ![0, 256 * 0, 7424 * 0 + 256 * (3 * k0_t4.val + 1)] := by decide +kernel
theorem o32_0_1 : ∀ k0_t4 : Fin k0_t4_loop.trips, k0_off32 k0_t4 0#32 1#32 = ![0, 256 * 0, 7424 * 0 + 256 * (3 * k0_t4.val + 2)] := by decide +kernel
theorem o32_0_2 : ∀ k0_t4 : Fin k0_t4_loop.trips, k0_off32 k0_t4 0#32 2#32 = ![0, 256 * 0, 7424 * 0 + 256 * (3 * k0_t4.val + 3)] := by decide +kernel
theorem o32_1_0 : ∀ k0_t4 : Fin k0_t4_loop.trips, k0_off32 k0_t4 7424#32 0#32 = ![0, 256 * 0, 7424 * 1 + 256 * (3 * k0_t4.val + 1)] := by decide +kernel
theorem o32_1_1 : ∀ k0_t4 : Fin k0_t4_loop.trips, k0_off32 k0_t4 7424#32 1#32 = ![0, 256 * 0, 7424 * 1 + 256 * (3 * k0_t4.val + 2)] := by decide +kernel
theorem o32_1_2 : ∀ k0_t4 : Fin k0_t4_loop.trips, k0_off32 k0_t4 7424#32 2#32 = ![0, 256 * 0, 7424 * 1 + 256 * (3 * k0_t4.val + 3)] := by decide +kernel
theorem o33_0 : ∀ k0_t4 : Fin k0_t4_loop.trips, k0_off33 k0_t4 0#32 = ![3712 * 1 + 128 * (3 * k0_t4.val + 2), 256 * 0] := by decide +kernel
theorem o33_1 : ∀ k0_t4 : Fin k0_t4_loop.trips, k0_off33 k0_t4 1#32 = ![3712 * 1 + 128 * (3 * k0_t4.val + 3), 256 * 0] := by decide +kernel
theorem o33_2 : ∀ k0_t4 : Fin k0_t4_loop.trips, k0_off33 k0_t4 2#32 = ![3712 * 1 + 128 * (3 * k0_t4.val + 4), 256 * 0] := by decide +kernel
theorem o34_0 : ∀ k0_t4 : Fin k0_t4_loop.trips, k0_off34 k0_t4 0#32 = ![3712 * 1 + 128 * (3 * k0_t4.val + 2), 256 * 1] := by decide +kernel
theorem o34_1 : ∀ k0_t4 : Fin k0_t4_loop.trips, k0_off34 k0_t4 1#32 = ![3712 * 1 + 128 * (3 * k0_t4.val + 3), 256 * 1] := by decide +kernel
theorem o34_2 : ∀ k0_t4 : Fin k0_t4_loop.trips, k0_off34 k0_t4 2#32 = ![3712 * 1 + 128 * (3 * k0_t4.val + 4), 256 * 1] := by decide +kernel
theorem o35_0_0 : ∀ k0_t4 : Fin k0_t4_loop.trips, k0_off35 k0_t4 0#32 0#32 = ![0, 256 * 1, 7424 * 0 + 256 * (3 * k0_t4.val + 1)] := by decide +kernel
theorem o35_0_1 : ∀ k0_t4 : Fin k0_t4_loop.trips, k0_off35 k0_t4 0#32 1#32 = ![0, 256 * 1, 7424 * 0 + 256 * (3 * k0_t4.val + 2)] := by decide +kernel
theorem o35_0_2 : ∀ k0_t4 : Fin k0_t4_loop.trips, k0_off35 k0_t4 0#32 2#32 = ![0, 256 * 1, 7424 * 0 + 256 * (3 * k0_t4.val + 3)] := by decide +kernel
theorem o35_1_0 : ∀ k0_t4 : Fin k0_t4_loop.trips, k0_off35 k0_t4 7424#32 0#32 = ![0, 256 * 1, 7424 * 1 + 256 * (3 * k0_t4.val + 1)] := by decide +kernel
theorem o35_1_1 : ∀ k0_t4 : Fin k0_t4_loop.trips, k0_off35 k0_t4 7424#32 1#32 = ![0, 256 * 1, 7424 * 1 + 256 * (3 * k0_t4.val + 2)] := by decide +kernel
theorem o35_1_2 : ∀ k0_t4 : Fin k0_t4_loop.trips, k0_off35 k0_t4 7424#32 2#32 = ![0, 256 * 1, 7424 * 1 + 256 * (3 * k0_t4.val + 3)] := by decide +kernel
theorem o36_0_0 : ∀ k0_t4 : Fin k0_t4_loop.trips, k0_off36 k0_t4 0#32 0#32 = ![0, 256 * 2, 7424 * 0 + 256 * (3 * k0_t4.val + 1)] := by decide +kernel
theorem o36_0_1 : ∀ k0_t4 : Fin k0_t4_loop.trips, k0_off36 k0_t4 0#32 1#32 = ![0, 256 * 2, 7424 * 0 + 256 * (3 * k0_t4.val + 2)] := by decide +kernel
theorem o36_0_2 : ∀ k0_t4 : Fin k0_t4_loop.trips, k0_off36 k0_t4 0#32 2#32 = ![0, 256 * 2, 7424 * 0 + 256 * (3 * k0_t4.val + 3)] := by decide +kernel
theorem o36_1_0 : ∀ k0_t4 : Fin k0_t4_loop.trips, k0_off36 k0_t4 7424#32 0#32 = ![0, 256 * 2, 7424 * 1 + 256 * (3 * k0_t4.val + 1)] := by decide +kernel
theorem o36_1_1 : ∀ k0_t4 : Fin k0_t4_loop.trips, k0_off36 k0_t4 7424#32 1#32 = ![0, 256 * 2, 7424 * 1 + 256 * (3 * k0_t4.val + 2)] := by decide +kernel
theorem o36_1_2 : ∀ k0_t4 : Fin k0_t4_loop.trips, k0_off36 k0_t4 7424#32 2#32 = ![0, 256 * 2, 7424 * 1 + 256 * (3 * k0_t4.val + 3)] := by decide +kernel
theorem o37_0_0 : ∀ k0_t4 : Fin k0_t4_loop.trips, k0_off37 k0_t4 0#32 0#32 = ![0, 256 * 3, 7424 * 0 + 256 * (3 * k0_t4.val + 1)] := by decide +kernel
theorem o37_0_1 : ∀ k0_t4 : Fin k0_t4_loop.trips, k0_off37 k0_t4 0#32 1#32 = ![0, 256 * 3, 7424 * 0 + 256 * (3 * k0_t4.val + 2)] := by decide +kernel
theorem o37_0_2 : ∀ k0_t4 : Fin k0_t4_loop.trips, k0_off37 k0_t4 0#32 2#32 = ![0, 256 * 3, 7424 * 0 + 256 * (3 * k0_t4.val + 3)] := by decide +kernel
theorem o37_1_0 : ∀ k0_t4 : Fin k0_t4_loop.trips, k0_off37 k0_t4 7424#32 0#32 = ![0, 256 * 3, 7424 * 1 + 256 * (3 * k0_t4.val + 1)] := by decide +kernel
theorem o37_1_1 : ∀ k0_t4 : Fin k0_t4_loop.trips, k0_off37 k0_t4 7424#32 1#32 = ![0, 256 * 3, 7424 * 1 + 256 * (3 * k0_t4.val + 2)] := by decide +kernel
theorem o37_1_2 : ∀ k0_t4 : Fin k0_t4_loop.trips, k0_off37 k0_t4 7424#32 2#32 = ![0, 256 * 3, 7424 * 1 + 256 * (3 * k0_t4.val + 3)] := by decide +kernel
theorem o38_0 : ∀ k0_t5 : Fin k0_t5_loop.trips, k0_off38 k0_t5 0#32 = ![0, 256 * 0, 7424 * 1 + 256 * (3 * k0_t5.val + 1)] := by decide +kernel
theorem o38_1 : ∀ k0_t5 : Fin k0_t5_loop.trips, k0_off38 k0_t5 1#32 = ![0, 256 * 0, 7424 * 1 + 256 * (3 * k0_t5.val + 2)] := by decide +kernel
theorem o38_2 : ∀ k0_t5 : Fin k0_t5_loop.trips, k0_off38 k0_t5 2#32 = ![0, 256 * 0, 7424 * 1 + 256 * (3 * k0_t5.val + 3)] := by decide +kernel
theorem o39_0 : ∀ k0_t5 : Fin k0_t5_loop.trips, k0_off39 k0_t5 0#32 = ![1, 256 * 0, 7424 * 1 + 256 * (3 * k0_t5.val + 1)] := by decide +kernel
theorem o39_1 : ∀ k0_t5 : Fin k0_t5_loop.trips, k0_off39 k0_t5 1#32 = ![1, 256 * 0, 7424 * 1 + 256 * (3 * k0_t5.val + 2)] := by decide +kernel
theorem o39_2 : ∀ k0_t5 : Fin k0_t5_loop.trips, k0_off39 k0_t5 2#32 = ![1, 256 * 0, 7424 * 1 + 256 * (3 * k0_t5.val + 3)] := by decide +kernel
theorem o40_0 : ∀ k0_t5 : Fin k0_t5_loop.trips, k0_off40 k0_t5 0#32 = ![3712 * 1 + 128 * (3 * k0_t5.val + 2), 256 * 0] := by decide +kernel
theorem o40_1 : ∀ k0_t5 : Fin k0_t5_loop.trips, k0_off40 k0_t5 1#32 = ![3712 * 1 + 128 * (3 * k0_t5.val + 3), 256 * 0] := by decide +kernel
theorem o40_2 : ∀ k0_t5 : Fin k0_t5_loop.trips, k0_off40 k0_t5 2#32 = ![3712 * 1 + 128 * (3 * k0_t5.val + 4), 256 * 0] := by decide +kernel
theorem o41_0 : ∀ k0_t5 : Fin k0_t5_loop.trips, k0_off41 k0_t5 0#32 = ![3712 * 1 + 128 * (3 * k0_t5.val + 2), 256 * 1] := by decide +kernel
theorem o41_1 : ∀ k0_t5 : Fin k0_t5_loop.trips, k0_off41 k0_t5 1#32 = ![3712 * 1 + 128 * (3 * k0_t5.val + 3), 256 * 1] := by decide +kernel
theorem o41_2 : ∀ k0_t5 : Fin k0_t5_loop.trips, k0_off41 k0_t5 2#32 = ![3712 * 1 + 128 * (3 * k0_t5.val + 4), 256 * 1] := by decide +kernel
theorem o42_0 : ∀ k0_t5 : Fin k0_t5_loop.trips, k0_off42 k0_t5 0#32 = ![0, 256 * 1, 7424 * 1 + 256 * (3 * k0_t5.val + 1)] := by decide +kernel
theorem o42_1 : ∀ k0_t5 : Fin k0_t5_loop.trips, k0_off42 k0_t5 1#32 = ![0, 256 * 1, 7424 * 1 + 256 * (3 * k0_t5.val + 2)] := by decide +kernel
theorem o42_2 : ∀ k0_t5 : Fin k0_t5_loop.trips, k0_off42 k0_t5 2#32 = ![0, 256 * 1, 7424 * 1 + 256 * (3 * k0_t5.val + 3)] := by decide +kernel
theorem o43_0 : ∀ k0_t5 : Fin k0_t5_loop.trips, k0_off43 k0_t5 0#32 = ![1, 256 * 1, 7424 * 1 + 256 * (3 * k0_t5.val + 1)] := by decide +kernel
theorem o43_1 : ∀ k0_t5 : Fin k0_t5_loop.trips, k0_off43 k0_t5 1#32 = ![1, 256 * 1, 7424 * 1 + 256 * (3 * k0_t5.val + 2)] := by decide +kernel
theorem o43_2 : ∀ k0_t5 : Fin k0_t5_loop.trips, k0_off43 k0_t5 2#32 = ![1, 256 * 1, 7424 * 1 + 256 * (3 * k0_t5.val + 3)] := by decide +kernel
theorem o44_0 : ∀ k0_t5 : Fin k0_t5_loop.trips, k0_off44 k0_t5 0#32 = ![0, 256 * 2, 7424 * 1 + 256 * (3 * k0_t5.val + 1)] := by decide +kernel
theorem o44_1 : ∀ k0_t5 : Fin k0_t5_loop.trips, k0_off44 k0_t5 1#32 = ![0, 256 * 2, 7424 * 1 + 256 * (3 * k0_t5.val + 2)] := by decide +kernel
theorem o44_2 : ∀ k0_t5 : Fin k0_t5_loop.trips, k0_off44 k0_t5 2#32 = ![0, 256 * 2, 7424 * 1 + 256 * (3 * k0_t5.val + 3)] := by decide +kernel
theorem o45_0 : ∀ k0_t5 : Fin k0_t5_loop.trips, k0_off45 k0_t5 0#32 = ![1, 256 * 2, 7424 * 1 + 256 * (3 * k0_t5.val + 1)] := by decide +kernel
theorem o45_1 : ∀ k0_t5 : Fin k0_t5_loop.trips, k0_off45 k0_t5 1#32 = ![1, 256 * 2, 7424 * 1 + 256 * (3 * k0_t5.val + 2)] := by decide +kernel
theorem o45_2 : ∀ k0_t5 : Fin k0_t5_loop.trips, k0_off45 k0_t5 2#32 = ![1, 256 * 2, 7424 * 1 + 256 * (3 * k0_t5.val + 3)] := by decide +kernel
theorem o46_0 : ∀ k0_t5 : Fin k0_t5_loop.trips, k0_off46 k0_t5 0#32 = ![0, 256 * 3, 7424 * 1 + 256 * (3 * k0_t5.val + 1)] := by decide +kernel
theorem o46_1 : ∀ k0_t5 : Fin k0_t5_loop.trips, k0_off46 k0_t5 1#32 = ![0, 256 * 3, 7424 * 1 + 256 * (3 * k0_t5.val + 2)] := by decide +kernel
theorem o46_2 : ∀ k0_t5 : Fin k0_t5_loop.trips, k0_off46 k0_t5 2#32 = ![0, 256 * 3, 7424 * 1 + 256 * (3 * k0_t5.val + 3)] := by decide +kernel
theorem o47_0 : ∀ k0_t5 : Fin k0_t5_loop.trips, k0_off47 k0_t5 0#32 = ![1, 256 * 3, 7424 * 1 + 256 * (3 * k0_t5.val + 1)] := by decide +kernel
theorem o47_1 : ∀ k0_t5 : Fin k0_t5_loop.trips, k0_off47 k0_t5 1#32 = ![1, 256 * 3, 7424 * 1 + 256 * (3 * k0_t5.val + 2)] := by decide +kernel
theorem o47_2 : ∀ k0_t5 : Fin k0_t5_loop.trips, k0_off47 k0_t5 2#32 = ![1, 256 * 3, 7424 * 1 + 256 * (3 * k0_t5.val + 3)] := by decide +kernel
theorem o48_0_0 : ∀ k0_t6 : Fin k0_t6_loop.trips, k0_off48 k0_t6 0#32 0#32 = ![1, 256 * 0, 7424 * 0 + 256 * (3 * k0_t6.val + 1)] := by decide +kernel
theorem o48_0_1 : ∀ k0_t6 : Fin k0_t6_loop.trips, k0_off48 k0_t6 0#32 1#32 = ![1, 256 * 0, 7424 * 0 + 256 * (3 * k0_t6.val + 2)] := by decide +kernel
theorem o48_0_2 : ∀ k0_t6 : Fin k0_t6_loop.trips, k0_off48 k0_t6 0#32 2#32 = ![1, 256 * 0, 7424 * 0 + 256 * (3 * k0_t6.val + 3)] := by decide +kernel
theorem o48_1_0 : ∀ k0_t6 : Fin k0_t6_loop.trips, k0_off48 k0_t6 7424#32 0#32 = ![1, 256 * 0, 7424 * 1 + 256 * (3 * k0_t6.val + 1)] := by decide +kernel
theorem o48_1_1 : ∀ k0_t6 : Fin k0_t6_loop.trips, k0_off48 k0_t6 7424#32 1#32 = ![1, 256 * 0, 7424 * 1 + 256 * (3 * k0_t6.val + 2)] := by decide +kernel
theorem o48_1_2 : ∀ k0_t6 : Fin k0_t6_loop.trips, k0_off48 k0_t6 7424#32 2#32 = ![1, 256 * 0, 7424 * 1 + 256 * (3 * k0_t6.val + 3)] := by decide +kernel
theorem o49_0 : ∀ k0_t6 : Fin k0_t6_loop.trips, k0_off49 k0_t6 0#32 = ![3712 * 0 + 128 * (3 * k0_t6.val + 2), 256 * 0] := by decide +kernel
theorem o49_1 : ∀ k0_t6 : Fin k0_t6_loop.trips, k0_off49 k0_t6 1#32 = ![3712 * 0 + 128 * (3 * k0_t6.val + 3), 256 * 0] := by decide +kernel
theorem o49_2 : ∀ k0_t6 : Fin k0_t6_loop.trips, k0_off49 k0_t6 2#32 = ![3712 * 0 + 128 * (3 * k0_t6.val + 4), 256 * 0] := by decide +kernel
theorem o50_0 : ∀ k0_t6 : Fin k0_t6_loop.trips, k0_off50 k0_t6 0#32 = ![3712 * 0 + 128 * (3 * k0_t6.val + 2), 256 * 1] := by decide +kernel
theorem o50_1 : ∀ k0_t6 : Fin k0_t6_loop.trips, k0_off50 k0_t6 1#32 = ![3712 * 0 + 128 * (3 * k0_t6.val + 3), 256 * 1] := by decide +kernel
theorem o50_2 : ∀ k0_t6 : Fin k0_t6_loop.trips, k0_off50 k0_t6 2#32 = ![3712 * 0 + 128 * (3 * k0_t6.val + 4), 256 * 1] := by decide +kernel
theorem o51_0_0 : ∀ k0_t6 : Fin k0_t6_loop.trips, k0_off51 k0_t6 0#32 0#32 = ![1, 256 * 1, 7424 * 0 + 256 * (3 * k0_t6.val + 1)] := by decide +kernel
theorem o51_0_1 : ∀ k0_t6 : Fin k0_t6_loop.trips, k0_off51 k0_t6 0#32 1#32 = ![1, 256 * 1, 7424 * 0 + 256 * (3 * k0_t6.val + 2)] := by decide +kernel
theorem o51_0_2 : ∀ k0_t6 : Fin k0_t6_loop.trips, k0_off51 k0_t6 0#32 2#32 = ![1, 256 * 1, 7424 * 0 + 256 * (3 * k0_t6.val + 3)] := by decide +kernel
theorem o51_1_0 : ∀ k0_t6 : Fin k0_t6_loop.trips, k0_off51 k0_t6 7424#32 0#32 = ![1, 256 * 1, 7424 * 1 + 256 * (3 * k0_t6.val + 1)] := by decide +kernel
theorem o51_1_1 : ∀ k0_t6 : Fin k0_t6_loop.trips, k0_off51 k0_t6 7424#32 1#32 = ![1, 256 * 1, 7424 * 1 + 256 * (3 * k0_t6.val + 2)] := by decide +kernel
theorem o51_1_2 : ∀ k0_t6 : Fin k0_t6_loop.trips, k0_off51 k0_t6 7424#32 2#32 = ![1, 256 * 1, 7424 * 1 + 256 * (3 * k0_t6.val + 3)] := by decide +kernel
theorem o52_0_0 : ∀ k0_t6 : Fin k0_t6_loop.trips, k0_off52 k0_t6 0#32 0#32 = ![1, 256 * 2, 7424 * 0 + 256 * (3 * k0_t6.val + 1)] := by decide +kernel
theorem o52_0_1 : ∀ k0_t6 : Fin k0_t6_loop.trips, k0_off52 k0_t6 0#32 1#32 = ![1, 256 * 2, 7424 * 0 + 256 * (3 * k0_t6.val + 2)] := by decide +kernel
theorem o52_0_2 : ∀ k0_t6 : Fin k0_t6_loop.trips, k0_off52 k0_t6 0#32 2#32 = ![1, 256 * 2, 7424 * 0 + 256 * (3 * k0_t6.val + 3)] := by decide +kernel
theorem o52_1_0 : ∀ k0_t6 : Fin k0_t6_loop.trips, k0_off52 k0_t6 7424#32 0#32 = ![1, 256 * 2, 7424 * 1 + 256 * (3 * k0_t6.val + 1)] := by decide +kernel
theorem o52_1_1 : ∀ k0_t6 : Fin k0_t6_loop.trips, k0_off52 k0_t6 7424#32 1#32 = ![1, 256 * 2, 7424 * 1 + 256 * (3 * k0_t6.val + 2)] := by decide +kernel
theorem o52_1_2 : ∀ k0_t6 : Fin k0_t6_loop.trips, k0_off52 k0_t6 7424#32 2#32 = ![1, 256 * 2, 7424 * 1 + 256 * (3 * k0_t6.val + 3)] := by decide +kernel
theorem o53_0_0 : ∀ k0_t6 : Fin k0_t6_loop.trips, k0_off53 k0_t6 0#32 0#32 = ![1, 256 * 3, 7424 * 0 + 256 * (3 * k0_t6.val + 1)] := by decide +kernel
theorem o53_0_1 : ∀ k0_t6 : Fin k0_t6_loop.trips, k0_off53 k0_t6 0#32 1#32 = ![1, 256 * 3, 7424 * 0 + 256 * (3 * k0_t6.val + 2)] := by decide +kernel
theorem o53_0_2 : ∀ k0_t6 : Fin k0_t6_loop.trips, k0_off53 k0_t6 0#32 2#32 = ![1, 256 * 3, 7424 * 0 + 256 * (3 * k0_t6.val + 3)] := by decide +kernel
theorem o53_1_0 : ∀ k0_t6 : Fin k0_t6_loop.trips, k0_off53 k0_t6 7424#32 0#32 = ![1, 256 * 3, 7424 * 1 + 256 * (3 * k0_t6.val + 1)] := by decide +kernel
theorem o53_1_1 : ∀ k0_t6 : Fin k0_t6_loop.trips, k0_off53 k0_t6 7424#32 1#32 = ![1, 256 * 3, 7424 * 1 + 256 * (3 * k0_t6.val + 2)] := by decide +kernel
theorem o53_1_2 : ∀ k0_t6 : Fin k0_t6_loop.trips, k0_off53 k0_t6 7424#32 2#32 = ![1, 256 * 3, 7424 * 1 + 256 * (3 * k0_t6.val + 3)] := by decide +kernel
theorem o54_0 : ∀ k0_t7 : Fin k0_t7_loop.trips, k0_off54 k0_t7 0#32 = ![1, 256 * 0, 7424 * 0 + 256 * (3 * k0_t7.val + 1)] := by decide +kernel
theorem o54_1 : ∀ k0_t7 : Fin k0_t7_loop.trips, k0_off54 k0_t7 1#32 = ![1, 256 * 0, 7424 * 0 + 256 * (3 * k0_t7.val + 2)] := by decide +kernel
theorem o54_2 : ∀ k0_t7 : Fin k0_t7_loop.trips, k0_off54 k0_t7 2#32 = ![1, 256 * 0, 7424 * 0 + 256 * (3 * k0_t7.val + 3)] := by decide +kernel
theorem o55_0 : ∀ k0_t7 : Fin k0_t7_loop.trips, k0_off55 k0_t7 0#32 = ![0, 256 * 0, 7424 * 0 + 256 * (3 * k0_t7.val + 1)] := by decide +kernel
theorem o55_1 : ∀ k0_t7 : Fin k0_t7_loop.trips, k0_off55 k0_t7 1#32 = ![0, 256 * 0, 7424 * 0 + 256 * (3 * k0_t7.val + 2)] := by decide +kernel
theorem o55_2 : ∀ k0_t7 : Fin k0_t7_loop.trips, k0_off55 k0_t7 2#32 = ![0, 256 * 0, 7424 * 0 + 256 * (3 * k0_t7.val + 3)] := by decide +kernel
theorem o56_0 : ∀ k0_t7 : Fin k0_t7_loop.trips, k0_off56 k0_t7 0#32 = ![3712 * 0 + 128 * (3 * k0_t7.val + 2), 256 * 0] := by decide +kernel
theorem o56_1 : ∀ k0_t7 : Fin k0_t7_loop.trips, k0_off56 k0_t7 1#32 = ![3712 * 0 + 128 * (3 * k0_t7.val + 3), 256 * 0] := by decide +kernel
theorem o56_2 : ∀ k0_t7 : Fin k0_t7_loop.trips, k0_off56 k0_t7 2#32 = ![3712 * 0 + 128 * (3 * k0_t7.val + 4), 256 * 0] := by decide +kernel
theorem o57_0 : ∀ k0_t7 : Fin k0_t7_loop.trips, k0_off57 k0_t7 0#32 = ![3712 * 0 + 128 * (3 * k0_t7.val + 2), 256 * 1] := by decide +kernel
theorem o57_1 : ∀ k0_t7 : Fin k0_t7_loop.trips, k0_off57 k0_t7 1#32 = ![3712 * 0 + 128 * (3 * k0_t7.val + 3), 256 * 1] := by decide +kernel
theorem o57_2 : ∀ k0_t7 : Fin k0_t7_loop.trips, k0_off57 k0_t7 2#32 = ![3712 * 0 + 128 * (3 * k0_t7.val + 4), 256 * 1] := by decide +kernel
theorem o58_0 : ∀ k0_t7 : Fin k0_t7_loop.trips, k0_off58 k0_t7 0#32 = ![1, 256 * 1, 7424 * 0 + 256 * (3 * k0_t7.val + 1)] := by decide +kernel
theorem o58_1 : ∀ k0_t7 : Fin k0_t7_loop.trips, k0_off58 k0_t7 1#32 = ![1, 256 * 1, 7424 * 0 + 256 * (3 * k0_t7.val + 2)] := by decide +kernel
theorem o58_2 : ∀ k0_t7 : Fin k0_t7_loop.trips, k0_off58 k0_t7 2#32 = ![1, 256 * 1, 7424 * 0 + 256 * (3 * k0_t7.val + 3)] := by decide +kernel
theorem o59_0 : ∀ k0_t7 : Fin k0_t7_loop.trips, k0_off59 k0_t7 0#32 = ![0, 256 * 1, 7424 * 0 + 256 * (3 * k0_t7.val + 1)] := by decide +kernel
theorem o59_1 : ∀ k0_t7 : Fin k0_t7_loop.trips, k0_off59 k0_t7 1#32 = ![0, 256 * 1, 7424 * 0 + 256 * (3 * k0_t7.val + 2)] := by decide +kernel
theorem o59_2 : ∀ k0_t7 : Fin k0_t7_loop.trips, k0_off59 k0_t7 2#32 = ![0, 256 * 1, 7424 * 0 + 256 * (3 * k0_t7.val + 3)] := by decide +kernel
theorem o60_0 : ∀ k0_t7 : Fin k0_t7_loop.trips, k0_off60 k0_t7 0#32 = ![1, 256 * 2, 7424 * 0 + 256 * (3 * k0_t7.val + 1)] := by decide +kernel
theorem o60_1 : ∀ k0_t7 : Fin k0_t7_loop.trips, k0_off60 k0_t7 1#32 = ![1, 256 * 2, 7424 * 0 + 256 * (3 * k0_t7.val + 2)] := by decide +kernel
theorem o60_2 : ∀ k0_t7 : Fin k0_t7_loop.trips, k0_off60 k0_t7 2#32 = ![1, 256 * 2, 7424 * 0 + 256 * (3 * k0_t7.val + 3)] := by decide +kernel
theorem o61_0 : ∀ k0_t7 : Fin k0_t7_loop.trips, k0_off61 k0_t7 0#32 = ![0, 256 * 2, 7424 * 0 + 256 * (3 * k0_t7.val + 1)] := by decide +kernel
theorem o61_1 : ∀ k0_t7 : Fin k0_t7_loop.trips, k0_off61 k0_t7 1#32 = ![0, 256 * 2, 7424 * 0 + 256 * (3 * k0_t7.val + 2)] := by decide +kernel
theorem o61_2 : ∀ k0_t7 : Fin k0_t7_loop.trips, k0_off61 k0_t7 2#32 = ![0, 256 * 2, 7424 * 0 + 256 * (3 * k0_t7.val + 3)] := by decide +kernel
theorem o62_0 : ∀ k0_t7 : Fin k0_t7_loop.trips, k0_off62 k0_t7 0#32 = ![1, 256 * 3, 7424 * 0 + 256 * (3 * k0_t7.val + 1)] := by decide +kernel
theorem o62_1 : ∀ k0_t7 : Fin k0_t7_loop.trips, k0_off62 k0_t7 1#32 = ![1, 256 * 3, 7424 * 0 + 256 * (3 * k0_t7.val + 2)] := by decide +kernel
theorem o62_2 : ∀ k0_t7 : Fin k0_t7_loop.trips, k0_off62 k0_t7 2#32 = ![1, 256 * 3, 7424 * 0 + 256 * (3 * k0_t7.val + 3)] := by decide +kernel
theorem o63_0 : ∀ k0_t7 : Fin k0_t7_loop.trips, k0_off63 k0_t7 0#32 = ![0, 256 * 3, 7424 * 0 + 256 * (3 * k0_t7.val + 1)] := by decide +kernel
theorem o63_1 : ∀ k0_t7 : Fin k0_t7_loop.trips, k0_off63 k0_t7 1#32 = ![0, 256 * 3, 7424 * 0 + 256 * (3 * k0_t7.val + 2)] := by decide +kernel
theorem o63_2 : ∀ k0_t7 : Fin k0_t7_loop.trips, k0_off63 k0_t7 2#32 = ![0, 256 * 3, 7424 * 0 + 256 * (3 * k0_t7.val + 3)] := by decide +kernel

end Cert.Proof.GateUp.Kernel

end
-- ==== Proof.KernelCells.lean ====
/-
  The accumulator and the output block: the accumulator as a table of 256 × 256 cells, what a store into one cell
  does to it, and the last stage, which turns 128 rows of the accumulator into 128 rows of the output.
-/
module

public import proofs.«01_k».proof.Proof.Gen.Kernel.Skeleton
public import proofs.«01_k».proof.Proof.Unit
public import Idealize.ShloMosaic.Lib.Pipeline.FrameBody
public import Idealize.ShloMosaic.Lib.Pipeline.Value
public import Idealize.ShloMosaic.Lib.WritesUnit
public import Idealize.ShloMosaic.Lib.Pointwise.Reshape

@[expose] public section

set_option maxRecDepth 16384

noncomputable section

namespace Cert.Proof.GateUp.Kernel

open Cert.Kernel Cert.Kernel.Gen Idealize.ShloMosaic Idealize.ShloMosaic.TcCoe Idealize.SL.Sem
open Cert.Proof.Unit
open Idealize.ShloMosaic.Mxu (ix)

variable {F : FTy → Type} [FloatOps F]

/-- The accumulator as cells: batch, matrix, row block, column block. -/
abbrev Cells (F : FTy → Type) : Type := ℕ → ℕ → ℕ → ℕ → Blk F

/-- The accumulator's contents made of cells. -/
def asm (A : Cells F) : Vec F S2x2x1024x512 .f32 := fun i =>
  A (i 0).val (i 1).val ((i 2).val / 256) ((i 3).val / 256)
    (ix ⟨(i 2).val % 256, Nat.mod_lt _ (by decide)⟩ ⟨(i 3).val % 256, Nat.mod_lt _ (by decide)⟩)

/-- Replacing one cell. -/
def upd (A : Cells F) (b g c q : ℕ) (v : Blk F) : Cells F :=
  fun b' g' c' q' => if b' = b ∧ g' = g ∧ c' = c ∧ q' = q then v else A b' g' c' q'

/-- A cell as the block that is stored. -/
def box (v : Blk F) : Vec F S1x1x256x256 .f32 := fun i => v (ix (i 2) (i 3))

theorem shapeCast_box (v : FVec F S256x256 .f32) (h : S256x256.ShapeCasts S1x1x256x256) :
    shapeCast S1x1x256x256 v h = box v := by
  rw [← shapeCast_comp v (t := S1x256x256) (by decide) (by decide)]
  funext j
  refine (shapeCast_addUnit_apply ![1, 256, 256] _ _ j).trans ?_
  refine (shapeCast_addUnit_apply ![256, 256] v _ _).trans ?_
  refine congrArg v (funext fun a => ?_)
  match a with
  | ⟨0, _⟩ => rfl
  | ⟨1, _⟩ => rfl

theorem shapeCast_unbox (v : Blk F) (h : S1x1x256x256.ShapeCasts S256x256) :
    shapeCast S256x256 (box v) h = v := by
  rw [← shapeCast_box v (by decide)]
  exact shapeCast_shapeCast _ _ _

theorem read_cell {κ : Kind} {sp : Space} (v : View sig κ sp S2x2x1024x512 .f32) (f : v.ty.Contents (Elt F))
    (L : List (View.Piece (Elt F) S2x2x1024x512 .f32)) (A : Cells F) (b g c q : ℕ) {o : Fin 4 → ℕ} (ho : o = ![b, g, 256 * c, 256 * q])
    (inb : ∀ a, o a + S1x1x256x256.size a ≤ S2x2x1024x512.size a) (w : Blk F)
    (h : v.read (Elt F) (v.writes (Elt F) f L) = asm A) :
    v.read (Elt F) (v.writes (Elt F) f ((⟨Rect.unit (s := S2x2x1024x512) o S1x1x256x256.size inb, box w⟩ : View.Piece (Elt F) S2x2x1024x512 .f32) :: L))
      = asm (upd A b g c q w) := by
  subst ho
  funext y
  have k2 := inb 2; have k3 := inb 3
  change 256 * c + 256 ≤ 1024 at k2
  change 256 * q + 256 ≤ 512 at k3
  by_cases hy : (y 0).val = b ∧ (y 1).val = g ∧ (y 2).val / 256 = c ∧ (y 3).val / 256 = q
  · obtain ⟨h0, h1, h2, h3⟩ := hy
    refine (View.read_writes_cons_unit_of_mem v f inb (box w) L y
      (fun a => match a with
        | ⟨0, _⟩ => (⟨0, by decide⟩ : Fin 1) | ⟨1, _⟩ => (⟨0, by decide⟩ : Fin 1)
        | ⟨2, _⟩ => (⟨(y 2).val % 256, Nat.mod_lt _ (by decide)⟩ : Fin 256)
        | ⟨3, _⟩ => (⟨(y 3).val % 256, Nat.mod_lt _ (by decide)⟩ : Fin 256)) rfl (fun a => ?_)).trans ?_
    · match a with
      | ⟨0, _⟩ => exact h0
      | ⟨1, _⟩ => exact h1
      | ⟨2, _⟩ => show (y 2).val = 256 * c + (y 2).val % 256; omega
      | ⟨3, _⟩ => show (y 3).val = 256 * q + (y 3).val % 256; omega
    · unfold asm upd box
      rw [if_pos ⟨h0, h1, h2, h3⟩]
  · have e : asm (upd A b g c q w) y = asm A y := by
      unfold asm upd
      rw [if_neg hy]
    rw [e, ← h]
    by_cases h0 : (y 0).val = b
    · by_cases h1 : (y 1).val = g
      · by_cases h2 : (y 2).val / 256 = c
        · have h3 : (y 3).val / 256 ≠ q := fun h3 => hy ⟨h0, h1, h2, h3⟩
          exact View.read_writes_cons_unit_of_not_mem v f inb (box w) L y rfl 3 (by
            show (y 3).val < 256 * q ∨ 256 * q + 256 ≤ (y 3).val; omega)
        · exact View.read_writes_cons_unit_of_not_mem v f inb (box w) L y rfl 2 (by
            show (y 2).val < 256 * c ∨ 256 * c + 256 ≤ (y 2).val; omega)
      · exact View.read_writes_cons_unit_of_not_mem v f inb (box w) L y rfl 1 (by
          show (y 1).val < g ∨ g + 1 ≤ (y 1).val; omega)
    · exact View.read_writes_cons_unit_of_not_mem v f inb (box w) L y rfl 0 (by
        show (y 0).val < b ∨ b + 1 ≤ (y 0).val; omega)

theorem readAt_cell {κ : Kind} {sp : Space} (v : View sig κ sp S2x2x1024x512 .f32) (f : v.ty.Contents (Elt F)) (A : Cells F)
    (b g c q : ℕ) {o : Fin 4 → ℕ} (ho : o = ![b, g, 256 * c, 256 * q])
    (inb : ∀ a, o a + S1x1x256x256.size a ≤ S2x2x1024x512.size a) (h : v.read (Elt F) f = asm A) :
    v.readAt (Elt F) (Rect.unit (s := S2x2x1024x512) o S1x1x256x256.size inb).toLoadRect f = box (A b g c q) := by
  subst ho
  funext i
  have e0 : (i 0).val < 1 := (i 0).isLt
  have e1 : (i 1).val < 1 := (i 1).isLt
  have e2 : (i 2).val < 256 := (i 2).isLt
  have e3 : (i 3).val < 256 := (i 3).isLt
  rw [View.readAt_eq_ld, h]
  show A (b + 1 * (i 0).val) (g + 1 * (i 1).val) ((256 * c + 1 * (i 2).val) / 256) ((256 * q + 1 * (i 3).val) / 256)
    (ix ⟨(256 * c + 1 * (i 2).val) % 256, _⟩ ⟨(256 * q + 1 * (i 3).val) % 256, _⟩) = A b g c q (ix (i 2) (i 3))
  have a0 : b + 1 * (i 0).val = b := by omega
  have a1 : g + 1 * (i 1).val = g := by omega
  have a2 : (256 * c + 1 * (i 2).val) / 256 = c := by omega
  have a3 : (256 * q + 1 * (i 3).val) / 256 = q := by omega
  have a4 : (⟨(256 * c + 1 * (i 2).val) % 256, Nat.mod_lt _ (by decide)⟩ : Fin 256) = i 2 := Fin.ext (by show (256 * c + 1 * (i 2).val) % 256 = (i 2).val; omega)
  have a5 : (⟨(256 * q + 1 * (i 3).val) % 256, Nat.mod_lt _ (by decide)⟩ : Fin 256) = i 3 := Fin.ext (by show (256 * q + 1 * (i 3).val) % 256 = (i 3).val; omega)
  rw [a0, a1, a2, a3, a4, a5]

/-- One output entry from the two accumulated products, the row's scale and the two column scales. -/
def epi1 (g s wg u wu : F .f32) : F .bf16 :=
  let G : F .f32 := FloatOps.mulf (FloatOps.mulf g s) wg
  let U : F .f32 := FloatOps.mulf (FloatOps.mulf u s) wu
  FloatOps.truncf .bf16 bitsLt_bf16_f32 (FloatOps.mulf (FloatOps.mulf G (FloatOps.logistic G)) U)

/-- Index `(b, g, r, c)` of the accumulator. -/
def i4 (b : Fin 2) (g : Fin 2) (r : Fin 1024) (c : Fin 512) : S2x2x1024x512.Idx :=
  fun a => match a with | ⟨0, _⟩ => b | ⟨1, _⟩ => g | ⟨2, _⟩ => r | ⟨3, _⟩ => c

/-- Index `(b, r, 0)` of the row scales. -/
def i3 (b : Fin 2) (r : Fin 1024) : S2x1024x1.Idx :=
  fun a => match a with | ⟨0, _⟩ => b | ⟨1, _⟩ => r | ⟨2, _⟩ => (0 : Fin 1)

/-- Index `(0, c)` of the column scales. -/
def i2 (c : Fin 512) : S1x512.Idx := fun a => match a with | ⟨0, _⟩ => (0 : Fin 1) | ⟨1, _⟩ => c

/-- The output block of an accumulator. -/
def epi (S : Vec F S2x1024x1 .f32) (A : Vec F S2x2x1024x512 .f32) (wg wu : Vec F S1x512 .f32) : Vec F S2x1024x512 .bf16 :=
  fun i => epi1 (A (i4 (i 0) 0 (i 1) (i 2))) (S (i3 (i 0) (i 1))) (wg (i2 (i 2))) (A (i4 (i 0) 1 (i 1) (i 2))) (wu (i2 (i 2)))

/-- One tile of 128 rows of one batch of the output, as the program computes it from what it loads. -/
def epiT (s : Vec F S1x128x1 .f32) (g : Vec F S1x1x128x512 .f32) (wg : Vec F S1x512 .f32) (u : Vec F S1x1x128x512 .f32)
    (wu : Vec F S1x512 .f32) : FVec F S1x128x512 .bf16 := k0_pay37 s g wg u wu

theorem epiT_apply (s : Vec F S1x128x1 .f32) (g : Vec F S1x1x128x512 .f32) (wg : Vec F S1x512 .f32) (u : Vec F S1x1x128x512 .f32)
    (wu : Vec F S1x512 .f32) (j : S1x128x512.Idx) :
    epiT s g wg u wu j = epi1 (g (fun a => match a with | ⟨0, _⟩ => (0 : Fin 1) | ⟨1, _⟩ => (0 : Fin 1) | ⟨2, _⟩ => j 1 | ⟨3, _⟩ => j 2))
      (s (fun a => match a with | ⟨0, _⟩ => (0 : Fin 1) | ⟨1, _⟩ => j 1 | ⟨2, _⟩ => (0 : Fin 1))) (wg (i2 (j 2)))
      (u (fun a => match a with | ⟨0, _⟩ => (0 : Fin 1) | ⟨1, _⟩ => (0 : Fin 1) | ⟨2, _⟩ => j 1 | ⟨3, _⟩ => j 2)) (wu (i2 (j 2))) := by
  have e4 : ∀ (w : Vec F S1x1x128x512 .f32) (h : S1x1x128x512.ShapeCasts S128x512),
      shapeCast S128x512 w h (fun a => j a.succ) = w (fun a => match a with | ⟨0, _⟩ => (0 : Fin 1) | ⟨1, _⟩ => (0 : Fin 1) | ⟨2, _⟩ => j 1 | ⟨3, _⟩ => j 2) := by
    intro w h
    rw [← shapeCast_comp w (t := S1x128x512) (by decide) (by decide)]
    refine (shapeCast_dropUnit_apply ![128, 512] _ _ _).trans ?_
    refine (shapeCast_dropUnit_apply ![1, 128, 512] w _ _).trans ?_
    refine congrArg w (funext fun a => ?_)
    match a with
    | ⟨0, _⟩ => rfl
    | ⟨1, _⟩ => rfl
    | ⟨2, _⟩ => rfl
    | ⟨3, _⟩ => rfl
  have e3 : ∀ (w : Vec F S1x128x1 .f32) (h : S1x128x1.ShapeCasts S128x1) (h' : S128x1.Broadcasts S128x512),
      broadcastTo S128x512 (shapeCast S128x1 w h) h' (fun a => j a.succ) = w (fun a => match a with | ⟨0, _⟩ => (0 : Fin 1) | ⟨1, _⟩ => j 1 | ⟨2, _⟩ => (0 : Fin 1)) := by
    intro w h h'
    refine (shapeCast_dropUnit_apply ![128, 1] w _ _).trans ?_
    refine congrArg w (funext fun a => ?_)
    match a with
    | ⟨0, _⟩ => rfl
    | ⟨1, _⟩ => rfl
    | ⟨2, _⟩ => rfl
  have e2 : ∀ (w : Vec F S1x512 .f32) (h' : S1x512.Broadcasts S128x512),
      broadcastTo S128x512 w h' (fun a => j a.succ) = w (i2 (j 2)) := by
    intro w h'
    refine congrArg w (funext fun a => ?_)
    match a with
    | ⟨0, _⟩ => rfl
    | ⟨1, _⟩ => rfl
  unfold epiT k0_pay37
  refine (shapeCast_addUnit_apply ![128, 512] _ _ j).trans ?_
  show epi1 (shapeCast S128x512 g _ fun a => j a.succ) (broadcastTo S128x512 (shapeCast S128x1 s _) _ fun a => j a.succ)
    (broadcastTo S128x512 wg _ fun a => j a.succ) (shapeCast S128x512 u _ fun a => j a.succ)
    (broadcastTo S128x512 wu _ fun a => j a.succ) = _
  rw [e4, e4, e3, e2, e2]

theorem epiT_loop (s : Vec F S1x128x1 .f32) (g : Vec F S1x1x128x512 .f32) (wg : Vec F S1x512 .f32) (u : Vec F S1x1x128x512 .f32)
    (wu : Vec F S1x512 .f32) : k0_pay36 (k0_pay33 s) (k0_pay34 s g wg) (k0_pay35 u) wu = epiT s g wg u wu := rfl

theorem epiT_last0 (s : Vec F S1x128x1 .f32) (g : Vec F S1x1x128x512 .f32) (wg : Vec F S1x512 .f32) (u : Vec F S1x1x128x512 .f32)
    (wu : Vec F S1x512 .f32) : k0_pay392 s g wg u wu = epiT s g wg u wu := rfl

theorem epiT_last1 (s : Vec F S1x128x1 .f32) (g : Vec F S1x1x128x512 .f32) (wg : Vec F S1x512 .f32) (u : Vec F S1x1x128x512 .f32)
    (wu : Vec F S1x512 .f32) : k0_pay5 (k0_pay393 s) (k0_pay394 s g) wg u wu = epiT s g wg u wu := rfl

/-- The tile of what the memory holds at batch `b`, rows `128 m …`, is that tile of the output block. -/
theorem epiT_read {κ : Kind} {sp2 sp5 sp6 sp9 : Space} (v2 : View sig κ sp2 S2x1024x1 .f32) (f2 : v2.ty.Contents (Elt F))
    (v5 : View sig κ sp5 S1x512 .f32) (f5 : v5.ty.Contents (Elt F)) (v6 : View sig κ sp6 S1x512 .f32) (f6 : v6.ty.Contents (Elt F))
    (v9 : View sig κ sp9 S2x2x1024x512 .f32) (f9 : v9.ty.Contents (Elt F)) (b : Fin 2) (m : ℕ) (hm : m < 8)
    {o2 : Fin 3 → ℕ} (h2 : o2 = ![b.val, 128 * m, 0]) (inb2 : ∀ a, o2 a + S1x128x1.size a ≤ S2x1024x1.size a)
    {og : Fin 4 → ℕ} (hg : og = ![b.val, 0, 128 * m, 0]) (inbg : ∀ a, og a + S1x1x128x512.size a ≤ S2x2x1024x512.size a)
    {ou : Fin 4 → ℕ} (hu : ou = ![b.val, 1, 128 * m, 0]) (inbu : ∀ a, ou a + S1x1x128x512.size a ≤ S2x2x1024x512.size a)
    (inb5 : ∀ a, ![0, 0] a + S1x512.size a ≤ S1x512.size a) (inb6 : ∀ a, ![0, 0] a + S1x512.size a ≤ S1x512.size a)
    (j : S1x128x512.Idx) (i : S2x1024x512.Idx) (hi0 : (i 0).val = b.val) (hi1 : (i 1).val = 128 * m + (j 1).val) (hi2 : (i 2).val = (j 2).val) :
    epiT (v2.readAt (Elt F) (Rect.unit (s := S2x1024x1) o2 S1x128x1.size inb2).toLoadRect f2)
      (v9.readAt (Elt F) (Rect.unit (s := S2x2x1024x512) og S1x1x128x512.size inbg).toLoadRect f9)
      (v5.readAt (Elt F) (Rect.unit (s := S1x512) ![0, 0] S1x512.size inb5).toLoadRect f5)
      (v9.readAt (Elt F) (Rect.unit (s := S2x2x1024x512) ou S1x1x128x512.size inbu).toLoadRect f9)
      (v6.readAt (Elt F) (Rect.unit (s := S1x512) ![0, 0] S1x512.size inb6).toLoadRect f6) j
      = epi (v2.read (Elt F) f2) (v9.read (Elt F) f9) (v5.read (Elt F) f5) (v6.read (Elt F) f6) i := by
  subst h2 hg hu
  rw [epiT_apply]
  unfold epi
  rw [View.readAt_eq_ld, View.readAt_eq_ld, View.readAt_eq_ld, View.readAt_eq_ld, View.readAt_eq_ld]
  congr 1
  · refine congrArg (v9.read (Elt F) f9) (funext fun a => Fin.ext ?_)
    match a with
    | ⟨0, _⟩ => exact hi0.symm
    | ⟨1, _⟩ => rfl
    | ⟨2, _⟩ => show 128 * m + 1 * (j 1).val = (i 1).val; omega
    | ⟨3, _⟩ => show 0 + 1 * (j 2).val = (i 2).val; omega
  · refine congrArg (v2.read (Elt F) f2) (funext fun a => Fin.ext ?_)
    match a with
    | ⟨0, _⟩ => exact hi0.symm
    | ⟨1, _⟩ => show 128 * m + 1 * (j 1).val = (i 1).val; omega
    | ⟨2, _⟩ => rfl
  · refine congrArg (v5.read (Elt F) f5) (funext fun a => Fin.ext ?_)
    match a with
    | ⟨0, _⟩ => rfl
    | ⟨1, _⟩ => show 0 + 1 * (j 2).val = (i 2).val; omega
  · refine congrArg (v9.read (Elt F) f9) (funext fun a => Fin.ext ?_)
    match a with
    | ⟨0, _⟩ => exact hi0.symm
    | ⟨1, _⟩ => rfl
    | ⟨2, _⟩ => show 128 * m + 1 * (j 1).val = (i 1).val; omega
    | ⟨3, _⟩ => show 0 + 1 * (j 2).val = (i 2).val; omega
  · refine congrArg (v6.read (Elt F) f6) (funext fun a => Fin.ext ?_)
    match a with
    | ⟨0, _⟩ => rfl
    | ⟨1, _⟩ => show 0 + 1 * (j 2).val = (i 2).val; omega

/-- Writing rows `128 m …` of both batches: those rows hold the tiles, the others what they held. -/
theorem read_rows {κ : Kind} {sp : Space} (v : View sig κ sp S2x1024x512 .bf16) (f : v.ty.Contents (Elt F)) (E : Vec F S2x1024x512 .bf16)
    (m : ℕ) {o0 o1 : Fin 3 → ℕ} (h0 : o0 = ![0, 128 * m, 0]) (h1 : o1 = ![1, 128 * m, 0])
    (inb0 : ∀ a, o0 a + S1x128x512.size a ≤ S2x1024x512.size a) (inb1 : ∀ a, o1 a + S1x128x512.size a ≤ S2x1024x512.size a)
    (w0 w1 : Vec F S1x128x512 .bf16)
    (hw0 : ∀ (j : S1x128x512.Idx) (i : S2x1024x512.Idx), (i 0).val = 0 → (i 1).val = 128 * m + (j 1).val → (i 2).val = (j 2).val → w0 j = E i)
    (hw1 : ∀ (j : S1x128x512.Idx) (i : S2x1024x512.Idx), (i 0).val = 1 → (i 1).val = 128 * m + (j 1).val → (i 2).val = (j 2).val → w1 j = E i)
    (y : S2x1024x512.Idx) :
    v.read (Elt F) (v.writes (Elt F) f [(⟨Rect.unit (s := S2x1024x512) o1 S1x128x512.size inb1, w1⟩ : View.Piece (Elt F) S2x1024x512 .bf16),
        ⟨Rect.unit (s := S2x1024x512) o0 S1x128x512.size inb0, w0⟩]) y
      = if 128 * m ≤ (y 1).val ∧ (y 1).val < 128 * m + 128 then E y else v.read (Elt F) f y := by
  subst h0 h1
  have y0 : (y 0).val < 2 := (y 0).isLt
  by_cases hy : 128 * m ≤ (y 1).val ∧ (y 1).val < 128 * m + 128
  · rw [if_pos hy]
    by_cases hb : (y 0).val = 1
    · refine (View.read_writes_cons_unit_of_mem v f inb1 w1 _ y
        (fun a => match a with
          | ⟨0, _⟩ => (⟨0, by decide⟩ : Fin 1) | ⟨1, _⟩ => (⟨(y 1).val - 128 * m, by omega⟩ : Fin 128) | ⟨2, _⟩ => y 2) rfl (fun a => ?_)).trans
        (hw1 _ y hb ?_ rfl)
      · match a with
        | ⟨0, _⟩ => exact hb
        | ⟨1, _⟩ => show (y 1).val = 128 * m + ((y 1).val - 128 * m); omega
        | ⟨2, _⟩ => exact (Nat.zero_add _).symm
      · show (y 1).val = 128 * m + ((y 1).val - 128 * m); omega
    · have hb : (y 0).val = 0 := by omega
      refine (View.read_writes_cons_unit_of_not_mem v f inb1 w1 _ y rfl 0 (by show (y 0).val < 1 ∨ _; omega)).trans ?_
      refine (View.read_writes_cons_unit_of_mem v f inb0 w0 _ y
        (fun a => match a with
          | ⟨0, _⟩ => (⟨0, by decide⟩ : Fin 1) | ⟨1, _⟩ => (⟨(y 1).val - 128 * m, by omega⟩ : Fin 128) | ⟨2, _⟩ => y 2) rfl (fun a => ?_)).trans
        (hw0 _ y hb ?_ rfl)
      · match a with
        | ⟨0, _⟩ => exact hb
        | ⟨1, _⟩ => show (y 1).val = 128 * m + ((y 1).val - 128 * m); omega
        | ⟨2, _⟩ => exact (Nat.zero_add _).symm
      · show (y 1).val = 128 * m + ((y 1).val - 128 * m); omega
  · rw [if_neg hy]
    refine (View.read_writes_cons_unit_of_not_mem v f inb1 w1 _ y rfl 1 (by show (y 1).val < 128 * m ∨ 128 * m + 128 ≤ (y 1).val; omega)).trans ?_
    exact View.read_writes_cons_unit_of_not_mem v f inb0 w0 _ y rfl 1 (by show (y 1).val < 128 * m ∨ 128 * m + 128 ≤ (y 1).val; omega)

end Cert.Proof.GateUp.Kernel

end
-- ==== Proof.KernelTrip1.lean ====
/-
  One trip of the first product's loop, and one of the last step's loop: both also write 128 rows of the output.
-/
module

public import Idealize.ShloMosaic.Lib.Exec
public import Idealize.ShloMosaic.Lib.Tactic
public import Idealize.ShloMosaic.Lib.Pipeline.Kit
public import proofs.«01_k».proof.Proof.KernelSpec
public import proofs.«01_k».proof.Proof.KernelOffs
public import proofs.«01_k».proof.Proof.KernelCells

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- One trip of the loop of product 0: three more tiles of the contracted axis, and 128 rows of the output. -/
theorem trip1 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu10 : Mxu F) (v133_r0 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) (b : BitVec 32) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) : sProp 𝕄G)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 k0_h3 k0_mxu10 v133_r0 k (b, St (arg8.view.read (Elt F) X8) (arg3.view.read (Elt F) X3) (arg4.view.read (Elt F) X4) 0 (3 * k.val + 1)))
          (fun yld => iprop(⌜yld = (0#32, St (arg8.view.read (Elt F) X8) (arg3.view.read (Elt F) X3) (arg4.view.read (Elt F) X4) 0 (3 * (k.val + 1) + 1))⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (∃ f, (arg7.view.loc (c : Thread nD τ) ↦[arg7.view.set]{fullShare} f) ∗ ⌜∀ y, arg7.view.read (Elt F) f y = if 128 * (min k.val 7) ≤ (y 1).val ∧ (y 1).val < 128 * (min k.val 7) + 128 then epi (arg2.view.read (Elt F) X2) (arg9.view.read (Elt F) X9) (arg5.view.read (Elt F) X5) (arg6.view.read (Elt F) X6) y else arg7.view.read (Elt F) X7 y⌝))) := by
  unfold k0_t1_body
  iintro ⟨H2, H3, H4, H5, H6, H7, H8, H9⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o2_0, o2_1, o2_2, o3_0, o3_1, o3_2, o4_0_0, o4_0_1, o4_0_2, o4_1_0, o4_1_1, o4_1_2, o5_0_0, o5_0_1, o5_0_2, o5_1_0, o5_1_1, o5_1_2, o6_0, o6_1, o6_2, o7_0, o7_1, o7_2, o8_0, o8_1, o8_2, o9_0, o9_1, o9_2, o10_0, o10_1, o10_2, o11_0, o11_1, o11_2]
    rfl
  isplitl [H2]
  · iassumption
  isplitl [H3]
  · iassumption
  isplitl [H4]
  · iassumption
  isplitl [H5]
  · iassumption
  isplitl [H6]
  · iassumption
  isplitl [H8]
  · iassumption
  isplitl [H9]
  · iassumption
  iexists _
  isplitl [H7]
  · iassumption
  ipureintro
  intro y
  refine read_rows arg7.view X7 _ (min k.val 7) (k0_off15_eq k) (k0_off19_eq k) _ _ _ _ ?_ ?_ y
  · intro j i h0 h1 h2
    exact epiT_read arg2.view X2 arg5.view X5 arg6.view X6 arg9.view X9 0 (min k.val 7) (by omega) (k0_off12_eq k) _ (k0_off13_eq k) _ (k0_off14_eq k) _ _ _ j i h0 h1 h2
  · intro j i h0 h1 h2
    exact epiT_read arg2.view X2 arg5.view X5 arg6.view X6 arg9.view X9 1 (min k.val 7) (by omega) (k0_off16_eq k) _ (k0_off17_eq k) _ (k0_off18_eq k) _ _ _ j i h0 h1 h2

/-- One trip of the last step's loop: 128 rows of the output. -/
theorem trip8 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h4 : k0_cond4 i = 1#1)
    (X2 : BufTy.Contents (Elt F) arg2.view.ty) (X5 : BufTy.Contents (Elt F) arg5.view.ty) (X6 : BufTy.Contents (Elt F) arg6.view.ty) (X7 : BufTy.Contents (Elt F) arg7.view.ty) (X9 : BufTy.Contents (Elt F) arg9.view.ty) (k : Fin k0_t8_loop.trips) (b : BitVec 32) :
    (iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9)) : sProp 𝕄G)
      ⊢ wp frame (wpE (defs₀ (F := F)) 𝒱 (c : Thread nD τ) bd) E
          (k0_t8_body (F := F) i arg1 harg1 arg2 harg2 arg3 harg3 arg4 harg4 arg5 harg5 arg6 harg6 arg7 harg7 arg8 harg8 arg9 harg9 arg10 k0_h4 k b)
          (fun yld => iprop(⌜yld = 0#32⌝ ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (∃ f, (arg7.view.loc (c : Thread nD τ) ↦[arg7.view.set]{fullShare} f) ∗ ⌜∀ y, arg7.view.read (Elt F) f y = if 128 * k.val ≤ (y 1).val ∧ (y 1).val < 128 * k.val + 128 then epi (arg2.view.read (Elt F) X2) (arg9.view.read (Elt F) X9) (arg5.view.read (Elt F) X5) (arg6.view.read (Elt F) X6) y else arg7.view.read (Elt F) X7 y⌝))) := by
  have hk : k.val < 8 := lt_of_lt_of_eq k.isLt (by decide)
  unfold k0_t8_body
  iintro ⟨H2, H5, H6, H7, H9⟩
  sl_exec
  sl_step
  isplitr
  · ipureintro
    rfl
  isplitl [H2]
  · iassumption
  isplitl [H5]
  · iassumption
  isplitl [H6]
  · iassumption
  isplitl [H9]
  · iassumption
  iexists _
  isplitl [H7]
  · iassumption
  ipureintro
  intro y
  refine read_rows arg7.view X7 _ k.val (k0_off67_eq k) (k0_off71_eq k) _ _ _ _ ?_ ?_ y
  · intro j i h0 h1 h2
    exact epiT_read arg2.view X2 arg5.view X5 arg6.view X6 arg9.view X9 0 k.val hk (k0_off64_eq k) _ (k0_off65_eq k) _ (k0_off66_eq k) _ _ _ j i h0 h1 h2
  · intro j i h0 h1 h2
    exact epiT_read arg2.view X2 arg5.view X5 arg6.view X6 arg9.view X9 1 k.val hk (k0_off68_eq k) _ (k0_off69_eq k) _ (k0_off70_eq k) _ _ _ j i h0 h1 h2

end Cert.Proof.GateUp.Kernel

end
-- ==== Proof.KernelTripA.lean ====
/-
  One trip of the loops of products 1 to 3.
-/
module

public import Idealize.ShloMosaic.Lib.Exec
public import Idealize.ShloMosaic.Lib.Tactic
public import Idealize.ShloMosaic.Lib.Pipeline.Kit
public import proofs.«01_k».proof.Proof.KernelSpec
public import proofs.«01_k».proof.Proof.KernelOffs
public import proofs.«01_k».proof.Proof.KernelCells

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- One trip of the loop of product 1: three more tiles of the contracted axis. -/
theorem trip2 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v361_r0 : FVec F S256x256 .f32) (k0_mxu72 : Mxu F)
    (X3 : BufTy.Contents (Elt F) arg3.view.ty) (X4 : BufTy.Contents (Elt F) arg4.view.ty) (X8 : BufTy.Contents (Elt F) arg8.view.ty) (k : Fin k0_t2_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t2_body (F := F) i arg1 harg1 arg2 harg2 arg3 harg3 arg4 harg4 arg5 harg5 arg6 harg6 arg7 harg7 arg8 harg8 arg9 harg9 arg10 k0_h3 v361_r0 k0_mxu72 k (b, St (arg8.view.read (Elt F) X8) (arg3.view.read (Elt F) X3) (arg4.view.read (Elt F) X4) 1 (3 * k.val + 1)))
          (fun yld => iprop(⌜yld = (0#32, St (arg8.view.read (Elt F) X8) (arg3.view.read (Elt F) X3) (arg4.view.read (Elt F) X4) 1 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t2_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o20_0, o20_1, o20_2, o21_0_0, o21_0_1, o21_0_2, o21_1_0, o21_1_1, o21_1_2, o22_0_0, o22_0_1, o22_0_2, o22_1_0, o22_1_1, o22_1_2, o23_0, o23_1, o23_2, o24_0, o24_1, o24_2, o25_0, o25_1, o25_2]
    rfl
  isplitl [H3]
  · iassumption
  isplitl [H4]
  · iassumption
  iassumption

/-- One trip of the loop of product 2: three more tiles of the contracted axis. -/
theorem trip3 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v576_r0 : FVec F S256x256 .f32) (k0_mxu132 : Mxu F)
    (X3 : BufTy.Contents (Elt F) arg3.view.ty) (X4 : BufTy.Contents (Elt F) arg4.view.ty) (X8 : BufTy.Contents (Elt F) arg8.view.ty) (k : Fin k0_t3_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t3_body (F := F) i arg1 harg1 arg2 harg2 arg3 harg3 arg4 harg4 arg5 harg5 arg6 harg6 arg7 harg7 arg8 harg8 arg9 harg9 arg10 k0_h3 v576_r0 k0_mxu132 k (b, St (arg8.view.read (Elt F) X8) (arg3.view.read (Elt F) X3) (arg4.view.read (Elt F) X4) 2 (3 * k.val + 1)))
          (fun yld => iprop(⌜yld = (0#32, St (arg8.view.read (Elt F) X8) (arg3.view.read (Elt F) X3) (arg4.view.read (Elt F) X4) 2 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t3_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o26_0, o26_1, o26_2, o27_0_0, o27_0_1, o27_0_2, o27_1_0, o27_1_1, o27_1_2, o28_0_0, o28_0_1, o28_0_2, o28_1_0, o28_1_1, o28_1_2, o29_0, o29_1, o29_2, o30_0, o30_1, o30_2, o31_0, o31_1, o31_2]
    rfl
  isplitl [H3]
  · iassumption
  isplitl [H4]
  · iassumption
  iassumption

/-- One trip of the loop of product 3: three more tiles of the contracted axis. -/
theorem trip4 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu192 : Mxu F) (v782_r0 : BitVec 32)
    (X3 : BufTy.Contents (Elt F) arg3.view.ty) (X4 : BufTy.Contents (Elt F) arg4.view.ty) (X8 : BufTy.Contents (Elt F) arg8.view.ty) (k : Fin k0_t4_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t4_body (F := F) i arg1 harg1 arg2 harg2 arg3 harg3 arg4 harg4 arg5 harg5 arg6 harg6 arg7 harg7 arg8 harg8 arg9 harg9 arg10 k0_h3 k0_mxu192 v782_r0 k (b, St (arg8.view.read (Elt F) X8) (arg3.view.read (Elt F) X3) (arg4.view.read (Elt F) X4) 3 (3 * k.val + 1)))
          (fun yld => iprop(⌜yld = (0#32, St (arg8.view.read (Elt F) X8) (arg3.view.read (Elt F) X3) (arg4.view.read (Elt F) X4) 3 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t4_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o32_0_0, o32_0_1, o32_0_2, o32_1_0, o32_1_1, o32_1_2, o33_0, o33_1, o33_2, o34_0, o34_1, o34_2, o35_0_0, o35_0_1, o35_0_2, o35_1_0, o35_1_1, o35_1_2, o36_0_0, o36_0_1, o36_0_2, o36_1_0, o36_1_1, o36_1_2, o37_0_0, o37_0_1, o37_0_2, o37_1_0, o37_1_1, o37_1_2]
    rfl
  isplitl [H3]
  · iassumption
  isplitl [H4]
  · iassumption
  iassumption

end Cert.Proof.GateUp.Kernel

end
-- ==== Proof.KernelTripB.lean ====
/-
  One trip of the loops of products 4 to 6.
-/
module

public import Idealize.ShloMosaic.Lib.Exec
public import Idealize.ShloMosaic.Lib.Tactic
public import Idealize.ShloMosaic.Lib.Pipeline.Kit
public import proofs.«01_k».proof.Proof.KernelSpec
public import proofs.«01_k».proof.Proof.KernelOffs
public import proofs.«01_k».proof.Proof.KernelCells

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- One trip of the loop of product 4: three more tiles of the contracted axis. -/
theorem trip5 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1059_r0 : FVec F S256x256 .f32) (k0_mxu252 : Mxu F)
    (X3 : BufTy.Contents (Elt F) arg3.view.ty) (X4 : BufTy.Contents (Elt F) arg4.view.ty) (X8 : BufTy.Contents (Elt F) arg8.view.ty) (k : Fin k0_t5_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t5_body (F := F) i arg1 harg1 arg2 harg2 arg3 harg3 arg4 harg4 arg5 harg5 arg6 harg6 arg7 harg7 arg8 harg8 arg9 harg9 arg10 k0_h3 v1059_r0 k0_mxu252 k (b, St (arg8.view.read (Elt F) X8) (arg3.view.read (Elt F) X3) (arg4.view.read (Elt F) X4) 4 (3 * k.val + 1)))
          (fun yld => iprop(⌜yld = (0#32, St (arg8.view.read (Elt F) X8) (arg3.view.read (Elt F) X3) (arg4.view.read (Elt F) X4) 4 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t5_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o38_0, o38_1, o38_2, o39_0, o39_1, o39_2, o40_0, o40_1, o40_2, o41_0, o41_1, o41_2, o42_0, o42_1, o42_2, o43_0, o43_1, o43_2, o44_0, o44_1, o44_2, o45_0, o45_1, o45_2, o46_0, o46_1, o46_2, o47_0, o47_1, o47_2]
    rfl
  isplitl [H3]
  · iassumption
  isplitl [H4]
  · iassumption
  iassumption

/-- One trip of the loop of product 5: three more tiles of the contracted axis. -/
theorem trip6 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1260_r0 : FVec F S256x256 .f32) (k0_mxu311 : Mxu F)
    (X3 : BufTy.Contents (Elt F) arg3.view.ty) (X4 : BufTy.Contents (Elt F) arg4.view.ty) (X8 : BufTy.Contents (Elt F) arg8.view.ty) (k : Fin k0_t6_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t6_body (F := F) i arg1 harg1 arg2 harg2 arg3 harg3 arg4 harg4 arg5 harg5 arg6 harg6 arg7 harg7 arg8 harg8 arg9 harg9 arg10 k0_h3 v1260_r0 k0_mxu311 k (b, St (arg8.view.read (Elt F) X8) (arg3.view.read (Elt F) X3) (arg4.view.read (Elt F) X4) 5 (3 * k.val + 1)))
          (fun yld => iprop(⌜yld = (0#32, St (arg8.view.read (Elt F) X8) (arg3.view.read (Elt F) X3) (arg4.view.read (Elt F) X4) 5 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t6_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o48_0_0, o48_0_1, o48_0_2, o48_1_0, o48_1_1, o48_1_2, o49_0, o49_1, o49_2, o50_0, o50_1, o50_2, o51_0_0, o51_0_1, o51_0_2, o51_1_0, o51_1_1, o51_1_2, o52_0_0, o52_0_1, o52_0_2, o52_1_0, o52_1_1, o52_1_2, o53_0_0, o53_0_1, o53_0_2, o53_1_0, o53_1_1, o53_1_2]
    rfl
  isplitl [H3]
  · iassumption
  isplitl [H4]
  · iassumption
  iassumption

/-- One trip of the loop of product 6: three more tiles of the contracted axis. -/
theorem trip7 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu372 : Mxu F) (v1568_r0 : FVec F S256x256 .bf16)
    (X3 : BufTy.Contents (Elt F) arg3.view.ty) (X4 : BufTy.Contents (Elt F) arg4.view.ty) (X8 : BufTy.Contents (Elt F) arg8.view.ty) (k : Fin k0_t7_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t7_body (F := F) i arg1 harg1 arg2 harg2 arg3 harg3 arg4 harg4 arg5 harg5 arg6 harg6 arg7 harg7 arg8 harg8 arg9 harg9 arg10 k0_h3 k0_mxu372 v1568_r0 k (b, St (arg8.view.read (Elt F) X8) (arg3.view.read (Elt F) X3) (arg4.view.read (Elt F) X4) 6 (3 * k.val + 1)))
          (fun yld => iprop(⌜yld = (0#32, St (arg8.view.read (Elt F) X8) (arg3.view.read (Elt F) X3) (arg4.view.read (Elt F) X4) 6 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t7_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o54_0, o54_1, o54_2, o55_0, o55_1, o55_2, o56_0, o56_1, o56_2, o57_0, o57_1, o57_2, o58_0, o58_1, o58_2, o59_0, o59_1, o59_2, o60_0, o60_1, o60_2, o61_0, o61_1, o61_2, o62_0, o62_1, o62_2, o63_0, o63_1, o63_2]
    rfl
  isplitl [H3]
  · iassumption
  isplitl [H4]
  · iassumption
  iassumption

end Cert.Proof.GateUp.Kernel

end
-- ==== Proof.KernelSteps.lean ====
/-
  The invariants of the loops, each kept by one trip.
-/
module

public import Idealize.ShloMosaic.Lib.Exec
public import Idealize.ShloMosaic.Lib.Tactic
public import Idealize.ShloMosaic.Lib.Pipeline.Kit
public import proofs.«01_k».proof.Proof.KernelTrip1
public import proofs.«01_k».proof.Proof.KernelTripA
public import proofs.«01_k».proof.Proof.KernelTripB

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- Before trip `k` of the loop of product `p`: the units have the first `3 k + 1` tiles, and the codes are as they were. -/
def inv (p : ℕ) (c : Dev nD) (arg3 : Memref sig .tc .vmem S7424x512 .i8) (arg4 : Memref sig .tc .vmem S7424x512 .i8) (arg8 : Memref sig .tc .vmem S2x1024x14848 .i8) (X3 : BufTy.Contents (Elt F) arg3.view.ty) (X4 : BufTy.Contents (Elt F) arg4.view.ty) (X8 : BufTy.Contents (Elt F) arg8.view.ty) (k : ℕ) (acc : BitVec 32 × Mxu F) : sProp 𝕄G :=
  iprop(⌜acc = (0#32, St (arg8.view.read (Elt F) X8) (arg3.view.read (Elt F) X3) (arg4.view.read (Elt F) X4) p (3 * k + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))

/-- Before trip `k` of the first product's loop: as `inv`, and the first `128 k` rows of each batch of the output are written. -/
def inv1 (c : Dev nD) (arg2 : Memref sig .tc .vmem S2x1024x1 .f32) (arg3 : Memref sig .tc .vmem S7424x512 .i8) (arg4 : Memref sig .tc .vmem S7424x512 .i8) (arg5 : Memref sig .tc .vmem S1x512 .f32) (arg6 : Memref sig .tc .vmem S1x512 .f32) (arg7 : Memref sig .tc .vmem S2x1024x512 .bf16) (arg8 : Memref sig .tc .vmem S2x1024x14848 .i8) (arg9 : Memref sig .tc .vmem S2x2x1024x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (k : ℕ) (acc : BitVec 32 × Mxu F) : sProp 𝕄G :=
  iprop(⌜acc = (0#32, St (arg8.view.read (Elt F) X8) (arg3.view.read (Elt F) X3) (arg4.view.read (Elt F) X4) 0 (3 * k + 1))⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (∃ f, (arg7.view.loc (c : Thread nD τ) ↦[arg7.view.set]{fullShare} f) ∗ ⌜∀ y, (y 1).val < 128 * (min k 8) → arg7.view.read (Elt F) f y = epi (arg2.view.read (Elt F) X2) (arg9.view.read (Elt F) X9) (arg5.view.read (Elt F) X5) (arg6.view.read (Elt F) X6) y⌝))

/-- Before trip `k` of the last step's loop: the first `128 k` rows of each batch of the output are written. -/
def inv8 (c : Dev nD) (arg2 : Memref sig .tc .vmem S2x1024x1 .f32) (arg5 : Memref sig .tc .vmem S1x512 .f32) (arg6 : Memref sig .tc .vmem S1x512 .f32) (arg7 : Memref sig .tc .vmem S2x1024x512 .bf16) (arg9 : Memref sig .tc .vmem S2x2x1024x512 .f32) (X2 : BufTy.Contents (Elt F) arg2.view.ty) (X5 : BufTy.Contents (Elt F) arg5.view.ty) (X6 : BufTy.Contents (Elt F) arg6.view.ty) (X9 : BufTy.Contents (Elt F) arg9.view.ty) (k : ℕ) (acc : BitVec 32) : sProp 𝕄G :=
  iprop(⌜acc = 0#32⌝ ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (∃ f, (arg7.view.loc (c : Thread nD τ) ↦[arg7.view.set]{fullShare} f) ∗ ⌜∀ y, (y 1).val < 128 * k → arg7.view.read (Elt F) f y = epi (arg2.view.read (Elt F) X2) (arg9.view.read (Elt F) X9) (arg5.view.read (Elt F) X5) (arg6.view.read (Elt F) X6) y⌝))

theorem step2 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v361_r0 : FVec F S256x256 .f32) (k0_mxu72 : Mxu F)
    (X3 : BufTy.Contents (Elt F) arg3.view.ty) (X4 : BufTy.Contents (Elt F) arg4.view.ty) (X8 : BufTy.Contents (Elt F) arg8.view.ty) (k : Fin k0_t2_loop.trips) (acc : BitVec 32 × Mxu F) :
    inv 1 c arg3 arg4 arg8 X3 X4 X8 k.val acc
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 k0_h3 v361_r0 k0_mxu72 k acc)
          (inv 1 c arg3 arg4 arg8 X3 X4 X8 (k.val + 1)) := by
  unfold inv
  iintro ⟨%h, HR⟩
  subst h
  iapply (trip2 𝒱 c bd E i arg1 harg1 arg2 harg2 arg3 harg3 arg4 harg4 arg5 harg5 arg6 harg6 arg7 harg7 arg8 harg8 arg9 harg9 arg10 k0_h3 v361_r0 k0_mxu72 X3 X4 X8 k 0#32) $$ HR

theorem step3 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v576_r0 : FVec F S256x256 .f32) (k0_mxu132 : Mxu F)
    (X3 : BufTy.Contents (Elt F) arg3.view.ty) (X4 : BufTy.Contents (Elt F) arg4.view.ty) (X8 : BufTy.Contents (Elt F) arg8.view.ty) (k : Fin k0_t3_loop.trips) (acc : BitVec 32 × Mxu F) :
    inv 2 c arg3 arg4 arg8 X3 X4 X8 k.val acc
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 k0_h3 v576_r0 k0_mxu132 k acc)
          (inv 2 c arg3 arg4 arg8 X3 X4 X8 (k.val + 1)) := by
  unfold inv
  iintro ⟨%h, HR⟩
  subst h
  iapply (trip3 𝒱 c bd E i arg1 harg1 arg2 harg2 arg3 harg3 arg4 harg4 arg5 harg5 arg6 harg6 arg7 harg7 arg8 harg8 arg9 harg9 arg10 k0_h3 v576_r0 k0_mxu132 X3 X4 X8 k 0#32) $$ HR

theorem step4 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu192 : Mxu F) (v782_r0 : BitVec 32)
    (X3 : BufTy.Contents (Elt F) arg3.view.ty) (X4 : BufTy.Contents (Elt F) arg4.view.ty) (X8 : BufTy.Contents (Elt F) arg8.view.ty) (k : Fin k0_t4_loop.trips) (acc : BitVec 32 × Mxu F) :
    inv 3 c arg3 arg4 arg8 X3 X4 X8 k.val acc
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 k0_h3 k0_mxu192 v782_r0 k acc)
          (inv 3 c arg3 arg4 arg8 X3 X4 X8 (k.val + 1)) := by
  unfold inv
  iintro ⟨%h, HR⟩
  subst h
  iapply (trip4 𝒱 c bd E i arg1 harg1 arg2 harg2 arg3 harg3 arg4 harg4 arg5 harg5 arg6 harg6 arg7 harg7 arg8 harg8 arg9 harg9 arg10 k0_h3 k0_mxu192 v782_r0 X3 X4 X8 k 0#32) $$ HR

theorem step5 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1059_r0 : FVec F S256x256 .f32) (k0_mxu252 : Mxu F)
    (X3 : BufTy.Contents (Elt F) arg3.view.ty) (X4 : BufTy.Contents (Elt F) arg4.view.ty) (X8 : BufTy.Contents (Elt F) arg8.view.ty) (k : Fin k0_t5_loop.trips) (acc : BitVec 32 × Mxu F) :
    inv 4 c arg3 arg4 arg8 X3 X4 X8 k.val acc
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 k0_h3 v1059_r0 k0_mxu252 k acc)
          (inv 4 c arg3 arg4 arg8 X3 X4 X8 (k.val + 1)) := by
  unfold inv
  iintro ⟨%h, HR⟩
  subst h
  iapply (trip5 𝒱 c bd E i arg1 harg1 arg2 harg2 arg3 harg3 arg4 harg4 arg5 harg5 arg6 harg6 arg7 harg7 arg8 harg8 arg9 harg9 arg10 k0_h3 v1059_r0 k0_mxu252 X3 X4 X8 k 0#32) $$ HR

theorem step6 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1260_r0 : FVec F S256x256 .f32) (k0_mxu311 : Mxu F)
    (X3 : BufTy.Contents (Elt F) arg3.view.ty) (X4 : BufTy.Contents (Elt F) arg4.view.ty) (X8 : BufTy.Contents (Elt F) arg8.view.ty) (k : Fin k0_t6_loop.trips) (acc : BitVec 32 × Mxu F) :
    inv 5 c arg3 arg4 arg8 X3 X4 X8 k.val acc
      ⊢ wp frame (wpE (defs₀ (F := F)) 𝒱 (c : Thread nD τ) bd) E (k0_t6_body (F := F) i arg1 harg1 arg2 harg2 arg3 harg3 arg4 harg4 arg5 harg5 arg6 harg6 arg7 harg7 arg8 harg8 arg9 harg9 arg10 k0_h3 v1260_r0 k0_mxu311 k acc)
          (inv 5 c arg3 arg4 arg8 X3 X4 X8 (k.val + 1)) := by
  unfold inv
  iintro ⟨%h, HR⟩
  subst h
  iapply (trip6 𝒱 c bd E i arg1 harg1 arg2 harg2 arg3 harg3 arg4 harg4 arg5 harg5 arg6 harg6 arg7 harg7 arg8 harg8 arg9 harg9 arg10 k0_h3 v1260_r0 k0_mxu311 X3 X4 X8 k 0#32) $$ HR

theorem step7 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu372 : Mxu F) (v1568_r0 : FVec F S256x256 .bf16)
    (X3 : BufTy.Contents (Elt F) arg3.view.ty) (X4 : BufTy.Contents (Elt F) arg4.view.ty) (X8 : BufTy.Contents (Elt F) arg8.view.ty) (k : Fin k0_t7_loop.trips) (acc : BitVec 32 × Mxu F) :
    inv 6 c arg3 arg4 arg8 X3 X4 X8 k.val acc
      ⊢ wp frame (wpE (defs₀ (F := F)) 𝒱 (c : Thread nD τ) bd) E (k0_t7_body (F := F) i arg1 harg1 arg2 harg2 arg3 harg3 arg4 harg4 arg5 harg5 arg6 harg6 arg7 harg7 arg8 harg8 arg9 harg9 arg10 k0_h3 k0_mxu372 v1568_r0 k acc)
          (inv 6 c arg3 arg4 arg8 X3 X4 X8 (k.val + 1)) := by
  unfold inv
  iintro ⟨%h, HR⟩
  subst h
  iapply (trip7 𝒱 c bd E i arg1 harg1 arg2 harg2 arg3 harg3 arg4 harg4 arg5 harg5 arg6 harg6 arg7 harg7 arg8 harg8 arg9 harg9 arg10 k0_h3 k0_mxu372 v1568_r0 X3 X4 X8 k 0#32) $$ HR

theorem step1 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu10 : Mxu F) (v133_r0 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (k : Fin k0_t1_loop.trips) (acc : BitVec 32 × Mxu F) :
    inv1 c arg2 arg3 arg4 arg5 arg6 arg7 arg8 arg9 X2 X3 X4 X5 X6 X8 X9 k.val acc
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 k0_h3 k0_mxu10 v133_r0 k acc)
          (inv1 c arg2 arg3 arg4 arg5 arg6 arg7 arg8 arg9 X2 X3 X4 X5 X6 X8 X9 (k.val + 1)) := by
  unfold inv1
  iintro ⟨%h, H2, H3, H4, H5, H6, H8, H9, %f7, H7, %h7⟩
  subst h
  iapply (wp_wand_r frame (wpE (defs₀ (F := F)) 𝒱 (c : Thread nD τ) bd) E)
  isplitl
  · iapply (trip1 𝒱 c bd E i arg1 harg1 arg2 harg2 arg3 harg3 arg4 harg4 arg5 harg5 arg6 harg6 arg7 harg7 arg8 harg8 arg9 harg9 arg10 k0_h3 k0_mxu10 v133_r0 X2 X3 X4 X5 X6 f7 X8 X9 k 0#32) $$ [H2 H3 H4 H5 H6 H7 H8 H9]
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %yld ⟨%h, H2, H3, H4, H5, H6, H8, H9, %g7, H7, %e7⟩
  isplitr; · ipureintro; exact h
  isplitl [H2]; · iexact H2
  isplitl [H3]; · iexact H3
  isplitl [H4]; · iexact H4
  isplitl [H5]; · iexact H5
  isplitl [H6]; · iexact H6
  isplitl [H8]; · iexact H8
  isplitl [H9]; · iexact H9
  iexists g7
  isplitl [H7]; · iexact H7
  ipureintro
  intro y hy
  rw [e7 y]
  split_ifs with hm
  · rfl
  · exact h7 y (by omega)

theorem step8 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h4 : k0_cond4 i = 1#1)
    (X2 : BufTy.Contents (Elt F) arg2.view.ty) (X5 : BufTy.Contents (Elt F) arg5.view.ty) (X6 : BufTy.Contents (Elt F) arg6.view.ty) (X9 : BufTy.Contents (Elt F) arg9.view.ty) (k : Fin k0_t8_loop.trips) (acc : BitVec 32) :
    inv8 c arg2 arg5 arg6 arg7 arg9 X2 X5 X6 X9 k.val acc
      ⊢ wp frame (wpE (defs₀ (F := F)) 𝒱 (c : Thread nD τ) bd) E (k0_t8_body (F := F) i arg1 harg1 arg2 harg2 arg3 harg3 arg4 harg4 arg5 harg5 arg6 harg6 arg7 harg7 arg8 harg8 arg9 harg9 arg10 k0_h4 k acc)
          (inv8 c arg2 arg5 arg6 arg7 arg9 X2 X5 X6 X9 (k.val + 1)) := by
  unfold inv8
  iintro ⟨%h, H2, H5, H6, H9, %f7, H7, %h7⟩
  subst h
  iapply (wp_wand_r frame (wpE (defs₀ (F := F)) 𝒱 (c : Thread nD τ) bd) E)
  isplitl
  · iapply (trip8 𝒱 c bd E i arg1 harg1 arg2 harg2 arg3 harg3 arg4 harg4 arg5 harg5 arg6 harg6 arg7 harg7 arg8 harg8 arg9 harg9 arg10 k0_h4 X2 X5 X6 f7 X9 k 0#32) $$ [H2 H5 H6 H7 H9]
    isplitl [H2]; · iexact H2
    isplitl [H5]; · iexact H5
    isplitl [H6]; · iexact H6
    isplitl [H7]; · iexact H7
    iexact H9
  iintro %yld ⟨%h, H2, H5, H6, H9, %g7, H7, %e7⟩
  isplitr; · ipureintro; exact h
  isplitl [H2]; · iexact H2
  isplitl [H5]; · iexact H5
  isplitl [H6]; · iexact H6
  isplitl [H9]; · iexact H9
  iexists g7
  isplitl [H7]; · iexact H7
  ipureintro
  intro y hy
  rw [e7 y]
  split_ifs with hm
  · rfl
  · exact h7 y (by omega)

end Cert.Proof.GateUp.Kernel

end
-- ==== Proof.KernelMain.lean ====
module

public import proofs.«01_k».proof.Proof.KernelSteps

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- Block `c` of unit `q` after all tiles of product `p`. -/
def val (X : Vec F S2x1024x14848 .i8) (Wg Wu : Vec F S7424x512 .i8) (p q c : ℕ) : Blk F :=
  dep (cell X Wg Wu p q c 28) (pass (rhs Wg Wu p q 28) (lhs X p c 28))

/-- The accumulator after product 0, whose blocks are `V`, is added to it. -/
def stage0 (V : ℕ → ℕ → Blk F) (A : Cells F) : Cells F :=
  upd (upd (upd (upd (upd (upd (upd (upd (upd (upd (upd (upd (upd (upd (upd (upd (A) 0 0 0 0 (V 0 0)) 1 1 0 0 (V 0 0)) 0 0 0 1 (V 1 0)) 1 1 0 1 (V 1 0)) 0 0 1 0 (V 0 1)) 1 1 1 0 (V 0 1)) 0 0 1 1 (V 1 1)) 1 1 1 1 (V 1 1)) 0 0 2 0 (V 0 2)) 1 1 2 0 (V 0 2)) 0 0 2 1 (V 1 2)) 1 1 2 1 (V 1 2)) 0 0 3 0 (V 0 3)) 1 1 3 0 (V 0 3)) 0 0 3 1 (V 1 3)) 1 1 3 1 (V 1 3)

/-- The accumulator after product 1, whose blocks are `V`, is added to it. -/
def stage1 (V : ℕ → ℕ → Blk F) (A : Cells F) : Cells F :=
  upd (upd (upd (upd (upd (upd (upd (upd (upd (upd (upd (upd (upd (upd (upd (upd (A) 0 1 0 0 (V 0 0)) 1 1 0 0 (addf (A 1 1 0 0) (V 0 0))) 0 1 0 1 (V 1 0)) 1 1 0 1 (addf (A 1 1 0 1) (V 1 0))) 0 1 1 0 (V 0 1)) 1 1 1 0 (addf (A 1 1 1 0) (V 0 1))) 0 1 1 1 (V 1 1)) 1 1 1 1 (addf (A 1 1 1 1) (V 1 1))) 0 1 2 0 (V 0 2)) 1 1 2 0 (addf (A 1 1 2 0) (V 0 2))) 0 1 2 1 (V 1 2)) 1 1 2 1 (addf (A 1 1 2 1) (V 1 2))) 0 1 3 0 (V 0 3)) 1 1 3 0 (addf (A 1 1 3 0) (V 0 3))) 0 1 3 1 (V 1 3)) 1 1 3 1 (addf (A 1 1 3 1) (V 1 3))

/-- The accumulator after product 2, whose blocks are `V`, is added to it. -/
def stage2 (V : ℕ → ℕ → Blk F) (A : Cells F) : Cells F :=
  upd (upd (upd (upd (upd (upd (upd (upd (upd (upd (upd (upd (upd (upd (upd (upd (A) 0 0 0 0 (addf (A 0 0 0 0) (V 0 0))) 1 0 0 0 (V 0 0)) 0 0 0 1 (addf (A 0 0 0 1) (V 1 0))) 1 0 0 1 (V 1 0)) 0 0 1 0 (addf (A 0 0 1 0) (V 0 1))) 1 0 1 0 (V 0 1)) 0 0 1 1 (addf (A 0 0 1 1) (V 1 1))) 1 0 1 1 (V 1 1)) 0 0 2 0 (addf (A 0 0 2 0) (V 0 2))) 1 0 2 0 (V 0 2)) 0 0 2 1 (addf (A 0 0 2 1) (V 1 2))) 1 0 2 1 (V 1 2)) 0 0 3 0 (addf (A 0 0 3 0) (V 0 3))) 1 0 3 0 (V 0 3)) 0 0 3 1 (addf (A 0 0 3 1) (V 1 3))) 1 0 3 1 (V 1 3)

/-- The accumulator after product 3, whose blocks are `V`, is added to it. -/
def stage3 (V : ℕ → ℕ → Blk F) (A : Cells F) : Cells F :=
  upd (upd (upd (upd (upd (upd (upd (upd (upd (upd (upd (upd (upd (upd (upd (upd (A) 0 0 0 0 (subf (A 0 0 0 0) (V 0 0))) 0 1 0 0 (addf (A 0 1 0 0) (V 0 0))) 0 0 0 1 (subf (A 0 0 0 1) (V 1 0))) 0 1 0 1 (addf (A 0 1 0 1) (V 1 0))) 0 0 1 0 (subf (A 0 0 1 0) (V 0 1))) 0 1 1 0 (addf (A 0 1 1 0) (V 0 1))) 0 0 1 1 (subf (A 0 0 1 1) (V 1 1))) 0 1 1 1 (addf (A 0 1 1 1) (V 1 1))) 0 0 2 0 (subf (A 0 0 2 0) (V 0 2))) 0 1 2 0 (addf (A 0 1 2 0) (V 0 2))) 0 0 2 1 (subf (A 0 0 2 1) (V 1 2))) 0 1 2 1 (addf (A 0 1 2 1) (V 1 2))) 0 0 3 0 (subf (A 0 0 3 0) (V 0 3))) 0 1 3 0 (addf (A 0 1 3 0) (V 0 3))) 0 0 3 1 (subf (A 0 0 3 1) (V 1 3))) 0 1 3 1 (addf (A 0 1 3 1) (V 1 3))

/-- The accumulator after product 4, whose blocks are `V`, is added to it. -/
def stage4 (V : ℕ → ℕ → Blk F) (A : Cells F) : Cells F :=
  upd (upd (upd (upd (upd (upd (upd (upd (A) 0 0 0 0 (addf (A 0 0 0 0) (V 0 0))) 0 0 0 1 (addf (A 0 0 0 1) (V 1 0))) 0 0 1 0 (addf (A 0 0 1 0) (V 0 1))) 0 0 1 1 (addf (A 0 0 1 1) (V 1 1))) 0 0 2 0 (addf (A 0 0 2 0) (V 0 2))) 0 0 2 1 (addf (A 0 0 2 1) (V 1 2))) 0 0 3 0 (addf (A 0 0 3 0) (V 0 3))) 0 0 3 1 (addf (A 0 0 3 1) (V 1 3))

/-- The accumulator after product 5, whose blocks are `V`, is added to it. -/
def stage5 (V : ℕ → ℕ → Blk F) (A : Cells F) : Cells F :=
  upd (upd (upd (upd (upd (upd (upd (upd (upd (upd (upd (upd (upd (upd (upd (upd (A) 1 0 0 0 (addf (A 1 0 0 0) (V 0 0))) 1 1 0 0 (subf (A 1 1 0 0) (V 0 0))) 1 0 0 1 (addf (A 1 0 0 1) (V 1 0))) 1 1 0 1 (subf (A 1 1 0 1) (V 1 0))) 1 0 1 0 (addf (A 1 0 1 0) (V 0 1))) 1 1 1 0 (subf (A 1 1 1 0) (V 0 1))) 1 0 1 1 (addf (A 1 0 1 1) (V 1 1))) 1 1 1 1 (subf (A 1 1 1 1) (V 1 1))) 1 0 2 0 (addf (A 1 0 2 0) (V 0 2))) 1 1 2 0 (subf (A 1 1 2 0) (V 0 2))) 1 0 2 1 (addf (A 1 0 2 1) (V 1 2))) 1 1 2 1 (subf (A 1 1 2 1) (V 1 2))) 1 0 3 0 (addf (A 1 0 3 0) (V 0 3))) 1 1 3 0 (subf (A 1 1 3 0) (V 0 3))) 1 0 3 1 (addf (A 1 0 3 1) (V 1 3))) 1 1 3 1 (subf (A 1 1 3 1) (V 1 3))

/-- The accumulator after product 6, whose blocks are `V`, is added to it. -/
def stage6 (V : ℕ → ℕ → Blk F) (A : Cells F) : Cells F :=
  upd (upd (upd (upd (upd (upd (upd (upd (A) 1 1 0 0 (addf (A 1 1 0 0) (V 0 0))) 1 1 0 1 (addf (A 1 1 0 1) (V 1 0))) 1 1 1 0 (addf (A 1 1 1 0) (V 0 1))) 1 1 1 1 (addf (A 1 1 1 1) (V 1 1))) 1 1 2 0 (addf (A 1 1 2 0) (V 0 2))) 1 1 2 1 (addf (A 1 1 2 1) (V 1 2))) 1 1 3 0 (addf (A 1 1 3 0) (V 0 3))) 1 1 3 1 (addf (A 1 1 3 1) (V 1 3))

/-- The accumulator after all products. -/
def total (X : Vec F S2x1024x14848 .i8) (Wg Wu : Vec F S7424x512 .i8) (A : Cells F) : Cells F :=
  stage6 (val X Wg Wu 6) (stage5 (val X Wg Wu 5) (stage4 (val X Wg Wu 4) (stage3 (val X Wg Wu 3) (stage2 (val X Wg Wu 2) (stage1 (val X Wg Wu 1) (stage0 (val X Wg Wu 0) (A)))))))

theorem read_put {κ : Kind} {sp : Space} (v : View sig κ sp S2x2x1024x512 .f32) (f : v.ty.Contents (Elt F))
    (L : List (View.Piece (Elt F) S2x2x1024x512 .f32)) (A : Cells F) (b g c q : ℕ) {o : Fin 4 → ℕ} (ho : o = ![b, g, 256 * c, 256 * q])
    (inb : ∀ a, o a + S1x1x256x256.size a ≤ S2x2x1024x512.size a) (w : FVec F S1x1x256x256 .f32) (x : Blk F)
    (hw : w = shapeCast S1x1x256x256 x shapeCasts_S256x256_S1x1x256x256)
    (h : v.read (Elt F) (v.writes (Elt F) f L) = asm A) :
    v.read (Elt F) (v.writes (Elt F) f ((⟨Rect.unit (s := S2x2x1024x512) o S1x1x256x256.size inb, w⟩ : View.Piece (Elt F) S2x2x1024x512 .f32) :: L))
      = asm (upd A b g c q x) := by
  subst hw
  rw [shapeCast_box]
  exact read_cell v f L A b g c q ho inb x h

theorem read_add {κ : Kind} {sp : Space} (v : View sig κ sp S2x2x1024x512 .f32) (f : v.ty.Contents (Elt F))
    (L : List (View.Piece (Elt F) S2x2x1024x512 .f32)) (A A0 : Cells F) (b g c q : ℕ) {o : Fin 4 → ℕ} (ho : o = ![b, g, 256 * c, 256 * q])
    (inb : ∀ a, o a + S1x1x256x256.size a ≤ S2x2x1024x512.size a) (w : FVec F S1x1x256x256 .f32) (x : Blk F)
    (f0 : v.ty.Contents (Elt F)) (h0 : v.read (Elt F) f0 = asm A0)
    (hw : w = shapeCast S1x1x256x256 (addf (shapeCast S256x256 (v.readAt (Elt F) (Rect.unit (s := S2x2x1024x512) o S1x1x256x256.size inb).toLoadRect f0) shapeCasts_S1x1x256x256_S256x256 : FVec F S256x256 .f32) x) shapeCasts_S256x256_S1x1x256x256)
    (h : v.read (Elt F) (v.writes (Elt F) f L) = asm A) :
    v.read (Elt F) (v.writes (Elt F) f ((⟨Rect.unit (s := S2x2x1024x512) o S1x1x256x256.size inb, w⟩ : View.Piece (Elt F) S2x2x1024x512 .f32) :: L))
      = asm (upd A b g c q (addf (A0 b g c q) x)) := by
  subst hw
  rw [readAt_cell v f0 A0 b g c q ho inb h0, shapeCast_unbox, shapeCast_box]
  exact read_cell v f L A b g c q ho inb _ h

theorem read_sub {κ : Kind} {sp : Space} (v : View sig κ sp S2x2x1024x512 .f32) (f : v.ty.Contents (Elt F))
    (L : List (View.Piece (Elt F) S2x2x1024x512 .f32)) (A A0 : Cells F) (b g c q : ℕ) {o : Fin 4 → ℕ} (ho : o = ![b, g, 256 * c, 256 * q])
    (inb : ∀ a, o a + S1x1x256x256.size a ≤ S2x2x1024x512.size a) (w : FVec F S1x1x256x256 .f32) (x : Blk F)
    (f0 : v.ty.Contents (Elt F)) (h0 : v.read (Elt F) f0 = asm A0)
    (hw : w = shapeCast S1x1x256x256 (subf (shapeCast S256x256 (v.readAt (Elt F) (Rect.unit (s := S2x2x1024x512) o S1x1x256x256.size inb).toLoadRect f0) shapeCasts_S1x1x256x256_S256x256 : FVec F S256x256 .f32) x) shapeCasts_S256x256_S1x1x256x256)
    (h : v.read (Elt F) (v.writes (Elt F) f L) = asm A) :
    v.read (Elt F) (v.writes (Elt F) f ((⟨Rect.unit (s := S2x2x1024x512) o S1x1x256x256.size inb, w⟩ : View.Piece (Elt F) S2x2x1024x512 .f32) :: L))
      = asm (upd A b g c q (subf (A0 b g c q) x)) := by
  subst hw
  rw [readAt_cell v f0 A0 b g c q ho inb h0, shapeCast_unbox, shapeCast_box]
  exact read_cell v f L A b g c q ho inb _ h

/-- An assertion of the loop's state together with an accumulator whose contents are the cells `A`. -/
def inv9 {α : Type} (c : Dev nD) (arg9 : Memref sig .tc .vmem S2x2x1024x512 .f32) (A : Cells F) (I : ℕ → α → sProp 𝕄G) (k : ℕ) (s : α) : sProp 𝕄G :=
  iprop(I k s ∗ ∃ f9, (arg9.view.loc (c : Thread nD τ) ↦[arg9.view.set]{fullShare} f9) ∗ ⌜arg9.view.read (Elt F) f9 = asm A⌝)

theorem keep9 {α : Type} (𝒱 : Variants) (c : Dev nD) (bd : Option 𝒱.V) (E : Set ℕ) (arg9 : Memref sig .tc .vmem S2x2x1024x512 .f32) (A : Cells F)
    (I : ℕ → α → sProp 𝕄G) {k : ℕ} {s : α} {body : Prog (TpuEff nD τ sig (Elt F) Λ₀ .tc) α}
    (h : I k s ⊢ wp frame (wpE (defs₀ (F := F)) 𝒱 (c : Thread nD τ) bd) E body (I (k + 1))) :
    inv9 c arg9 A I k s ⊢ wp frame (wpE (defs₀ (F := F)) 𝒱 (c : Thread nD τ) bd) E body (inv9 c arg9 A I (k + 1)) :=
  (sep_mono_left h).trans (wp_frame_r frame (wpE (defs₀ (F := F)) 𝒱 (c : Thread nD τ) bd) E)

/-- The products of one step: the part of the body that runs in every step but the last. -/
def mainProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_)  (k0_mxu1 : Mxu F) (k0_h3 : k0_cond3 i = 1#1) : Prog (TpuEff nD τ sig (Elt F) Λ₀ .tc) (Mxu F) := do
      let ⟨k0_mxu420, v1659_r0, v1660_r0⟩ : Σ' (k0_mxu420 : Mxu F) (v1659_r0 : FVec F S256x256 .f32), Vec F S1x1x256x256 .f32 ← k0_part110 i arg1 harg1 arg2 harg2 arg3 harg3 arg4 harg4 arg5 harg5 arg6 harg6 arg7 harg7 arg8 harg8 arg9 harg9 arg10 k0_mxu1 k0_h3
      Prog.lift (.store arg9 (Rect.unit (s := S2x2x1024x512) ![1, 1, 512, 256] S1x1x256x256.size inb_S2x2x1024x512_S1x1x256x256_1_1_512_256) (k0_pay2 v1659_r0) Finset.univ (View.stores_vmem_bits_univ h_S1x1x256x256 rfl) (.inl rfl))
      have v1663_r0 : FVec F S256x256 .f32 := k0_mxu420.read 0 192 fits_192_256
      have k0_mxu421 : Mxu F := k0_mxu420.pop 0 192 256 fits_192_256
      let v1664_r0 : Vec F S1x1x256x256 .f32 ← Prog.lift (.load arg9 (Rect.unit (s := S2x2x1024x512) ![1, 1, 768, 0] S1x1x256x256.size inb_S2x2x1024x512_S1x1x256x256_1_1_768_0).toLoadRect (View.loadsAt_vmem h_S1x1x256x256))
      let v1667_r0 : Vec F S1x1x256x256 .f32 ← Prog.lift (.load arg9 (Rect.unit (s := S2x2x1024x512) ![1, 1, 768, 0] S1x1x256x256.size inb_S2x2x1024x512_S1x1x256x256_1_1_768_0).toLoadRect (View.loadsAt_vmem h_S1x1x256x256))
      Prog.lift (.store arg9 (Rect.unit (s := S2x2x1024x512) ![1, 1, 768, 0] S1x1x256x256.size inb_S2x2x1024x512_S1x1x256x256_1_1_768_0) (k0_pay3 v1663_r0 v1664_r0) Finset.univ (View.stores_vmem_bits_univ h_S1x1x256x256 rfl) (.inl rfl))
      have v1670_r0 : FVec F S256x256 .f32 := k0_mxu421.read 1 192 fits_192_256
      have k0_mxu422 : Mxu F := k0_mxu421.pop 1 192 256 fits_192_256
      let v1671_r0 : Vec F S1x1x256x256 .f32 ← Prog.lift (.load arg9 (Rect.unit (s := S2x2x1024x512) ![1, 1, 768, 256] S1x1x256x256.size inb_S2x2x1024x512_S1x1x256x256_1_1_768_256).toLoadRect (View.loadsAt_vmem h_S1x1x256x256))
      let v1674_r0 : Vec F S1x1x256x256 .f32 ← Prog.lift (.load arg9 (Rect.unit (s := S2x2x1024x512) ![1, 1, 768, 256] S1x1x256x256.size inb_S2x2x1024x512_S1x1x256x256_1_1_768_256).toLoadRect (View.loadsAt_vmem h_S1x1x256x256))
      Prog.lift (.store arg9 (Rect.unit (s := S2x2x1024x512) ![1, 1, 768, 256] S1x1x256x256.size inb_S2x2x1024x512_S1x1x256x256_1_1_768_256) (k0_pay4 v1670_r0 v1671_r0) Finset.univ (View.stores_vmem_bits_univ h_S1x1x256x256 rfl) (.inl rfl))
      pure k0_mxu422
/-- What a step's products leave: the unit drained, the output block the epilogue of the accumulator as it was, the
    accumulator all seven products of the step. -/
def mainPost (c : Dev nD) (arg2 : Memref sig .tc .vmem S2x1024x1 .f32) (arg3 : Memref sig .tc .vmem S7424x512 .i8) (arg4 : Memref sig .tc .vmem S7424x512 .i8) (arg5 : Memref sig .tc .vmem S1x512 .f32) (arg6 : Memref sig .tc .vmem S1x512 .f32) (arg7 : Memref sig .tc .vmem S2x1024x512 .bf16) (arg8 : Memref sig .tc .vmem S2x1024x14848 .i8) (arg9 : Memref sig .tc .vmem S2x2x1024x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (A : Cells F) (s : Mxu F) : sProp 𝕄G :=
  iprop(⌜s.Drained⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8)
    ∗ (∃ f7, (arg7.view.loc (c : Thread nD τ) ↦[arg7.view.set]{fullShare} f7) ∗ ⌜∀ y, arg7.view.read (Elt F) f7 y = epi (arg2.view.read (Elt F) X2) (arg9.view.read (Elt F) X9) (arg5.view.read (Elt F) X5) (arg6.view.read (Elt F) X6) y⌝)
    ∗ ∃ f9, (arg9.view.loc (c : Thread nD τ) ↦[arg9.view.set]{fullShare} f9) ∗ ⌜arg9.view.read (Elt F) f9 = asm (total (arg8.view.read (Elt F) X8) (arg3.view.read (Elt F) X3) (arg4.view.read (Elt F) X4) A)⌝)

theorem main (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_)  (k0_h3 : k0_cond3 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (A : Cells F) (hA : arg9.view.read (Elt F) X9 = asm A) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) : sProp 𝕄G)
      ⊢ wp frame (wpE (defs₀ (F := F)) 𝒱 (c : Thread nD τ) bd) E (mainProg (F := F) i arg1 harg1 arg2 harg2 arg3 harg3 arg4 harg4 arg5 harg5 arg6 harg6 arg7 harg7 arg8 harg8 arg9 harg9 arg10 Mxu.init k0_h3)
        (mainPost c arg2 arg3 arg4 arg5 arg6 arg7 arg8 arg9 X2 X3 X4 X5 X6 X8 X9 A) := by
  unfold mainProg
  iintro ⟨H2, H3, H4, H5, H6, H7, H8, H9⟩
  sl_exec
  sl_for (inv1 c arg2 arg3 arg4 arg5 arg6 arg7 arg8 arg9 X2 X3 X4 X5 X6 X8 X9) $$ [H2 H3 H4 H5 H6 H7 H8 H9]
  case region => exact step1 𝒱 c bd E i arg1 harg1 arg2 harg2 arg3 harg3 arg4 harg4 arg5 harg5 arg6 harg6 arg7 harg7 arg8 harg8 arg9 harg9 arg10 k0_h3 _ _ X2 X3 X4 X5 X6 X8 X9
  · unfold inv1
    isplitr
    · ipureintro
      iterate 8 sl_unfold_run_names
      simp only [init_mk, push0, gmr0, isSome_gmr0, get_gmr0, push1, gmr1, isSome_gmr1, get_gmr1, get_tile, accL00, accL01, accL02, accL03, accL10, accL11, accL12, accL13, accB00, accB01, accB02, accB03, accB10, accB11, accB12, accB13]
      simp only [readAt_xw, readAt_ww]
      rfl
    isplitl [H2]; · iassumption
    isplitl [H3]; · iassumption
    isplitl [H4]; · iassumption
    isplitl [H5]; · iassumption
    isplitl [H6]; · iassumption
    isplitl [H8]; · iassumption
    isplitl [H9]; · iassumption
    iexists _
    isplitl [H7]; · iassumption
    ipureintro
    intro y hy
    exact absurd hy (by simp)
  iintro %acc HI
  unfold inv1
  icases HI with ⟨%h, H2, H3, H4, H5, H6, H8, H9, %f7, H7, %h7⟩
  subst h
  rw [show (3 * k0_t1_loop.trips + 1) = 28 by decide]
  unfold St
  sl_exec
  sl_for (inv9 c arg9 (stage0 (val (arg8.view.read (Elt F) X8) (arg3.view.read (Elt F) X3) (arg4.view.read (Elt F) X4) 0) A) (inv 1 c arg3 arg4 arg8 X3 X4 X8)) $$ [H3 H4 H8 H9]
  case region => exact fun k s => keep9 _ _ _ _ _ _ _ (step2 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage0
      refine read_put arg9.view _ _ _ 1 1 3 1 rfl _ _ (val (arg8.view.read (Elt F) X8) (arg3.view.read (Elt F) X3) (arg4.view.read (Elt F) X4) 0 1 3) (by as_aux_lemma => rfl) ?_
      refine read_put arg9.view _ _ _ 0 0 3 1 rfl _ _ (val (arg8.view.read (Elt F) X8) (arg3.view.read (Elt F) X3) (arg4.view.read (Elt F) X4) 0 1 3) (by as_aux_lemma => rfl) ?_
      refine read_put arg9.view _ _ _ 1 1 3 0 rfl _ _ (val (arg8.view.read (Elt F) X8) (arg3.view.read (Elt F) X3) (arg4.view.read (Elt F) X4) 0 0 3) (by as_aux_lemma => rfl) ?_
      refine read_put arg9.view _ _ _ 0 0 3 0 rfl _ _ (val (arg8.view.read (Elt F) X8) (arg3.view.read (Elt F) X3) (arg4.view.read (Elt F) X4) 0 0 3) (by as_aux_lemma => rfl) ?_
      refine read_put arg9.view _ _ _ 1 1 2 1 rfl _ _ (val (arg8.view.read (Elt F) X8) (arg3.view.read (Elt F) X3) (arg4.view.read (Elt F) X4) 0 1 2) (by as_aux_lemma => rfl) ?_
      refine read_put arg9.view _ _ _ 0 0 2 1 rfl _ _ (val (arg8.view.read (Elt F) X8) (arg3.view.read (Elt F) X3) (arg4.view.read (Elt F) X4) 0 1 2) (by as_aux_lemma => rfl) ?_
      refine read_put arg9.view _ _ _ 1 1 2 0 rfl _ _ (val (arg8.view.read (Elt F) X8) (arg3.view.read (Elt F) X3) (arg4.view.read (Elt F) X4) 0 0 2) (by as_aux_lemma => rfl) ?_
      refine read_put arg9.view _ _ _ 0 0 2 0 rfl _ _ (val (arg8.view.read (Elt F) X8) (arg3.view.read (Elt F) X3) (arg4.view.read (Elt F) X4) 0 0 2) (by as_aux_lemma => rfl) ?_
      refine read_put arg9.view _ _ _ 1 1 1 1 rfl _ _ (val (arg8.view.read (Elt F) X8) (arg3.view.read (Elt F) X3) (arg4.view.read (Elt F) X4) 0 1 1) (by as_aux_lemma => rfl) ?_
      refine read_put arg9.view _ _ _ 0 0 1 1 rfl _ _ (val (arg8.view.read (Elt F) X8) (arg3.view.read (Elt F) X3) (arg4.view.read (Elt F) X4) 0 1 1) (by as_aux_lemma => rfl) ?_
      refine read_put arg9.view _ _ _ 1 1 1 0 rfl _ _ (val (arg8.view.read (Elt F) X8) (arg3.view.read (Elt F) X3) (arg4.view.read (Elt F) X4) 0 0 1) (by as_aux_lemma => rfl) ?_
      refine read_put arg9.view _ _ _ 0 0 1 0 rfl _ _ (val (arg8.view.read (Elt F) X8) (arg3.view.read (Elt F) X3) (arg4.view.read (Elt F) X4) 0 0 1) (by as_aux_lemma => rfl) ?_
      refine read_put arg9.view _ _ _ 1 1 0 1 rfl _ _ (val (arg8.view.read (Elt F) X8) (arg3.view.read (Elt F) X3) (arg4.view.read (Elt F) X4) 0 1 0) (by as_aux_lemma => rfl) ?_
      refine read_put arg9.view _ _ _ 0 0 0 1 rfl _ _ (val (arg8.view.read (Elt F) X8) (arg3.view.read (Elt F) X3) (arg4.view.read (Elt F) X4) 0 1 0) (by as_aux_lemma => rfl) ?_
      refine read_put arg9.view _ _ _ 1 1 0 0 rfl _ _ (val (arg8.view.read (Elt F) X8) (arg3.view.read (Elt F) X3) (arg4.view.read (Elt F) X4) 0 0 0) (by as_aux_lemma => rfl) ?_
      refine read_put arg9.view _ _ _ 0 0 0 0 rfl _ _ (val (arg8.view.read (Elt F) X8) (arg3.view.read (Elt F) X3) (arg4.view.read (Elt F) X4) 0 0 0) (by as_aux_lemma => rfl) ?_
      exact hA

  iintro %s1 HI
  unfold inv9 inv
  icases HI with ⟨⟨%h, H3, H4, H8⟩, %f9_1, H9, %h9_1⟩
  subst h
  obtain ⟨A1, hA1⟩ : ∃ A1, A1 = stage0 (val (arg8.view.read (Elt F) X8) (arg3.view.read (Elt F) X3) (arg4.view.read (Elt F) X4) 0) A := ⟨_, rfl⟩
  rw [← hA1] at h9_1
  rw [show (3 * k0_t2_loop.trips + 1) = 28 by decide]
  unfold St
  sl_exec
  sl_for (inv9 c arg9 (stage1 (val (arg8.view.read (Elt F) X8) (arg3.view.read (Elt F) X3) (arg4.view.read (Elt F) X4) 1) A1) (inv 2 c arg3 arg4 arg8 X3 X4 X8)) $$ [H3 H4 H8 H9]
  case region => exact fun k s => keep9 _ _ _ _ _ _ _ (step3 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage1
      refine read_add arg9.view _ _ _ A1 1 1 3 1 rfl _ _ (val (arg8.view.read (Elt F) X8) (arg3.view.read (Elt F) X3) (arg4.view.read (Elt F) X4) 1 1 3) _ h9_1 (by as_aux_lemma => rfl) ?_
      refine read_put arg9.view _ _ _ 0 1 3 1 rfl _ _ (val (arg8.view.read (Elt F) X8) (arg3.view.read (Elt F) X3) (arg4.view.read (Elt F) X4) 1 1 3) (by as_aux_lemma => rfl) ?_
      refine read_add arg9.view _ _ _ A1 1 1 3 0 rfl _ _ (val (arg8.view.read (Elt F) X8) (arg3.view.read (Elt F) X3) (arg4.view.read (Elt F) X4) 1 0 3) _ h9_1 (by as_aux_lemma => rfl) ?_
      refine read_put arg9.view _ _ _ 0 1 3 0 rfl _ _ (val (arg8.view.read (Elt F) X8) (arg3.view.read (Elt F) X3) (arg4.view.read (Elt F) X4) 1 0 3) (by as_aux_lemma => rfl) ?_
      refine read_add arg9.view _ _ _ A1 1 1 2 1 rfl _ _ (val (arg8.view.read (Elt F) X8) (arg3.view.read (Elt F) X3) (arg4.view.read (Elt F) X4) 1 1 2) _ h9_1 (by as_aux_lemma => rfl) ?_
      refine read_put arg9.view _ _ _ 0 1 2 1 rfl _ _ (val (arg8.view.read (Elt F) X8) (arg3.view.read (Elt F) X3) (arg4.view.read (Elt F) X4) 1 1 2) (by as_aux_lemma => rfl) ?_
      refine read_add arg9.view _ _ _ A1 1 1 2 0 rfl _ _ (val (arg8.view.read (Elt F) X8) (arg3.view.read (Elt F) X3) (arg4.view.read (Elt F) X4) 1 0 2) _ h9_1 (by as_aux_lemma => rfl) ?_
      refine read_put arg9.view _ _ _ 0 1 2 0 rfl _ _ (val (arg8.view.read (Elt F) X8) (arg3.view.read (Elt F) X3) (arg4.view.read (Elt F) X4) 1 0 2) (by as_aux_lemma => rfl) ?_
      refine read_add arg9.view _ _ _ A1 1 1 1 1 rfl _ _ (val (arg8.view.read (Elt F) X8) (arg3.view.read (Elt F) X3) (arg4.view.read (Elt F) X4) 1 1 1) _ h9_1 (by as_aux_lemma => rfl) ?_
      refine read_put arg9.view _ _ _ 0 1 1 1 rfl _ _ (val (arg8.view.read (Elt F) X8) (arg3.view.read (Elt F) X3) (arg4.view.read (Elt F) X4) 1 1 1) (by as_aux_lemma => rfl) ?_
      refine read_add arg9.view _ _ _ A1 1 1 1 0 rfl _ _ (val (arg8.view.read (Elt F) X8) (arg3.view.read (Elt F) X3) (arg4.view.read (Elt F) X4) 1 0 1) _ h9_1 (by as_aux_lemma => rfl) ?_
      refine read_put arg9.view _ _ _ 0 1 1 0 rfl _ _ (val (arg8.view.read (Elt F) X8) (arg3.view.read (Elt F) X3) (arg4.view.read (Elt F) X4) 1 0 1) (by as_aux_lemma => rfl) ?_
      refine read_add arg9.view _ _ _ A1 1 1 0 1 rfl _ _ (val (arg8.view.read (Elt F) X8) (arg3.view.read (Elt F) X3) (arg4.view.read (Elt F) X4) 1 1 0) _ h9_1 (by as_aux_lemma => rfl) ?_
      refine read_put arg9.view _ _ _ 0 1 0 1 rfl _ _ (val (arg8.view.read (Elt F) X8) (arg3.view.read (Elt F) X3) (arg4.view.read (Elt F) X4) 1 1 0) (by as_aux_lemma => rfl) ?_
      refine read_add arg9.view _ _ _ A1 1 1 0 0 rfl _ _ (val (arg8.view.read (Elt F) X8) (arg3.view.read (Elt F) X3) (arg4.view.read (Elt F) X4) 1 0 0) _ h9_1 (by as_aux_lemma => rfl) ?_
      refine read_put arg9.view _ _ _ 0 1 0 0 rfl _ _ (val (arg8.view.read (Elt F) X8) (arg3.view.read (Elt F) X3) (arg4.view.read (Elt F) X4) 1 0 0) (by as_aux_lemma => rfl) ?_
      exact h9_1

  iintro %s2 HI
  unfold inv9 inv
  icases HI with ⟨⟨%h, H3, H4, H8⟩, %f9_2, H9, %h9_2⟩
  subst h
  obtain ⟨A2, hA2⟩ : ∃ A2, A2 = stage1 (val (arg8.view.read (Elt F) X8) (arg3.view.read (Elt F) X3) (arg4.view.read (Elt F) X4) 1) A1 := ⟨_, rfl⟩
  rw [← hA2] at h9_2
  rw [show (3 * k0_t3_loop.trips + 1) = 28 by decide]
  unfold St
  sl_exec
  sl_for (inv9 c arg9 (stage2 (val (arg8.view.read (Elt F) X8) (arg3.view.read (Elt F) X3) (arg4.view.read (Elt F) X4) 2) A2) (inv 3 c arg3 arg4 arg8 X3 X4 X8)) $$ [H3 H4 H8 H9]
  case region => exact fun k s => keep9 _ _ _ _ _ _ _ (step4 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage2
      refine read_put arg9.view _ _ _ 1 0 3 1 rfl _ _ (val (arg8.view.read (Elt F) X8) (arg3.view.read (Elt F) X3) (arg4.view.read (Elt F) X4) 2 1 3) (by as_aux_lemma => rfl) ?_
      refine read_add arg9.view _ _ _ A2 0 0 3 1 rfl _ _ (val (arg8.view.read (Elt F) X8) (arg3.view.read (Elt F) X3) (arg4.view.read (Elt F) X4) 2 1 3) _ h9_2 (by as_aux_lemma => rfl) ?_
      refine read_put arg9.view _ _ _ 1 0 3 0 rfl _ _ (val (arg8.view.read (Elt F) X8) (arg3.view.read (Elt F) X3) (arg4.view.read (Elt F) X4) 2 0 3) (by as_aux_lemma => rfl) ?_
      refine read_add arg9.view _ _ _ A2 0 0 3 0 rfl _ _ (val (arg8.view.read (Elt F) X8) (arg3.view.read (Elt F) X3) (arg4.view.read (Elt F) X4) 2 0 3) _ h9_2 (by as_aux_lemma => rfl) ?_
      refine read_put arg9.view _ _ _ 1 0 2 1 rfl _ _ (val (arg8.view.read (Elt F) X8) (arg3.view.read (Elt F) X3) (arg4.view.read (Elt F) X4) 2 1 2) (by as_aux_lemma => rfl) ?_
      refine read_add arg9.view _ _ _ A2 0 0 2 1 rfl _ _ (val (arg8.view.read (Elt F) X8) (arg3.view.read (Elt F) X3) (arg4.view.read (Elt F) X4) 2 1 2) _ h9_2 (by as_aux_lemma => rfl) ?_
      refine read_put arg9.view _ _ _ 1 0 2 0 rfl _ _ (val (arg8.view.read (Elt F) X8) (arg3.view.read (Elt F) X3) (arg4.view.read (Elt F) X4) 2 0 2) (by as_aux_lemma => rfl) ?_
      refine read_add arg9.view _ _ _ A2 0 0 2 0 rfl _ _ (val (arg8.view.read (Elt F) X8) (arg3.view.read (Elt F) X3) (arg4.view.read (Elt F) X4) 2 0 2) _ h9_2 (by as_aux_lemma => rfl) ?_
      refine read_put arg9.view _ _ _ 1 0 1 1 rfl _ _ (val (arg8.view.read (Elt F) X8) (arg3.view.read (Elt F) X3) (arg4.view.read (Elt F) X4) 2 1 1) (by as_aux_lemma => rfl) ?_
      refine read_add arg9.view _ _ _ A2 0 0 1 1 rfl _ _ (val (arg8.view.read (Elt F) X8) (arg3.view.read (Elt F) X3) (arg4.view.read (Elt F) X4) 2 1 1) _ h9_2 (by as_aux_lemma => rfl) ?_
      refine read_put arg9.view _ _ _ 1 0 1 0 rfl _ _ (val (arg8.view.read (Elt F) X8) (arg3.view.read (Elt F) X3) (arg4.view.read (Elt F) X4) 2 0 1) (by as_aux_lemma => rfl) ?_
      refine read_add arg9.view _ _ _ A2 0 0 1 0 rfl _ _ (val (arg8.view.read (Elt F) X8) (arg3.view.read (Elt F) X3) (arg4.view.read (Elt F) X4) 2 0 1) _ h9_2 (by as_aux_lemma => rfl) ?_
      refine read_put arg9.view _ _ _ 1 0 0 1 rfl _ _ (val (arg8.view.read (Elt F) X8) (arg3.view.read (Elt F) X3) (arg4.view.read (Elt F) X4) 2 1 0) (by as_aux_lemma => rfl) ?_
      refine read_add arg9.view _ _ _ A2 0 0 0 1 rfl _ _ (val (arg8.view.read (Elt F) X8) (arg3.view.read (Elt F) X3) (arg4.view.read (Elt F) X4) 2 1 0) _ h9_2 (by as_aux_lemma => rfl) ?_
      refine read_put arg9.view _ _ _ 1 0 0 0 rfl _ _ (val (arg8.view.read (Elt F) X8) (arg3.view.read (Elt F) X3) (arg4.view.read (Elt F) X4) 2 0 0) (by as_aux_lemma => rfl) ?_
      refine read_add arg9.view _ _ _ A2 0 0 0 0 rfl _ _ (val (arg8.view.read (Elt F) X8) (arg3.view.read (Elt F) X3) (arg4.view.read (Elt F) X4) 2 0 0) _ h9_2 (by as_aux_lemma => rfl) ?_
      exact h9_2

  iintro %s3 HI
  unfold inv9 inv
  icases HI with ⟨⟨%h, H3, H4, H8⟩, %f9_3, H9, %h9_3⟩
  subst h
  obtain ⟨A3, hA3⟩ : ∃ A3, A3 = stage2 (val (arg8.view.read (Elt F) X8) (arg3.view.read (Elt F) X3) (arg4.view.read (Elt F) X4) 2) A2 := ⟨_, rfl⟩
  rw [← hA3] at h9_3
  rw [show (3 * k0_t4_loop.trips + 1) = 28 by decide]
  unfold St
  sl_exec
  sl_for (inv9 c arg9 (stage3 (val (arg8.view.read (Elt F) X8) (arg3.view.read (Elt F) X3) (arg4.view.read (Elt F) X4) 3) A3) (inv 4 c arg3 arg4 arg8 X3 X4 X8)) $$ [H3 H4 H8 H9]
  case region => exact fun k s => keep9 _ _ _ _ _ _ _ (step5 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage3
      refine read_add arg9.view _ _ _ A3 0 1 3 1 rfl _ _ (val (arg8.view.read (Elt F) X8) (arg3.view.read (Elt F) X3) (arg4.view.read (Elt F) X4) 3 1 3) _ h9_3 (by as_aux_lemma => rfl) ?_
      refine read_sub arg9.view _ _ _ A3 0 0 3 1 rfl _ _ (val (arg8.view.read (Elt F) X8) (arg3.view.read (Elt F) X3) (arg4.view.read (Elt F) X4) 3 1 3) _ h9_3 (by as_aux_lemma => rfl) ?_
      refine read_add arg9.view _ _ _ A3 0 1 3 0 rfl _ _ (val (arg8.view.read (Elt F) X8) (arg3.view.read (Elt F) X3) (arg4.view.read (Elt F) X4) 3 0 3) _ h9_3 (by as_aux_lemma => rfl) ?_
      refine read_sub arg9.view _ _ _ A3 0 0 3 0 rfl _ _ (val (arg8.view.read (Elt F) X8) (arg3.view.read (Elt F) X3) (arg4.view.read (Elt F) X4) 3 0 3) _ h9_3 (by as_aux_lemma => rfl) ?_
      refine read_add arg9.view _ _ _ A3 0 1 2 1 rfl _ _ (val (arg8.view.read (Elt F) X8) (arg3.view.read (Elt F) X3) (arg4.view.read (Elt F) X4) 3 1 2) _ h9_3 (by as_aux_lemma => rfl) ?_
      refine read_sub arg9.view _ _ _ A3 0 0 2 1 rfl _ _ (val (arg8.view.read (Elt F) X8) (arg3.view.read (Elt F) X3) (arg4.view.read (Elt F) X4) 3 1 2) _ h9_3 (by as_aux_lemma => rfl) ?_
      refine read_add arg9.view _ _ _ A3 0 1 2 0 rfl _ _ (val (arg8.view.read (Elt F) X8) (arg3.view.read (Elt F) X3) (arg4.view.read (Elt F) X4) 3 0 2) _ h9_3 (by as_aux_lemma => rfl) ?_
      refine read_sub arg9.view _ _ _ A3 0 0 2 0 rfl _ _ (val (arg8.view.read (Elt F) X8) (arg3.view.read (Elt F) X3) (arg4.view.read (Elt F) X4) 3 0 2) _ h9_3 (by as_aux_lemma => rfl) ?_
      refine read_add arg9.view _ _ _ A3 0 1 1 1 rfl _ _ (val (arg8.view.read (Elt F) X8) (arg3.view.read (Elt F) X3) (arg4.view.read (Elt F) X4) 3 1 1) _ h9_3 (by as_aux_lemma => rfl) ?_
      refine read_sub arg9.view _ _ _ A3 0 0 1 1 rfl _ _ (val (arg8.view.read (Elt F) X8) (arg3.view.read (Elt F) X3) (arg4.view.read (Elt F) X4) 3 1 1) _ h9_3 (by as_aux_lemma => rfl) ?_
      refine read_add arg9.view _ _ _ A3 0 1 1 0 rfl _ _ (val (arg8.view.read (Elt F) X8) (arg3.view.read (Elt F) X3) (arg4.view.read (Elt F) X4) 3 0 1) _ h9_3 (by as_aux_lemma => rfl) ?_
      refine read_sub arg9.view _ _ _ A3 0 0 1 0 rfl _ _ (val (arg8.view.read (Elt F) X8) (arg3.view.read (Elt F) X3) (arg4.view.read (Elt F) X4) 3 0 1) _ h9_3 (by as_aux_lemma => rfl) ?_
      refine read_add arg9.view _ _ _ A3 0 1 0 1 rfl _ _ (val (arg8.view.read (Elt F) X8) (arg3.view.read (Elt F) X3) (arg4.view.read (Elt F) X4) 3 1 0) _ h9_3 (by as_aux_lemma => rfl) ?_
      refine read_sub arg9.view _ _ _ A3 0 0 0 1 rfl _ _ (val (arg8.view.read (Elt F) X8) (arg3.view.read (Elt F) X3) (arg4.view.read (Elt F) X4) 3 1 0) _ h9_3 (by as_aux_lemma => rfl) ?_
      refine read_add arg9.view _ _ _ A3 0 1 0 0 rfl _ _ (val (arg8.view.read (Elt F) X8) (arg3.view.read (Elt F) X3) (arg4.view.read (Elt F) X4) 3 0 0) _ h9_3 (by as_aux_lemma => rfl) ?_
      refine read_sub arg9.view _ _ _ A3 0 0 0 0 rfl _ _ (val (arg8.view.read (Elt F) X8) (arg3.view.read (Elt F) X3) (arg4.view.read (Elt F) X4) 3 0 0) _ h9_3 (by as_aux_lemma => rfl) ?_
      exact h9_3

  iintro %s4 HI
  unfold inv9 inv
  icases HI with ⟨⟨%h, H3, H4, H8⟩, %f9_4, H9, %h9_4⟩
  subst h
  obtain ⟨A4, hA4⟩ : ∃ A4, A4 = stage3 (val (arg8.view.read (Elt F) X8) (arg3.view.read (Elt F) X3) (arg4.view.read (Elt F) X4) 3) A3 := ⟨_, rfl⟩
  rw [← hA4] at h9_4
  rw [show (3 * k0_t5_loop.trips + 1) = 28 by decide]
  unfold St
  sl_exec
  sl_for (inv9 c arg9 (stage4 (val (arg8.view.read (Elt F) X8) (arg3.view.read (Elt F) X3) (arg4.view.read (Elt F) X4) 4) A4) (inv 5 c arg3 arg4 arg8 X3 X4 X8)) $$ [H3 H4 H8 H9]
  case region => exact fun k s => keep9 _ _ _ _ _ _ _ (step6 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage4
      refine read_add arg9.view _ _ _ A4 0 0 3 1 rfl _ _ (val (arg8.view.read (Elt F) X8) (arg3.view.read (Elt F) X3) (arg4.view.read (Elt F) X4) 4 1 3) _ h9_4 (by as_aux_lemma => rfl) ?_
      refine read_add arg9.view _ _ _ A4 0 0 3 0 rfl _ _ (val (arg8.view.read (Elt F) X8) (arg3.view.read (Elt F) X3) (arg4.view.read (Elt F) X4) 4 0 3) _ h9_4 (by as_aux_lemma => rfl) ?_
      refine read_add arg9.view _ _ _ A4 0 0 2 1 rfl _ _ (val (arg8.view.read (Elt F) X8) (arg3.view.read (Elt F) X3) (arg4.view.read (Elt F) X4) 4 1 2) _ h9_4 (by as_aux_lemma => rfl) ?_
      refine read_add arg9.view _ _ _ A4 0 0 2 0 rfl _ _ (val (arg8.view.read (Elt F) X8) (arg3.view.read (Elt F) X3) (arg4.view.read (Elt F) X4) 4 0 2) _ h9_4 (by as_aux_lemma => rfl) ?_
      refine read_add arg9.view _ _ _ A4 0 0 1 1 rfl _ _ (val (arg8.view.read (Elt F) X8) (arg3.view.read (Elt F) X3) (arg4.view.read (Elt F) X4) 4 1 1) _ h9_4 (by as_aux_lemma => rfl) ?_
      refine read_add arg9.view _ _ _ A4 0 0 1 0 rfl _ _ (val (arg8.view.read (Elt F) X8) (arg3.view.read (Elt F) X3) (arg4.view.read (Elt F) X4) 4 0 1) _ h9_4 (by as_aux_lemma => rfl) ?_
      refine read_add arg9.view _ _ _ A4 0 0 0 1 rfl _ _ (val (arg8.view.read (Elt F) X8) (arg3.view.read (Elt F) X3) (arg4.view.read (Elt F) X4) 4 1 0) _ h9_4 (by as_aux_lemma => rfl) ?_
      refine read_add arg9.view _ _ _ A4 0 0 0 0 rfl _ _ (val (arg8.view.read (Elt F) X8) (arg3.view.read (Elt F) X3) (arg4.view.read (Elt F) X4) 4 0 0) _ h9_4 (by as_aux_lemma => rfl) ?_
      exact h9_4

  iintro %s5 HI
  unfold inv9 inv
  icases HI with ⟨⟨%h, H3, H4, H8⟩, %f9_5, H9, %h9_5⟩
  subst h
  obtain ⟨A5, hA5⟩ : ∃ A5, A5 = stage4 (val (arg8.view.read (Elt F) X8) (arg3.view.read (Elt F) X3) (arg4.view.read (Elt F) X4) 4) A4 := ⟨_, rfl⟩
  rw [← hA5] at h9_5
  rw [show (3 * k0_t6_loop.trips + 1) = 28 by decide]
  unfold St
  sl_exec
  sl_for (inv9 c arg9 (stage5 (val (arg8.view.read (Elt F) X8) (arg3.view.read (Elt F) X3) (arg4.view.read (Elt F) X4) 5) A5) (inv 6 c arg3 arg4 arg8 X3 X4 X8)) $$ [H3 H4 H8 H9]
  case region => exact fun k s => keep9 _ _ _ _ _ _ _ (step7 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage5
      refine read_sub arg9.view _ _ _ A5 1 1 3 1 rfl _ _ (val (arg8.view.read (Elt F) X8) (arg3.view.read (Elt F) X3) (arg4.view.read (Elt F) X4) 5 1 3) _ h9_5 (by as_aux_lemma => rfl) ?_
      refine read_add arg9.view _ _ _ A5 1 0 3 1 rfl _ _ (val (arg8.view.read (Elt F) X8) (arg3.view.read (Elt F) X3) (arg4.view.read (Elt F) X4) 5 1 3) _ h9_5 (by as_aux_lemma => rfl) ?_
      refine read_sub arg9.view _ _ _ A5 1 1 3 0 rfl _ _ (val (arg8.view.read (Elt F) X8) (arg3.view.read (Elt F) X3) (arg4.view.read (Elt F) X4) 5 0 3) _ h9_5 (by as_aux_lemma => rfl) ?_
      refine read_add arg9.view _ _ _ A5 1 0 3 0 rfl _ _ (val (arg8.view.read (Elt F) X8) (arg3.view.read (Elt F) X3) (arg4.view.read (Elt F) X4) 5 0 3) _ h9_5 (by as_aux_lemma => rfl) ?_
      refine read_sub arg9.view _ _ _ A5 1 1 2 1 rfl _ _ (val (arg8.view.read (Elt F) X8) (arg3.view.read (Elt F) X3) (arg4.view.read (Elt F) X4) 5 1 2) _ h9_5 (by as_aux_lemma => rfl) ?_
      refine read_add arg9.view _ _ _ A5 1 0 2 1 rfl _ _ (val (arg8.view.read (Elt F) X8) (arg3.view.read (Elt F) X3) (arg4.view.read (Elt F) X4) 5 1 2) _ h9_5 (by as_aux_lemma => rfl) ?_
      refine read_sub arg9.view _ _ _ A5 1 1 2 0 rfl _ _ (val (arg8.view.read (Elt F) X8) (arg3.view.read (Elt F) X3) (arg4.view.read (Elt F) X4) 5 0 2) _ h9_5 (by as_aux_lemma => rfl) ?_
      refine read_add arg9.view _ _ _ A5 1 0 2 0 rfl _ _ (val (arg8.view.read (Elt F) X8) (arg3.view.read (Elt F) X3) (arg4.view.read (Elt F) X4) 5 0 2) _ h9_5 (by as_aux_lemma => rfl) ?_
      refine read_sub arg9.view _ _ _ A5 1 1 1 1 rfl _ _ (val (arg8.view.read (Elt F) X8) (arg3.view.read (Elt F) X3) (arg4.view.read (Elt F) X4) 5 1 1) _ h9_5 (by as_aux_lemma => rfl) ?_
      refine read_add arg9.view _ _ _ A5 1 0 1 1 rfl _ _ (val (arg8.view.read (Elt F) X8) (arg3.view.read (Elt F) X3) (arg4.view.read (Elt F) X4) 5 1 1) _ h9_5 (by as_aux_lemma => rfl) ?_
      refine read_sub arg9.view _ _ _ A5 1 1 1 0 rfl _ _ (val (arg8.view.read (Elt F) X8) (arg3.view.read (Elt F) X3) (arg4.view.read (Elt F) X4) 5 0 1) _ h9_5 (by as_aux_lemma => rfl) ?_
      refine read_add arg9.view _ _ _ A5 1 0 1 0 rfl _ _ (val (arg8.view.read (Elt F) X8) (arg3.view.read (Elt F) X3) (arg4.view.read (Elt F) X4) 5 0 1) _ h9_5 (by as_aux_lemma => rfl) ?_
      refine read_sub arg9.view _ _ _ A5 1 1 0 1 rfl _ _ (val (arg8.view.read (Elt F) X8) (arg3.view.read (Elt F) X3) (arg4.view.read (Elt F) X4) 5 1 0) _ h9_5 (by as_aux_lemma => rfl) ?_
      refine read_add arg9.view _ _ _ A5 1 0 0 1 rfl _ _ (val (arg8.view.read (Elt F) X8) (arg3.view.read (Elt F) X3) (arg4.view.read (Elt F) X4) 5 1 0) _ h9_5 (by as_aux_lemma => rfl) ?_
      refine read_sub arg9.view _ _ _ A5 1 1 0 0 rfl _ _ (val (arg8.view.read (Elt F) X8) (arg3.view.read (Elt F) X3) (arg4.view.read (Elt F) X4) 5 0 0) _ h9_5 (by as_aux_lemma => rfl) ?_
      refine read_add arg9.view _ _ _ A5 1 0 0 0 rfl _ _ (val (arg8.view.read (Elt F) X8) (arg3.view.read (Elt F) X3) (arg4.view.read (Elt F) X4) 5 0 0) _ h9_5 (by as_aux_lemma => rfl) ?_
      exact h9_5

  iintro %s6 HI
  unfold inv9 inv
  icases HI with ⟨⟨%h, H3, H4, H8⟩, %f9_6, H9, %h9_6⟩
  subst h
  obtain ⟨A6, hA6⟩ : ∃ A6, A6 = stage5 (val (arg8.view.read (Elt F) X8) (arg3.view.read (Elt F) X3) (arg4.view.read (Elt F) X4) 5) A5 := ⟨_, rfl⟩
  rw [← hA6] at h9_6
  rw [show (3 * k0_t7_loop.trips + 1) = 28 by decide]
  unfold St
  sl_exec
  sl_step
  unfold mainPost
  isplitr
  · ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    exact drained_mk (F := F) _ _
  isplitl [H2]; · iassumption
  isplitl [H3]; · iassumption
  isplitl [H4]; · iassumption
  isplitl [H5]; · iassumption
  isplitl [H6]; · iassumption
  isplitl [H8]; · iassumption
  isplitl [H7]
  · iexists _
    isplitl [H7]; · iassumption
    ipureintro
    intro y
    exact h7 y (lt_of_lt_of_eq (y 1).isLt (by decide))
  iexists _
  isplitl [H9]; · iassumption
  ipureintro
  iterate 8 sl_unfold_run_names
  simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
  simp only [readAt_xw, readAt_ww]
  as_aux_lemma =>
      unfold total
      rw [← hA1, ← hA2, ← hA3, ← hA4, ← hA5, ← hA6]
      unfold stage6
      refine read_add arg9.view _ _ _ A6 1 1 3 1 rfl _ _ (val (arg8.view.read (Elt F) X8) (arg3.view.read (Elt F) X3) (arg4.view.read (Elt F) X4) 6 1 3) _ h9_6 (by as_aux_lemma => rfl) ?_
      refine read_add arg9.view _ _ _ A6 1 1 3 0 rfl _ _ (val (arg8.view.read (Elt F) X8) (arg3.view.read (Elt F) X3) (arg4.view.read (Elt F) X4) 6 0 3) _ h9_6 (by as_aux_lemma => rfl) ?_
      refine read_add arg9.view _ _ _ A6 1 1 2 1 rfl _ _ (val (arg8.view.read (Elt F) X8) (arg3.view.read (Elt F) X3) (arg4.view.read (Elt F) X4) 6 1 2) _ h9_6 (by as_aux_lemma => rfl) ?_
      refine read_add arg9.view _ _ _ A6 1 1 2 0 rfl _ _ (val (arg8.view.read (Elt F) X8) (arg3.view.read (Elt F) X3) (arg4.view.read (Elt F) X4) 6 0 2) _ h9_6 (by as_aux_lemma => rfl) ?_
      refine read_add arg9.view _ _ _ A6 1 1 1 1 rfl _ _ (val (arg8.view.read (Elt F) X8) (arg3.view.read (Elt F) X3) (arg4.view.read (Elt F) X4) 6 1 1) _ h9_6 (by as_aux_lemma => rfl) ?_
      refine read_add arg9.view _ _ _ A6 1 1 1 0 rfl _ _ (val (arg8.view.read (Elt F) X8) (arg3.view.read (Elt F) X3) (arg4.view.read (Elt F) X4) 6 0 1) _ h9_6 (by as_aux_lemma => rfl) ?_
      refine read_add arg9.view _ _ _ A6 1 1 0 1 rfl _ _ (val (arg8.view.read (Elt F) X8) (arg3.view.read (Elt F) X3) (arg4.view.read (Elt F) X4) 6 1 0) _ h9_6 (by as_aux_lemma => rfl) ?_
      refine read_add arg9.view _ _ _ A6 1 1 0 0 rfl _ _ (val (arg8.view.read (Elt F) X8) (arg3.view.read (Elt F) X3) (arg4.view.read (Elt F) X4) 6 0 0) _ h9_6 (by as_aux_lemma => rfl) ?_
      exact h9_6

end Cert.Proof.GateUp.Kernel

end
-- ==== Proof.KernelBody.lean ====
/-
  The parts of one step beside its products, and how a step is made of them.
-/
module

public import proofs.«01_k».proof.Proof.KernelMain

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The first step's zeroing of the accumulator. -/
def zeroProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v10 : Vec F S2x2x1024x512 .f32 ← Prog.lift (.load arg9 (Rect.unit (s := S2x2x1024x512) ![0, 0, 0, 0] S2x2x1024x512.size inb_S2x2x1024x512_S2x2x1024x512_0_0_0_0).toLoadRect (View.loadsAt_vmem h_S2x2x1024x512))
    Prog.lift (.store arg9 (Rect.unit (s := S2x2x1024x512) ![0, 0, 0, 0] S2x2x1024x512.size inb_S2x2x1024x512_S2x2x1024x512_0_0_0_0) (k0_pay1 (F := F)) Finset.univ (View.stores_vmem_bits_univ h_S2x2x1024x512 rfl) (.inl rfl))
    pure ⟨⟩
  else do
    pure ⟨⟩

/-- The copy of a block of rows of the activation codes. -/
def copyProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : Prog (TpuEff nD τ sig (Elt F) Λ₀ .tc) PUnit := do
  if k0_h2 : k0_cond2 i = 1#1 then do
    let v12 : Memref sig .tc .hbm S2x1024x14848 .i8 := arg1.slice (Rect.unit (s := S2x2048x14848) (k0_off1 i) S2x1024x14848.size (k0_off1_inb i k0_h2)) (fun _ => rfl)
    Prog.lift (.enqueueDma v12 (.here arg8) (.dma arg10.sem) (harg1.wordExact_slice rfl _ (k0_off1_wordsi8 i k0_h2)) harg8.wordExact ⟨Or.inl rfl, trivial⟩)
    let v13 : Memref sig .tc .hbm S2x1024x14848 .i8 := arg1.slice (Rect.unit (s := S2x2048x14848) (k0_off1 i) S2x1024x14848.size (k0_off1_inb i k0_h2)) (fun _ => rfl)
    Prog.lift (.waitDma2 arg10.sem v13 arg8 (harg1.wordExact_slice rfl _ (k0_off1_wordsi8 i k0_h2)) harg8.wordExact)
    pure ⟨⟩
  else do
    pure ⟨⟩

/-- The last step's epilogue. -/
def drainProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : Prog (TpuEff nD τ sig (Elt F) Λ₀ .tc) PUnit := do
  if k0_h4 : k0_cond4 i = 1#1 then do
    let v16_r0 : BitVec 32 ← Scf.Loop.for k0_t8_loop (k0_t8_ok i k0_h4) 0#32 (k0_t8_body i arg1 harg1 arg2 harg2 arg3 harg3 arg4 harg4 arg5 harg5 arg6 harg6 arg7 harg7 arg8 harg8 arg9 harg9 arg10 k0_h4)
    pure ⟨⟩
  else do
    pure ⟨⟩

theorem skel_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : cc0_gate_up_skel (F := F) i arg1 harg1 arg2 harg2 arg3 harg3 arg4 harg4 arg5 harg5 arg6 harg6 arg7 harg7 arg8 harg8 arg9 harg9 arg10 = (do
    zeroProg i arg1 harg1 arg2 harg2 arg3 harg3 arg4 harg4 arg5 harg5 arg6 harg6 arg7 harg7 arg8 harg8 arg9 harg9 arg10
    copyProg i arg1 harg1 arg2 harg2 arg3 harg3 arg4 harg4 arg5 harg5 arg6 harg6 arg7 harg7 arg8 harg8 arg9 harg9 arg10
    let s ← if h : k0_cond3 i = 1#1 then mainProg i arg1 harg1 arg2 harg2 arg3 harg3 arg4 harg4 arg5 harg5 arg6 harg6 arg7 harg7 arg8 harg8 arg9 harg9 arg10 Mxu.init h else pure Mxu.init
    drainProg i arg1 harg1 arg2 harg2 arg3 harg3 arg4 harg4 arg5 harg5 arg6 harg6 arg7 harg7 arg8 harg8 arg9 harg9 arg10
    s.exit
    pure ⟨⟩) := by
  unfold cc0_gate_up_skel zeroProg copyProg drainProg mainProg
  by_cases h1 : (Scalar.cmpi .ne (Scalar.extui (Scalar.cmpi .eq (BitVec.ofNat 32 (i 0).val) 0#32) : BitVec 32) 0#32 : BitVec 1) = 1#1 <;> by_cases h2 : k0_cond2 i = 1#1 <;> by_cases h3 : k0_cond3 i = 1#1 <;> by_cases h4 : k0_cond4 i = 1#1 <;>
    simp only [h1, h2, h3, h4, not_false_eq_true, ↓reduceDIte, bind_assoc, pure_bind] <;> rfl

theorem cond1_iff : ∀ i : grid0.Coords, (Scalar.cmpi .ne (Scalar.extui (Scalar.cmpi .eq (BitVec.ofNat 32 (i 0).val) 0#32) : BitVec 32) 0#32 : BitVec 1) = 1#1 ↔ (i 0).val = 0 := by decide +kernel
theorem cond2_iff : ∀ i : grid0.Coords, k0_cond2 i = 1#1 ↔ (i 0).val % 26 = 0 ∧ (i 0).val < 52 := by decide +kernel
theorem cond3_iff : ∀ i : grid0.Coords, k0_cond3 i = 1#1 ↔ (i 0).val < 52 := by decide +kernel
theorem cond4_iff : ∀ i : grid0.Coords, k0_cond4 i = 1#1 ↔ (i 0).val = 52 := by decide +kernel
theorem off1_eq : ∀ i : grid0.Coords, k0_off1 i = ![0, 1024 * ((i 0).val / 26), 0] := by decide +kernel

/-- The rows of tile row `k` of the activation codes. -/
def slab (C : Vec F S2x2048x14848 .i8) (k : ℕ) : Vec F S2x1024x14848 .i8 := fun y =>
  C (fun a => match a with
    | ⟨0, _⟩ => (y 0 : Fin 2)
    | ⟨1, _⟩ => (⟨(1024 * k + (y 1).val) % 2048, Nat.mod_lt _ (by decide)⟩ : Fin 2048)
    | ⟨2, _⟩ => (y 2 : Fin 14848))

abbrev xM : Memref sig .tc .hbm S2x2048x14848 .i8 := Memref.whole main_arg0
abbrev slabM : Memref sig .tc .vmem S2x1024x14848 .i8 := Memref.whole cc0_scratch0
abbrev accM : Memref sig .tc .vmem S2x2x1024x512 .f32 := Memref.whole cc0_scratch1
/-- The buffer of a memref on core `c`, whole, at `f`. -/
abbrev hbPt (c : Dev nD) {sp : Space} {S : Shape} {e : EltTy} (M : Memref sig .tc sp S e) (f : Buf (Elt F) (M.view.loc (c : Thread nD τ))) : sProp 𝕄G :=
  M.view.loc (c : Thread nD τ) ↦{fullShare} f

theorem zero_run (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val = 0)
    (X9 : BufTy.Contents (Elt F) arg9.view.ty) :
    ((arg9.view.loc (c : Thread nD τ) ↦[arg9.view.set]{fullShare} X9) : sProp 𝕄G)
      ⊢ wp frame (wpE (defs₀ (F := F)) 𝒱 (c : Thread nD τ) bd) E (zeroProg (F := F) i arg1 harg1 arg2 harg2 arg3 harg3 arg4 harg4 arg5 harg5 arg6 harg6 arg7 harg7 arg8 harg8 arg9 harg9 arg10)
          (fun _ => iprop(∃ f9, (arg9.view.loc (c : Thread nD τ) ↦[arg9.view.set]{fullShare} f9) ∗ ⌜arg9.view.read (Elt F) f9 = k0_pay1⌝)) := by
  have h1 := (cond1_iff i).2 h
  unfold zeroProg
  iintro H9
  simp only [h1, ↓reduceDIte]
  sl_exec
  sl_step
  iexists _
  isplitl [H9]; · iassumption
  ipureintro
  funext y
  exact View.read_writes_cons_unit_of_mem arg9.view X9 inb_S2x2x1024x512_S2x2x1024x512_0_0_0_0 k0_pay1 [] y y rfl
    (fun a => match a with | ⟨0, _⟩ => (Nat.zero_add _).symm | ⟨1, _⟩ => (Nat.zero_add _).symm | ⟨2, _⟩ => (Nat.zero_add _).symm | ⟨3, _⟩ => (Nat.zero_add _).symm)

theorem zero_skip (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 0) (R : sProp 𝕄G) :
    R ⊢ wp frame (wpE (defs₀ (F := F)) 𝒱 (c : Thread nD τ) bd) E (zeroProg (F := F) i arg1 harg1 arg2 harg2 arg3 harg3 arg4 harg4 arg5 harg5 arg6 harg6 arg7 harg7 arg8 harg8 arg9 harg9 arg10) (fun _ => R) := by
  have h1 := mt (cond1_iff i).1 h
  unfold zeroProg
  iintro HR
  simp only [h1, not_false_eq_true, ↓reduceDIte]
  sl_step
  iassumption

theorem copy_skip (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : ¬((i 0).val % 26 = 0 ∧ (i 0).val < 52)) (R : sProp 𝕄G) :
    R ⊢ wp frame (wpE (defs₀ (F := F)) 𝒱 (c : Thread nD τ) bd) E (copyProg (F := F) i arg1 harg1 arg2 harg2 arg3 harg3 arg4 harg4 arg5 harg5 arg6 harg6 arg7 harg7 arg8 harg8 arg9 harg9 arg10) (fun _ => R) := by
  have h1 := mt (cond2_iff i).1 h
  unfold copyProg
  iintro HR
  simp only [h1, not_false_eq_true, ↓reduceDIte]
  sl_step
  iassumption

theorem drain_skip (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 52) (R : sProp 𝕄G) :
    R ⊢ wp frame (wpE (defs₀ (F := F)) 𝒱 (c : Thread nD τ) bd) E (drainProg (F := F) i arg1 harg1 arg2 harg2 arg3 harg3 arg4 harg4 arg5 harg5 arg6 harg6 arg7 harg7 arg8 harg8 arg9 harg9 arg10) (fun _ => R) := by
  have h1 := mt (cond4_iff i).1 h
  unfold drainProg
  iintro HR
  simp only [h1, not_false_eq_true, ↓reduceDIte]
  sl_step
  iassumption

theorem drain_run (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val = 52)
    (X2 : BufTy.Contents (Elt F) arg2.view.ty) (X5 : BufTy.Contents (Elt F) arg5.view.ty) (X6 : BufTy.Contents (Elt F) arg6.view.ty) (X7 : BufTy.Contents (Elt F) arg7.view.ty) (X9 : BufTy.Contents (Elt F) arg9.view.ty) :
    (iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9)) : sProp 𝕄G)
      ⊢ wp frame (wpE (defs₀ (F := F)) 𝒱 (c : Thread nD τ) bd) E (drainProg (F := F) i arg1 harg1 arg2 harg2 arg3 harg3 arg4 harg4 arg5 harg5 arg6 harg6 arg7 harg7 arg8 harg8 arg9 harg9 arg10)
          (fun _ => iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9)
            ∗ (∃ f7, (arg7.view.loc (c : Thread nD τ) ↦[arg7.view.set]{fullShare} f7) ∗ ⌜∀ y, arg7.view.read (Elt F) f7 y = epi (arg2.view.read (Elt F) X2) (arg9.view.read (Elt F) X9) (arg5.view.read (Elt F) X5) (arg6.view.read (Elt F) X6) y⌝))) := by
  have h1 := (cond4_iff i).2 h
  unfold drainProg
  iintro ⟨H2, H5, H6, H7, H9⟩
  simp only [h1, ↓reduceDIte]
  sl_for (inv8 c arg2 arg5 arg6 arg7 arg9 X2 X5 X6 X9) $$ [H2 H5 H6 H7 H9]
  case region => exact step8 𝒱 c bd E i arg1 harg1 arg2 harg2 arg3 harg3 arg4 harg4 arg5 harg5 arg6 harg6 arg7 harg7 arg8 harg8 arg9 harg9 arg10 h1 X2 X5 X6 X9
  · unfold inv8
    isplitr; · ipureintro; rfl
    isplitl [H2]; · iassumption
    isplitl [H5]; · iassumption
    isplitl [H6]; · iassumption
    isplitl [H9]; · iassumption
    iexists _
    isplitl [H7]; · iassumption
    ipureintro
    intro y hy
    exact absurd hy (by simp)
  iintro %acc HI
  unfold inv8
  icases HI with ⟨%h, H2, H5, H6, H9, %f7, H7, %h7⟩
  sl_step
  isplitl [H2]; · iassumption
  isplitl [H5]; · iassumption
  isplitl [H6]; · iassumption
  isplitl [H9]; · iassumption
  iexists _
  isplitl [H7]; · iassumption
  ipureintro
  intro y
  exact h7 y (lt_of_lt_of_eq (y 1).isLt (by decide))

theorem copy_run (c : Dev nD) (i : grid0.Coords) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg9 : Memref sig .tc .vmem S2x2x1024x512 .f32) (harg9 : arg9.IsWhole) (h : (i 0).val % 26 = 0 ∧ (i 0).val < 52)
    (X8 : Buf (Elt F) (slabM.view.loc (c : Thread nD τ))) (fh : Buf (Elt F) (xM.view.loc (c : Thread nD τ))) (W : Waits sig Unit) :
    (iprop(hbPt c slabM X8 ∗ semVal ((c : Thread nD τ), SemLoc.dma 12) 0 ∗ hbPt c xM fh ∗ owes (c : Thread nD τ) 0 W) : sProp 𝕄G)
      ⊢ wp frame (wpE (defs₀ (F := F)) Variants.none (c : Thread nD τ) none) Set.univ (copyProg (F := F) i xM (Memref.isWhole_whole _) arg2 harg2 arg3 harg3 arg4 harg4 arg5 harg5 arg6 harg6 arg7 harg7 slabM (Memref.isWhole_whole _) arg9 harg9 cc0_scratch2)
          (fun _ => iprop((∃ f8, hbPt c slabM f8 ∗ ⌜slabM.view.read (Elt F) f8 = slab (xM.view.read (Elt F) fh) ((i 0).val / 26)⌝)
            ∗ semVal ((c : Thread nD τ), SemLoc.dma 12) 0 ∗ hbPt c xM fh ∗ ∃ W', owes (c : Thread nD τ) 0 W')) := by
  have h1 := (cond2_iff i).2 h
  unfold copyProg
  iintro ⟨H8, Hq, Hh, HW⟩
  simp only [h1, ↓reduceDIte]
  sl_exec
  sl_step
  isplitl [H8]
  · iexists _
    isplitl [H8]; · iassumption
    ipureintro
    refine (View.read_write_univ (v := slabM.view) _ _).trans ?_
    unfold copy_run.sl.dma0
    funext y
    have hi : (i 0).val / 26 ≤ 1 := by have := h.2; omega
    refine congrArg (View.read (Elt F) (View.whole main_arg0) fh) (a₁ := (Rect.unit (s := S2x2048x14848) (k0_off1 i) ![2, 1024, 14848] _).emb y) ?_
    funext a
    apply Fin.ext
    refine (show _ = k0_off1 i a + (y a).val from by simp [Rect.emb_apply]).trans ?_
    rw [off1_eq]
    match a with
    | ⟨0, _⟩ => exact Nat.zero_add _
    | ⟨1, _⟩ => exact (Nat.mod_eq_of_lt (show 1024 * ((i 0).val / 26) + (y 1).val < 2048 by have : (y 1).val < 1024 := (y 1).isLt; omega)).symm
    | ⟨2, _⟩ => exact Nat.zero_add _
  isplitl [Hq]; · iexact Hq
  isplitl [Hh]; · iexact Hh
  iexists _; iexact HW

end Cert.Proof.GateUp.Kernel

end
-- ==== Proof.KernelRun.lean ====
/-
  One step of the pipeline: what it leaves in the row slab, the accumulator and the output block.
-/
module

public import proofs.«01_k».proof.Proof.KernelBody

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The cells of given contents. -/
def cut (Y : Vec F S2x2x1024x512 .f32) : Cells F := fun b g c q j =>
  Y (i4 ⟨b % 2, Nat.mod_lt _ (by decide)⟩ ⟨g % 2, Nat.mod_lt _ (by decide)⟩ ⟨(256 * c + (j 0).val) % 1024, Nat.mod_lt _ (by decide)⟩
    ⟨(256 * q + (j 1).val) % 512, Nat.mod_lt _ (by decide)⟩)

theorem asm_cut (Y : Vec F S2x2x1024x512 .f32) : asm (cut Y) = Y := by
  funext i
  refine congrArg Y (funext fun a => Fin.ext ?_)
  have h0 : (i 0).val < 2 := (i 0).isLt
  have h1 : (i 1).val < 2 := (i 1).isLt
  have h2 : (i 2).val < 1024 := (i 2).isLt
  have h3 : (i 3).val < 512 := (i 3).isLt
  match a with
  | ⟨0, _⟩ => exact Nat.mod_eq_of_lt h0
  | ⟨1, _⟩ => exact Nat.mod_eq_of_lt h1
  | ⟨2, _⟩ => exact (show (256 * ((i 2).val / 256) + (i 2).val % 256) % 1024 = (i 2).val by omega)
  | ⟨3, _⟩ => exact (show (256 * ((i 3).val / 256) + (i 3).val % 256) % 512 = (i 3).val by omega)

/-- The accumulator's cells after a step, from its seven products: nothing of what it held before is left. -/
def fin (X : Vec F S2x1024x14848 .i8) (Wg Wu : Vec F S7424x512 .i8) : Cells F := fun b g c q =>
  if b = 0 then
    if g = 0 then addf (subf (addf (val X Wg Wu 0 q c) (val X Wg Wu 2 q c)) (val X Wg Wu 3 q c)) (val X Wg Wu 4 q c)
    else addf (val X Wg Wu 1 q c) (val X Wg Wu 3 q c)
  else
    if g = 0 then addf (val X Wg Wu 2 q c) (val X Wg Wu 5 q c)
    else addf (subf (addf (val X Wg Wu 0 q c) (val X Wg Wu 1 q c)) (val X Wg Wu 5 q c)) (val X Wg Wu 6 q c)

theorem stages (V0 V1 V2 V3 V4 V5 V6 : ℕ → ℕ → Blk F) (A : Cells F) (b g c q : ℕ) (hb : b < 2) (hg : g < 2) (hc : c < 4) (hq : q < 2) :
    stage6 V6 (stage5 V5 (stage4 V4 (stage3 V3 (stage2 V2 (stage1 V1 (stage0 V0 A)))))) b g c q =
      if b = 0 then
        if g = 0 then addf (subf (addf (V0 q c) (V2 q c)) (V3 q c)) (V4 q c) else addf (V1 q c) (V3 q c)
      else
        if g = 0 then addf (V2 q c) (V5 q c) else addf (subf (addf (V0 q c) (V1 q c)) (V5 q c)) (V6 q c) := by
  obtain ⟨b', rfl⟩ : ∃ b' : Fin 2, b = b'.val := ⟨⟨b, hb⟩, rfl⟩
  obtain ⟨g', rfl⟩ : ∃ g' : Fin 2, g = g'.val := ⟨⟨g, hg⟩, rfl⟩
  obtain ⟨c', rfl⟩ : ∃ c' : Fin 4, c = c'.val := ⟨⟨c, hc⟩, rfl⟩
  obtain ⟨q', rfl⟩ : ∃ q' : Fin 2, q = q'.val := ⟨⟨q, hq⟩, rfl⟩
  fin_cases b' <;> fin_cases g' <;> fin_cases c' <;> fin_cases q' <;> rfl

theorem asm_total (X : Vec F S2x1024x14848 .i8) (Wg Wu : Vec F S7424x512 .i8) (A : Cells F) : asm (total X Wg Wu A) = asm (fin X Wg Wu) := by
  funext i
  have h0 : (i 0).val < 2 := (i 0).isLt
  have h1 : (i 1).val < 2 := (i 1).isLt
  have h2 : (i 2).val < 1024 := (i 2).isLt
  have h3 : (i 3).val < 512 := (i 3).isLt
  unfold asm total fin
  rw [stages _ _ _ _ _ _ _ A _ _ _ _ h0 h1 (by omega) (by omega)]

theorem zero_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 0) : zeroProg (F := F) i arg1 harg1 arg2 harg2 arg3 harg3 arg4 harg4 arg5 harg5 arg6 harg6 arg7 harg7 arg8 harg8 arg9 harg9 arg10 = pure ⟨⟩ := by
  have h1 := mt (cond1_iff i).1 h
  unfold zeroProg
  simp only [h1, not_false_eq_true, ↓reduceDIte]

theorem copy_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : ¬((i 0).val % 26 = 0 ∧ (i 0).val < 52)) : copyProg (F := F) i arg1 harg1 arg2 harg2 arg3 harg3 arg4 harg4 arg5 harg5 arg6 harg6 arg7 harg7 arg8 harg8 arg9 harg9 arg10 = pure ⟨⟩ := by
  have h1 := mt (cond2_iff i).1 h
  unfold copyProg
  simp only [h1, not_false_eq_true, ↓reduceDIte]

theorem drain_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 52) : drainProg (F := F) i arg1 harg1 arg2 harg2 arg3 harg3 arg4 harg4 arg5 harg5 arg6 harg6 arg7 harg7 arg8 harg8 arg9 harg9 arg10 = pure ⟨⟩ := by
  have h1 := mt (cond4_iff i).1 h
  unfold drainProg
  simp only [h1, not_false_eq_true, ↓reduceDIte]

/-- One part of a program run beside what it does not touch. -/
theorem step_bind {α β : Type} (c : Dev nD) (p : Prog (TpuEff nD τ sig (Elt F) Λ₀ .tc) α) (k : α → Prog (TpuEff nD τ sig (Elt F) Λ₀ .tc) β)
    (P R : sProp 𝕄G) (Q1 : α → sProp 𝕄G) (Q : β → sProp 𝕄G) (h1 : P ⊢ wp frame (wpE (defs₀ (F := F)) Variants.none (c : Thread nD τ) none) Set.univ p Q1)
    (h2 : ∀ x, iprop(Q1 x ∗ R) ⊢ wp frame (wpE (defs₀ (F := F)) Variants.none (c : Thread nD τ) none) Set.univ (k x) Q) : iprop(P ∗ R) ⊢ wp frame (wpE (defs₀ (F := F)) Variants.none (c : Thread nD τ) none) Set.univ (p >>= k) Q := by
  rw [wp_bind]
  exact ((sep_mono_left h1).trans (wp_frame_r frame (wpE (defs₀ (F := F)) Variants.none (c : Thread nD τ) none) Set.univ)).trans
    (wp_mono frame (wpE (defs₀ (F := F)) Variants.none (c : Thread nD τ) none) Set.univ h2)

/-- The step after its first two parts. -/
theorem tail_run (c : Dev nD) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (hi : (i 0).val ≤ 52) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) : sProp 𝕄G)
      ⊢ wp frame (wpE (defs₀ (F := F)) Variants.none (c : Thread nD τ) none) Set.univ (do
          let s ← if h : k0_cond3 i = 1#1 then mainProg (F := F) i arg1 harg1 arg2 harg2 arg3 harg3 arg4 harg4 arg5 harg5 arg6 harg6 arg7 harg7 arg8 harg8 arg9 harg9 arg10 Mxu.init h else pure Mxu.init
          drainProg (F := F) i arg1 harg1 arg2 harg2 arg3 harg3 arg4 harg4 arg5 harg5 arg6 harg6 arg7 harg7 arg8 harg8 arg9 harg9 arg10
          s.exit
          pure ⟨⟩ : Prog (TpuEff nD τ sig (Elt F) Λ₀ .tc) PUnit)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
            ∗ (∃ f7, (arg7.view.loc (c : Thread nD τ) ↦[arg7.view.set]{fullShare} f7) ∗ ⌜∀ y, arg7.view.read (Elt F) f7 y = epi (arg2.view.read (Elt F) X2) (arg9.view.read (Elt F) X9) (arg5.view.read (Elt F) X5) (arg6.view.read (Elt F) X6) y⌝) ∗ (arg8.view.loc (c : Thread nD τ) ↦[arg8.view.set]{fullShare} X8)
            ∗ (∃ f9, (arg9.view.loc (c : Thread nD τ) ↦[arg9.view.set]{fullShare} f9) ∗ ⌜(i 0).val < 52 → arg9.view.read (Elt F) f9 = asm (fin (arg8.view.read (Elt F) X8) (arg3.view.read (Elt F) X3) (arg4.view.read (Elt F) X4))⌝))) := by
  by_cases h : (i 0).val < 52
  · have h3 := (cond3_iff i).2 h
    simp only [h3, ↓reduceDIte, drain_eq _ _ _ _ _ _ _ _ _ _ _ _ _ _ _ _ _ _ _ _ (show (i 0).val ≠ 52 by omega), pure_bind]
    rw [wp_bind]
    refine (main Variants.none c none Set.univ i arg1 harg1 arg2 harg2 arg3 harg3 arg4 harg4 arg5 harg5 arg6 harg6 arg7 harg7 arg8 harg8 arg9 harg9 arg10 h3 X2 X3 X4 X5 X6 X7 X8 X9 (cut (arg9.view.read (Elt F) X9)) (asm_cut _).symm).trans
      (wp_mono frame (wpE (defs₀ (F := F)) Variants.none (c : Thread nD τ) none) Set.univ fun u => ?_)
    unfold mainPost
    iintro ⟨%hd, H2, H3, H4, H5, H6, H8, ⟨%f7, H7, %h7⟩, ⟨%f9, H9, %h9⟩⟩
    iapply (Mxu.wp_exit hd)
    sl_step
    isplitl [H2]; · iassumption
    isplitl [H3]; · iassumption
    isplitl [H4]; · iassumption
    isplitl [H5]; · iassumption
    isplitl [H6]; · iassumption
    isplitl [H7]
    · iexists f7
      isplitl [H7]; · iassumption
      ipureintro; exact h7
    isplitl [H8]; · iassumption
    iexists f9
    isplitl [H9]; · iassumption
    ipureintro
    exact fun _ => h9.trans (asm_total _ _ _ _)
  · have h3 := mt (cond3_iff i).1 h
    simp only [h3, not_false_eq_true, ↓reduceDIte, pure_bind]
    iintro ⟨H2, H3, H4, H5, H6, H7, H8, H9⟩
    iapply (step_bind c _ _ _ iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) _ _
      (drain_run Variants.none c none Set.univ i arg1 harg1 arg2 harg2 arg3 harg3 arg4 harg4 arg5 harg5 arg6 harg6 arg7 harg7 arg8 harg8 arg9 harg9 arg10 (by omega) X2 X5 X6 X7 X9) (fun _ => ?_))
    · iintro ⟨⟨H2, H5, H6, H9, ⟨%f7, H7, %h7⟩⟩, H3, H4, H8⟩
      iapply (Mxu.wp_exit (show (Mxu.init : Mxu F).Drained by rw [init_mk]; exact drained_mk (F := F) _ _))
      sl_step
      isplitl [H2]; · iassumption
      isplitl [H3]; · iassumption
      isplitl [H4]; · iassumption
      isplitl [H5]; · iassumption
      isplitl [H6]; · iassumption
      isplitl [H7]
      · iexists f7
        isplitl [H7]; · iassumption
        ipureintro; exact h7
      isplitl [H8]; · iassumption
      iexists X9
      isplitl [H9]; · iassumption
      ipureintro
      exact fun h' => absurd h' h
    isplitl [H2 H5 H6 H7 H9]
    · isplitl [H2]; · iassumption
      isplitl [H5]; · iassumption
      isplitl [H6]; · iassumption
      isplitl [H7]; · iassumption
      iassumption
    isplitl [H3]; · iassumption
    isplitl [H4]; · iassumption
    iassumption

theorem zero_any (c : Dev nD) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (X9 : BufTy.Contents (Elt F) arg9.view.ty) (Y9 : Vec F S2x2x1024x512 .f32)
    (h9 : if (i 0).val = 0 then Y9 = k0_pay1 else arg9.view.read (Elt F) X9 = Y9) :
    ((arg9.view.loc (c : Thread nD τ) ↦[arg9.view.set]{fullShare} X9) : sProp 𝕄G) ⊢ wp frame (wpE (defs₀ (F := F)) Variants.none (c : Thread nD τ) none) Set.univ (zeroProg (F := F) i arg1 harg1 arg2 harg2 arg3 harg3 arg4 harg4 arg5 harg5 arg6 harg6 arg7 harg7 arg8 harg8 arg9 harg9 arg10)
      (fun _ => iprop(∃ f9, (arg9.view.loc (c : Thread nD τ) ↦[arg9.view.set]{fullShare} f9) ∗ ⌜arg9.view.read (Elt F) f9 = Y9⌝)) := by
  by_cases h : (i 0).val = 0
  · rw [if_pos h] at h9
    subst h9
    exact zero_run Variants.none c none Set.univ i arg1 harg1 arg2 harg2 arg3 harg3 arg4 harg4 arg5 harg5 arg6 harg6 arg7 harg7 arg8 harg8 arg9 harg9 arg10 h X9
  · rw [if_neg h] at h9
    rw [zero_eq _ _ _ _ _ _ _ _ _ _ _ _ _ _ _ _ _ _ _ _ h]
    iintro H9
    sl_step
    iexists X9
    isplitl [H9]; · iassumption
    ipureintro; exact h9

/-- A whole buffer owned, in the two spellings. -/
theorem hb_set (c : Dev nD) (r : Ref sig .tc) (f : Buf (Elt F) ((Memref.whole r).view.loc (c : Thread nD τ))) :
    (hbPt c (Memref.whole r) f : sProp 𝕄G) = ((Memref.whole r).view.loc (c : Thread nD τ) ↦[(Memref.whole r).view.set]{fullShare} f) := by
  unfold hbPt
  simp only [Memref.view_whole, View.set_whole]

theorem hb_to (c : Dev nD) (r : Ref sig .tc) (f : Buf (Elt F) ((Memref.whole r).view.loc (c : Thread nD τ))) :
    (hbPt c (Memref.whole r) f : sProp 𝕄G) ⊢ ((Memref.whole r).view.loc (c : Thread nD τ) ↦[(Memref.whole r).view.set]{fullShare} f) := by
  rw [hb_set]

theorem hb_from (c : Dev nD) (r : Ref sig .tc) (f : Buf (Elt F) ((Memref.whole r).view.loc (c : Thread nD τ))) :
    ((Memref.whole r).view.loc (c : Thread nD τ) ↦[(Memref.whole r).view.set]{fullShare} f : sProp 𝕄G) ⊢ hbPt c (Memref.whole r) f := by
  rw [hb_set]

theorem copy_any (c : Dev nD) (i : grid0.Coords) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (hi : (i 0).val ≤ 52)
    (X8 : Buf (Elt F) (slabM.view.loc (c : Thread nD τ))) (fh : Buf (Elt F) (xM.view.loc (c : Thread nD τ))) (W : Waits sig Unit)
    (h8 : (i 0).val % 26 ≠ 0 → (i 0).val < 52 → slabM.view.read (Elt F) X8 = slab (xM.view.read (Elt F) fh) ((i 0).val / 26)) :
    (iprop(hbPt c slabM X8 ∗ semVal ((c : Thread nD τ), SemLoc.dma 12) 0 ∗ hbPt c xM fh ∗ owes (c : Thread nD τ) 0 W) : sProp 𝕄G)
      ⊢ wp frame (wpE (defs₀ (F := F)) Variants.none (c : Thread nD τ) none) Set.univ (copyProg (F := F) i xM (Memref.isWhole_whole _) arg2 harg2 arg3 harg3 arg4 harg4 arg5 harg5 arg6 harg6 arg7 harg7 slabM (Memref.isWhole_whole _) accM (Memref.isWhole_whole _) cc0_scratch2)
          (fun _ => iprop((∃ f8, hbPt c slabM f8 ∗ ⌜(i 0).val < 52 → slabM.view.read (Elt F) f8 = slab (xM.view.read (Elt F) fh) ((i 0).val / 26)⌝)
            ∗ semVal ((c : Thread nD τ), SemLoc.dma 12) 0 ∗ hbPt c xM fh ∗ ∃ W', owes (c : Thread nD τ) 0 W')) := by
  by_cases h : (i 0).val % 26 = 0 ∧ (i 0).val < 52
  · refine (copy_run c i arg2 harg2 arg3 harg3 arg4 harg4 arg5 harg5 arg6 harg6 arg7 harg7 accM (Memref.isWhole_whole _) h X8 fh W).trans
      (wp_mono frame (wpE (defs₀ (F := F)) Variants.none (c : Thread nD τ) none) Set.univ fun _ => ?_)
    iintro ⟨⟨%f8, H8, %h8'⟩, Hq, Hh, HW⟩
    isplitl [H8]
    · iexists f8
      isplitl [H8]; · iassumption
      ipureintro; exact fun _ => h8'
    isplitl [Hq]; · iassumption
    isplitl [Hh]; · iassumption
    iassumption
  · rw [copy_eq _ _ _ _ _ _ _ _ _ _ _ _ _ _ _ _ _ _ _ _ h]
    iintro ⟨H8, Hq, Hh, HW⟩
    sl_step
    isplitl [H8]
    · iexists X8
      isplitl [H8]; · iassumption
      ipureintro; exact fun h' => h8 (fun h0 => h ⟨h0, h'⟩) h'
    isplitl [Hq]; · iassumption
    isplitl [Hh]; · iassumption
    iexists W; iassumption

/-- One step of the pipeline. -/
theorem kernel_run (c : Dev nD) (i : grid0.Coords) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : (i 0).val ≤ 52)
    (X8 : Buf (Elt F) (slabM.view.loc (c : Thread nD τ))) (X9 : Buf (Elt F) (accM.view.loc (c : Thread nD τ)))
    (fh : Buf (Elt F) (xM.view.loc (c : Thread nD τ))) (W : Waits sig Unit) (Y9 : Vec F S2x2x1024x512 .f32)
    (h8 : (i 0).val % 26 ≠ 0 → (i 0).val < 52 → slabM.view.read (Elt F) X8 = slab (xM.view.read (Elt F) fh) ((i 0).val / 26))
    (h9 : if (i 0).val = 0 then Y9 = k0_pay1 else accM.view.read (Elt F) X9 = Y9) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ hbPt c slabM X8 ∗ hbPt c accM X9
        ∗ semVal ((c : Thread nD τ), SemLoc.dma 12) 0 ∗ hbPt c xM fh ∗ owes (c : Thread nD τ) 0 W) : sProp 𝕄G)
      ⊢ wp frame (wpE (defs₀ (F := F)) Variants.none (c : Thread nD τ) none) Set.univ (cc0_gate_up (F := F) i xM (Memref.isWhole_whole _) arg2 harg2 arg3 harg3 arg4 harg4 arg5 harg5 arg6 harg6 arg7 harg7 slabM (Memref.isWhole_whole _) accM (Memref.isWhole_whole _) cc0_scratch2)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7, (arg7.view.loc (c : Thread nD τ) ↦[arg7.view.set]{fullShare} f7) ∗ ⌜∀ y, arg7.view.read (Elt F) f7 y = epi (arg2.view.read (Elt F) X2) Y9 (arg5.view.read (Elt F) X5) (arg6.view.read (Elt F) X6) y⌝)
            ∗ (∃ f8, hbPt c slabM f8 ∗ ⌜(i 0).val < 52 → slabM.view.read (Elt F) f8 = slab (xM.view.read (Elt F) fh) ((i 0).val / 26)⌝)
            ∗ (∃ f9, hbPt c accM f9 ∗ ⌜(i 0).val < 52 → accM.view.read (Elt F) f9 = asm (fin (slab (xM.view.read (Elt F) fh) ((i 0).val / 26)) (arg3.view.read (Elt F) X3) (arg4.view.read (Elt F) X4))⌝)
            ∗ semVal ((c : Thread nD τ), SemLoc.dma 12) 0 ∗ hbPt c xM fh ∗ ∃ W', owes (c : Thread nD τ) 0 W')) := by
  rw [cc0_gate_up_eq_skeleton, skel_eq]
  iintro ⟨H2, H3, H4, H5, H6, H7, H8, H9, Hq, Hh, HW⟩
  iapply (step_bind c _ _ _ iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ hbPt c slabM X8
      ∗ semVal ((c : Thread nD τ), SemLoc.dma 12) 0 ∗ hbPt c xM fh ∗ owes (c : Thread nD τ) 0 W) _ _
    (zero_any c i xM (Memref.isWhole_whole _) arg2 harg2 arg3 harg3 arg4 harg4 arg5 harg5 arg6 harg6 arg7 harg7 slabM (Memref.isWhole_whole _) accM (Memref.isWhole_whole _) cc0_scratch2 X9 Y9 h9) (fun _ => ?_))
  · iintro ⟨⟨%g9, H9, %hg9⟩, H2, H3, H4, H5, H6, H7, H8, Hq, Hh, HW⟩
    iapply (step_bind c _ _ _ iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (accM.view.loc (c : Thread nD τ) ↦[accM.view.set]{fullShare} g9)) _ _
      (copy_any c i arg2 harg2 arg3 harg3 arg4 harg4 arg5 harg5 arg6 harg6 arg7 harg7 hi X8 fh W h8) (fun _ => ?_))
    · iintro ⟨⟨⟨%g8, H8, %hg8⟩, Hq, Hh, HW⟩, H2, H3, H4, H5, H6, H7, H9⟩
      iapply (wp_wand_r frame (wpE (defs₀ (F := F)) Variants.none (c : Thread nD τ) none) Set.univ)
      isplitl [H2 H3 H4 H5 H6 H7 H8 H9]
      · iapply (tail_run c i xM (Memref.isWhole_whole _) arg2 harg2 arg3 harg3 arg4 harg4 arg5 harg5 arg6 harg6 arg7 harg7 slabM (Memref.isWhole_whole _) accM (Memref.isWhole_whole _) cc0_scratch2 X2 X3 X4 X5 X6 X7 g8 g9 hi)
        isplitl [H2]; · iassumption
        isplitl [H3]; · iassumption
        isplitl [H4]; · iassumption
        isplitl [H5]; · iassumption
        isplitl [H6]; · iassumption
        isplitl [H7]; · iassumption
        isplitl [H8]; · iapply (hb_to c cc0_scratch0 g8); iassumption
        iassumption
      iintro %_ ⟨H2, H3, H4, H5, H6, ⟨%f7, H7, %h7⟩, H8, ⟨%f9, H9, %hf9⟩⟩
      isplitl [H2]; · iassumption
      isplitl [H3]; · iassumption
      isplitl [H4]; · iassumption
      isplitl [H5]; · iassumption
      isplitl [H6]; · iassumption
      isplitl [H7]
      · iexists f7
        isplitl [H7]; · iassumption
        ipureintro
        rw [hg9] at h7
        exact h7
      isplitl [H8]
      · iexists g8
        isplitl [H8]; · iapply (hb_from c cc0_scratch0 g8); iassumption
        ipureintro; exact hg8
      isplitl [H9]
      · iexists f9
        isplitl [H9]; · iapply (hb_from c cc0_scratch1 f9); iassumption
        ipureintro
        intro h
        rw [hf9 h, hg8 h]
      isplitl [Hq]; · iassumption
      isplitl [Hh]; · iassumption
      iassumption
    isplitl [H8 Hq Hh HW]
    · isplitl [H8]; · iassumption
      isplitl [Hq]; · iassumption
      isplitl [Hh]; · iassumption
      iassumption
    isplitl [H2]; · iassumption
    isplitl [H3]; · iassumption
    isplitl [H4]; · iassumption
    isplitl [H5]; · iassumption
    isplitl [H6]; · iassumption
    isplitl [H7]; · iassumption
    iassumption
  isplitl [H9]
  · iapply (hb_to c cc0_scratch1 X9); iassumption
  isplitl [H2]; · iassumption
  isplitl [H3]; · iassumption
  isplitl [H4]; · iassumption
  isplitl [H5]; · iassumption
  isplitl [H6]; · iassumption
  isplitl [H7]; · iassumption
  isplitl [H8]; · iassumption
  isplitl [Hq]; · iassumption
  isplitl [Hh]; · iassumption
  iassumption

end Cert.Proof.GateUp.Kernel

end
-- ==== Proof.KernelFrame.lean ====
/-
  The whole pipeline: what holds between its steps, what each leaves, and that the program runs and keeps its arguments.
-/
module

public import proofs.«01_k».proof.Proof.Gen.Kernel.Frame
public import proofs.«01_k».proof.Proof.KernelRun
public import Idealize.ShloMosaic.Lib.Pipeline.Frame
public import Idealize.ShloMosaic.Lib.Transfers

@[expose] public section

set_option maxRecDepth 16384
set_option maxHeartbeats 4000000

noncomputable section

namespace Cert.Proof.GateUp.Kernel

open Cert.Kernel Cert.Kernel.Gen Cert.Proof.Unit
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)

/-! ## The operands left outside the pipeline -/

/-- The one transfer semaphore the program waits on itself. -/
abbrev osem0 : Fin 1 → SemLoc sig := fun j => (![SemLoc.dma 12] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄G)
      = semVal ((c : Thread nD τ), SemLoc.dma 12) 0 := by
  rw [Pipeline.ownSems0_eq_of_list c osem0 [0] (by decide) (by decide)]; rfl
/-- The activation codes, read by the program's own transfers. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄G) = hbPt c xM (V m c main_arg0) := by
  rw [BI.bigSep_eq_bigSepL_of_eq [main_arg0] (by decide) (by decide)]; rfl

/-! ## What each step finds and leaves -/

theorem N_eq : cfg0.N = 53 := by decide +kernel

/-- Step number `n`. -/
def pt (n : ℕ) : Fin cfg0.N := ⟨n % 53, by rw [N_eq]; exact Nat.mod_lt _ (by decide)⟩
theorem pt_val (t : Fin cfg0.N) : pt t.val = t := Fin.ext (Nat.mod_eq_of_lt (Nat.lt_of_lt_of_eq t.isLt N_eq))
theorem coord_val : ∀ t : Fin cfg0.N, (grid0.coords t 0).val = t.val := by decide +kernel

/-- The activation codes. -/
def codes (c : Dev nD) : Vec F S2x2048x14848 .i8 := xM.view.read (Elt F) (V m c main_arg0)
/-- The blocks a step is given. -/
def xsB (c : Dev nD) (t : Fin cfg0.N) : Vec F S2x1024x1 .f32 := iblk m c 0 t
def wgB (c : Dev nD) (t : Fin cfg0.N) : Vec F S7424x512 .i8 := iblk m c 1 t
def wuB (c : Dev nD) (t : Fin cfg0.N) : Vec F S7424x512 .i8 := iblk m c 2 t
def gsB (c : Dev nD) (t : Fin cfg0.N) : Vec F S1x512 .f32 := iblk m c 3 t
def usB (c : Dev nD) (t : Fin cfg0.N) : Vec F S1x512 .f32 := iblk m c 4 t

/-- The accumulator after step `n`. -/
def acc (c : Dev nD) (n : ℕ) : Vec F S2x2x1024x512 .f32 :=
  asm (fin (slab (codes m c) (n / 26)) (wgB m c (pt n)) (wuB m c (pt n)))

/-- The accumulator a step's epilogue reads. -/
def prevAcc (c : Dev nD) (n : ℕ) : Vec F S2x2x1024x512 .f32 := if n = 0 then k0_pay1 else acc m c (n - 1)

/-- The output block after step `t`. -/
def outB (c : Dev nD) (t : Fin cfg0.N) : Vec F S2x1024x512 .bf16 :=
  epi (xsB m c t) (prevAcc m c t.val) (gsB m c t) (usB m c t)

/-- What holds between the steps. -/
def Inv (c : Dev nD) (n : ℕ) : sProp 𝕄G :=
  iprop((∃ f8, hbPt c slabM f8 ∗ ⌜0 < n ∧ n ≤ 52 → slabM.view.read (Elt F) f8 = slab (codes m c) ((n - 1) / 26)⌝)
    ∗ (∃ f9, hbPt c accM f9 ∗ ⌜0 < n ∧ n ≤ 52 → accM.view.read (Elt F) f9 = acc m c (n - 1)⌝)
    ∗ (∃ r, prngReg c r) ∗ semVal ((c : Thread nD τ), SemLoc.dma 12) 0 ∗ hbPt c xM (V m c main_arg0))

theorem PhiD0_eq (c : Dev nD) :
    (Pipeline.ΦD osem0 spec0 H0 (V m) c : sProp 𝕄G)
      = iprop(((∃ f8, hbPt c slabM f8) ∗ (∃ f9, hbPt c accM f9)) ∗ (∃ r, prngReg c r)
          ∗ semVal ((c : Thread nD τ), SemLoc.dma 12) 0 ∗ hbPt c xM (V m c main_arg0)) := by
  rw [Pipeline.ΦD_eq, scopedRest0_eq, ownSems00_eq, hbmPts0_eq]

theorem inv_in (c : Dev nD) : (Pipeline.ΦD osem0 spec0 H0 (V m) c : sProp 𝕄G) ⊢ Inv m c 0 := by
  rw [PhiD0_eq]
  unfold Inv
  iintro ⟨⟨⟨%f8, H8⟩, ⟨%f9, H9⟩⟩, Hr, Hq, Hh⟩
  isplitl [H8]
  · iexists f8
    isplitl [H8]; · iassumption
    ipureintro; exact fun h => absurd h.1 (Nat.lt_irrefl 0)
  isplitl [H9]
  · iexists f9
    isplitl [H9]; · iassumption
    ipureintro; exact fun h => absurd h.1 (Nat.lt_irrefl 0)
  isplitl [Hr]; · iassumption
  isplitl [Hq]; · iassumption
  iassumption

theorem inv_out (c : Dev nD) (n : ℕ) : Inv m c n ⊢ (Pipeline.ΦD osem0 spec0 H0 (V m) c : sProp 𝕄G) := by
  rw [PhiD0_eq]
  unfold Inv
  iintro ⟨⟨%f8, H8, %h8⟩, ⟨%f9, H9, %h9⟩, Hr, Hq, Hh⟩
  isplitl [H8 H9]
  · isplitl [H8]
    · iexists f8; iassumption
    iexists f9; iassumption
  isplitl [Hr]; · iassumption
  isplitl [Hq]; · iassumption
  iassumption

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ t := Inv m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none (c : Thread nD τ) none) Set.univ (bodyAt0 t) (fun _ => bodyPost m c t) := by
  have htN : t.val < 53 := Nat.lt_of_lt_of_eq t.isLt N_eq
  have hi : (grid0.coords t 0).val = t.val := coord_val t
  unfold bodyPre bodyPost bodyAt0
  simp only [before0_0, before0_1, before0_2, before0_3, before0_4]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after0_0, after0_1, after0_2, after0_3, after0_4, after0_5]
  unfold Dat.owesAt Pipeline.owesWithin
  rw [show (dats m 0 c).owed t.castSucc = 0 from rfl]
  unfold Inv owns
  iintro ⟨⟨⟨%X8, H8, %h8⟩, ⟨%X9, H9, %h9⟩, Hr, Hq, Hh⟩, ⟨%W, %hW, HO⟩, ⟨%d2, %X2, %hx2, H2⟩, ⟨%d3, %X3, %hx3, H3⟩, ⟨%d4, %X4, %hx4, H4⟩, ⟨%d5, %X5, %hx5, H5⟩, ⟨%d6, %X6, %hx6, H6⟩, ⟨%d7, %X7, %hx7, H7⟩⟩
  iapply (wp_wand_r frame (wpE (defs₀ (F := F)) Variants.none (c : Thread nD τ) none) Set.univ)
  isplitl [H2 H3 H4 H5 H6 H7 H8 H9 Hq Hh HO]
  · iapply (kernel_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) X2 X3 X4 X5 X6 X7 (by rw [hi]; omega) X8 X9 (V m c main_arg0) W (prevAcc m c t.val)
      (fun h1 h2 => (h8 (by rw [hi] at h1 h2; omega)).trans (congrArg (slab (codes m c)) (by rw [hi] at h1 h2 ⊢; omega)))
      (by
        rw [hi]
        unfold prevAcc
        by_cases h0 : t.val = 0
        · rw [if_pos h0, if_pos h0]
        · rw [if_neg h0, if_neg h0]; exact h9 (by omega)))
    isplitl [H2]; · iassumption
    isplitl [H3]; · iassumption
    isplitl [H4]; · iassumption
    isplitl [H5]; · iassumption
    isplitl [H6]; · iassumption
    isplitl [H7]; · iassumption
    isplitl [H8]; · iassumption
    isplitl [H9]; · iassumption
    isplitl [Hq]; · iassumption
    isplitl [Hh]; · iassumption
    iassumption
  iintro %_ ⟨H2, H3, H4, H5, H6, ⟨%f7, H7, %h7⟩, ⟨%f8, H8, %h8'⟩, ⟨%f9, H9, %h9'⟩, Hq, Hh, ⟨%W', HO⟩⟩
  isplitl [H8 H9 Hr Hq Hh]
  · isplitl [H8]
    · iexists f8
      isplitl [H8]; · iassumption
      ipureintro
      exact fun h => (h8' (by rw [hi]; omega)).trans (congrArg (slab (codes m c)) (by rw [hi]; rfl))
    isplitl [H9]
    · iexists f9
      isplitl [H9]; · iassumption
      ipureintro
      intro h
      refine (h9' (by rw [hi]; omega)).trans ?_
      rw [hx3, hx4, hi]
      show _ = asm (fin (slab (codes m c) (t.val / 26)) (wgB m c (pt t.val)) (wuB m c (pt t.val)))
      rw [pt_val]
      rfl
    isplitl [Hr]; · iassumption
    isplitl [Hq]; · iassumption
    iassumption
  isplitl [HO]
  · iexists W'
    isplitr
    · ipureintro; exact fun _ _ => Or.inl trivial
    iassumption
  isplitl [H2]
  · iexists X2
    isplitr
    · ipureintro; exact hx2
    iassumption
  isplitl [H3]
  · iexists X3
    isplitr
    · ipureintro; exact hx3
    iassumption
  isplitl [H4]
  · iexists X4
    isplitr
    · ipureintro; exact hx4
    iassumption
  isplitl [H5]
  · iexists X5
    isplitr
    · ipureintro; exact hx5
    iassumption
  isplitl [H6]
  · iexists X6
    isplitr
    · ipureintro; exact hx6
    iassumption
  iexists f7
  isplitr
  · ipureintro
    funext y
    refine (h7 y).trans ?_
    rw [hx2, hx5, hx6]
    rfl
  iassumption

theorem defs₀_row (t : Fin cfg0.N) : defs₀ (F := F) .tc cfg0.body (cfg0.bodyArgs t (cfg0.slots t)) = bodyAt0 t := by
  unfold defs₀; rw [Defs.onTc_tc]

/-- Every step writes the output block. -/
theorem idle5 : ∀ i : grid0.Coords, idle0 5 i = false := by decide +kernel

theorem body_obligation (c : Dev nD) :
    BodyObligation (dats (F := F) m 0 c) (defs₀ (F := F)) Variants.none () Set.univ := fun t => by
  rw [bigSep_W0, bigSep_W0, defs₀_row]
  refine triple_restated (sound_body m c t) rfl .rfl fun _ => ?_
  rw [show cfg0.idle 5 (cfg0.grid.coords t) = false from idle5 _]
  exact .rfl

/-! ## The launch -/

theorem hmainD (𝒱₀ : Variants) :
    Pipeline.HMain (Ix := Unit) (Name := ℕ) (U := Pipeline.UD sig nD τ) (Lvl := ℕ) cfgs 0 defs₀ 𝒱₀ m (Cert.Kernel.main (F := F)) (V m) :=
  Pipeline.hmain_region cfgs 0 defs₀ 𝒱₀ m Cert.Kernel.main fun c => (main_chain c).trans rfl

set_option backward.isDefEq.respectTransparency.types false in
/-- Every execution ends, with each array at what the steps' blocks make of it, and every semaphore at zero. -/
theorem run_main :
    θ_run defs (onTc (τ := τ) (Cert.Kernel.main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ Cert.Kernel.main
    (hbody := fun c => (body_obligation m c).loose) (hshare := fun c => (dats m 0 c).share_full fun _ => rfl)
    (howed := fun _ _ => rfl) (V := V m) (hmain := hmainD m Variants.none) (hA := A_eq m)
    (hin := inv_in m) (hout := fun c => inv_out m c _)

/-- The program ends with its arguments unchanged and every semaphore at zero. -/
theorem frame_run : θ_run defs (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h' => ⟨fun c => have h := h'.1
     ⟨((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c))),
      ((h c).1 4).trans (((dats m 0 c).arrAt_in 4 rfl _).trans ((A_eq m c 4).trans (V_main_arg5 m c)))⟩, h'.2⟩) (run_main m ρ)

end Cert.Proof.GateUp.Kernel

end
-- ==== Proof.KernelIdealSpec.lean ====
/-
  What the products of the matrix units are made of: the left and right tiles of the seven products as functions
  of the contents of the code buffers, and the blocks of the result buffers after a number of tiles.
-/
module

public import proofs.«01_k».proof.Proof.Gen.KernelIdeal
public import proofs.«01_k».proof.Proof.Unit
public import Idealize.ShloMosaic.Lib.Pipeline.FrameBody

@[expose] public section

set_option maxRecDepth 16384

noncomputable section

namespace Cert.Proof.GateUp.KernelIdeal

open Cert.KernelIdeal Cert.KernelIdeal.Gen Idealize.ShloMosaic Idealize.ShloMosaic.TcCoe Idealize.SL.Sem
open Cert.Proof.Unit

variable {F : FTy → Type} [FloatOps F]

/-- Entry `(b, r, k)` of the activation codes, zero outside. -/
def x8 (X : Vec F S2x1024x14848 .i8) (b r k : ℕ) : Elt F .i8 :=
  if h : b < 2 ∧ r < 1024 ∧ k < 14848 then
    X (fun a => match a with | ⟨0, _⟩ => ⟨b, h.1⟩ | ⟨1, _⟩ => ⟨r, h.2.1⟩ | ⟨2, _⟩ => ⟨k, h.2.2⟩)
  else (0#8 : BitVec 8)

/-- The `256 × 256` window of the activation codes at offsets `o`. -/
def xw (X : Vec F S2x1024x14848 .i8) (o : Fin 3 → ℕ) : Vec F S1x256x256 .i8 :=
  fun i => x8 X (o 0 + (i 0).val) (o 1 + (i 1).val) (o 2 + (i 2).val)

/-- Entry `(r, j)` of a weight tile, zero outside. -/
def w8 (W : Vec F S7424x512 .i8) (r j : ℕ) : Elt F .i8 :=
  if h : r < 7424 ∧ j < 512 then W (fun a => match a with | ⟨0, _⟩ => ⟨r, h.1⟩ | ⟨1, _⟩ => ⟨j, h.2⟩) else (0#8 : BitVec 8)

/-- The `128 × 256` window of a weight tile at offsets `o`. -/
def ww (W : Vec F S7424x512 .i8) (o : Fin 2 → ℕ) : Vec F S128x256 .i8 :=
  fun i => w8 W (o 0 + (i 0).val) (o 1 + (i 1).val)

theorem readAt_xw {κ : Kind} {sp : Space} (v : View sig κ sp S2x1024x14848 .i8) (f : v.ty.Contents (Elt F)) (o : Fin 3 → ℕ)
    (inb : ∀ a, o a + S1x256x256.size a ≤ S2x1024x14848.size a) :
    v.readAt (Elt F) (Rect.unit (s := S2x1024x14848) o ![1, 256, 256] inb).toLoadRect f = xw (v.read (Elt F) f) o := by
  funext i
  have h0 := inb 0; have h1 := inb 1; have h2 := inb 2
  have e0 := (i 0).isLt; have e1 := (i 1).isLt; have e2 := (i 2).isLt
  have hb : o 0 + (i 0).val < 2 ∧ o 1 + (i 1).val < 1024 ∧ o 2 + (i 2).val < 14848 := ⟨by
    exact lt_of_lt_of_le (Nat.add_lt_add_left e0 _) h0, lt_of_lt_of_le (Nat.add_lt_add_left e1 _) h1,
    lt_of_lt_of_le (Nat.add_lt_add_left e2 _) h2⟩
  unfold xw x8
  rw [dif_pos hb, View.readAt_eq_ld]
  refine congrArg (v.read (Elt F) f) (funext fun a => Fin.ext ?_)
  match a with
  | ⟨0, _⟩ => exact congrArg (o 0 + ·) (Nat.one_mul _)
  | ⟨1, _⟩ => exact congrArg (o 1 + ·) (Nat.one_mul _)
  | ⟨2, _⟩ => exact congrArg (o 2 + ·) (Nat.one_mul _)

theorem readAt_ww {κ : Kind} {sp : Space} (v : View sig κ sp S7424x512 .i8) (f : v.ty.Contents (Elt F)) (o : Fin 2 → ℕ)
    (inb : ∀ a, o a + S128x256.size a ≤ S7424x512.size a) :
    v.readAt (Elt F) (Rect.unit (s := S7424x512) o ![128, 256] inb).toLoadRect f = ww (v.read (Elt F) f) o := by
  funext i
  have h0 := inb 0; have h1 := inb 1
  have e0 := (i 0).isLt; have e1 := (i 1).isLt
  have hb : o 0 + (i 0).val < 7424 ∧ o 1 + (i 1).val < 512 := ⟨
    lt_of_lt_of_le (Nat.add_lt_add_left e0 _) h0, lt_of_lt_of_le (Nat.add_lt_add_left e1 _) h1⟩
  unfold ww w8
  rw [dif_pos hb, View.readAt_eq_ld]
  refine congrArg (v.read (Elt F) f) (funext fun a => Fin.ext ?_)
  match a with
  | ⟨0, _⟩ => exact congrArg (o 0 + ·) (Nat.one_mul _)
  | ⟨1, _⟩ => exact congrArg (o 1 + ·) (Nat.one_mul _)

/-- The activation codes of batch `b`, half `h`, rows `256 c …`, tile `n` of the contracted axis. -/
abbrev xt (X : Vec F S2x1024x14848 .i8) (b h c n : ℕ) : Vec F S1x256x256 .i8 := xw X ![b, 256 * c, 7424 * h + 256 * n]

/-- The packed weights of half `h`, tile `n` of the contracted axis, columns `256 q …`. -/
abbrev wt (W : Vec F S7424x512 .i8) (h q n : ℕ) : Vec F S128x256 .i8 := ww W ![3712 * h + 128 * n, 256 * q]

/-- Activation codes as floats. -/
def l1 (v : Vec F S1x256x256 .i8) : FVec F S256x256 .bf16 := sitofp .bf16 (shapeCast S256x256 v shapeCasts_S1x256x256_S256x256 : IVec S256x256 8)

/-- The sum of two tiles of activation codes. -/
def lP (v w : Vec F S1x256x256 .i8) : FVec F S256x256 .bf16 := addf (l1 v) (l1 w)

/-- The difference of two tiles of activation codes. -/
def lM (v w : Vec F S1x256x256 .i8) : FVec F S256x256 .bf16 := subf (l1 v) (l1 w)

/-- The two nibbles of a packed code, each in one half of a word. -/
def nib (v : Vec F S128x256 .i8) : IVec S128x256 32 :=
  andi (ori (extui 32 v natLt_8_32 : IVec S128x256 32) (shli (extui 32 v natLt_8_32) (broadcast S128x256 12#32))) (broadcast S128x256 983055#32)

/-- The halves of words read as floats, less an offset. -/
def dec (w : IVec S128x256 32) (o : BitVec 16) : FVec F S256x256 .bf16 :=
  subf (bitcastToFloat .bf16 (bitcast S256x256 16 w bitcasts_S128x256_w32_S256x256_w16)) (broadcast S256x256 (Scalar.ofBits .bf16 o))

/-- One weight tile. -/
def r1 (v : Vec F S128x256 .i8) : FVec F S256x256 .bf16 := dec (addi (nib v) (broadcast S128x256 1124090624#32)) 0x4308#16

/-- The sum of two weight tiles. -/
def rP (v w : Vec F S128x256 .i8) : FVec F S256x256 .bf16 := dec (addi (addi (nib v) (nib w)) (broadcast S128x256 1124090624#32)) 0x4310#16

/-- The difference of two weight tiles. -/
def rM (v w : Vec F S128x256 .i8) : FVec F S256x256 .bf16 := dec (addi (subi (nib v) (nib w)) (broadcast S128x256 1125139216#32)) 0x4310#16

/-- The left tile of product 0. -/
abbrev lhs0 (X : Vec F S2x1024x14848 .i8) (c n : ℕ) : FVec F S256x256 .bf16 := lP (xt X 0 0 c n) (xt X 1 1 c n)

/-- The right tile of product 0. -/
abbrev rhs0 (Wg Wu : Vec F S7424x512 .i8) (q n : ℕ) : FVec F S256x256 .bf16 := rP (wt Wg 0 q n) (wt Wu 1 q n)

/-- The left tile of product 1. -/
abbrev lhs1 (X : Vec F S2x1024x14848 .i8) (c n : ℕ) : FVec F S256x256 .bf16 := l1 (xt X 0 0 c n)

/-- The right tile of product 1. -/
abbrev rhs1 (Wg Wu : Vec F S7424x512 .i8) (q n : ℕ) : FVec F S256x256 .bf16 := rM (wt Wu 0 q n) (wt Wu 1 q n)

/-- The left tile of product 2. -/
abbrev lhs2 (X : Vec F S2x1024x14848 .i8) (c n : ℕ) : FVec F S256x256 .bf16 := l1 (xt X 1 1 c n)

/-- The right tile of product 2. -/
abbrev rhs2 (Wg Wu : Vec F S7424x512 .i8) (q n : ℕ) : FVec F S256x256 .bf16 := rM (wt Wg 1 q n) (wt Wg 0 q n)

/-- The left tile of product 3. -/
abbrev lhs3 (X : Vec F S2x1024x14848 .i8) (c n : ℕ) : FVec F S256x256 .bf16 := lP (xt X 0 0 c n) (xt X 0 1 c n)

/-- The right tile of product 3. -/
abbrev rhs3 (Wg Wu : Vec F S7424x512 .i8) (q n : ℕ) : FVec F S256x256 .bf16 := r1 (wt Wu 1 q n)

/-- The left tile of product 4. -/
abbrev lhs4 (X : Vec F S2x1024x14848 .i8) (c n : ℕ) : FVec F S256x256 .bf16 := lM (xt X 0 1 c n) (xt X 1 1 c n)

/-- The right tile of product 4. -/
abbrev rhs4 (Wg Wu : Vec F S7424x512 .i8) (q n : ℕ) : FVec F S256x256 .bf16 := rP (wt Wg 1 q n) (wt Wu 1 q n)

/-- The left tile of product 5. -/
abbrev lhs5 (X : Vec F S2x1024x14848 .i8) (c n : ℕ) : FVec F S256x256 .bf16 := lP (xt X 1 0 c n) (xt X 1 1 c n)

/-- The right tile of product 5. -/
abbrev rhs5 (Wg Wu : Vec F S7424x512 .i8) (q n : ℕ) : FVec F S256x256 .bf16 := r1 (wt Wg 0 q n)

/-- The left tile of product 6. -/
abbrev lhs6 (X : Vec F S2x1024x14848 .i8) (c n : ℕ) : FVec F S256x256 .bf16 := lM (xt X 1 0 c n) (xt X 0 0 c n)

/-- The right tile of product 6. -/
abbrev rhs6 (Wg Wu : Vec F S7424x512 .i8) (q n : ℕ) : FVec F S256x256 .bf16 := rP (wt Wg 0 q n) (wt Wu 0 q n)

/-- The left tile of product `p`, row block `c`, tile `n` of the contracted axis. -/
def lhs (X : Vec F S2x1024x14848 .i8) : ℕ → ℕ → ℕ → FVec F S256x256 .bf16
  | 0 => lhs0 X
  | 1 => lhs1 X
  | 2 => lhs2 X
  | 3 => lhs3 X
  | 4 => lhs4 X
  | 5 => lhs5 X
  | _ => lhs6 X

/-- The right tile of product `p`, column block `q`, tile `n` of the contracted axis. -/
def rhs (Wg Wu : Vec F S7424x512 .i8) : ℕ → ℕ → ℕ → FVec F S256x256 .bf16
  | 0 => rhs0 Wg Wu
  | 1 => rhs1 Wg Wu
  | 2 => rhs2 Wg Wu
  | 3 => rhs3 Wg Wu
  | 4 => rhs4 Wg Wu
  | 5 => rhs5 Wg Wu
  | _ => rhs6 Wg Wu

/-- Block `c` of unit `q` after the first `n` tiles of product `p`. -/
def cell (X : Vec F S2x1024x14848 .i8) (Wg Wu : Vec F S7424x512 .i8) (p q c : ℕ) : ℕ → Option (Blk F)
  | 0 => none
  | n + 1 => some (dep (cell X Wg Wu p q c n) (pass (rhs Wg Wu p q n) (lhs X p c n)))

/-- The units after `n` tiles of product `p`, tile `n` of the right side waiting. -/
def St (X : Vec F S2x1024x14848 .i8) (Wg Wu : Vec F S7424x512 .i8) (p n : ℕ) : Mxu F :=
  mk (tile (rhs Wg Wu p 0 n)) (tile (rhs Wg Wu p 1 n)) (tile (rhs Wg Wu p 0 (n - 1))) (tile (rhs Wg Wu p 1 (n - 1)))
    (cell X Wg Wu p 0 0 n) (cell X Wg Wu p 0 1 n) (cell X Wg Wu p 0 2 n) (cell X Wg Wu p 0 3 n) (cell X Wg Wu p 1 0 n) (cell X Wg Wu p 1 1 n) (cell X Wg Wu p 1 2 n) (cell X Wg Wu p 1 3 n)

end Cert.Proof.GateUp.KernelIdeal

end
-- ==== Proof.KernelIdealOffs.lean ====
/-
  The offsets of the accesses in the product loops, in terms of the tile of the contracted axis a trip works on.
-/
module

public import proofs.«01_k».proof.Proof.Gen.KernelIdeal
public import proofs.«01_k».proof.Proof.Unit
public import Idealize.ShloMosaic.Lib.Pipeline.FrameBody

@[expose] public section

set_option maxRecDepth 16384

noncomputable section

namespace Cert.Proof.GateUp.KernelIdeal

open Cert.KernelIdeal Cert.KernelIdeal.Gen Idealize.ShloMosaic Idealize.ShloMosaic.TcCoe Idealize.SL.Sem
open Cert.Proof.Unit

variable {F : FTy → Type} [FloatOps F]

theorem o2_0 : ∀ k0_t1 : Fin k0_t1_loop.trips, k0_off2 k0_t1 0#32 = ![0, 256 * 0, 7424 * 0 + 256 * (3 * k0_t1.val + 1)] := by decide +kernel
theorem o2_1 : ∀ k0_t1 : Fin k0_t1_loop.trips, k0_off2 k0_t1 1#32 = ![0, 256 * 0, 7424 * 0 + 256 * (3 * k0_t1.val + 2)] := by decide +kernel
theorem o2_2 : ∀ k0_t1 : Fin k0_t1_loop.trips, k0_off2 k0_t1 2#32 = ![0, 256 * 0, 7424 * 0 + 256 * (3 * k0_t1.val + 3)] := by decide +kernel
theorem o3_0 : ∀ k0_t1 : Fin k0_t1_loop.trips, k0_off3 k0_t1 0#32 = ![1, 256 * 0, 7424 * 1 + 256 * (3 * k0_t1.val + 1)] := by decide +kernel
theorem o3_1 : ∀ k0_t1 : Fin k0_t1_loop.trips, k0_off3 k0_t1 1#32 = ![1, 256 * 0, 7424 * 1 + 256 * (3 * k0_t1.val + 2)] := by decide +kernel
theorem o3_2 : ∀ k0_t1 : Fin k0_t1_loop.trips, k0_off3 k0_t1 2#32 = ![1, 256 * 0, 7424 * 1 + 256 * (3 * k0_t1.val + 3)] := by decide +kernel
theorem o4_0_0 : ∀ k0_t1 : Fin k0_t1_loop.trips, k0_off4 k0_t1 0#32 0#32 = ![3712 * 0 + 128 * (3 * k0_t1.val + 2), 256 * 0] := by decide +kernel
theorem o4_0_1 : ∀ k0_t1 : Fin k0_t1_loop.trips, k0_off4 k0_t1 0#32 1#32 = ![3712 * 0 + 128 * (3 * k0_t1.val + 3), 256 * 0] := by decide +kernel
theorem o4_0_2 : ∀ k0_t1 : Fin k0_t1_loop.trips, k0_off4 k0_t1 0#32 2#32 = ![3712 * 0 + 128 * (3 * k0_t1.val + 4), 256 * 0] := by decide +kernel
theorem o4_1_0 : ∀ k0_t1 : Fin k0_t1_loop.trips, k0_off4 k0_t1 3712#32 0#32 = ![3712 * 1 + 128 * (3 * k0_t1.val + 2), 256 * 0] := by decide +kernel
theorem o4_1_1 : ∀ k0_t1 : Fin k0_t1_loop.trips, k0_off4 k0_t1 3712#32 1#32 = ![3712 * 1 + 128 * (3 * k0_t1.val + 3), 256 * 0] := by decide +kernel
theorem o4_1_2 : ∀ k0_t1 : Fin k0_t1_loop.trips, k0_off4 k0_t1 3712#32 2#32 = ![3712 * 1 + 128 * (3 * k0_t1.val + 4), 256 * 0] := by decide +kernel
theorem o5_0_0 : ∀ k0_t1 : Fin k0_t1_loop.trips, k0_off5 k0_t1 0#32 0#32 = ![3712 * 0 + 128 * (3 * k0_t1.val + 2), 256 * 1] := by decide +kernel
theorem o5_0_1 : ∀ k0_t1 : Fin k0_t1_loop.trips, k0_off5 k0_t1 0#32 1#32 = ![3712 * 0 + 128 * (3 * k0_t1.val + 3), 256 * 1] := by decide +kernel
theorem o5_0_2 : ∀ k0_t1 : Fin k0_t1_loop.trips, k0_off5 k0_t1 0#32 2#32 = ![3712 * 0 + 128 * (3 * k0_t1.val + 4), 256 * 1] := by decide +kernel
theorem o5_1_0 : ∀ k0_t1 : Fin k0_t1_loop.trips, k0_off5 k0_t1 3712#32 0#32 = ![3712 * 1 + 128 * (3 * k0_t1.val + 2), 256 * 1] := by decide +kernel
theorem o5_1_1 : ∀ k0_t1 : Fin k0_t1_loop.trips, k0_off5 k0_t1 3712#32 1#32 = ![3712 * 1 + 128 * (3 * k0_t1.val + 3), 256 * 1] := by decide +kernel
theorem o5_1_2 : ∀ k0_t1 : Fin k0_t1_loop.trips, k0_off5 k0_t1 3712#32 2#32 = ![3712 * 1 + 128 * (3 * k0_t1.val + 4), 256 * 1] := by decide +kernel
theorem o6_0 : ∀ k0_t1 : Fin k0_t1_loop.trips, k0_off6 k0_t1 0#32 = ![0, 256 * 1, 7424 * 0 + 256 * (3 * k0_t1.val + 1)] := by decide +kernel
theorem o6_1 : ∀ k0_t1 : Fin k0_t1_loop.trips, k0_off6 k0_t1 1#32 = ![0, 256 * 1, 7424 * 0 + 256 * (3 * k0_t1.val + 2)] := by decide +kernel
theorem o6_2 : ∀ k0_t1 : Fin k0_t1_loop.trips, k0_off6 k0_t1 2#32 = ![0, 256 * 1, 7424 * 0 + 256 * (3 * k0_t1.val + 3)] := by decide +kernel
theorem o7_0 : ∀ k0_t1 : Fin k0_t1_loop.trips, k0_off7 k0_t1 0#32 = ![1, 256 * 1, 7424 * 1 + 256 * (3 * k0_t1.val + 1)] := by decide +kernel
theorem o7_1 : ∀ k0_t1 : Fin k0_t1_loop.trips, k0_off7 k0_t1 1#32 = ![1, 256 * 1, 7424 * 1 + 256 * (3 * k0_t1.val + 2)] := by decide +kernel
theorem o7_2 : ∀ k0_t1 : Fin k0_t1_loop.trips, k0_off7 k0_t1 2#32 = ![1, 256 * 1, 7424 * 1 + 256 * (3 * k0_t1.val + 3)] := by decide +kernel
theorem o8_0 : ∀ k0_t1 : Fin k0_t1_loop.trips, k0_off8 k0_t1 0#32 = ![0, 256 * 2, 7424 * 0 + 256 * (3 * k0_t1.val + 1)] := by decide +kernel
theorem o8_1 : ∀ k0_t1 : Fin k0_t1_loop.trips, k0_off8 k0_t1 1#32 = ![0, 256 * 2, 7424 * 0 + 256 * (3 * k0_t1.val + 2)] := by decide +kernel
theorem o8_2 : ∀ k0_t1 : Fin k0_t1_loop.trips, k0_off8 k0_t1 2#32 = ![0, 256 * 2, 7424 * 0 + 256 * (3 * k0_t1.val + 3)] := by decide +kernel
theorem o9_0 : ∀ k0_t1 : Fin k0_t1_loop.trips, k0_off9 k0_t1 0#32 = ![1, 256 * 2, 7424 * 1 + 256 * (3 * k0_t1.val + 1)] := by decide +kernel
theorem o9_1 : ∀ k0_t1 : Fin k0_t1_loop.trips, k0_off9 k0_t1 1#32 = ![1, 256 * 2, 7424 * 1 + 256 * (3 * k0_t1.val + 2)] := by decide +kernel
theorem o9_2 : ∀ k0_t1 : Fin k0_t1_loop.trips, k0_off9 k0_t1 2#32 = ![1, 256 * 2, 7424 * 1 + 256 * (3 * k0_t1.val + 3)] := by decide +kernel
theorem o10_0 : ∀ k0_t1 : Fin k0_t1_loop.trips, k0_off10 k0_t1 0#32 = ![0, 256 * 3, 7424 * 0 + 256 * (3 * k0_t1.val + 1)] := by decide +kernel
theorem o10_1 : ∀ k0_t1 : Fin k0_t1_loop.trips, k0_off10 k0_t1 1#32 = ![0, 256 * 3, 7424 * 0 + 256 * (3 * k0_t1.val + 2)] := by decide +kernel
theorem o10_2 : ∀ k0_t1 : Fin k0_t1_loop.trips, k0_off10 k0_t1 2#32 = ![0, 256 * 3, 7424 * 0 + 256 * (3 * k0_t1.val + 3)] := by decide +kernel
theorem o11_0 : ∀ k0_t1 : Fin k0_t1_loop.trips, k0_off11 k0_t1 0#32 = ![1, 256 * 3, 7424 * 1 + 256 * (3 * k0_t1.val + 1)] := by decide +kernel
theorem o11_1 : ∀ k0_t1 : Fin k0_t1_loop.trips, k0_off11 k0_t1 1#32 = ![1, 256 * 3, 7424 * 1 + 256 * (3 * k0_t1.val + 2)] := by decide +kernel
theorem o11_2 : ∀ k0_t1 : Fin k0_t1_loop.trips, k0_off11 k0_t1 2#32 = ![1, 256 * 3, 7424 * 1 + 256 * (3 * k0_t1.val + 3)] := by decide +kernel
theorem o20_0 : ∀ k0_t2 : Fin k0_t2_loop.trips, k0_off20 k0_t2 0#32 = ![0, 256 * 0, 7424 * 0 + 256 * (3 * k0_t2.val + 1)] := by decide +kernel
theorem o20_1 : ∀ k0_t2 : Fin k0_t2_loop.trips, k0_off20 k0_t2 1#32 = ![0, 256 * 0, 7424 * 0 + 256 * (3 * k0_t2.val + 2)] := by decide +kernel
theorem o20_2 : ∀ k0_t2 : Fin k0_t2_loop.trips, k0_off20 k0_t2 2#32 = ![0, 256 * 0, 7424 * 0 + 256 * (3 * k0_t2.val + 3)] := by decide +kernel
theorem o21_0_0 : ∀ k0_t2 : Fin k0_t2_loop.trips, k0_off21 k0_t2 0#32 0#32 = ![3712 * 0 + 128 * (3 * k0_t2.val + 2), 256 * 0] := by decide +kernel
theorem o21_0_1 : ∀ k0_t2 : Fin k0_t2_loop.trips, k0_off21 k0_t2 0#32 1#32 = ![3712 * 0 + 128 * (3 * k0_t2.val + 3), 256 * 0] := by decide +kernel
theorem o21_0_2 : ∀ k0_t2 : Fin k0_t2_loop.trips, k0_off21 k0_t2 0#32 2#32 = ![3712 * 0 + 128 * (3 * k0_t2.val + 4), 256 * 0] := by decide +kernel
theorem o21_1_0 : ∀ k0_t2 : Fin k0_t2_loop.trips, k0_off21 k0_t2 3712#32 0#32 = ![3712 * 1 + 128 * (3 * k0_t2.val + 2), 256 * 0] := by decide +kernel
theorem o21_1_1 : ∀ k0_t2 : Fin k0_t2_loop.trips, k0_off21 k0_t2 3712#32 1#32 = ![3712 * 1 + 128 * (3 * k0_t2.val + 3), 256 * 0] := by decide +kernel
theorem o21_1_2 : ∀ k0_t2 : Fin k0_t2_loop.trips, k0_off21 k0_t2 3712#32 2#32 = ![3712 * 1 + 128 * (3 * k0_t2.val + 4), 256 * 0] := by decide +kernel
theorem o22_0_0 : ∀ k0_t2 : Fin k0_t2_loop.trips, k0_off22 k0_t2 0#32 0#32 = ![3712 * 0 + 128 * (3 * k0_t2.val + 2), 256 * 1] := by decide +kernel
theorem o22_0_1 : ∀ k0_t2 : Fin k0_t2_loop.trips, k0_off22 k0_t2 0#32 1#32 = ![3712 * 0 + 128 * (3 * k0_t2.val + 3), 256 * 1] := by decide +kernel
theorem o22_0_2 : ∀ k0_t2 : Fin k0_t2_loop.trips, k0_off22 k0_t2 0#32 2#32 = ![3712 * 0 + 128 * (3 * k0_t2.val + 4), 256 * 1] := by decide +kernel
theorem o22_1_0 : ∀ k0_t2 : Fin k0_t2_loop.trips, k0_off22 k0_t2 3712#32 0#32 = ![3712 * 1 + 128 * (3 * k0_t2.val + 2), 256 * 1] := by decide +kernel
theorem o22_1_1 : ∀ k0_t2 : Fin k0_t2_loop.trips, k0_off22 k0_t2 3712#32 1#32 = ![3712 * 1 + 128 * (3 * k0_t2.val + 3), 256 * 1] := by decide +kernel
theorem o22_1_2 : ∀ k0_t2 : Fin k0_t2_loop.trips, k0_off22 k0_t2 3712#32 2#32 = ![3712 * 1 + 128 * (3 * k0_t2.val + 4), 256 * 1] := by decide +kernel
theorem o23_0 : ∀ k0_t2 : Fin k0_t2_loop.trips, k0_off23 k0_t2 0#32 = ![0, 256 * 1, 7424 * 0 + 256 * (3 * k0_t2.val + 1)] := by decide +kernel
theorem o23_1 : ∀ k0_t2 : Fin k0_t2_loop.trips, k0_off23 k0_t2 1#32 = ![0, 256 * 1, 7424 * 0 + 256 * (3 * k0_t2.val + 2)] := by decide +kernel
theorem o23_2 : ∀ k0_t2 : Fin k0_t2_loop.trips, k0_off23 k0_t2 2#32 = ![0, 256 * 1, 7424 * 0 + 256 * (3 * k0_t2.val + 3)] := by decide +kernel
theorem o24_0 : ∀ k0_t2 : Fin k0_t2_loop.trips, k0_off24 k0_t2 0#32 = ![0, 256 * 2, 7424 * 0 + 256 * (3 * k0_t2.val + 1)] := by decide +kernel
theorem o24_1 : ∀ k0_t2 : Fin k0_t2_loop.trips, k0_off24 k0_t2 1#32 = ![0, 256 * 2, 7424 * 0 + 256 * (3 * k0_t2.val + 2)] := by decide +kernel
theorem o24_2 : ∀ k0_t2 : Fin k0_t2_loop.trips, k0_off24 k0_t2 2#32 = ![0, 256 * 2, 7424 * 0 + 256 * (3 * k0_t2.val + 3)] := by decide +kernel
theorem o25_0 : ∀ k0_t2 : Fin k0_t2_loop.trips, k0_off25 k0_t2 0#32 = ![0, 256 * 3, 7424 * 0 + 256 * (3 * k0_t2.val + 1)] := by decide +kernel
theorem o25_1 : ∀ k0_t2 : Fin k0_t2_loop.trips, k0_off25 k0_t2 1#32 = ![0, 256 * 3, 7424 * 0 + 256 * (3 * k0_t2.val + 2)] := by decide +kernel
theorem o25_2 : ∀ k0_t2 : Fin k0_t2_loop.trips, k0_off25 k0_t2 2#32 = ![0, 256 * 3, 7424 * 0 + 256 * (3 * k0_t2.val + 3)] := by decide +kernel
theorem o26_0 : ∀ k0_t3 : Fin k0_t3_loop.trips, k0_off26 k0_t3 0#32 = ![1, 256 * 0, 7424 * 1 + 256 * (3 * k0_t3.val + 1)] := by decide +kernel
theorem o26_1 : ∀ k0_t3 : Fin k0_t3_loop.trips, k0_off26 k0_t3 1#32 = ![1, 256 * 0, 7424 * 1 + 256 * (3 * k0_t3.val + 2)] := by decide +kernel
theorem o26_2 : ∀ k0_t3 : Fin k0_t3_loop.trips, k0_off26 k0_t3 2#32 = ![1, 256 * 0, 7424 * 1 + 256 * (3 * k0_t3.val + 3)] := by decide +kernel
theorem o27_0_0 : ∀ k0_t3 : Fin k0_t3_loop.trips, k0_off27 k0_t3 0#32 0#32 = ![3712 * 0 + 128 * (3 * k0_t3.val + 2), 256 * 0] := by decide +kernel
theorem o27_0_1 : ∀ k0_t3 : Fin k0_t3_loop.trips, k0_off27 k0_t3 0#32 1#32 = ![3712 * 0 + 128 * (3 * k0_t3.val + 3), 256 * 0] := by decide +kernel
theorem o27_0_2 : ∀ k0_t3 : Fin k0_t3_loop.trips, k0_off27 k0_t3 0#32 2#32 = ![3712 * 0 + 128 * (3 * k0_t3.val + 4), 256 * 0] := by decide +kernel
theorem o27_1_0 : ∀ k0_t3 : Fin k0_t3_loop.trips, k0_off27 k0_t3 3712#32 0#32 = ![3712 * 1 + 128 * (3 * k0_t3.val + 2), 256 * 0] := by decide +kernel
theorem o27_1_1 : ∀ k0_t3 : Fin k0_t3_loop.trips, k0_off27 k0_t3 3712#32 1#32 = ![3712 * 1 + 128 * (3 * k0_t3.val + 3), 256 * 0] := by decide +kernel
theorem o27_1_2 : ∀ k0_t3 : Fin k0_t3_loop.trips, k0_off27 k0_t3 3712#32 2#32 = ![3712 * 1 + 128 * (3 * k0_t3.val + 4), 256 * 0] := by decide +kernel
theorem o28_0_0 : ∀ k0_t3 : Fin k0_t3_loop.trips, k0_off28 k0_t3 0#32 0#32 = ![3712 * 0 + 128 * (3 * k0_t3.val + 2), 256 * 1] := by decide +kernel
theorem o28_0_1 : ∀ k0_t3 : Fin k0_t3_loop.trips, k0_off28 k0_t3 0#32 1#32 = ![3712 * 0 + 128 * (3 * k0_t3.val + 3), 256 * 1] := by decide +kernel
theorem o28_0_2 : ∀ k0_t3 : Fin k0_t3_loop.trips, k0_off28 k0_t3 0#32 2#32 = ![3712 * 0 + 128 * (3 * k0_t3.val + 4), 256 * 1] := by decide +kernel
theorem o28_1_0 : ∀ k0_t3 : Fin k0_t3_loop.trips, k0_off28 k0_t3 3712#32 0#32 = ![3712 * 1 + 128 * (3 * k0_t3.val + 2), 256 * 1] := by decide +kernel
theorem o28_1_1 : ∀ k0_t3 : Fin k0_t3_loop.trips, k0_off28 k0_t3 3712#32 1#32 = ![3712 * 1 + 128 * (3 * k0_t3.val + 3), 256 * 1] := by decide +kernel
theorem o28_1_2 : ∀ k0_t3 : Fin k0_t3_loop.trips, k0_off28 k0_t3 3712#32 2#32 = ![3712 * 1 + 128 * (3 * k0_t3.val + 4), 256 * 1] := by decide +kernel
theorem o29_0 : ∀ k0_t3 : Fin k0_t3_loop.trips, k0_off29 k0_t3 0#32 = ![1, 256 * 1, 7424 * 1 + 256 * (3 * k0_t3.val + 1)] := by decide +kernel
theorem o29_1 : ∀ k0_t3 : Fin k0_t3_loop.trips, k0_off29 k0_t3 1#32 = ![1, 256 * 1, 7424 * 1 + 256 * (3 * k0_t3.val + 2)] := by decide +kernel
theorem o29_2 : ∀ k0_t3 : Fin k0_t3_loop.trips, k0_off29 k0_t3 2#32 = ![1, 256 * 1, 7424 * 1 + 256 * (3 * k0_t3.val + 3)] := by decide +kernel
theorem o30_0 : ∀ k0_t3 : Fin k0_t3_loop.trips, k0_off30 k0_t3 0#32 = ![1, 256 * 2, 7424 * 1 + 256 * (3 * k0_t3.val + 1)] := by decide +kernel
theorem o30_1 : ∀ k0_t3 : Fin k0_t3_loop.trips, k0_off30 k0_t3 1#32 = ![1, 256 * 2, 7424 * 1 + 256 * (3 * k0_t3.val + 2)] := by decide +kernel
theorem o30_2 : ∀ k0_t3 : Fin k0_t3_loop.trips, k0_off30 k0_t3 2#32 = ![1, 256 * 2, 7424 * 1 + 256 * (3 * k0_t3.val + 3)] := by decide +kernel
theorem o31_0 : ∀ k0_t3 : Fin k0_t3_loop.trips, k0_off31 k0_t3 0#32 = ![1, 256 * 3, 7424 * 1 + 256 * (3 * k0_t3.val + 1)] := by decide +kernel
theorem o31_1 : ∀ k0_t3 : Fin k0_t3_loop.trips, k0_off31 k0_t3 1#32 = ![1, 256 * 3, 7424 * 1 + 256 * (3 * k0_t3.val + 2)] := by decide +kernel
theorem o31_2 : ∀ k0_t3 : Fin k0_t3_loop.trips, k0_off31 k0_t3 2#32 = ![1, 256 * 3, 7424 * 1 + 256 * (3 * k0_t3.val + 3)] := by decide +kernel
theorem o32_0_0 : ∀ k0_t4 : Fin k0_t4_loop.trips, k0_off32 k0_t4 0#32 0#32 = ![0, 256 * 0, 7424 * 0 + 256 * (3 * k0_t4.val + 1)] := by decide +kernel
theorem o32_0_1 : ∀ k0_t4 : Fin k0_t4_loop.trips, k0_off32 k0_t4 0#32 1#32 = ![0, 256 * 0, 7424 * 0 + 256 * (3 * k0_t4.val + 2)] := by decide +kernel
theorem o32_0_2 : ∀ k0_t4 : Fin k0_t4_loop.trips, k0_off32 k0_t4 0#32 2#32 = ![0, 256 * 0, 7424 * 0 + 256 * (3 * k0_t4.val + 3)] := by decide +kernel
theorem o32_1_0 : ∀ k0_t4 : Fin k0_t4_loop.trips, k0_off32 k0_t4 7424#32 0#32 = ![0, 256 * 0, 7424 * 1 + 256 * (3 * k0_t4.val + 1)] := by decide +kernel
theorem o32_1_1 : ∀ k0_t4 : Fin k0_t4_loop.trips, k0_off32 k0_t4 7424#32 1#32 = ![0, 256 * 0, 7424 * 1 + 256 * (3 * k0_t4.val + 2)] := by decide +kernel
theorem o32_1_2 : ∀ k0_t4 : Fin k0_t4_loop.trips, k0_off32 k0_t4 7424#32 2#32 = ![0, 256 * 0, 7424 * 1 + 256 * (3 * k0_t4.val + 3)] := by decide +kernel
theorem o33_0 : ∀ k0_t4 : Fin k0_t4_loop.trips, k0_off33 k0_t4 0#32 = ![3712 * 1 + 128 * (3 * k0_t4.val + 2), 256 * 0] := by decide +kernel
theorem o33_1 : ∀ k0_t4 : Fin k0_t4_loop.trips, k0_off33 k0_t4 1#32 = ![3712 * 1 + 128 * (3 * k0_t4.val + 3), 256 * 0] := by decide +kernel
theorem o33_2 : ∀ k0_t4 : Fin k0_t4_loop.trips, k0_off33 k0_t4 2#32 = ![3712 * 1 + 128 * (3 * k0_t4.val + 4), 256 * 0] := by decide +kernel
theorem o34_0 : ∀ k0_t4 : Fin k0_t4_loop.trips, k0_off34 k0_t4 0#32 = ![3712 * 1 + 128 * (3 * k0_t4.val + 2), 256 * 1] := by decide +kernel
theorem o34_1 : ∀ k0_t4 : Fin k0_t4_loop.trips, k0_off34 k0_t4 1#32 = ![3712 * 1 + 128 * (3 * k0_t4.val + 3), 256 * 1] := by decide +kernel
theorem o34_2 : ∀ k0_t4 : Fin k0_t4_loop.trips, k0_off34 k0_t4 2#32 = ![3712 * 1 + 128 * (3 * k0_t4.val + 4), 256 * 1] := by decide +kernel
theorem o35_0_0 : ∀ k0_t4 : Fin k0_t4_loop.trips, k0_off35 k0_t4 0#32 0#32 = ![0, 256 * 1, 7424 * 0 + 256 * (3 * k0_t4.val + 1)] := by decide +kernel
theorem o35_0_1 : ∀ k0_t4 : Fin k0_t4_loop.trips, k0_off35 k0_t4 0#32 1#32 = ![0, 256 * 1, 7424 * 0 + 256 * (3 * k0_t4.val + 2)] := by decide +kernel
theorem o35_0_2 : ∀ k0_t4 : Fin k0_t4_loop.trips, k0_off35 k0_t4 0#32 2#32 = ![0, 256 * 1, 7424 * 0 + 256 * (3 * k0_t4.val + 3)] := by decide +kernel
theorem o35_1_0 : ∀ k0_t4 : Fin k0_t4_loop.trips, k0_off35 k0_t4 7424#32 0#32 = ![0, 256 * 1, 7424 * 1 + 256 * (3 * k0_t4.val + 1)] := by decide +kernel
theorem o35_1_1 : ∀ k0_t4 : Fin k0_t4_loop.trips, k0_off35 k0_t4 7424#32 1#32 = ![0, 256 * 1, 7424 * 1 + 256 * (3 * k0_t4.val + 2)] := by decide +kernel
theorem o35_1_2 : ∀ k0_t4 : Fin k0_t4_loop.trips, k0_off35 k0_t4 7424#32 2#32 = ![0, 256 * 1, 7424 * 1 + 256 * (3 * k0_t4.val + 3)] := by decide +kernel
theorem o36_0_0 : ∀ k0_t4 : Fin k0_t4_loop.trips, k0_off36 k0_t4 0#32 0#32 = ![0, 256 * 2, 7424 * 0 + 256 * (3 * k0_t4.val + 1)] := by decide +kernel
theorem o36_0_1 : ∀ k0_t4 : Fin k0_t4_loop.trips, k0_off36 k0_t4 0#32 1#32 = ![0, 256 * 2, 7424 * 0 + 256 * (3 * k0_t4.val + 2)] := by decide +kernel
theorem o36_0_2 : ∀ k0_t4 : Fin k0_t4_loop.trips, k0_off36 k0_t4 0#32 2#32 = ![0, 256 * 2, 7424 * 0 + 256 * (3 * k0_t4.val + 3)] := by decide +kernel
theorem o36_1_0 : ∀ k0_t4 : Fin k0_t4_loop.trips, k0_off36 k0_t4 7424#32 0#32 = ![0, 256 * 2, 7424 * 1 + 256 * (3 * k0_t4.val + 1)] := by decide +kernel
theorem o36_1_1 : ∀ k0_t4 : Fin k0_t4_loop.trips, k0_off36 k0_t4 7424#32 1#32 = ![0, 256 * 2, 7424 * 1 + 256 * (3 * k0_t4.val + 2)] := by decide +kernel
theorem o36_1_2 : ∀ k0_t4 : Fin k0_t4_loop.trips, k0_off36 k0_t4 7424#32 2#32 = ![0, 256 * 2, 7424 * 1 + 256 * (3 * k0_t4.val + 3)] := by decide +kernel
theorem o37_0_0 : ∀ k0_t4 : Fin k0_t4_loop.trips, k0_off37 k0_t4 0#32 0#32 = ![0, 256 * 3, 7424 * 0 + 256 * (3 * k0_t4.val + 1)] := by decide +kernel
theorem o37_0_1 : ∀ k0_t4 : Fin k0_t4_loop.trips, k0_off37 k0_t4 0#32 1#32 = ![0, 256 * 3, 7424 * 0 + 256 * (3 * k0_t4.val + 2)] := by decide +kernel
theorem o37_0_2 : ∀ k0_t4 : Fin k0_t4_loop.trips, k0_off37 k0_t4 0#32 2#32 = ![0, 256 * 3, 7424 * 0 + 256 * (3 * k0_t4.val + 3)] := by decide +kernel
theorem o37_1_0 : ∀ k0_t4 : Fin k0_t4_loop.trips, k0_off37 k0_t4 7424#32 0#32 = ![0, 256 * 3, 7424 * 1 + 256 * (3 * k0_t4.val + 1)] := by decide +kernel
theorem o37_1_1 : ∀ k0_t4 : Fin k0_t4_loop.trips, k0_off37 k0_t4 7424#32 1#32 = ![0, 256 * 3, 7424 * 1 + 256 * (3 * k0_t4.val + 2)] := by decide +kernel
theorem o37_1_2 : ∀ k0_t4 : Fin k0_t4_loop.trips, k0_off37 k0_t4 7424#32 2#32 = ![0, 256 * 3, 7424 * 1 + 256 * (3 * k0_t4.val + 3)] := by decide +kernel
theorem o38_0 : ∀ k0_t5 : Fin k0_t5_loop.trips, k0_off38 k0_t5 0#32 = ![0, 256 * 0, 7424 * 1 + 256 * (3 * k0_t5.val + 1)] := by decide +kernel
theorem o38_1 : ∀ k0_t5 : Fin k0_t5_loop.trips, k0_off38 k0_t5 1#32 = ![0, 256 * 0, 7424 * 1 + 256 * (3 * k0_t5.val + 2)] := by decide +kernel
theorem o38_2 : ∀ k0_t5 : Fin k0_t5_loop.trips, k0_off38 k0_t5 2#32 = ![0, 256 * 0, 7424 * 1 + 256 * (3 * k0_t5.val + 3)] := by decide +kernel
theorem o39_0 : ∀ k0_t5 : Fin k0_t5_loop.trips, k0_off39 k0_t5 0#32 = ![1, 256 * 0, 7424 * 1 + 256 * (3 * k0_t5.val + 1)] := by decide +kernel
theorem o39_1 : ∀ k0_t5 : Fin k0_t5_loop.trips, k0_off39 k0_t5 1#32 = ![1, 256 * 0, 7424 * 1 + 256 * (3 * k0_t5.val + 2)] := by decide +kernel
theorem o39_2 : ∀ k0_t5 : Fin k0_t5_loop.trips, k0_off39 k0_t5 2#32 = ![1, 256 * 0, 7424 * 1 + 256 * (3 * k0_t5.val + 3)] := by decide +kernel
theorem o40_0 : ∀ k0_t5 : Fin k0_t5_loop.trips, k0_off40 k0_t5 0#32 = ![3712 * 1 + 128 * (3 * k0_t5.val + 2), 256 * 0] := by decide +kernel
theorem o40_1 : ∀ k0_t5 : Fin k0_t5_loop.trips, k0_off40 k0_t5 1#32 = ![3712 * 1 + 128 * (3 * k0_t5.val + 3), 256 * 0] := by decide +kernel
theorem o40_2 : ∀ k0_t5 : Fin k0_t5_loop.trips, k0_off40 k0_t5 2#32 = ![3712 * 1 + 128 * (3 * k0_t5.val + 4), 256 * 0] := by decide +kernel
theorem o41_0 : ∀ k0_t5 : Fin k0_t5_loop.trips, k0_off41 k0_t5 0#32 = ![3712 * 1 + 128 * (3 * k0_t5.val + 2), 256 * 1] := by decide +kernel
theorem o41_1 : ∀ k0_t5 : Fin k0_t5_loop.trips, k0_off41 k0_t5 1#32 = ![3712 * 1 + 128 * (3 * k0_t5.val + 3), 256 * 1] := by decide +kernel
theorem o41_2 : ∀ k0_t5 : Fin k0_t5_loop.trips, k0_off41 k0_t5 2#32 = ![3712 * 1 + 128 * (3 * k0_t5.val + 4), 256 * 1] := by decide +kernel
theorem o42_0 : ∀ k0_t5 : Fin k0_t5_loop.trips, k0_off42 k0_t5 0#32 = ![0, 256 * 1, 7424 * 1 + 256 * (3 * k0_t5.val + 1)] := by decide +kernel
theorem o42_1 : ∀ k0_t5 : Fin k0_t5_loop.trips, k0_off42 k0_t5 1#32 = ![0, 256 * 1, 7424 * 1 + 256 * (3 * k0_t5.val + 2)] := by decide +kernel
theorem o42_2 : ∀ k0_t5 : Fin k0_t5_loop.trips, k0_off42 k0_t5 2#32 = ![0, 256 * 1, 7424 * 1 + 256 * (3 * k0_t5.val + 3)] := by decide +kernel
theorem o43_0 : ∀ k0_t5 : Fin k0_t5_loop.trips, k0_off43 k0_t5 0#32 = ![1, 256 * 1, 7424 * 1 + 256 * (3 * k0_t5.val + 1)] := by decide +kernel
theorem o43_1 : ∀ k0_t5 : Fin k0_t5_loop.trips, k0_off43 k0_t5 1#32 = ![1, 256 * 1, 7424 * 1 + 256 * (3 * k0_t5.val + 2)] := by decide +kernel
theorem o43_2 : ∀ k0_t5 : Fin k0_t5_loop.trips, k0_off43 k0_t5 2#32 = ![1, 256 * 1, 7424 * 1 + 256 * (3 * k0_t5.val + 3)] := by decide +kernel
theorem o44_0 : ∀ k0_t5 : Fin k0_t5_loop.trips, k0_off44 k0_t5 0#32 = ![0, 256 * 2, 7424 * 1 + 256 * (3 * k0_t5.val + 1)] := by decide +kernel
theorem o44_1 : ∀ k0_t5 : Fin k0_t5_loop.trips, k0_off44 k0_t5 1#32 = ![0, 256 * 2, 7424 * 1 + 256 * (3 * k0_t5.val + 2)] := by decide +kernel
theorem o44_2 : ∀ k0_t5 : Fin k0_t5_loop.trips, k0_off44 k0_t5 2#32 = ![0, 256 * 2, 7424 * 1 + 256 * (3 * k0_t5.val + 3)] := by decide +kernel
theorem o45_0 : ∀ k0_t5 : Fin k0_t5_loop.trips, k0_off45 k0_t5 0#32 = ![1, 256 * 2, 7424 * 1 + 256 * (3 * k0_t5.val + 1)] := by decide +kernel
theorem o45_1 : ∀ k0_t5 : Fin k0_t5_loop.trips, k0_off45 k0_t5 1#32 = ![1, 256 * 2, 7424 * 1 + 256 * (3 * k0_t5.val + 2)] := by decide +kernel
theorem o45_2 : ∀ k0_t5 : Fin k0_t5_loop.trips, k0_off45 k0_t5 2#32 = ![1, 256 * 2, 7424 * 1 + 256 * (3 * k0_t5.val + 3)] := by decide +kernel
theorem o46_0 : ∀ k0_t5 : Fin k0_t5_loop.trips, k0_off46 k0_t5 0#32 = ![0, 256 * 3, 7424 * 1 + 256 * (3 * k0_t5.val + 1)] := by decide +kernel
theorem o46_1 : ∀ k0_t5 : Fin k0_t5_loop.trips, k0_off46 k0_t5 1#32 = ![0, 256 * 3, 7424 * 1 + 256 * (3 * k0_t5.val + 2)] := by decide +kernel
theorem o46_2 : ∀ k0_t5 : Fin k0_t5_loop.trips, k0_off46 k0_t5 2#32 = ![0, 256 * 3, 7424 * 1 + 256 * (3 * k0_t5.val + 3)] := by decide +kernel
theorem o47_0 : ∀ k0_t5 : Fin k0_t5_loop.trips, k0_off47 k0_t5 0#32 = ![1, 256 * 3, 7424 * 1 + 256 * (3 * k0_t5.val + 1)] := by decide +kernel
theorem o47_1 : ∀ k0_t5 : Fin k0_t5_loop.trips, k0_off47 k0_t5 1#32 = ![1, 256 * 3, 7424 * 1 + 256 * (3 * k0_t5.val + 2)] := by decide +kernel
theorem o47_2 : ∀ k0_t5 : Fin k0_t5_loop.trips, k0_off47 k0_t5 2#32 = ![1, 256 * 3, 7424 * 1 + 256 * (3 * k0_t5.val + 3)] := by decide +kernel
theorem o48_0_0 : ∀ k0_t6 : Fin k0_t6_loop.trips, k0_off48 k0_t6 0#32 0#32 = ![1, 256 * 0, 7424 * 0 + 256 * (3 * k0_t6.val + 1)] := by decide +kernel
theorem o48_0_1 : ∀ k0_t6 : Fin k0_t6_loop.trips, k0_off48 k0_t6 0#32 1#32 = ![1, 256 * 0, 7424 * 0 + 256 * (3 * k0_t6.val + 2)] := by decide +kernel
theorem o48_0_2 : ∀ k0_t6 : Fin k0_t6_loop.trips, k0_off48 k0_t6 0#32 2#32 = ![1, 256 * 0, 7424 * 0 + 256 * (3 * k0_t6.val + 3)] := by decide +kernel
theorem o48_1_0 : ∀ k0_t6 : Fin k0_t6_loop.trips, k0_off48 k0_t6 7424#32 0#32 = ![1, 256 * 0, 7424 * 1 + 256 * (3 * k0_t6.val + 1)] := by decide +kernel
theorem o48_1_1 : ∀ k0_t6 : Fin k0_t6_loop.trips, k0_off48 k0_t6 7424#32 1#32 = ![1, 256 * 0, 7424 * 1 + 256 * (3 * k0_t6.val + 2)] := by decide +kernel
theorem o48_1_2 : ∀ k0_t6 : Fin k0_t6_loop.trips, k0_off48 k0_t6 7424#32 2#32 = ![1, 256 * 0, 7424 * 1 + 256 * (3 * k0_t6.val + 3)] := by decide +kernel
theorem o49_0 : ∀ k0_t6 : Fin k0_t6_loop.trips, k0_off49 k0_t6 0#32 = ![3712 * 0 + 128 * (3 * k0_t6.val + 2), 256 * 0] := by decide +kernel
theorem o49_1 : ∀ k0_t6 : Fin k0_t6_loop.trips, k0_off49 k0_t6 1#32 = ![3712 * 0 + 128 * (3 * k0_t6.val + 3), 256 * 0] := by decide +kernel
theorem o49_2 : ∀ k0_t6 : Fin k0_t6_loop.trips, k0_off49 k0_t6 2#32 = ![3712 * 0 + 128 * (3 * k0_t6.val + 4), 256 * 0] := by decide +kernel
theorem o50_0 : ∀ k0_t6 : Fin k0_t6_loop.trips, k0_off50 k0_t6 0#32 = ![3712 * 0 + 128 * (3 * k0_t6.val + 2), 256 * 1] := by decide +kernel
theorem o50_1 : ∀ k0_t6 : Fin k0_t6_loop.trips, k0_off50 k0_t6 1#32 = ![3712 * 0 + 128 * (3 * k0_t6.val + 3), 256 * 1] := by decide +kernel
theorem o50_2 : ∀ k0_t6 : Fin k0_t6_loop.trips, k0_off50 k0_t6 2#32 = ![3712 * 0 + 128 * (3 * k0_t6.val + 4), 256 * 1] := by decide +kernel
theorem o51_0_0 : ∀ k0_t6 : Fin k0_t6_loop.trips, k0_off51 k0_t6 0#32 0#32 = ![1, 256 * 1, 7424 * 0 + 256 * (3 * k0_t6.val + 1)] := by decide +kernel
theorem o51_0_1 : ∀ k0_t6 : Fin k0_t6_loop.trips, k0_off51 k0_t6 0#32 1#32 = ![1, 256 * 1, 7424 * 0 + 256 * (3 * k0_t6.val + 2)] := by decide +kernel
theorem o51_0_2 : ∀ k0_t6 : Fin k0_t6_loop.trips, k0_off51 k0_t6 0#32 2#32 = ![1, 256 * 1, 7424 * 0 + 256 * (3 * k0_t6.val + 3)] := by decide +kernel
theorem o51_1_0 : ∀ k0_t6 : Fin k0_t6_loop.trips, k0_off51 k0_t6 7424#32 0#32 = ![1, 256 * 1, 7424 * 1 + 256 * (3 * k0_t6.val + 1)] := by decide +kernel
theorem o51_1_1 : ∀ k0_t6 : Fin k0_t6_loop.trips, k0_off51 k0_t6 7424#32 1#32 = ![1, 256 * 1, 7424 * 1 + 256 * (3 * k0_t6.val + 2)] := by decide +kernel
theorem o51_1_2 : ∀ k0_t6 : Fin k0_t6_loop.trips, k0_off51 k0_t6 7424#32 2#32 = ![1, 256 * 1, 7424 * 1 + 256 * (3 * k0_t6.val + 3)] := by decide +kernel
theorem o52_0_0 : ∀ k0_t6 : Fin k0_t6_loop.trips, k0_off52 k0_t6 0#32 0#32 = ![1, 256 * 2, 7424 * 0 + 256 * (3 * k0_t6.val + 1)] := by decide +kernel
theorem o52_0_1 : ∀ k0_t6 : Fin k0_t6_loop.trips, k0_off52 k0_t6 0#32 1#32 = ![1, 256 * 2, 7424 * 0 + 256 * (3 * k0_t6.val + 2)] := by decide +kernel
theorem o52_0_2 : ∀ k0_t6 : Fin k0_t6_loop.trips, k0_off52 k0_t6 0#32 2#32 = ![1, 256 * 2, 7424 * 0 + 256 * (3 * k0_t6.val + 3)] := by decide +kernel
theorem o52_1_0 : ∀ k0_t6 : Fin k0_t6_loop.trips, k0_off52 k0_t6 7424#32 0#32 = ![1, 256 * 2, 7424 * 1 + 256 * (3 * k0_t6.val + 1)] := by decide +kernel
theorem o52_1_1 : ∀ k0_t6 : Fin k0_t6_loop.trips, k0_off52 k0_t6 7424#32 1#32 = ![1, 256 * 2, 7424 * 1 + 256 * (3 * k0_t6.val + 2)] := by decide +kernel
theorem o52_1_2 : ∀ k0_t6 : Fin k0_t6_loop.trips, k0_off52 k0_t6 7424#32 2#32 = ![1, 256 * 2, 7424 * 1 + 256 * (3 * k0_t6.val + 3)] := by decide +kernel
theorem o53_0_0 : ∀ k0_t6 : Fin k0_t6_loop.trips, k0_off53 k0_t6 0#32 0#32 = ![1, 256 * 3, 7424 * 0 + 256 * (3 * k0_t6.val + 1)] := by decide +kernel
theorem o53_0_1 : ∀ k0_t6 : Fin k0_t6_loop.trips, k0_off53 k0_t6 0#32 1#32 = ![1, 256 * 3, 7424 * 0 + 256 * (3 * k0_t6.val + 2)] := by decide +kernel
theorem o53_0_2 : ∀ k0_t6 : Fin k0_t6_loop.trips, k0_off53 k0_t6 0#32 2#32 = ![1, 256 * 3, 7424 * 0 + 256 * (3 * k0_t6.val + 3)] := by decide +kernel
theorem o53_1_0 : ∀ k0_t6 : Fin k0_t6_loop.trips, k0_off53 k0_t6 7424#32 0#32 = ![1, 256 * 3, 7424 * 1 + 256 * (3 * k0_t6.val + 1)] := by decide +kernel
theorem o53_1_1 : ∀ k0_t6 : Fin k0_t6_loop.trips, k0_off53 k0_t6 7424#32 1#32 = ![1, 256 * 3, 7424 * 1 + 256 * (3 * k0_t6.val + 2)] := by decide +kernel
theorem o53_1_2 : ∀ k0_t6 : Fin k0_t6_loop.trips, k0_off53 k0_t6 7424#32 2#32 = ![1, 256 * 3, 7424 * 1 + 256 * (3 * k0_t6.val + 3)] := by decide +kernel
theorem o54_0 : ∀ k0_t7 : Fin k0_t7_loop.trips, k0_off54 k0_t7 0#32 = ![1, 256 * 0, 7424 * 0 + 256 * (3 * k0_t7.val + 1)] := by decide +kernel
theorem o54_1 : ∀ k0_t7 : Fin k0_t7_loop.trips, k0_off54 k0_t7 1#32 = ![1, 256 * 0, 7424 * 0 + 256 * (3 * k0_t7.val + 2)] := by decide +kernel
theorem o54_2 : ∀ k0_t7 : Fin k0_t7_loop.trips, k0_off54 k0_t7 2#32 = ![1, 256 * 0, 7424 * 0 + 256 * (3 * k0_t7.val + 3)] := by decide +kernel
theorem o55_0 : ∀ k0_t7 : Fin k0_t7_loop.trips, k0_off55 k0_t7 0#32 = ![0, 256 * 0, 7424 * 0 + 256 * (3 * k0_t7.val + 1)] := by decide +kernel
theorem o55_1 : ∀ k0_t7 : Fin k0_t7_loop.trips, k0_off55 k0_t7 1#32 = ![0, 256 * 0, 7424 * 0 + 256 * (3 * k0_t7.val + 2)] := by decide +kernel
theorem o55_2 : ∀ k0_t7 : Fin k0_t7_loop.trips, k0_off55 k0_t7 2#32 = ![0, 256 * 0, 7424 * 0 + 256 * (3 * k0_t7.val + 3)] := by decide +kernel
theorem o56_0 : ∀ k0_t7 : Fin k0_t7_loop.trips, k0_off56 k0_t7 0#32 = ![3712 * 0 + 128 * (3 * k0_t7.val + 2), 256 * 0] := by decide +kernel
theorem o56_1 : ∀ k0_t7 : Fin k0_t7_loop.trips, k0_off56 k0_t7 1#32 = ![3712 * 0 + 128 * (3 * k0_t7.val + 3), 256 * 0] := by decide +kernel
theorem o56_2 : ∀ k0_t7 : Fin k0_t7_loop.trips, k0_off56 k0_t7 2#32 = ![3712 * 0 + 128 * (3 * k0_t7.val + 4), 256 * 0] := by decide +kernel
theorem o57_0 : ∀ k0_t7 : Fin k0_t7_loop.trips, k0_off57 k0_t7 0#32 = ![3712 * 0 + 128 * (3 * k0_t7.val + 2), 256 * 1] := by decide +kernel
theorem o57_1 : ∀ k0_t7 : Fin k0_t7_loop.trips, k0_off57 k0_t7 1#32 = ![3712 * 0 + 128 * (3 * k0_t7.val + 3), 256 * 1] := by decide +kernel
theorem o57_2 : ∀ k0_t7 : Fin k0_t7_loop.trips, k0_off57 k0_t7 2#32 = ![3712 * 0 + 128 * (3 * k0_t7.val + 4), 256 * 1] := by decide +kernel
theorem o58_0 : ∀ k0_t7 : Fin k0_t7_loop.trips, k0_off58 k0_t7 0#32 = ![1, 256 * 1, 7424 * 0 + 256 * (3 * k0_t7.val + 1)] := by decide +kernel
theorem o58_1 : ∀ k0_t7 : Fin k0_t7_loop.trips, k0_off58 k0_t7 1#32 = ![1, 256 * 1, 7424 * 0 + 256 * (3 * k0_t7.val + 2)] := by decide +kernel
theorem o58_2 : ∀ k0_t7 : Fin k0_t7_loop.trips, k0_off58 k0_t7 2#32 = ![1, 256 * 1, 7424 * 0 + 256 * (3 * k0_t7.val + 3)] := by decide +kernel
theorem o59_0 : ∀ k0_t7 : Fin k0_t7_loop.trips, k0_off59 k0_t7 0#32 = ![0, 256 * 1, 7424 * 0 + 256 * (3 * k0_t7.val + 1)] := by decide +kernel
theorem o59_1 : ∀ k0_t7 : Fin k0_t7_loop.trips, k0_off59 k0_t7 1#32 = ![0, 256 * 1, 7424 * 0 + 256 * (3 * k0_t7.val + 2)] := by decide +kernel
theorem o59_2 : ∀ k0_t7 : Fin k0_t7_loop.trips, k0_off59 k0_t7 2#32 = ![0, 256 * 1, 7424 * 0 + 256 * (3 * k0_t7.val + 3)] := by decide +kernel
theorem o60_0 : ∀ k0_t7 : Fin k0_t7_loop.trips, k0_off60 k0_t7 0#32 = ![1, 256 * 2, 7424 * 0 + 256 * (3 * k0_t7.val + 1)] := by decide +kernel
theorem o60_1 : ∀ k0_t7 : Fin k0_t7_loop.trips, k0_off60 k0_t7 1#32 = ![1, 256 * 2, 7424 * 0 + 256 * (3 * k0_t7.val + 2)] := by decide +kernel
theorem o60_2 : ∀ k0_t7 : Fin k0_t7_loop.trips, k0_off60 k0_t7 2#32 = ![1, 256 * 2, 7424 * 0 + 256 * (3 * k0_t7.val + 3)] := by decide +kernel
theorem o61_0 : ∀ k0_t7 : Fin k0_t7_loop.trips, k0_off61 k0_t7 0#32 = ![0, 256 * 2, 7424 * 0 + 256 * (3 * k0_t7.val + 1)] := by decide +kernel
theorem o61_1 : ∀ k0_t7 : Fin k0_t7_loop.trips, k0_off61 k0_t7 1#32 = ![0, 256 * 2, 7424 * 0 + 256 * (3 * k0_t7.val + 2)] := by decide +kernel
theorem o61_2 : ∀ k0_t7 : Fin k0_t7_loop.trips, k0_off61 k0_t7 2#32 = ![0, 256 * 2, 7424 * 0 + 256 * (3 * k0_t7.val + 3)] := by decide +kernel
theorem o62_0 : ∀ k0_t7 : Fin k0_t7_loop.trips, k0_off62 k0_t7 0#32 = ![1, 256 * 3, 7424 * 0 + 256 * (3 * k0_t7.val + 1)] := by decide +kernel
theorem o62_1 : ∀ k0_t7 : Fin k0_t7_loop.trips, k0_off62 k0_t7 1#32 = ![1, 256 * 3, 7424 * 0 + 256 * (3 * k0_t7.val + 2)] := by decide +kernel
theorem o62_2 : ∀ k0_t7 : Fin k0_t7_loop.trips, k0_off62 k0_t7 2#32 = ![1, 256 * 3, 7424 * 0 + 256 * (3 * k0_t7.val + 3)] := by decide +kernel
theorem o63_0 : ∀ k0_t7 : Fin k0_t7_loop.trips, k0_off63 k0_t7 0#32 = ![0, 256 * 3, 7424 * 0 + 256 * (3 * k0_t7.val + 1)] := by decide +kernel
theorem o63_1 : ∀ k0_t7 : Fin k0_t7_loop.trips, k0_off63 k0_t7 1#32 = ![0, 256 * 3, 7424 * 0 + 256 * (3 * k0_t7.val + 2)] := by decide +kernel
theorem o63_2 : ∀ k0_t7 : Fin k0_t7_loop.trips, k0_off63 k0_t7 2#32 = ![0, 256 * 3, 7424 * 0 + 256 * (3 * k0_t7.val + 3)] := by decide +kernel

end Cert.Proof.GateUp.KernelIdeal

end
-- ==== Proof.KernelIdealCells.lean ====
/-
  The accumulator and the output block: the accumulator as a table of 256 × 256 cells, what a store into one cell
  does to it, and the last stage, which turns 128 rows of the accumulator into 128 rows of the output.
-/
module

public import proofs.«01_k».proof.Proof.Gen.KernelIdeal.Skeleton
public import proofs.«01_k».proof.Proof.Unit
public import Idealize.ShloMosaic.Lib.Pipeline.FrameBody
public import Idealize.ShloMosaic.Lib.Pipeline.Value
public import Idealize.ShloMosaic.Lib.WritesUnit
public import Idealize.ShloMosaic.Lib.Pointwise.Reshape

@[expose] public section

set_option maxRecDepth 16384

noncomputable section

namespace Cert.Proof.GateUp.KernelIdeal

open Cert.KernelIdeal Cert.KernelIdeal.Gen Idealize.ShloMosaic Idealize.ShloMosaic.TcCoe Idealize.SL.Sem
open Cert.Proof.Unit
open Idealize.ShloMosaic.Mxu (ix)

variable {F : FTy → Type} [FloatOps F]

/-- The accumulator as cells: batch, matrix, row block, column block. -/
abbrev Cells (F : FTy → Type) : Type := ℕ → ℕ → ℕ → ℕ → Blk F

/-- The accumulator's contents made of cells. -/
def asm (A : Cells F) : Vec F S2x2x1024x512 .f32 := fun i =>
  A (i 0).val (i 1).val ((i 2).val / 256) ((i 3).val / 256)
    (ix ⟨(i 2).val % 256, Nat.mod_lt _ (by decide)⟩ ⟨(i 3).val % 256, Nat.mod_lt _ (by decide)⟩)

/-- Replacing one cell. -/
def upd (A : Cells F) (b g c q : ℕ) (v : Blk F) : Cells F :=
  fun b' g' c' q' => if b' = b ∧ g' = g ∧ c' = c ∧ q' = q then v else A b' g' c' q'

/-- A cell as the block that is stored. -/
def box (v : Blk F) : Vec F S1x1x256x256 .f32 := fun i => v (ix (i 2) (i 3))

theorem shapeCast_box (v : FVec F S256x256 .f32) (h : S256x256.ShapeCasts S1x1x256x256) :
    shapeCast S1x1x256x256 v h = box v := by
  rw [← shapeCast_comp v (t := S1x256x256) (by decide) (by decide)]
  funext j
  refine (shapeCast_addUnit_apply ![1, 256, 256] _ _ j).trans ?_
  refine (shapeCast_addUnit_apply ![256, 256] v _ _).trans ?_
  refine congrArg v (funext fun a => ?_)
  match a with
  | ⟨0, _⟩ => rfl
  | ⟨1, _⟩ => rfl

theorem shapeCast_unbox (v : Blk F) (h : S1x1x256x256.ShapeCasts S256x256) :
    shapeCast S256x256 (box v) h = v := by
  rw [← shapeCast_box v (by decide)]
  exact shapeCast_shapeCast _ _ _

theorem read_cell {κ : Kind} {sp : Space} (v : View sig κ sp S2x2x1024x512 .f32) (f : v.ty.Contents (Elt F))
    (L : List (View.Piece (Elt F) S2x2x1024x512 .f32)) (A : Cells F) (b g c q : ℕ) {o : Fin 4 → ℕ} (ho : o = ![b, g, 256 * c, 256 * q])
    (inb : ∀ a, o a + S1x1x256x256.size a ≤ S2x2x1024x512.size a) (w : Blk F)
    (h : v.read (Elt F) (v.writes (Elt F) f L) = asm A) :
    v.read (Elt F) (v.writes (Elt F) f ((⟨Rect.unit (s := S2x2x1024x512) o S1x1x256x256.size inb, box w⟩ : View.Piece (Elt F) S2x2x1024x512 .f32) :: L))
      = asm (upd A b g c q w) := by
  subst ho
  funext y
  have k2 := inb 2; have k3 := inb 3
  change 256 * c + 256 ≤ 1024 at k2
  change 256 * q + 256 ≤ 512 at k3
  by_cases hy : (y 0).val = b ∧ (y 1).val = g ∧ (y 2).val / 256 = c ∧ (y 3).val / 256 = q
  · obtain ⟨h0, h1, h2, h3⟩ := hy
    refine (View.read_writes_cons_unit_of_mem v f inb (box w) L y
      (fun a => match a with
        | ⟨0, _⟩ => (⟨0, by decide⟩ : Fin 1) | ⟨1, _⟩ => (⟨0, by decide⟩ : Fin 1)
        | ⟨2, _⟩ => (⟨(y 2).val % 256, Nat.mod_lt _ (by decide)⟩ : Fin 256)
        | ⟨3, _⟩ => (⟨(y 3).val % 256, Nat.mod_lt _ (by decide)⟩ : Fin 256)) rfl (fun a => ?_)).trans ?_
    · match a with
      | ⟨0, _⟩ => exact h0
      | ⟨1, _⟩ => exact h1
      | ⟨2, _⟩ => show (y 2).val = 256 * c + (y 2).val % 256; omega
      | ⟨3, _⟩ => show (y 3).val = 256 * q + (y 3).val % 256; omega
    · unfold asm upd box
      rw [if_pos ⟨h0, h1, h2, h3⟩]
  · have e : asm (upd A b g c q w) y = asm A y := by
      unfold asm upd
      rw [if_neg hy]
    rw [e, ← h]
    by_cases h0 : (y 0).val = b
    · by_cases h1 : (y 1).val = g
      · by_cases h2 : (y 2).val / 256 = c
        · have h3 : (y 3).val / 256 ≠ q := fun h3 => hy ⟨h0, h1, h2, h3⟩
          exact View.read_writes_cons_unit_of_not_mem v f inb (box w) L y rfl 3 (by
            show (y 3).val < 256 * q ∨ 256 * q + 256 ≤ (y 3).val; omega)
        · exact View.read_writes_cons_unit_of_not_mem v f inb (box w) L y rfl 2 (by
            show (y 2).val < 256 * c ∨ 256 * c + 256 ≤ (y 2).val; omega)
      · exact View.read_writes_cons_unit_of_not_mem v f inb (box w) L y rfl 1 (by
          show (y 1).val < g ∨ g + 1 ≤ (y 1).val; omega)
    · exact View.read_writes_cons_unit_of_not_mem v f inb (box w) L y rfl 0 (by
        show (y 0).val < b ∨ b + 1 ≤ (y 0).val; omega)

theorem readAt_cell {κ : Kind} {sp : Space} (v : View sig κ sp S2x2x1024x512 .f32) (f : v.ty.Contents (Elt F)) (A : Cells F)
    (b g c q : ℕ) {o : Fin 4 → ℕ} (ho : o = ![b, g, 256 * c, 256 * q])
    (inb : ∀ a, o a + S1x1x256x256.size a ≤ S2x2x1024x512.size a) (h : v.read (Elt F) f = asm A) :
    v.readAt (Elt F) (Rect.unit (s := S2x2x1024x512) o S1x1x256x256.size inb).toLoadRect f = box (A b g c q) := by
  subst ho
  funext i
  have e0 : (i 0).val < 1 := (i 0).isLt
  have e1 : (i 1).val < 1 := (i 1).isLt
  have e2 : (i 2).val < 256 := (i 2).isLt
  have e3 : (i 3).val < 256 := (i 3).isLt
  rw [View.readAt_eq_ld, h]
  show A (b + 1 * (i 0).val) (g + 1 * (i 1).val) ((256 * c + 1 * (i 2).val) / 256) ((256 * q + 1 * (i 3).val) / 256)
    (ix ⟨(256 * c + 1 * (i 2).val) % 256, _⟩ ⟨(256 * q + 1 * (i 3).val) % 256, _⟩) = A b g c q (ix (i 2) (i 3))
  have a0 : b + 1 * (i 0).val = b := by omega
  have a1 : g + 1 * (i 1).val = g := by omega
  have a2 : (256 * c + 1 * (i 2).val) / 256 = c := by omega
  have a3 : (256 * q + 1 * (i 3).val) / 256 = q := by omega
  have a4 : (⟨(256 * c + 1 * (i 2).val) % 256, Nat.mod_lt _ (by decide)⟩ : Fin 256) = i 2 := Fin.ext (by show (256 * c + 1 * (i 2).val) % 256 = (i 2).val; omega)
  have a5 : (⟨(256 * q + 1 * (i 3).val) % 256, Nat.mod_lt _ (by decide)⟩ : Fin 256) = i 3 := Fin.ext (by show (256 * q + 1 * (i 3).val) % 256 = (i 3).val; omega)
  rw [a0, a1, a2, a3, a4, a5]

/-- One output entry from the two accumulated products, the row's scale and the two column scales. -/
def epi1 (g s wg u wu : F .f32) : F .bf16 :=
  let G : F .f32 := FloatOps.mulf (FloatOps.mulf g s) wg
  let U : F .f32 := FloatOps.mulf (FloatOps.mulf u s) wu
  FloatOps.truncf .bf16 bitsLt_bf16_f32 (FloatOps.mulf (FloatOps.mulf G (FloatOps.logistic G)) U)

/-- Index `(b, g, r, c)` of the accumulator. -/
def i4 (b : Fin 2) (g : Fin 2) (r : Fin 1024) (c : Fin 512) : S2x2x1024x512.Idx :=
  fun a => match a with | ⟨0, _⟩ => b | ⟨1, _⟩ => g | ⟨2, _⟩ => r | ⟨3, _⟩ => c

/-- Index `(b, r, 0)` of the row scales. -/
def i3 (b : Fin 2) (r : Fin 1024) : S2x1024x1.Idx :=
  fun a => match a with | ⟨0, _⟩ => b | ⟨1, _⟩ => r | ⟨2, _⟩ => (0 : Fin 1)

/-- Index `(0, c)` of the column scales. -/
def i2 (c : Fin 512) : S1x512.Idx := fun a => match a with | ⟨0, _⟩ => (0 : Fin 1) | ⟨1, _⟩ => c

/-- The output block of an accumulator. -/
def epi (S : Vec F S2x1024x1 .f32) (A : Vec F S2x2x1024x512 .f32) (wg wu : Vec F S1x512 .f32) : Vec F S2x1024x512 .bf16 :=
  fun i => epi1 (A (i4 (i 0) 0 (i 1) (i 2))) (S (i3 (i 0) (i 1))) (wg (i2 (i 2))) (A (i4 (i 0) 1 (i 1) (i 2))) (wu (i2 (i 2)))

/-- One tile of 128 rows of one batch of the output, as the program computes it from what it loads. -/
def epiT (s : Vec F S1x128x1 .f32) (g : Vec F S1x1x128x512 .f32) (wg : Vec F S1x512 .f32) (u : Vec F S1x1x128x512 .f32)
    (wu : Vec F S1x512 .f32) : FVec F S1x128x512 .bf16 := k0_pay37 s g wg u wu

theorem epiT_apply (s : Vec F S1x128x1 .f32) (g : Vec F S1x1x128x512 .f32) (wg : Vec F S1x512 .f32) (u : Vec F S1x1x128x512 .f32)
    (wu : Vec F S1x512 .f32) (j : S1x128x512.Idx) :
    epiT s g wg u wu j = epi1 (g (fun a => match a with | ⟨0, _⟩ => (0 : Fin 1) | ⟨1, _⟩ => (0 : Fin 1) | ⟨2, _⟩ => j 1 | ⟨3, _⟩ => j 2))
      (s (fun a => match a with | ⟨0, _⟩ => (0 : Fin 1) | ⟨1, _⟩ => j 1 | ⟨2, _⟩ => (0 : Fin 1))) (wg (i2 (j 2)))
      (u (fun a => match a with | ⟨0, _⟩ => (0 : Fin 1) | ⟨1, _⟩ => (0 : Fin 1) | ⟨2, _⟩ => j 1 | ⟨3, _⟩ => j 2)) (wu (i2 (j 2))) := by
  have e4 : ∀ (w : Vec F S1x1x128x512 .f32) (h : S1x1x128x512.ShapeCasts S128x512),
      shapeCast S128x512 w h (fun a => j a.succ) = w (fun a => match a with | ⟨0, _⟩ => (0 : Fin 1) | ⟨1, _⟩ => (0 : Fin 1) | ⟨2, _⟩ => j 1 | ⟨3, _⟩ => j 2) := by
    intro w h
    rw [← shapeCast_comp w (t := S1x128x512) (by decide) (by decide)]
    refine (shapeCast_dropUnit_apply ![128, 512] _ _ _).trans ?_
    refine (shapeCast_dropUnit_apply ![1, 128, 512] w _ _).trans ?_
    refine congrArg w (funext fun a => ?_)
    match a with
    | ⟨0, _⟩ => rfl
    | ⟨1, _⟩ => rfl
    | ⟨2, _⟩ => rfl
    | ⟨3, _⟩ => rfl
  have e3 : ∀ (w : Vec F S1x128x1 .f32) (h : S1x128x1.ShapeCasts S128x1) (h' : S128x1.Broadcasts S128x512),
      broadcastTo S128x512 (shapeCast S128x1 w h) h' (fun a => j a.succ) = w (fun a => match a with | ⟨0, _⟩ => (0 : Fin 1) | ⟨1, _⟩ => j 1 | ⟨2, _⟩ => (0 : Fin 1)) := by
    intro w h h'
    refine (shapeCast_dropUnit_apply ![128, 1] w _ _).trans ?_
    refine congrArg w (funext fun a => ?_)
    match a with
    | ⟨0, _⟩ => rfl
    | ⟨1, _⟩ => rfl
    | ⟨2, _⟩ => rfl
  have e2 : ∀ (w : Vec F S1x512 .f32) (h' : S1x512.Broadcasts S128x512),
      broadcastTo S128x512 w h' (fun a => j a.succ) = w (i2 (j 2)) := by
    intro w h'
    refine congrArg w (funext fun a => ?_)
    match a with
    | ⟨0, _⟩ => rfl
    | ⟨1, _⟩ => rfl
  unfold epiT k0_pay37
  refine (shapeCast_addUnit_apply ![128, 512] _ _ j).trans ?_
  show epi1 (shapeCast S128x512 g _ fun a => j a.succ) (broadcastTo S128x512 (shapeCast S128x1 s _) _ fun a => j a.succ)
    (broadcastTo S128x512 wg _ fun a => j a.succ) (shapeCast S128x512 u _ fun a => j a.succ)
    (broadcastTo S128x512 wu _ fun a => j a.succ) = _
  rw [e4, e4, e3, e2, e2]

theorem epiT_loop (s : Vec F S1x128x1 .f32) (g : Vec F S1x1x128x512 .f32) (wg : Vec F S1x512 .f32) (u : Vec F S1x1x128x512 .f32)
    (wu : Vec F S1x512 .f32) : k0_pay36 (k0_pay33 s) (k0_pay34 s g wg) (k0_pay35 u) wu = epiT s g wg u wu := rfl

theorem epiT_last0 (s : Vec F S1x128x1 .f32) (g : Vec F S1x1x128x512 .f32) (wg : Vec F S1x512 .f32) (u : Vec F S1x1x128x512 .f32)
    (wu : Vec F S1x512 .f32) : k0_pay392 s g wg u wu = epiT s g wg u wu := rfl

theorem epiT_last1 (s : Vec F S1x128x1 .f32) (g : Vec F S1x1x128x512 .f32) (wg : Vec F S1x512 .f32) (u : Vec F S1x1x128x512 .f32)
    (wu : Vec F S1x512 .f32) : k0_pay5 (k0_pay393 s) (k0_pay394 s g) wg u wu = epiT s g wg u wu := rfl

/-- The tile of what the memory holds at batch `b`, rows `128 m …`, is that tile of the output block. -/
theorem epiT_read {κ : Kind} {sp2 sp5 sp6 sp9 : Space} (v2 : View sig κ sp2 S2x1024x1 .f32) (f2 : v2.ty.Contents (Elt F))
    (v5 : View sig κ sp5 S1x512 .f32) (f5 : v5.ty.Contents (Elt F)) (v6 : View sig κ sp6 S1x512 .f32) (f6 : v6.ty.Contents (Elt F))
    (v9 : View sig κ sp9 S2x2x1024x512 .f32) (f9 : v9.ty.Contents (Elt F)) (b : Fin 2) (m : ℕ) (hm : m < 8)
    {o2 : Fin 3 → ℕ} (h2 : o2 = ![b.val, 128 * m, 0]) (inb2 : ∀ a, o2 a + S1x128x1.size a ≤ S2x1024x1.size a)
    {og : Fin 4 → ℕ} (hg : og = ![b.val, 0, 128 * m, 0]) (inbg : ∀ a, og a + S1x1x128x512.size a ≤ S2x2x1024x512.size a)
    {ou : Fin 4 → ℕ} (hu : ou = ![b.val, 1, 128 * m, 0]) (inbu : ∀ a, ou a + S1x1x128x512.size a ≤ S2x2x1024x512.size a)
    (inb5 : ∀ a, ![0, 0] a + S1x512.size a ≤ S1x512.size a) (inb6 : ∀ a, ![0, 0] a + S1x512.size a ≤ S1x512.size a)
    (j : S1x128x512.Idx) (i : S2x1024x512.Idx) (hi0 : (i 0).val = b.val) (hi1 : (i 1).val = 128 * m + (j 1).val) (hi2 : (i 2).val = (j 2).val) :
    epiT (v2.readAt (Elt F) (Rect.unit (s := S2x1024x1) o2 S1x128x1.size inb2).toLoadRect f2)
      (v9.readAt (Elt F) (Rect.unit (s := S2x2x1024x512) og S1x1x128x512.size inbg).toLoadRect f9)
      (v5.readAt (Elt F) (Rect.unit (s := S1x512) ![0, 0] S1x512.size inb5).toLoadRect f5)
      (v9.readAt (Elt F) (Rect.unit (s := S2x2x1024x512) ou S1x1x128x512.size inbu).toLoadRect f9)
      (v6.readAt (Elt F) (Rect.unit (s := S1x512) ![0, 0] S1x512.size inb6).toLoadRect f6) j
      = epi (v2.read (Elt F) f2) (v9.read (Elt F) f9) (v5.read (Elt F) f5) (v6.read (Elt F) f6) i := by
  subst h2 hg hu
  rw [epiT_apply]
  unfold epi
  rw [View.readAt_eq_ld, View.readAt_eq_ld, View.readAt_eq_ld, View.readAt_eq_ld, View.readAt_eq_ld]
  congr 1
  · refine congrArg (v9.read (Elt F) f9) (funext fun a => Fin.ext ?_)
    match a with
    | ⟨0, _⟩ => exact hi0.symm
    | ⟨1, _⟩ => rfl
    | ⟨2, _⟩ => show 128 * m + 1 * (j 1).val = (i 1).val; omega
    | ⟨3, _⟩ => show 0 + 1 * (j 2).val = (i 2).val; omega
  · refine congrArg (v2.read (Elt F) f2) (funext fun a => Fin.ext ?_)
    match a with
    | ⟨0, _⟩ => exact hi0.symm
    | ⟨1, _⟩ => show 128 * m + 1 * (j 1).val = (i 1).val; omega
    | ⟨2, _⟩ => rfl
  · refine congrArg (v5.read (Elt F) f5) (funext fun a => Fin.ext ?_)
    match a with
    | ⟨0, _⟩ => rfl
    | ⟨1, _⟩ => show 0 + 1 * (j 2).val = (i 2).val; omega
  · refine congrArg (v9.read (Elt F) f9) (funext fun a => Fin.ext ?_)
    match a with
    | ⟨0, _⟩ => exact hi0.symm
    | ⟨1, _⟩ => rfl
    | ⟨2, _⟩ => show 128 * m + 1 * (j 1).val = (i 1).val; omega
    | ⟨3, _⟩ => show 0 + 1 * (j 2).val = (i 2).val; omega
  · refine congrArg (v6.read (Elt F) f6) (funext fun a => Fin.ext ?_)
    match a with
    | ⟨0, _⟩ => rfl
    | ⟨1, _⟩ => show 0 + 1 * (j 2).val = (i 2).val; omega

/-- Writing rows `128 m …` of both batches: those rows hold the tiles, the others what they held. -/
theorem read_rows {κ : Kind} {sp : Space} (v : View sig κ sp S2x1024x512 .bf16) (f : v.ty.Contents (Elt F)) (E : Vec F S2x1024x512 .bf16)
    (m : ℕ) {o0 o1 : Fin 3 → ℕ} (h0 : o0 = ![0, 128 * m, 0]) (h1 : o1 = ![1, 128 * m, 0])
    (inb0 : ∀ a, o0 a + S1x128x512.size a ≤ S2x1024x512.size a) (inb1 : ∀ a, o1 a + S1x128x512.size a ≤ S2x1024x512.size a)
    (w0 w1 : Vec F S1x128x512 .bf16)
    (hw0 : ∀ (j : S1x128x512.Idx) (i : S2x1024x512.Idx), (i 0).val = 0 → (i 1).val = 128 * m + (j 1).val → (i 2).val = (j 2).val → w0 j = E i)
    (hw1 : ∀ (j : S1x128x512.Idx) (i : S2x1024x512.Idx), (i 0).val = 1 → (i 1).val = 128 * m + (j 1).val → (i 2).val = (j 2).val → w1 j = E i)
    (y : S2x1024x512.Idx) :
    v.read (Elt F) (v.writes (Elt F) f [(⟨Rect.unit (s := S2x1024x512) o1 S1x128x512.size inb1, w1⟩ : View.Piece (Elt F) S2x1024x512 .bf16),
        ⟨Rect.unit (s := S2x1024x512) o0 S1x128x512.size inb0, w0⟩]) y
      = if 128 * m ≤ (y 1).val ∧ (y 1).val < 128 * m + 128 then E y else v.read (Elt F) f y := by
  subst h0 h1
  have y0 : (y 0).val < 2 := (y 0).isLt
  by_cases hy : 128 * m ≤ (y 1).val ∧ (y 1).val < 128 * m + 128
  · rw [if_pos hy]
    by_cases hb : (y 0).val = 1
    · refine (View.read_writes_cons_unit_of_mem v f inb1 w1 _ y
        (fun a => match a with
          | ⟨0, _⟩ => (⟨0, by decide⟩ : Fin 1) | ⟨1, _⟩ => (⟨(y 1).val - 128 * m, by omega⟩ : Fin 128) | ⟨2, _⟩ => y 2) rfl (fun a => ?_)).trans
        (hw1 _ y hb ?_ rfl)
      · match a with
        | ⟨0, _⟩ => exact hb
        | ⟨1, _⟩ => show (y 1).val = 128 * m + ((y 1).val - 128 * m); omega
        | ⟨2, _⟩ => exact (Nat.zero_add _).symm
      · show (y 1).val = 128 * m + ((y 1).val - 128 * m); omega
    · have hb : (y 0).val = 0 := by omega
      refine (View.read_writes_cons_unit_of_not_mem v f inb1 w1 _ y rfl 0 (by show (y 0).val < 1 ∨ _; omega)).trans ?_
      refine (View.read_writes_cons_unit_of_mem v f inb0 w0 _ y
        (fun a => match a with
          | ⟨0, _⟩ => (⟨0, by decide⟩ : Fin 1) | ⟨1, _⟩ => (⟨(y 1).val - 128 * m, by omega⟩ : Fin 128) | ⟨2, _⟩ => y 2) rfl (fun a => ?_)).trans
        (hw0 _ y hb ?_ rfl)
      · match a with
        | ⟨0, _⟩ => exact hb
        | ⟨1, _⟩ => show (y 1).val = 128 * m + ((y 1).val - 128 * m); omega
        | ⟨2, _⟩ => exact (Nat.zero_add _).symm
      · show (y 1).val = 128 * m + ((y 1).val - 128 * m); omega
  · rw [if_neg hy]
    refine (View.read_writes_cons_unit_of_not_mem v f inb1 w1 _ y rfl 1 (by show (y 1).val < 128 * m ∨ 128 * m + 128 ≤ (y 1).val; omega)).trans ?_
    exact View.read_writes_cons_unit_of_not_mem v f inb0 w0 _ y rfl 1 (by show (y 1).val < 128 * m ∨ 128 * m + 128 ≤ (y 1).val; omega)

end Cert.Proof.GateUp.KernelIdeal

end
-- ==== Proof.KernelIdealTrip1.lean ====
/-
  One trip of the first product's loop, and one of the last step's loop: both also write 128 rows of the output.
-/
module

public import Idealize.ShloMosaic.Lib.Exec
public import Idealize.ShloMosaic.Lib.Tactic
public import Idealize.ShloMosaic.Lib.Pipeline.Kit
public import proofs.«01_k».proof.Proof.KernelIdealSpec
public import proofs.«01_k».proof.Proof.KernelIdealOffs
public import proofs.«01_k».proof.Proof.KernelIdealCells

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- One trip of the loop of product 0: three more tiles of the contracted axis, and 128 rows of the output. -/
theorem trip1 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu10 : Mxu F) (v133_r0 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k0_t1_loop.trips) (b : BitVec 32) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) : sProp 𝕄G)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 k0_h3 k0_mxu10 v133_r0 k (b, St (arg8.view.read (Elt F) X8) (arg3.view.read (Elt F) X3) (arg4.view.read (Elt F) X4) 0 (3 * k.val + 1)))
          (fun yld => iprop(⌜yld = (0#32, St (arg8.view.read (Elt F) X8) (arg3.view.read (Elt F) X3) (arg4.view.read (Elt F) X4) 0 (3 * (k.val + 1) + 1))⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (∃ f, (arg7.view.loc (c : Thread nD τ) ↦[arg7.view.set]{fullShare} f) ∗ ⌜∀ y, arg7.view.read (Elt F) f y = if 128 * (min k.val 7) ≤ (y 1).val ∧ (y 1).val < 128 * (min k.val 7) + 128 then epi (arg2.view.read (Elt F) X2) (arg9.view.read (Elt F) X9) (arg5.view.read (Elt F) X5) (arg6.view.read (Elt F) X6) y else arg7.view.read (Elt F) X7 y⌝))) := by
  unfold k0_t1_body
  iintro ⟨H2, H3, H4, H5, H6, H7, H8, H9⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o2_0, o2_1, o2_2, o3_0, o3_1, o3_2, o4_0_0, o4_0_1, o4_0_2, o4_1_0, o4_1_1, o4_1_2, o5_0_0, o5_0_1, o5_0_2, o5_1_0, o5_1_1, o5_1_2, o6_0, o6_1, o6_2, o7_0, o7_1, o7_2, o8_0, o8_1, o8_2, o9_0, o9_1, o9_2, o10_0, o10_1, o10_2, o11_0, o11_1, o11_2]
    rfl
  isplitl [H2]
  · iassumption
  isplitl [H3]
  · iassumption
  isplitl [H4]
  · iassumption
  isplitl [H5]
  · iassumption
  isplitl [H6]
  · iassumption
  isplitl [H8]
  · iassumption
  isplitl [H9]
  · iassumption
  iexists _
  isplitl [H7]
  · iassumption
  ipureintro
  intro y
  refine read_rows arg7.view X7 _ (min k.val 7) (k0_off15_eq k) (k0_off19_eq k) _ _ _ _ ?_ ?_ y
  · intro j i h0 h1 h2
    exact epiT_read arg2.view X2 arg5.view X5 arg6.view X6 arg9.view X9 0 (min k.val 7) (by omega) (k0_off12_eq k) _ (k0_off13_eq k) _ (k0_off14_eq k) _ _ _ j i h0 h1 h2
  · intro j i h0 h1 h2
    exact epiT_read arg2.view X2 arg5.view X5 arg6.view X6 arg9.view X9 1 (min k.val 7) (by omega) (k0_off16_eq k) _ (k0_off17_eq k) _ (k0_off18_eq k) _ _ _ j i h0 h1 h2

/-- One trip of the last step's loop: 128 rows of the output. -/
theorem trip8 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h4 : k0_cond4 i = 1#1)
    (X2 : BufTy.Contents (Elt F) arg2.view.ty) (X5 : BufTy.Contents (Elt F) arg5.view.ty) (X6 : BufTy.Contents (Elt F) arg6.view.ty) (X7 : BufTy.Contents (Elt F) arg7.view.ty) (X9 : BufTy.Contents (Elt F) arg9.view.ty) (k : Fin k0_t8_loop.trips) (b : BitVec 32) :
    (iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9)) : sProp 𝕄G)
      ⊢ wp frame (wpE (defs₀ (F := F)) 𝒱 (c : Thread nD τ) bd) E
          (k0_t8_body (F := F) i arg1 harg1 arg2 harg2 arg3 harg3 arg4 harg4 arg5 harg5 arg6 harg6 arg7 harg7 arg8 harg8 arg9 harg9 arg10 k0_h4 k b)
          (fun yld => iprop(⌜yld = 0#32⌝ ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (∃ f, (arg7.view.loc (c : Thread nD τ) ↦[arg7.view.set]{fullShare} f) ∗ ⌜∀ y, arg7.view.read (Elt F) f y = if 128 * k.val ≤ (y 1).val ∧ (y 1).val < 128 * k.val + 128 then epi (arg2.view.read (Elt F) X2) (arg9.view.read (Elt F) X9) (arg5.view.read (Elt F) X5) (arg6.view.read (Elt F) X6) y else arg7.view.read (Elt F) X7 y⌝))) := by
  have hk : k.val < 8 := lt_of_lt_of_eq k.isLt (by decide)
  unfold k0_t8_body
  iintro ⟨H2, H5, H6, H7, H9⟩
  sl_exec
  sl_step
  isplitr
  · ipureintro
    rfl
  isplitl [H2]
  · iassumption
  isplitl [H5]
  · iassumption
  isplitl [H6]
  · iassumption
  isplitl [H9]
  · iassumption
  iexists _
  isplitl [H7]
  · iassumption
  ipureintro
  intro y
  refine read_rows arg7.view X7 _ k.val (k0_off67_eq k) (k0_off71_eq k) _ _ _ _ ?_ ?_ y
  · intro j i h0 h1 h2
    exact epiT_read arg2.view X2 arg5.view X5 arg6.view X6 arg9.view X9 0 k.val hk (k0_off64_eq k) _ (k0_off65_eq k) _ (k0_off66_eq k) _ _ _ j i h0 h1 h2
  · intro j i h0 h1 h2
    exact epiT_read arg2.view X2 arg5.view X5 arg6.view X6 arg9.view X9 1 k.val hk (k0_off68_eq k) _ (k0_off69_eq k) _ (k0_off70_eq k) _ _ _ j i h0 h1 h2

end Cert.Proof.GateUp.KernelIdeal

end
-- ==== Proof.KernelIdealTripA.lean ====
/-
  One trip of the loops of products 1 to 3.
-/
module

public import Idealize.ShloMosaic.Lib.Exec
public import Idealize.ShloMosaic.Lib.Tactic
public import Idealize.ShloMosaic.Lib.Pipeline.Kit
public import proofs.«01_k».proof.Proof.KernelIdealSpec
public import proofs.«01_k».proof.Proof.KernelIdealOffs
public import proofs.«01_k».proof.Proof.KernelIdealCells

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- One trip of the loop of product 1: three more tiles of the contracted axis. -/
theorem trip2 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v361_r0 : FVec F S256x256 .f32) (k0_mxu72 : Mxu F)
    (X3 : BufTy.Contents (Elt F) arg3.view.ty) (X4 : BufTy.Contents (Elt F) arg4.view.ty) (X8 : BufTy.Contents (Elt F) arg8.view.ty) (k : Fin k0_t2_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t2_body (F := F) i arg1 harg1 arg2 harg2 arg3 harg3 arg4 harg4 arg5 harg5 arg6 harg6 arg7 harg7 arg8 harg8 arg9 harg9 arg10 k0_h3 v361_r0 k0_mxu72 k (b, St (arg8.view.read (Elt F) X8) (arg3.view.read (Elt F) X3) (arg4.view.read (Elt F) X4) 1 (3 * k.val + 1)))
          (fun yld => iprop(⌜yld = (0#32, St (arg8.view.read (Elt F) X8) (arg3.view.read (Elt F) X3) (arg4.view.read (Elt F) X4) 1 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t2_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o20_0, o20_1, o20_2, o21_0_0, o21_0_1, o21_0_2, o21_1_0, o21_1_1, o21_1_2, o22_0_0, o22_0_1, o22_0_2, o22_1_0, o22_1_1, o22_1_2, o23_0, o23_1, o23_2, o24_0, o24_1, o24_2, o25_0, o25_1, o25_2]
    rfl
  isplitl [H3]
  · iassumption
  isplitl [H4]
  · iassumption
  iassumption

/-- One trip of the loop of product 2: three more tiles of the contracted axis. -/
theorem trip3 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v576_r0 : FVec F S256x256 .f32) (k0_mxu132 : Mxu F)
    (X3 : BufTy.Contents (Elt F) arg3.view.ty) (X4 : BufTy.Contents (Elt F) arg4.view.ty) (X8 : BufTy.Contents (Elt F) arg8.view.ty) (k : Fin k0_t3_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t3_body (F := F) i arg1 harg1 arg2 harg2 arg3 harg3 arg4 harg4 arg5 harg5 arg6 harg6 arg7 harg7 arg8 harg8 arg9 harg9 arg10 k0_h3 v576_r0 k0_mxu132 k (b, St (arg8.view.read (Elt F) X8) (arg3.view.read (Elt F) X3) (arg4.view.read (Elt F) X4) 2 (3 * k.val + 1)))
          (fun yld => iprop(⌜yld = (0#32, St (arg8.view.read (Elt F) X8) (arg3.view.read (Elt F) X3) (arg4.view.read (Elt F) X4) 2 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t3_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o26_0, o26_1, o26_2, o27_0_0, o27_0_1, o27_0_2, o27_1_0, o27_1_1, o27_1_2, o28_0_0, o28_0_1, o28_0_2, o28_1_0, o28_1_1, o28_1_2, o29_0, o29_1, o29_2, o30_0, o30_1, o30_2, o31_0, o31_1, o31_2]
    rfl
  isplitl [H3]
  · iassumption
  isplitl [H4]
  · iassumption
  iassumption

/-- One trip of the loop of product 3: three more tiles of the contracted axis. -/
theorem trip4 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu192 : Mxu F) (v782_r0 : BitVec 32)
    (X3 : BufTy.Contents (Elt F) arg3.view.ty) (X4 : BufTy.Contents (Elt F) arg4.view.ty) (X8 : BufTy.Contents (Elt F) arg8.view.ty) (k : Fin k0_t4_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t4_body (F := F) i arg1 harg1 arg2 harg2 arg3 harg3 arg4 harg4 arg5 harg5 arg6 harg6 arg7 harg7 arg8 harg8 arg9 harg9 arg10 k0_h3 k0_mxu192 v782_r0 k (b, St (arg8.view.read (Elt F) X8) (arg3.view.read (Elt F) X3) (arg4.view.read (Elt F) X4) 3 (3 * k.val + 1)))
          (fun yld => iprop(⌜yld = (0#32, St (arg8.view.read (Elt F) X8) (arg3.view.read (Elt F) X3) (arg4.view.read (Elt F) X4) 3 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t4_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o32_0_0, o32_0_1, o32_0_2, o32_1_0, o32_1_1, o32_1_2, o33_0, o33_1, o33_2, o34_0, o34_1, o34_2, o35_0_0, o35_0_1, o35_0_2, o35_1_0, o35_1_1, o35_1_2, o36_0_0, o36_0_1, o36_0_2, o36_1_0, o36_1_1, o36_1_2, o37_0_0, o37_0_1, o37_0_2, o37_1_0, o37_1_1, o37_1_2]
    rfl
  isplitl [H3]
  · iassumption
  isplitl [H4]
  · iassumption
  iassumption

end Cert.Proof.GateUp.KernelIdeal

end
-- ==== Proof.KernelIdealTripB.lean ====
/-
  One trip of the loops of products 4 to 6.
-/
module

public import Idealize.ShloMosaic.Lib.Exec
public import Idealize.ShloMosaic.Lib.Tactic
public import Idealize.ShloMosaic.Lib.Pipeline.Kit
public import proofs.«01_k».proof.Proof.KernelIdealSpec
public import proofs.«01_k».proof.Proof.KernelIdealOffs
public import proofs.«01_k».proof.Proof.KernelIdealCells

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- One trip of the loop of product 4: three more tiles of the contracted axis. -/
theorem trip5 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1059_r0 : FVec F S256x256 .f32) (k0_mxu252 : Mxu F)
    (X3 : BufTy.Contents (Elt F) arg3.view.ty) (X4 : BufTy.Contents (Elt F) arg4.view.ty) (X8 : BufTy.Contents (Elt F) arg8.view.ty) (k : Fin k0_t5_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t5_body (F := F) i arg1 harg1 arg2 harg2 arg3 harg3 arg4 harg4 arg5 harg5 arg6 harg6 arg7 harg7 arg8 harg8 arg9 harg9 arg10 k0_h3 v1059_r0 k0_mxu252 k (b, St (arg8.view.read (Elt F) X8) (arg3.view.read (Elt F) X3) (arg4.view.read (Elt F) X4) 4 (3 * k.val + 1)))
          (fun yld => iprop(⌜yld = (0#32, St (arg8.view.read (Elt F) X8) (arg3.view.read (Elt F) X3) (arg4.view.read (Elt F) X4) 4 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t5_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o38_0, o38_1, o38_2, o39_0, o39_1, o39_2, o40_0, o40_1, o40_2, o41_0, o41_1, o41_2, o42_0, o42_1, o42_2, o43_0, o43_1, o43_2, o44_0, o44_1, o44_2, o45_0, o45_1, o45_2, o46_0, o46_1, o46_2, o47_0, o47_1, o47_2]
    rfl
  isplitl [H3]
  · iassumption
  isplitl [H4]
  · iassumption
  iassumption

/-- One trip of the loop of product 5: three more tiles of the contracted axis. -/
theorem trip6 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1260_r0 : FVec F S256x256 .f32) (k0_mxu311 : Mxu F)
    (X3 : BufTy.Contents (Elt F) arg3.view.ty) (X4 : BufTy.Contents (Elt F) arg4.view.ty) (X8 : BufTy.Contents (Elt F) arg8.view.ty) (k : Fin k0_t6_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t6_body (F := F) i arg1 harg1 arg2 harg2 arg3 harg3 arg4 harg4 arg5 harg5 arg6 harg6 arg7 harg7 arg8 harg8 arg9 harg9 arg10 k0_h3 v1260_r0 k0_mxu311 k (b, St (arg8.view.read (Elt F) X8) (arg3.view.read (Elt F) X3) (arg4.view.read (Elt F) X4) 5 (3 * k.val + 1)))
          (fun yld => iprop(⌜yld = (0#32, St (arg8.view.read (Elt F) X8) (arg3.view.read (Elt F) X3) (arg4.view.read (Elt F) X4) 5 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t6_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o48_0_0, o48_0_1, o48_0_2, o48_1_0, o48_1_1, o48_1_2, o49_0, o49_1, o49_2, o50_0, o50_1, o50_2, o51_0_0, o51_0_1, o51_0_2, o51_1_0, o51_1_1, o51_1_2, o52_0_0, o52_0_1, o52_0_2, o52_1_0, o52_1_1, o52_1_2, o53_0_0, o53_0_1, o53_0_2, o53_1_0, o53_1_1, o53_1_2]
    rfl
  isplitl [H3]
  · iassumption
  isplitl [H4]
  · iassumption
  iassumption

/-- One trip of the loop of product 6: three more tiles of the contracted axis. -/
theorem trip7 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu372 : Mxu F) (v1568_r0 : FVec F S256x256 .bf16)
    (X3 : BufTy.Contents (Elt F) arg3.view.ty) (X4 : BufTy.Contents (Elt F) arg4.view.ty) (X8 : BufTy.Contents (Elt F) arg8.view.ty) (k : Fin k0_t7_loop.trips) (b : BitVec 32) :
    (iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) : sProp 𝕄G)
      ⊢ wp frame (wpE (defs₀ (F := F)) 𝒱 (c : Thread nD τ) bd) E
          (k0_t7_body (F := F) i arg1 harg1 arg2 harg2 arg3 harg3 arg4 harg4 arg5 harg5 arg6 harg6 arg7 harg7 arg8 harg8 arg9 harg9 arg10 k0_h3 k0_mxu372 v1568_r0 k (b, St (arg8.view.read (Elt F) X8) (arg3.view.read (Elt F) X3) (arg4.view.read (Elt F) X4) 6 (3 * k.val + 1)))
          (fun yld => iprop(⌜yld = (0#32, St (arg8.view.read (Elt F) X8) (arg3.view.read (Elt F) X3) (arg4.view.read (Elt F) X4) 6 (3 * (k.val + 1) + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))) := by
  unfold k0_t7_body
  iintro ⟨H3, H4, H8⟩
  unfold St
  sl_exec
  sl_step
  isplitr
  · ipureintro
    iterate 6 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13]
    simp only [readAt_xw, readAt_ww, o54_0, o54_1, o54_2, o55_0, o55_1, o55_2, o56_0, o56_1, o56_2, o57_0, o57_1, o57_2, o58_0, o58_1, o58_2, o59_0, o59_1, o59_2, o60_0, o60_1, o60_2, o61_0, o61_1, o61_2, o62_0, o62_1, o62_2, o63_0, o63_1, o63_2]
    rfl
  isplitl [H3]
  · iassumption
  isplitl [H4]
  · iassumption
  iassumption

end Cert.Proof.GateUp.KernelIdeal

end
-- ==== Proof.KernelIdealSteps.lean ====
/-
  The invariants of the loops, each kept by one trip.
-/
module

public import Idealize.ShloMosaic.Lib.Exec
public import Idealize.ShloMosaic.Lib.Tactic
public import Idealize.ShloMosaic.Lib.Pipeline.Kit
public import proofs.«01_k».proof.Proof.KernelIdealTrip1
public import proofs.«01_k».proof.Proof.KernelIdealTripA
public import proofs.«01_k».proof.Proof.KernelIdealTripB

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- Before trip `k` of the loop of product `p`: the units have the first `3 k + 1` tiles, and the codes are as they were. -/
def inv (p : ℕ) (c : Dev nD) (arg3 : Memref sig .tc .vmem S7424x512 .i8) (arg4 : Memref sig .tc .vmem S7424x512 .i8) (arg8 : Memref sig .tc .vmem S2x1024x14848 .i8) (X3 : BufTy.Contents (Elt F) arg3.view.ty) (X4 : BufTy.Contents (Elt F) arg4.view.ty) (X8 : BufTy.Contents (Elt F) arg8.view.ty) (k : ℕ) (acc : BitVec 32 × Mxu F) : sProp 𝕄G :=
  iprop(⌜acc = (0#32, St (arg8.view.read (Elt F) X8) (arg3.view.read (Elt F) X3) (arg4.view.read (Elt F) X4) p (3 * k + 1))⌝ ∗ (arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8))

/-- Before trip `k` of the first product's loop: as `inv`, and the first `128 k` rows of each batch of the output are written. -/
def inv1 (c : Dev nD) (arg2 : Memref sig .tc .vmem S2x1024x1 .f32) (arg3 : Memref sig .tc .vmem S7424x512 .i8) (arg4 : Memref sig .tc .vmem S7424x512 .i8) (arg5 : Memref sig .tc .vmem S1x512 .f32) (arg6 : Memref sig .tc .vmem S1x512 .f32) (arg7 : Memref sig .tc .vmem S2x1024x512 .bf16) (arg8 : Memref sig .tc .vmem S2x1024x14848 .i8) (arg9 : Memref sig .tc .vmem S2x2x1024x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (k : ℕ) (acc : BitVec 32 × Mxu F) : sProp 𝕄G :=
  iprop(⌜acc = (0#32, St (arg8.view.read (Elt F) X8) (arg3.view.read (Elt F) X3) (arg4.view.read (Elt F) X4) 0 (3 * k + 1))⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8) ∗ (arg9.view.loc (c : Thread nD τ) ↦[arg9.view.set]{fullShare} X9) ∗ (∃ f, (arg7.view.loc (c : Thread nD τ) ↦[arg7.view.set]{fullShare} f) ∗ ⌜∀ y, (y 1).val < 128 * (min k 8) → arg7.view.read (Elt F) f y = epi (arg2.view.read (Elt F) X2) (arg9.view.read (Elt F) X9) (arg5.view.read (Elt F) X5) (arg6.view.read (Elt F) X6) y⌝))

/-- Before trip `k` of the last step's loop: the first `128 k` rows of each batch of the output are written. -/
def inv8 (c : Dev nD) (arg2 : Memref sig .tc .vmem S2x1024x1 .f32) (arg5 : Memref sig .tc .vmem S1x512 .f32) (arg6 : Memref sig .tc .vmem S1x512 .f32) (arg7 : Memref sig .tc .vmem S2x1024x512 .bf16) (arg9 : Memref sig .tc .vmem S2x2x1024x512 .f32) (X2 : BufTy.Contents (Elt F) arg2.view.ty) (X5 : BufTy.Contents (Elt F) arg5.view.ty) (X6 : BufTy.Contents (Elt F) arg6.view.ty) (X9 : BufTy.Contents (Elt F) arg9.view.ty) (k : ℕ) (acc : BitVec 32) : sProp 𝕄G :=
  iprop(⌜acc = 0#32⌝ ∗ (arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (∃ f, (arg7.view.loc (c : Thread nD τ) ↦[arg7.view.set]{fullShare} f) ∗ ⌜∀ y, (y 1).val < 128 * k → arg7.view.read (Elt F) f y = epi (arg2.view.read (Elt F) X2) (arg9.view.read (Elt F) X9) (arg5.view.read (Elt F) X5) (arg6.view.read (Elt F) X6) y⌝))

theorem step2 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v361_r0 : FVec F S256x256 .f32) (k0_mxu72 : Mxu F)
    (X3 : BufTy.Contents (Elt F) arg3.view.ty) (X4 : BufTy.Contents (Elt F) arg4.view.ty) (X8 : BufTy.Contents (Elt F) arg8.view.ty) (k : Fin k0_t2_loop.trips) (acc : BitVec 32 × Mxu F) :
    inv 1 c arg3 arg4 arg8 X3 X4 X8 k.val acc
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 k0_h3 v361_r0 k0_mxu72 k acc)
          (inv 1 c arg3 arg4 arg8 X3 X4 X8 (k.val + 1)) := by
  unfold inv
  iintro ⟨%h, HR⟩
  subst h
  iapply (trip2 𝒱 c bd E i arg1 harg1 arg2 harg2 arg3 harg3 arg4 harg4 arg5 harg5 arg6 harg6 arg7 harg7 arg8 harg8 arg9 harg9 arg10 k0_h3 v361_r0 k0_mxu72 X3 X4 X8 k 0#32) $$ HR

theorem step3 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v576_r0 : FVec F S256x256 .f32) (k0_mxu132 : Mxu F)
    (X3 : BufTy.Contents (Elt F) arg3.view.ty) (X4 : BufTy.Contents (Elt F) arg4.view.ty) (X8 : BufTy.Contents (Elt F) arg8.view.ty) (k : Fin k0_t3_loop.trips) (acc : BitVec 32 × Mxu F) :
    inv 2 c arg3 arg4 arg8 X3 X4 X8 k.val acc
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 k0_h3 v576_r0 k0_mxu132 k acc)
          (inv 2 c arg3 arg4 arg8 X3 X4 X8 (k.val + 1)) := by
  unfold inv
  iintro ⟨%h, HR⟩
  subst h
  iapply (trip3 𝒱 c bd E i arg1 harg1 arg2 harg2 arg3 harg3 arg4 harg4 arg5 harg5 arg6 harg6 arg7 harg7 arg8 harg8 arg9 harg9 arg10 k0_h3 v576_r0 k0_mxu132 X3 X4 X8 k 0#32) $$ HR

theorem step4 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu192 : Mxu F) (v782_r0 : BitVec 32)
    (X3 : BufTy.Contents (Elt F) arg3.view.ty) (X4 : BufTy.Contents (Elt F) arg4.view.ty) (X8 : BufTy.Contents (Elt F) arg8.view.ty) (k : Fin k0_t4_loop.trips) (acc : BitVec 32 × Mxu F) :
    inv 3 c arg3 arg4 arg8 X3 X4 X8 k.val acc
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 k0_h3 k0_mxu192 v782_r0 k acc)
          (inv 3 c arg3 arg4 arg8 X3 X4 X8 (k.val + 1)) := by
  unfold inv
  iintro ⟨%h, HR⟩
  subst h
  iapply (trip4 𝒱 c bd E i arg1 harg1 arg2 harg2 arg3 harg3 arg4 harg4 arg5 harg5 arg6 harg6 arg7 harg7 arg8 harg8 arg9 harg9 arg10 k0_h3 k0_mxu192 v782_r0 X3 X4 X8 k 0#32) $$ HR

theorem step5 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1059_r0 : FVec F S256x256 .f32) (k0_mxu252 : Mxu F)
    (X3 : BufTy.Contents (Elt F) arg3.view.ty) (X4 : BufTy.Contents (Elt F) arg4.view.ty) (X8 : BufTy.Contents (Elt F) arg8.view.ty) (k : Fin k0_t5_loop.trips) (acc : BitVec 32 × Mxu F) :
    inv 4 c arg3 arg4 arg8 X3 X4 X8 k.val acc
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 k0_h3 v1059_r0 k0_mxu252 k acc)
          (inv 4 c arg3 arg4 arg8 X3 X4 X8 (k.val + 1)) := by
  unfold inv
  iintro ⟨%h, HR⟩
  subst h
  iapply (trip5 𝒱 c bd E i arg1 harg1 arg2 harg2 arg3 harg3 arg4 harg4 arg5 harg5 arg6 harg6 arg7 harg7 arg8 harg8 arg9 harg9 arg10 k0_h3 v1059_r0 k0_mxu252 X3 X4 X8 k 0#32) $$ HR

theorem step6 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (v1260_r0 : FVec F S256x256 .f32) (k0_mxu311 : Mxu F)
    (X3 : BufTy.Contents (Elt F) arg3.view.ty) (X4 : BufTy.Contents (Elt F) arg4.view.ty) (X8 : BufTy.Contents (Elt F) arg8.view.ty) (k : Fin k0_t6_loop.trips) (acc : BitVec 32 × Mxu F) :
    inv 5 c arg3 arg4 arg8 X3 X4 X8 k.val acc
      ⊢ wp frame (wpE (defs₀ (F := F)) 𝒱 (c : Thread nD τ) bd) E (k0_t6_body (F := F) i arg1 harg1 arg2 harg2 arg3 harg3 arg4 harg4 arg5 harg5 arg6 harg6 arg7 harg7 arg8 harg8 arg9 harg9 arg10 k0_h3 v1260_r0 k0_mxu311 k acc)
          (inv 5 c arg3 arg4 arg8 X3 X4 X8 (k.val + 1)) := by
  unfold inv
  iintro ⟨%h, HR⟩
  subst h
  iapply (trip6 𝒱 c bd E i arg1 harg1 arg2 harg2 arg3 harg3 arg4 harg4 arg5 harg5 arg6 harg6 arg7 harg7 arg8 harg8 arg9 harg9 arg10 k0_h3 v1260_r0 k0_mxu311 X3 X4 X8 k 0#32) $$ HR

theorem step7 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu372 : Mxu F) (v1568_r0 : FVec F S256x256 .bf16)
    (X3 : BufTy.Contents (Elt F) arg3.view.ty) (X4 : BufTy.Contents (Elt F) arg4.view.ty) (X8 : BufTy.Contents (Elt F) arg8.view.ty) (k : Fin k0_t7_loop.trips) (acc : BitVec 32 × Mxu F) :
    inv 6 c arg3 arg4 arg8 X3 X4 X8 k.val acc
      ⊢ wp frame (wpE (defs₀ (F := F)) 𝒱 (c : Thread nD τ) bd) E (k0_t7_body (F := F) i arg1 harg1 arg2 harg2 arg3 harg3 arg4 harg4 arg5 harg5 arg6 harg6 arg7 harg7 arg8 harg8 arg9 harg9 arg10 k0_h3 k0_mxu372 v1568_r0 k acc)
          (inv 6 c arg3 arg4 arg8 X3 X4 X8 (k.val + 1)) := by
  unfold inv
  iintro ⟨%h, HR⟩
  subst h
  iapply (trip7 𝒱 c bd E i arg1 harg1 arg2 harg2 arg3 harg3 arg4 harg4 arg5 harg5 arg6 harg6 arg7 harg7 arg8 harg8 arg9 harg9 arg10 k0_h3 k0_mxu372 v1568_r0 X3 X4 X8 k 0#32) $$ HR

theorem step1 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h3 : k0_cond3 i = 1#1) (k0_mxu10 : Mxu F) (v133_r0 : BitVec 32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (k : Fin k0_t1_loop.trips) (acc : BitVec 32 × Mxu F) :
    inv1 c arg2 arg3 arg4 arg5 arg6 arg7 arg8 arg9 X2 X3 X4 X5 X6 X8 X9 k.val acc
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 k0_h3 k0_mxu10 v133_r0 k acc)
          (inv1 c arg2 arg3 arg4 arg5 arg6 arg7 arg8 arg9 X2 X3 X4 X5 X6 X8 X9 (k.val + 1)) := by
  unfold inv1
  iintro ⟨%h, H2, H3, H4, H5, H6, H8, H9, %f7, H7, %h7⟩
  subst h
  iapply (wp_wand_r frame (wpE (defs₀ (F := F)) 𝒱 (c : Thread nD τ) bd) E)
  isplitl
  · iapply (trip1 𝒱 c bd E i arg1 harg1 arg2 harg2 arg3 harg3 arg4 harg4 arg5 harg5 arg6 harg6 arg7 harg7 arg8 harg8 arg9 harg9 arg10 k0_h3 k0_mxu10 v133_r0 X2 X3 X4 X5 X6 f7 X8 X9 k 0#32) $$ [H2 H3 H4 H5 H6 H7 H8 H9]
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %yld ⟨%h, H2, H3, H4, H5, H6, H8, H9, %g7, H7, %e7⟩
  isplitr; · ipureintro; exact h
  isplitl [H2]; · iexact H2
  isplitl [H3]; · iexact H3
  isplitl [H4]; · iexact H4
  isplitl [H5]; · iexact H5
  isplitl [H6]; · iexact H6
  isplitl [H8]; · iexact H8
  isplitl [H9]; · iexact H9
  iexists g7
  isplitl [H7]; · iexact H7
  ipureintro
  intro y hy
  rw [e7 y]
  split_ifs with hm
  · rfl
  · exact h7 y (by omega)

theorem step8 (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (k0_h4 : k0_cond4 i = 1#1)
    (X2 : BufTy.Contents (Elt F) arg2.view.ty) (X5 : BufTy.Contents (Elt F) arg5.view.ty) (X6 : BufTy.Contents (Elt F) arg6.view.ty) (X9 : BufTy.Contents (Elt F) arg9.view.ty) (k : Fin k0_t8_loop.trips) (acc : BitVec 32) :
    inv8 c arg2 arg5 arg6 arg7 arg9 X2 X5 X6 X9 k.val acc
      ⊢ wp frame (wpE (defs₀ (F := F)) 𝒱 (c : Thread nD τ) bd) E (k0_t8_body (F := F) i arg1 harg1 arg2 harg2 arg3 harg3 arg4 harg4 arg5 harg5 arg6 harg6 arg7 harg7 arg8 harg8 arg9 harg9 arg10 k0_h4 k acc)
          (inv8 c arg2 arg5 arg6 arg7 arg9 X2 X5 X6 X9 (k.val + 1)) := by
  unfold inv8
  iintro ⟨%h, H2, H5, H6, H9, %f7, H7, %h7⟩
  subst h
  iapply (wp_wand_r frame (wpE (defs₀ (F := F)) 𝒱 (c : Thread nD τ) bd) E)
  isplitl
  · iapply (trip8 𝒱 c bd E i arg1 harg1 arg2 harg2 arg3 harg3 arg4 harg4 arg5 harg5 arg6 harg6 arg7 harg7 arg8 harg8 arg9 harg9 arg10 k0_h4 X2 X5 X6 f7 X9 k 0#32) $$ [H2 H5 H6 H7 H9]
    isplitl [H2]; · iexact H2
    isplitl [H5]; · iexact H5
    isplitl [H6]; · iexact H6
    isplitl [H7]; · iexact H7
    iexact H9
  iintro %yld ⟨%h, H2, H5, H6, H9, %g7, H7, %e7⟩
  isplitr; · ipureintro; exact h
  isplitl [H2]; · iexact H2
  isplitl [H5]; · iexact H5
  isplitl [H6]; · iexact H6
  isplitl [H9]; · iexact H9
  iexists g7
  isplitl [H7]; · iexact H7
  ipureintro
  intro y hy
  rw [e7 y]
  split_ifs with hm
  · rfl
  · exact h7 y (by omega)

end Cert.Proof.GateUp.KernelIdeal

end
-- ==== Proof.KernelIdealMain.lean ====
module

public import proofs.«01_k».proof.Proof.KernelIdealSteps

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- Block `c` of unit `q` after all tiles of product `p`. -/
def val (X : Vec F S2x1024x14848 .i8) (Wg Wu : Vec F S7424x512 .i8) (p q c : ℕ) : Blk F :=
  dep (cell X Wg Wu p q c 28) (pass (rhs Wg Wu p q 28) (lhs X p c 28))

/-- The accumulator after product 0, whose blocks are `V`, is added to it. -/
def stage0 (V : ℕ → ℕ → Blk F) (A : Cells F) : Cells F :=
  upd (upd (upd (upd (upd (upd (upd (upd (upd (upd (upd (upd (upd (upd (upd (upd (A) 0 0 0 0 (V 0 0)) 1 1 0 0 (V 0 0)) 0 0 0 1 (V 1 0)) 1 1 0 1 (V 1 0)) 0 0 1 0 (V 0 1)) 1 1 1 0 (V 0 1)) 0 0 1 1 (V 1 1)) 1 1 1 1 (V 1 1)) 0 0 2 0 (V 0 2)) 1 1 2 0 (V 0 2)) 0 0 2 1 (V 1 2)) 1 1 2 1 (V 1 2)) 0 0 3 0 (V 0 3)) 1 1 3 0 (V 0 3)) 0 0 3 1 (V 1 3)) 1 1 3 1 (V 1 3)

/-- The accumulator after product 1, whose blocks are `V`, is added to it. -/
def stage1 (V : ℕ → ℕ → Blk F) (A : Cells F) : Cells F :=
  upd (upd (upd (upd (upd (upd (upd (upd (upd (upd (upd (upd (upd (upd (upd (upd (A) 0 1 0 0 (V 0 0)) 1 1 0 0 (addf (A 1 1 0 0) (V 0 0))) 0 1 0 1 (V 1 0)) 1 1 0 1 (addf (A 1 1 0 1) (V 1 0))) 0 1 1 0 (V 0 1)) 1 1 1 0 (addf (A 1 1 1 0) (V 0 1))) 0 1 1 1 (V 1 1)) 1 1 1 1 (addf (A 1 1 1 1) (V 1 1))) 0 1 2 0 (V 0 2)) 1 1 2 0 (addf (A 1 1 2 0) (V 0 2))) 0 1 2 1 (V 1 2)) 1 1 2 1 (addf (A 1 1 2 1) (V 1 2))) 0 1 3 0 (V 0 3)) 1 1 3 0 (addf (A 1 1 3 0) (V 0 3))) 0 1 3 1 (V 1 3)) 1 1 3 1 (addf (A 1 1 3 1) (V 1 3))

/-- The accumulator after product 2, whose blocks are `V`, is added to it. -/
def stage2 (V : ℕ → ℕ → Blk F) (A : Cells F) : Cells F :=
  upd (upd (upd (upd (upd (upd (upd (upd (upd (upd (upd (upd (upd (upd (upd (upd (A) 0 0 0 0 (addf (A 0 0 0 0) (V 0 0))) 1 0 0 0 (V 0 0)) 0 0 0 1 (addf (A 0 0 0 1) (V 1 0))) 1 0 0 1 (V 1 0)) 0 0 1 0 (addf (A 0 0 1 0) (V 0 1))) 1 0 1 0 (V 0 1)) 0 0 1 1 (addf (A 0 0 1 1) (V 1 1))) 1 0 1 1 (V 1 1)) 0 0 2 0 (addf (A 0 0 2 0) (V 0 2))) 1 0 2 0 (V 0 2)) 0 0 2 1 (addf (A 0 0 2 1) (V 1 2))) 1 0 2 1 (V 1 2)) 0 0 3 0 (addf (A 0 0 3 0) (V 0 3))) 1 0 3 0 (V 0 3)) 0 0 3 1 (addf (A 0 0 3 1) (V 1 3))) 1 0 3 1 (V 1 3)

/-- The accumulator after product 3, whose blocks are `V`, is added to it. -/
def stage3 (V : ℕ → ℕ → Blk F) (A : Cells F) : Cells F :=
  upd (upd (upd (upd (upd (upd (upd (upd (upd (upd (upd (upd (upd (upd (upd (upd (A) 0 0 0 0 (subf (A 0 0 0 0) (V 0 0))) 0 1 0 0 (addf (A 0 1 0 0) (V 0 0))) 0 0 0 1 (subf (A 0 0 0 1) (V 1 0))) 0 1 0 1 (addf (A 0 1 0 1) (V 1 0))) 0 0 1 0 (subf (A 0 0 1 0) (V 0 1))) 0 1 1 0 (addf (A 0 1 1 0) (V 0 1))) 0 0 1 1 (subf (A 0 0 1 1) (V 1 1))) 0 1 1 1 (addf (A 0 1 1 1) (V 1 1))) 0 0 2 0 (subf (A 0 0 2 0) (V 0 2))) 0 1 2 0 (addf (A 0 1 2 0) (V 0 2))) 0 0 2 1 (subf (A 0 0 2 1) (V 1 2))) 0 1 2 1 (addf (A 0 1 2 1) (V 1 2))) 0 0 3 0 (subf (A 0 0 3 0) (V 0 3))) 0 1 3 0 (addf (A 0 1 3 0) (V 0 3))) 0 0 3 1 (subf (A 0 0 3 1) (V 1 3))) 0 1 3 1 (addf (A 0 1 3 1) (V 1 3))

/-- The accumulator after product 4, whose blocks are `V`, is added to it. -/
def stage4 (V : ℕ → ℕ → Blk F) (A : Cells F) : Cells F :=
  upd (upd (upd (upd (upd (upd (upd (upd (A) 0 0 0 0 (addf (A 0 0 0 0) (V 0 0))) 0 0 0 1 (addf (A 0 0 0 1) (V 1 0))) 0 0 1 0 (addf (A 0 0 1 0) (V 0 1))) 0 0 1 1 (addf (A 0 0 1 1) (V 1 1))) 0 0 2 0 (addf (A 0 0 2 0) (V 0 2))) 0 0 2 1 (addf (A 0 0 2 1) (V 1 2))) 0 0 3 0 (addf (A 0 0 3 0) (V 0 3))) 0 0 3 1 (addf (A 0 0 3 1) (V 1 3))

/-- The accumulator after product 5, whose blocks are `V`, is added to it. -/
def stage5 (V : ℕ → ℕ → Blk F) (A : Cells F) : Cells F :=
  upd (upd (upd (upd (upd (upd (upd (upd (upd (upd (upd (upd (upd (upd (upd (upd (A) 1 0 0 0 (addf (A 1 0 0 0) (V 0 0))) 1 1 0 0 (subf (A 1 1 0 0) (V 0 0))) 1 0 0 1 (addf (A 1 0 0 1) (V 1 0))) 1 1 0 1 (subf (A 1 1 0 1) (V 1 0))) 1 0 1 0 (addf (A 1 0 1 0) (V 0 1))) 1 1 1 0 (subf (A 1 1 1 0) (V 0 1))) 1 0 1 1 (addf (A 1 0 1 1) (V 1 1))) 1 1 1 1 (subf (A 1 1 1 1) (V 1 1))) 1 0 2 0 (addf (A 1 0 2 0) (V 0 2))) 1 1 2 0 (subf (A 1 1 2 0) (V 0 2))) 1 0 2 1 (addf (A 1 0 2 1) (V 1 2))) 1 1 2 1 (subf (A 1 1 2 1) (V 1 2))) 1 0 3 0 (addf (A 1 0 3 0) (V 0 3))) 1 1 3 0 (subf (A 1 1 3 0) (V 0 3))) 1 0 3 1 (addf (A 1 0 3 1) (V 1 3))) 1 1 3 1 (subf (A 1 1 3 1) (V 1 3))

/-- The accumulator after product 6, whose blocks are `V`, is added to it. -/
def stage6 (V : ℕ → ℕ → Blk F) (A : Cells F) : Cells F :=
  upd (upd (upd (upd (upd (upd (upd (upd (A) 1 1 0 0 (addf (A 1 1 0 0) (V 0 0))) 1 1 0 1 (addf (A 1 1 0 1) (V 1 0))) 1 1 1 0 (addf (A 1 1 1 0) (V 0 1))) 1 1 1 1 (addf (A 1 1 1 1) (V 1 1))) 1 1 2 0 (addf (A 1 1 2 0) (V 0 2))) 1 1 2 1 (addf (A 1 1 2 1) (V 1 2))) 1 1 3 0 (addf (A 1 1 3 0) (V 0 3))) 1 1 3 1 (addf (A 1 1 3 1) (V 1 3))

/-- The accumulator after all products. -/
def total (X : Vec F S2x1024x14848 .i8) (Wg Wu : Vec F S7424x512 .i8) (A : Cells F) : Cells F :=
  stage6 (val X Wg Wu 6) (stage5 (val X Wg Wu 5) (stage4 (val X Wg Wu 4) (stage3 (val X Wg Wu 3) (stage2 (val X Wg Wu 2) (stage1 (val X Wg Wu 1) (stage0 (val X Wg Wu 0) (A)))))))

theorem read_put {κ : Kind} {sp : Space} (v : View sig κ sp S2x2x1024x512 .f32) (f : v.ty.Contents (Elt F))
    (L : List (View.Piece (Elt F) S2x2x1024x512 .f32)) (A : Cells F) (b g c q : ℕ) {o : Fin 4 → ℕ} (ho : o = ![b, g, 256 * c, 256 * q])
    (inb : ∀ a, o a + S1x1x256x256.size a ≤ S2x2x1024x512.size a) (w : FVec F S1x1x256x256 .f32) (x : Blk F)
    (hw : w = shapeCast S1x1x256x256 x shapeCasts_S256x256_S1x1x256x256)
    (h : v.read (Elt F) (v.writes (Elt F) f L) = asm A) :
    v.read (Elt F) (v.writes (Elt F) f ((⟨Rect.unit (s := S2x2x1024x512) o S1x1x256x256.size inb, w⟩ : View.Piece (Elt F) S2x2x1024x512 .f32) :: L))
      = asm (upd A b g c q x) := by
  subst hw
  rw [shapeCast_box]
  exact read_cell v f L A b g c q ho inb x h

theorem read_add {κ : Kind} {sp : Space} (v : View sig κ sp S2x2x1024x512 .f32) (f : v.ty.Contents (Elt F))
    (L : List (View.Piece (Elt F) S2x2x1024x512 .f32)) (A A0 : Cells F) (b g c q : ℕ) {o : Fin 4 → ℕ} (ho : o = ![b, g, 256 * c, 256 * q])
    (inb : ∀ a, o a + S1x1x256x256.size a ≤ S2x2x1024x512.size a) (w : FVec F S1x1x256x256 .f32) (x : Blk F)
    (f0 : v.ty.Contents (Elt F)) (h0 : v.read (Elt F) f0 = asm A0)
    (hw : w = shapeCast S1x1x256x256 (addf (shapeCast S256x256 (v.readAt (Elt F) (Rect.unit (s := S2x2x1024x512) o S1x1x256x256.size inb).toLoadRect f0) shapeCasts_S1x1x256x256_S256x256 : FVec F S256x256 .f32) x) shapeCasts_S256x256_S1x1x256x256)
    (h : v.read (Elt F) (v.writes (Elt F) f L) = asm A) :
    v.read (Elt F) (v.writes (Elt F) f ((⟨Rect.unit (s := S2x2x1024x512) o S1x1x256x256.size inb, w⟩ : View.Piece (Elt F) S2x2x1024x512 .f32) :: L))
      = asm (upd A b g c q (addf (A0 b g c q) x)) := by
  subst hw
  rw [readAt_cell v f0 A0 b g c q ho inb h0, shapeCast_unbox, shapeCast_box]
  exact read_cell v f L A b g c q ho inb _ h

theorem read_sub {κ : Kind} {sp : Space} (v : View sig κ sp S2x2x1024x512 .f32) (f : v.ty.Contents (Elt F))
    (L : List (View.Piece (Elt F) S2x2x1024x512 .f32)) (A A0 : Cells F) (b g c q : ℕ) {o : Fin 4 → ℕ} (ho : o = ![b, g, 256 * c, 256 * q])
    (inb : ∀ a, o a + S1x1x256x256.size a ≤ S2x2x1024x512.size a) (w : FVec F S1x1x256x256 .f32) (x : Blk F)
    (f0 : v.ty.Contents (Elt F)) (h0 : v.read (Elt F) f0 = asm A0)
    (hw : w = shapeCast S1x1x256x256 (subf (shapeCast S256x256 (v.readAt (Elt F) (Rect.unit (s := S2x2x1024x512) o S1x1x256x256.size inb).toLoadRect f0) shapeCasts_S1x1x256x256_S256x256 : FVec F S256x256 .f32) x) shapeCasts_S256x256_S1x1x256x256)
    (h : v.read (Elt F) (v.writes (Elt F) f L) = asm A) :
    v.read (Elt F) (v.writes (Elt F) f ((⟨Rect.unit (s := S2x2x1024x512) o S1x1x256x256.size inb, w⟩ : View.Piece (Elt F) S2x2x1024x512 .f32) :: L))
      = asm (upd A b g c q (subf (A0 b g c q) x)) := by
  subst hw
  rw [readAt_cell v f0 A0 b g c q ho inb h0, shapeCast_unbox, shapeCast_box]
  exact read_cell v f L A b g c q ho inb _ h

/-- An assertion of the loop's state together with an accumulator whose contents are the cells `A`. -/
def inv9 {α : Type} (c : Dev nD) (arg9 : Memref sig .tc .vmem S2x2x1024x512 .f32) (A : Cells F) (I : ℕ → α → sProp 𝕄G) (k : ℕ) (s : α) : sProp 𝕄G :=
  iprop(I k s ∗ ∃ f9, (arg9.view.loc (c : Thread nD τ) ↦[arg9.view.set]{fullShare} f9) ∗ ⌜arg9.view.read (Elt F) f9 = asm A⌝)

theorem keep9 {α : Type} (𝒱 : Variants) (c : Dev nD) (bd : Option 𝒱.V) (E : Set ℕ) (arg9 : Memref sig .tc .vmem S2x2x1024x512 .f32) (A : Cells F)
    (I : ℕ → α → sProp 𝕄G) {k : ℕ} {s : α} {body : Prog (TpuEff nD τ sig (Elt F) Λ₀ .tc) α}
    (h : I k s ⊢ wp frame (wpE (defs₀ (F := F)) 𝒱 (c : Thread nD τ) bd) E body (I (k + 1))) :
    inv9 c arg9 A I k s ⊢ wp frame (wpE (defs₀ (F := F)) 𝒱 (c : Thread nD τ) bd) E body (inv9 c arg9 A I (k + 1)) :=
  (sep_mono_left h).trans (wp_frame_r frame (wpE (defs₀ (F := F)) 𝒱 (c : Thread nD τ) bd) E)

/-- The products of one step: the part of the body that runs in every step but the last. -/
def mainProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_)  (k0_mxu1 : Mxu F) (k0_h3 : k0_cond3 i = 1#1) : Prog (TpuEff nD τ sig (Elt F) Λ₀ .tc) (Mxu F) := do
      let ⟨k0_mxu420, v1659_r0, v1660_r0⟩ : Σ' (k0_mxu420 : Mxu F) (v1659_r0 : FVec F S256x256 .f32), Vec F S1x1x256x256 .f32 ← k0_part110 i arg1 harg1 arg2 harg2 arg3 harg3 arg4 harg4 arg5 harg5 arg6 harg6 arg7 harg7 arg8 harg8 arg9 harg9 arg10 k0_mxu1 k0_h3
      Prog.lift (.store arg9 (Rect.unit (s := S2x2x1024x512) ![1, 1, 512, 256] S1x1x256x256.size inb_S2x2x1024x512_S1x1x256x256_1_1_512_256) (k0_pay2 v1659_r0) Finset.univ (View.stores_vmem_bits_univ h_S1x1x256x256 rfl) (.inl rfl))
      have v1663_r0 : FVec F S256x256 .f32 := k0_mxu420.read 0 192 fits_192_256
      have k0_mxu421 : Mxu F := k0_mxu420.pop 0 192 256 fits_192_256
      let v1664_r0 : Vec F S1x1x256x256 .f32 ← Prog.lift (.load arg9 (Rect.unit (s := S2x2x1024x512) ![1, 1, 768, 0] S1x1x256x256.size inb_S2x2x1024x512_S1x1x256x256_1_1_768_0).toLoadRect (View.loadsAt_vmem h_S1x1x256x256))
      let v1667_r0 : Vec F S1x1x256x256 .f32 ← Prog.lift (.load arg9 (Rect.unit (s := S2x2x1024x512) ![1, 1, 768, 0] S1x1x256x256.size inb_S2x2x1024x512_S1x1x256x256_1_1_768_0).toLoadRect (View.loadsAt_vmem h_S1x1x256x256))
      Prog.lift (.store arg9 (Rect.unit (s := S2x2x1024x512) ![1, 1, 768, 0] S1x1x256x256.size inb_S2x2x1024x512_S1x1x256x256_1_1_768_0) (k0_pay3 v1663_r0 v1664_r0) Finset.univ (View.stores_vmem_bits_univ h_S1x1x256x256 rfl) (.inl rfl))
      have v1670_r0 : FVec F S256x256 .f32 := k0_mxu421.read 1 192 fits_192_256
      have k0_mxu422 : Mxu F := k0_mxu421.pop 1 192 256 fits_192_256
      let v1671_r0 : Vec F S1x1x256x256 .f32 ← Prog.lift (.load arg9 (Rect.unit (s := S2x2x1024x512) ![1, 1, 768, 256] S1x1x256x256.size inb_S2x2x1024x512_S1x1x256x256_1_1_768_256).toLoadRect (View.loadsAt_vmem h_S1x1x256x256))
      let v1674_r0 : Vec F S1x1x256x256 .f32 ← Prog.lift (.load arg9 (Rect.unit (s := S2x2x1024x512) ![1, 1, 768, 256] S1x1x256x256.size inb_S2x2x1024x512_S1x1x256x256_1_1_768_256).toLoadRect (View.loadsAt_vmem h_S1x1x256x256))
      Prog.lift (.store arg9 (Rect.unit (s := S2x2x1024x512) ![1, 1, 768, 256] S1x1x256x256.size inb_S2x2x1024x512_S1x1x256x256_1_1_768_256) (k0_pay4 v1670_r0 v1671_r0) Finset.univ (View.stores_vmem_bits_univ h_S1x1x256x256 rfl) (.inl rfl))
      pure k0_mxu422
/-- What a step's products leave: the unit drained, the output block the epilogue of the accumulator as it was, the
    accumulator all seven products of the step. -/
def mainPost (c : Dev nD) (arg2 : Memref sig .tc .vmem S2x1024x1 .f32) (arg3 : Memref sig .tc .vmem S7424x512 .i8) (arg4 : Memref sig .tc .vmem S7424x512 .i8) (arg5 : Memref sig .tc .vmem S1x512 .f32) (arg6 : Memref sig .tc .vmem S1x512 .f32) (arg7 : Memref sig .tc .vmem S2x1024x512 .bf16) (arg8 : Memref sig .tc .vmem S2x1024x14848 .i8) (arg9 : Memref sig .tc .vmem S2x2x1024x512 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X8 : BufTy.Contents (Elt F) arg8.view.ty) (X9 : BufTy.Contents (Elt F) arg9.view.ty) (A : Cells F) (s : Mxu F) : sProp 𝕄G :=
  iprop(⌜s.Drained⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg8.view.loc (c : Thread nD τ) ↦[arg8.view.set]{fullShare} X8)
    ∗ (∃ f7, (arg7.view.loc (c : Thread nD τ) ↦[arg7.view.set]{fullShare} f7) ∗ ⌜∀ y, arg7.view.read (Elt F) f7 y = epi (arg2.view.read (Elt F) X2) (arg9.view.read (Elt F) X9) (arg5.view.read (Elt F) X5) (arg6.view.read (Elt F) X6) y⌝)
    ∗ ∃ f9, (arg9.view.loc (c : Thread nD τ) ↦[arg9.view.set]{fullShare} f9) ∗ ⌜arg9.view.read (Elt F) f9 = asm (total (arg8.view.read (Elt F) X8) (arg3.view.read (Elt F) X3) (arg4.view.read (Elt F) X4) A)⌝)

theorem main (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_)  (k0_h3 : k0_cond3 i = 1#1)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (A : Cells F) (hA : arg9.view.read (Elt F) X9 = asm A) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) : sProp 𝕄G)
      ⊢ wp frame (wpE (defs₀ (F := F)) 𝒱 (c : Thread nD τ) bd) E (mainProg (F := F) i arg1 harg1 arg2 harg2 arg3 harg3 arg4 harg4 arg5 harg5 arg6 harg6 arg7 harg7 arg8 harg8 arg9 harg9 arg10 Mxu.init k0_h3)
        (mainPost c arg2 arg3 arg4 arg5 arg6 arg7 arg8 arg9 X2 X3 X4 X5 X6 X8 X9 A) := by
  unfold mainProg
  iintro ⟨H2, H3, H4, H5, H6, H7, H8, H9⟩
  sl_exec
  sl_for (inv1 c arg2 arg3 arg4 arg5 arg6 arg7 arg8 arg9 X2 X3 X4 X5 X6 X8 X9) $$ [H2 H3 H4 H5 H6 H7 H8 H9]
  case region => exact step1 𝒱 c bd E i arg1 harg1 arg2 harg2 arg3 harg3 arg4 harg4 arg5 harg5 arg6 harg6 arg7 harg7 arg8 harg8 arg9 harg9 arg10 k0_h3 _ _ X2 X3 X4 X5 X6 X8 X9
  · unfold inv1
    isplitr
    · ipureintro
      iterate 8 sl_unfold_run_names
      simp only [init_mk, push0, gmr0, isSome_gmr0, get_gmr0, push1, gmr1, isSome_gmr1, get_gmr1, get_tile, accL00, accL01, accL02, accL03, accL10, accL11, accL12, accL13, accB00, accB01, accB02, accB03, accB10, accB11, accB12, accB13]
      simp only [readAt_xw, readAt_ww]
      rfl
    isplitl [H2]; · iassumption
    isplitl [H3]; · iassumption
    isplitl [H4]; · iassumption
    isplitl [H5]; · iassumption
    isplitl [H6]; · iassumption
    isplitl [H8]; · iassumption
    isplitl [H9]; · iassumption
    iexists _
    isplitl [H7]; · iassumption
    ipureintro
    intro y hy
    exact absurd hy (by simp)
  iintro %acc HI
  unfold inv1
  icases HI with ⟨%h, H2, H3, H4, H5, H6, H8, H9, %f7, H7, %h7⟩
  subst h
  rw [show (3 * k0_t1_loop.trips + 1) = 28 by decide]
  unfold St
  sl_exec
  sl_for (inv9 c arg9 (stage0 (val (arg8.view.read (Elt F) X8) (arg3.view.read (Elt F) X3) (arg4.view.read (Elt F) X4) 0) A) (inv 1 c arg3 arg4 arg8 X3 X4 X8)) $$ [H3 H4 H8 H9]
  case region => exact fun k s => keep9 _ _ _ _ _ _ _ (step2 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage0
      refine read_put arg9.view _ _ _ 1 1 3 1 rfl _ _ (val (arg8.view.read (Elt F) X8) (arg3.view.read (Elt F) X3) (arg4.view.read (Elt F) X4) 0 1 3) (by as_aux_lemma => rfl) ?_
      refine read_put arg9.view _ _ _ 0 0 3 1 rfl _ _ (val (arg8.view.read (Elt F) X8) (arg3.view.read (Elt F) X3) (arg4.view.read (Elt F) X4) 0 1 3) (by as_aux_lemma => rfl) ?_
      refine read_put arg9.view _ _ _ 1 1 3 0 rfl _ _ (val (arg8.view.read (Elt F) X8) (arg3.view.read (Elt F) X3) (arg4.view.read (Elt F) X4) 0 0 3) (by as_aux_lemma => rfl) ?_
      refine read_put arg9.view _ _ _ 0 0 3 0 rfl _ _ (val (arg8.view.read (Elt F) X8) (arg3.view.read (Elt F) X3) (arg4.view.read (Elt F) X4) 0 0 3) (by as_aux_lemma => rfl) ?_
      refine read_put arg9.view _ _ _ 1 1 2 1 rfl _ _ (val (arg8.view.read (Elt F) X8) (arg3.view.read (Elt F) X3) (arg4.view.read (Elt F) X4) 0 1 2) (by as_aux_lemma => rfl) ?_
      refine read_put arg9.view _ _ _ 0 0 2 1 rfl _ _ (val (arg8.view.read (Elt F) X8) (arg3.view.read (Elt F) X3) (arg4.view.read (Elt F) X4) 0 1 2) (by as_aux_lemma => rfl) ?_
      refine read_put arg9.view _ _ _ 1 1 2 0 rfl _ _ (val (arg8.view.read (Elt F) X8) (arg3.view.read (Elt F) X3) (arg4.view.read (Elt F) X4) 0 0 2) (by as_aux_lemma => rfl) ?_
      refine read_put arg9.view _ _ _ 0 0 2 0 rfl _ _ (val (arg8.view.read (Elt F) X8) (arg3.view.read (Elt F) X3) (arg4.view.read (Elt F) X4) 0 0 2) (by as_aux_lemma => rfl) ?_
      refine read_put arg9.view _ _ _ 1 1 1 1 rfl _ _ (val (arg8.view.read (Elt F) X8) (arg3.view.read (Elt F) X3) (arg4.view.read (Elt F) X4) 0 1 1) (by as_aux_lemma => rfl) ?_
      refine read_put arg9.view _ _ _ 0 0 1 1 rfl _ _ (val (arg8.view.read (Elt F) X8) (arg3.view.read (Elt F) X3) (arg4.view.read (Elt F) X4) 0 1 1) (by as_aux_lemma => rfl) ?_
      refine read_put arg9.view _ _ _ 1 1 1 0 rfl _ _ (val (arg8.view.read (Elt F) X8) (arg3.view.read (Elt F) X3) (arg4.view.read (Elt F) X4) 0 0 1) (by as_aux_lemma => rfl) ?_
      refine read_put arg9.view _ _ _ 0 0 1 0 rfl _ _ (val (arg8.view.read (Elt F) X8) (arg3.view.read (Elt F) X3) (arg4.view.read (Elt F) X4) 0 0 1) (by as_aux_lemma => rfl) ?_
      refine read_put arg9.view _ _ _ 1 1 0 1 rfl _ _ (val (arg8.view.read (Elt F) X8) (arg3.view.read (Elt F) X3) (arg4.view.read (Elt F) X4) 0 1 0) (by as_aux_lemma => rfl) ?_
      refine read_put arg9.view _ _ _ 0 0 0 1 rfl _ _ (val (arg8.view.read (Elt F) X8) (arg3.view.read (Elt F) X3) (arg4.view.read (Elt F) X4) 0 1 0) (by as_aux_lemma => rfl) ?_
      refine read_put arg9.view _ _ _ 1 1 0 0 rfl _ _ (val (arg8.view.read (Elt F) X8) (arg3.view.read (Elt F) X3) (arg4.view.read (Elt F) X4) 0 0 0) (by as_aux_lemma => rfl) ?_
      refine read_put arg9.view _ _ _ 0 0 0 0 rfl _ _ (val (arg8.view.read (Elt F) X8) (arg3.view.read (Elt F) X3) (arg4.view.read (Elt F) X4) 0 0 0) (by as_aux_lemma => rfl) ?_
      exact hA

  iintro %s1 HI
  unfold inv9 inv
  icases HI with ⟨⟨%h, H3, H4, H8⟩, %f9_1, H9, %h9_1⟩
  subst h
  obtain ⟨A1, hA1⟩ : ∃ A1, A1 = stage0 (val (arg8.view.read (Elt F) X8) (arg3.view.read (Elt F) X3) (arg4.view.read (Elt F) X4) 0) A := ⟨_, rfl⟩
  rw [← hA1] at h9_1
  rw [show (3 * k0_t2_loop.trips + 1) = 28 by decide]
  unfold St
  sl_exec
  sl_for (inv9 c arg9 (stage1 (val (arg8.view.read (Elt F) X8) (arg3.view.read (Elt F) X3) (arg4.view.read (Elt F) X4) 1) A1) (inv 2 c arg3 arg4 arg8 X3 X4 X8)) $$ [H3 H4 H8 H9]
  case region => exact fun k s => keep9 _ _ _ _ _ _ _ (step3 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage1
      refine read_add arg9.view _ _ _ A1 1 1 3 1 rfl _ _ (val (arg8.view.read (Elt F) X8) (arg3.view.read (Elt F) X3) (arg4.view.read (Elt F) X4) 1 1 3) _ h9_1 (by as_aux_lemma => rfl) ?_
      refine read_put arg9.view _ _ _ 0 1 3 1 rfl _ _ (val (arg8.view.read (Elt F) X8) (arg3.view.read (Elt F) X3) (arg4.view.read (Elt F) X4) 1 1 3) (by as_aux_lemma => rfl) ?_
      refine read_add arg9.view _ _ _ A1 1 1 3 0 rfl _ _ (val (arg8.view.read (Elt F) X8) (arg3.view.read (Elt F) X3) (arg4.view.read (Elt F) X4) 1 0 3) _ h9_1 (by as_aux_lemma => rfl) ?_
      refine read_put arg9.view _ _ _ 0 1 3 0 rfl _ _ (val (arg8.view.read (Elt F) X8) (arg3.view.read (Elt F) X3) (arg4.view.read (Elt F) X4) 1 0 3) (by as_aux_lemma => rfl) ?_
      refine read_add arg9.view _ _ _ A1 1 1 2 1 rfl _ _ (val (arg8.view.read (Elt F) X8) (arg3.view.read (Elt F) X3) (arg4.view.read (Elt F) X4) 1 1 2) _ h9_1 (by as_aux_lemma => rfl) ?_
      refine read_put arg9.view _ _ _ 0 1 2 1 rfl _ _ (val (arg8.view.read (Elt F) X8) (arg3.view.read (Elt F) X3) (arg4.view.read (Elt F) X4) 1 1 2) (by as_aux_lemma => rfl) ?_
      refine read_add arg9.view _ _ _ A1 1 1 2 0 rfl _ _ (val (arg8.view.read (Elt F) X8) (arg3.view.read (Elt F) X3) (arg4.view.read (Elt F) X4) 1 0 2) _ h9_1 (by as_aux_lemma => rfl) ?_
      refine read_put arg9.view _ _ _ 0 1 2 0 rfl _ _ (val (arg8.view.read (Elt F) X8) (arg3.view.read (Elt F) X3) (arg4.view.read (Elt F) X4) 1 0 2) (by as_aux_lemma => rfl) ?_
      refine read_add arg9.view _ _ _ A1 1 1 1 1 rfl _ _ (val (arg8.view.read (Elt F) X8) (arg3.view.read (Elt F) X3) (arg4.view.read (Elt F) X4) 1 1 1) _ h9_1 (by as_aux_lemma => rfl) ?_
      refine read_put arg9.view _ _ _ 0 1 1 1 rfl _ _ (val (arg8.view.read (Elt F) X8) (arg3.view.read (Elt F) X3) (arg4.view.read (Elt F) X4) 1 1 1) (by as_aux_lemma => rfl) ?_
      refine read_add arg9.view _ _ _ A1 1 1 1 0 rfl _ _ (val (arg8.view.read (Elt F) X8) (arg3.view.read (Elt F) X3) (arg4.view.read (Elt F) X4) 1 0 1) _ h9_1 (by as_aux_lemma => rfl) ?_
      refine read_put arg9.view _ _ _ 0 1 1 0 rfl _ _ (val (arg8.view.read (Elt F) X8) (arg3.view.read (Elt F) X3) (arg4.view.read (Elt F) X4) 1 0 1) (by as_aux_lemma => rfl) ?_
      refine read_add arg9.view _ _ _ A1 1 1 0 1 rfl _ _ (val (arg8.view.read (Elt F) X8) (arg3.view.read (Elt F) X3) (arg4.view.read (Elt F) X4) 1 1 0) _ h9_1 (by as_aux_lemma => rfl) ?_
      refine read_put arg9.view _ _ _ 0 1 0 1 rfl _ _ (val (arg8.view.read (Elt F) X8) (arg3.view.read (Elt F) X3) (arg4.view.read (Elt F) X4) 1 1 0) (by as_aux_lemma => rfl) ?_
      refine read_add arg9.view _ _ _ A1 1 1 0 0 rfl _ _ (val (arg8.view.read (Elt F) X8) (arg3.view.read (Elt F) X3) (arg4.view.read (Elt F) X4) 1 0 0) _ h9_1 (by as_aux_lemma => rfl) ?_
      refine read_put arg9.view _ _ _ 0 1 0 0 rfl _ _ (val (arg8.view.read (Elt F) X8) (arg3.view.read (Elt F) X3) (arg4.view.read (Elt F) X4) 1 0 0) (by as_aux_lemma => rfl) ?_
      exact h9_1

  iintro %s2 HI
  unfold inv9 inv
  icases HI with ⟨⟨%h, H3, H4, H8⟩, %f9_2, H9, %h9_2⟩
  subst h
  obtain ⟨A2, hA2⟩ : ∃ A2, A2 = stage1 (val (arg8.view.read (Elt F) X8) (arg3.view.read (Elt F) X3) (arg4.view.read (Elt F) X4) 1) A1 := ⟨_, rfl⟩
  rw [← hA2] at h9_2
  rw [show (3 * k0_t3_loop.trips + 1) = 28 by decide]
  unfold St
  sl_exec
  sl_for (inv9 c arg9 (stage2 (val (arg8.view.read (Elt F) X8) (arg3.view.read (Elt F) X3) (arg4.view.read (Elt F) X4) 2) A2) (inv 3 c arg3 arg4 arg8 X3 X4 X8)) $$ [H3 H4 H8 H9]
  case region => exact fun k s => keep9 _ _ _ _ _ _ _ (step4 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage2
      refine read_put arg9.view _ _ _ 1 0 3 1 rfl _ _ (val (arg8.view.read (Elt F) X8) (arg3.view.read (Elt F) X3) (arg4.view.read (Elt F) X4) 2 1 3) (by as_aux_lemma => rfl) ?_
      refine read_add arg9.view _ _ _ A2 0 0 3 1 rfl _ _ (val (arg8.view.read (Elt F) X8) (arg3.view.read (Elt F) X3) (arg4.view.read (Elt F) X4) 2 1 3) _ h9_2 (by as_aux_lemma => rfl) ?_
      refine read_put arg9.view _ _ _ 1 0 3 0 rfl _ _ (val (arg8.view.read (Elt F) X8) (arg3.view.read (Elt F) X3) (arg4.view.read (Elt F) X4) 2 0 3) (by as_aux_lemma => rfl) ?_
      refine read_add arg9.view _ _ _ A2 0 0 3 0 rfl _ _ (val (arg8.view.read (Elt F) X8) (arg3.view.read (Elt F) X3) (arg4.view.read (Elt F) X4) 2 0 3) _ h9_2 (by as_aux_lemma => rfl) ?_
      refine read_put arg9.view _ _ _ 1 0 2 1 rfl _ _ (val (arg8.view.read (Elt F) X8) (arg3.view.read (Elt F) X3) (arg4.view.read (Elt F) X4) 2 1 2) (by as_aux_lemma => rfl) ?_
      refine read_add arg9.view _ _ _ A2 0 0 2 1 rfl _ _ (val (arg8.view.read (Elt F) X8) (arg3.view.read (Elt F) X3) (arg4.view.read (Elt F) X4) 2 1 2) _ h9_2 (by as_aux_lemma => rfl) ?_
      refine read_put arg9.view _ _ _ 1 0 2 0 rfl _ _ (val (arg8.view.read (Elt F) X8) (arg3.view.read (Elt F) X3) (arg4.view.read (Elt F) X4) 2 0 2) (by as_aux_lemma => rfl) ?_
      refine read_add arg9.view _ _ _ A2 0 0 2 0 rfl _ _ (val (arg8.view.read (Elt F) X8) (arg3.view.read (Elt F) X3) (arg4.view.read (Elt F) X4) 2 0 2) _ h9_2 (by as_aux_lemma => rfl) ?_
      refine read_put arg9.view _ _ _ 1 0 1 1 rfl _ _ (val (arg8.view.read (Elt F) X8) (arg3.view.read (Elt F) X3) (arg4.view.read (Elt F) X4) 2 1 1) (by as_aux_lemma => rfl) ?_
      refine read_add arg9.view _ _ _ A2 0 0 1 1 rfl _ _ (val (arg8.view.read (Elt F) X8) (arg3.view.read (Elt F) X3) (arg4.view.read (Elt F) X4) 2 1 1) _ h9_2 (by as_aux_lemma => rfl) ?_
      refine read_put arg9.view _ _ _ 1 0 1 0 rfl _ _ (val (arg8.view.read (Elt F) X8) (arg3.view.read (Elt F) X3) (arg4.view.read (Elt F) X4) 2 0 1) (by as_aux_lemma => rfl) ?_
      refine read_add arg9.view _ _ _ A2 0 0 1 0 rfl _ _ (val (arg8.view.read (Elt F) X8) (arg3.view.read (Elt F) X3) (arg4.view.read (Elt F) X4) 2 0 1) _ h9_2 (by as_aux_lemma => rfl) ?_
      refine read_put arg9.view _ _ _ 1 0 0 1 rfl _ _ (val (arg8.view.read (Elt F) X8) (arg3.view.read (Elt F) X3) (arg4.view.read (Elt F) X4) 2 1 0) (by as_aux_lemma => rfl) ?_
      refine read_add arg9.view _ _ _ A2 0 0 0 1 rfl _ _ (val (arg8.view.read (Elt F) X8) (arg3.view.read (Elt F) X3) (arg4.view.read (Elt F) X4) 2 1 0) _ h9_2 (by as_aux_lemma => rfl) ?_
      refine read_put arg9.view _ _ _ 1 0 0 0 rfl _ _ (val (arg8.view.read (Elt F) X8) (arg3.view.read (Elt F) X3) (arg4.view.read (Elt F) X4) 2 0 0) (by as_aux_lemma => rfl) ?_
      refine read_add arg9.view _ _ _ A2 0 0 0 0 rfl _ _ (val (arg8.view.read (Elt F) X8) (arg3.view.read (Elt F) X3) (arg4.view.read (Elt F) X4) 2 0 0) _ h9_2 (by as_aux_lemma => rfl) ?_
      exact h9_2

  iintro %s3 HI
  unfold inv9 inv
  icases HI with ⟨⟨%h, H3, H4, H8⟩, %f9_3, H9, %h9_3⟩
  subst h
  obtain ⟨A3, hA3⟩ : ∃ A3, A3 = stage2 (val (arg8.view.read (Elt F) X8) (arg3.view.read (Elt F) X3) (arg4.view.read (Elt F) X4) 2) A2 := ⟨_, rfl⟩
  rw [← hA3] at h9_3
  rw [show (3 * k0_t4_loop.trips + 1) = 28 by decide]
  unfold St
  sl_exec
  sl_for (inv9 c arg9 (stage3 (val (arg8.view.read (Elt F) X8) (arg3.view.read (Elt F) X3) (arg4.view.read (Elt F) X4) 3) A3) (inv 4 c arg3 arg4 arg8 X3 X4 X8)) $$ [H3 H4 H8 H9]
  case region => exact fun k s => keep9 _ _ _ _ _ _ _ (step5 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage3
      refine read_add arg9.view _ _ _ A3 0 1 3 1 rfl _ _ (val (arg8.view.read (Elt F) X8) (arg3.view.read (Elt F) X3) (arg4.view.read (Elt F) X4) 3 1 3) _ h9_3 (by as_aux_lemma => rfl) ?_
      refine read_sub arg9.view _ _ _ A3 0 0 3 1 rfl _ _ (val (arg8.view.read (Elt F) X8) (arg3.view.read (Elt F) X3) (arg4.view.read (Elt F) X4) 3 1 3) _ h9_3 (by as_aux_lemma => rfl) ?_
      refine read_add arg9.view _ _ _ A3 0 1 3 0 rfl _ _ (val (arg8.view.read (Elt F) X8) (arg3.view.read (Elt F) X3) (arg4.view.read (Elt F) X4) 3 0 3) _ h9_3 (by as_aux_lemma => rfl) ?_
      refine read_sub arg9.view _ _ _ A3 0 0 3 0 rfl _ _ (val (arg8.view.read (Elt F) X8) (arg3.view.read (Elt F) X3) (arg4.view.read (Elt F) X4) 3 0 3) _ h9_3 (by as_aux_lemma => rfl) ?_
      refine read_add arg9.view _ _ _ A3 0 1 2 1 rfl _ _ (val (arg8.view.read (Elt F) X8) (arg3.view.read (Elt F) X3) (arg4.view.read (Elt F) X4) 3 1 2) _ h9_3 (by as_aux_lemma => rfl) ?_
      refine read_sub arg9.view _ _ _ A3 0 0 2 1 rfl _ _ (val (arg8.view.read (Elt F) X8) (arg3.view.read (Elt F) X3) (arg4.view.read (Elt F) X4) 3 1 2) _ h9_3 (by as_aux_lemma => rfl) ?_
      refine read_add arg9.view _ _ _ A3 0 1 2 0 rfl _ _ (val (arg8.view.read (Elt F) X8) (arg3.view.read (Elt F) X3) (arg4.view.read (Elt F) X4) 3 0 2) _ h9_3 (by as_aux_lemma => rfl) ?_
      refine read_sub arg9.view _ _ _ A3 0 0 2 0 rfl _ _ (val (arg8.view.read (Elt F) X8) (arg3.view.read (Elt F) X3) (arg4.view.read (Elt F) X4) 3 0 2) _ h9_3 (by as_aux_lemma => rfl) ?_
      refine read_add arg9.view _ _ _ A3 0 1 1 1 rfl _ _ (val (arg8.view.read (Elt F) X8) (arg3.view.read (Elt F) X3) (arg4.view.read (Elt F) X4) 3 1 1) _ h9_3 (by as_aux_lemma => rfl) ?_
      refine read_sub arg9.view _ _ _ A3 0 0 1 1 rfl _ _ (val (arg8.view.read (Elt F) X8) (arg3.view.read (Elt F) X3) (arg4.view.read (Elt F) X4) 3 1 1) _ h9_3 (by as_aux_lemma => rfl) ?_
      refine read_add arg9.view _ _ _ A3 0 1 1 0 rfl _ _ (val (arg8.view.read (Elt F) X8) (arg3.view.read (Elt F) X3) (arg4.view.read (Elt F) X4) 3 0 1) _ h9_3 (by as_aux_lemma => rfl) ?_
      refine read_sub arg9.view _ _ _ A3 0 0 1 0 rfl _ _ (val (arg8.view.read (Elt F) X8) (arg3.view.read (Elt F) X3) (arg4.view.read (Elt F) X4) 3 0 1) _ h9_3 (by as_aux_lemma => rfl) ?_
      refine read_add arg9.view _ _ _ A3 0 1 0 1 rfl _ _ (val (arg8.view.read (Elt F) X8) (arg3.view.read (Elt F) X3) (arg4.view.read (Elt F) X4) 3 1 0) _ h9_3 (by as_aux_lemma => rfl) ?_
      refine read_sub arg9.view _ _ _ A3 0 0 0 1 rfl _ _ (val (arg8.view.read (Elt F) X8) (arg3.view.read (Elt F) X3) (arg4.view.read (Elt F) X4) 3 1 0) _ h9_3 (by as_aux_lemma => rfl) ?_
      refine read_add arg9.view _ _ _ A3 0 1 0 0 rfl _ _ (val (arg8.view.read (Elt F) X8) (arg3.view.read (Elt F) X3) (arg4.view.read (Elt F) X4) 3 0 0) _ h9_3 (by as_aux_lemma => rfl) ?_
      refine read_sub arg9.view _ _ _ A3 0 0 0 0 rfl _ _ (val (arg8.view.read (Elt F) X8) (arg3.view.read (Elt F) X3) (arg4.view.read (Elt F) X4) 3 0 0) _ h9_3 (by as_aux_lemma => rfl) ?_
      exact h9_3

  iintro %s4 HI
  unfold inv9 inv
  icases HI with ⟨⟨%h, H3, H4, H8⟩, %f9_4, H9, %h9_4⟩
  subst h
  obtain ⟨A4, hA4⟩ : ∃ A4, A4 = stage3 (val (arg8.view.read (Elt F) X8) (arg3.view.read (Elt F) X3) (arg4.view.read (Elt F) X4) 3) A3 := ⟨_, rfl⟩
  rw [← hA4] at h9_4
  rw [show (3 * k0_t5_loop.trips + 1) = 28 by decide]
  unfold St
  sl_exec
  sl_for (inv9 c arg9 (stage4 (val (arg8.view.read (Elt F) X8) (arg3.view.read (Elt F) X3) (arg4.view.read (Elt F) X4) 4) A4) (inv 5 c arg3 arg4 arg8 X3 X4 X8)) $$ [H3 H4 H8 H9]
  case region => exact fun k s => keep9 _ _ _ _ _ _ _ (step6 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage4
      refine read_add arg9.view _ _ _ A4 0 0 3 1 rfl _ _ (val (arg8.view.read (Elt F) X8) (arg3.view.read (Elt F) X3) (arg4.view.read (Elt F) X4) 4 1 3) _ h9_4 (by as_aux_lemma => rfl) ?_
      refine read_add arg9.view _ _ _ A4 0 0 3 0 rfl _ _ (val (arg8.view.read (Elt F) X8) (arg3.view.read (Elt F) X3) (arg4.view.read (Elt F) X4) 4 0 3) _ h9_4 (by as_aux_lemma => rfl) ?_
      refine read_add arg9.view _ _ _ A4 0 0 2 1 rfl _ _ (val (arg8.view.read (Elt F) X8) (arg3.view.read (Elt F) X3) (arg4.view.read (Elt F) X4) 4 1 2) _ h9_4 (by as_aux_lemma => rfl) ?_
      refine read_add arg9.view _ _ _ A4 0 0 2 0 rfl _ _ (val (arg8.view.read (Elt F) X8) (arg3.view.read (Elt F) X3) (arg4.view.read (Elt F) X4) 4 0 2) _ h9_4 (by as_aux_lemma => rfl) ?_
      refine read_add arg9.view _ _ _ A4 0 0 1 1 rfl _ _ (val (arg8.view.read (Elt F) X8) (arg3.view.read (Elt F) X3) (arg4.view.read (Elt F) X4) 4 1 1) _ h9_4 (by as_aux_lemma => rfl) ?_
      refine read_add arg9.view _ _ _ A4 0 0 1 0 rfl _ _ (val (arg8.view.read (Elt F) X8) (arg3.view.read (Elt F) X3) (arg4.view.read (Elt F) X4) 4 0 1) _ h9_4 (by as_aux_lemma => rfl) ?_
      refine read_add arg9.view _ _ _ A4 0 0 0 1 rfl _ _ (val (arg8.view.read (Elt F) X8) (arg3.view.read (Elt F) X3) (arg4.view.read (Elt F) X4) 4 1 0) _ h9_4 (by as_aux_lemma => rfl) ?_
      refine read_add arg9.view _ _ _ A4 0 0 0 0 rfl _ _ (val (arg8.view.read (Elt F) X8) (arg3.view.read (Elt F) X3) (arg4.view.read (Elt F) X4) 4 0 0) _ h9_4 (by as_aux_lemma => rfl) ?_
      exact h9_4

  iintro %s5 HI
  unfold inv9 inv
  icases HI with ⟨⟨%h, H3, H4, H8⟩, %f9_5, H9, %h9_5⟩
  subst h
  obtain ⟨A5, hA5⟩ : ∃ A5, A5 = stage4 (val (arg8.view.read (Elt F) X8) (arg3.view.read (Elt F) X3) (arg4.view.read (Elt F) X4) 4) A4 := ⟨_, rfl⟩
  rw [← hA5] at h9_5
  rw [show (3 * k0_t6_loop.trips + 1) = 28 by decide]
  unfold St
  sl_exec
  sl_for (inv9 c arg9 (stage5 (val (arg8.view.read (Elt F) X8) (arg3.view.read (Elt F) X3) (arg4.view.read (Elt F) X4) 5) A5) (inv 6 c arg3 arg4 arg8 X3 X4 X8)) $$ [H3 H4 H8 H9]
  case region => exact fun k s => keep9 _ _ _ _ _ _ _ (step7 𝒱 c bd E i arg1 harg1 arg2 harg2 arg3 harg3 arg4 harg4 arg5 harg5 arg6 harg6 arg7 harg7 arg8 harg8 arg9 harg9 arg10 k0_h3 _ _ X3 X4 X8 k s)
  · unfold inv9 inv
    isplitl [H3 H4 H8]
    · isplitr
      · ipureintro
        iterate 8 sl_unfold_run_names
        simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
        simp only [readAt_xw, readAt_ww]
        rfl
      isplitl [H3]; · iassumption
      isplitl [H4]; · iassumption
      iassumption
    iexists _
    isplitl [H9]; · iassumption
    ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    simp only [readAt_xw, readAt_ww]
    as_aux_lemma =>
      unfold stage5
      refine read_sub arg9.view _ _ _ A5 1 1 3 1 rfl _ _ (val (arg8.view.read (Elt F) X8) (arg3.view.read (Elt F) X3) (arg4.view.read (Elt F) X4) 5 1 3) _ h9_5 (by as_aux_lemma => rfl) ?_
      refine read_add arg9.view _ _ _ A5 1 0 3 1 rfl _ _ (val (arg8.view.read (Elt F) X8) (arg3.view.read (Elt F) X3) (arg4.view.read (Elt F) X4) 5 1 3) _ h9_5 (by as_aux_lemma => rfl) ?_
      refine read_sub arg9.view _ _ _ A5 1 1 3 0 rfl _ _ (val (arg8.view.read (Elt F) X8) (arg3.view.read (Elt F) X3) (arg4.view.read (Elt F) X4) 5 0 3) _ h9_5 (by as_aux_lemma => rfl) ?_
      refine read_add arg9.view _ _ _ A5 1 0 3 0 rfl _ _ (val (arg8.view.read (Elt F) X8) (arg3.view.read (Elt F) X3) (arg4.view.read (Elt F) X4) 5 0 3) _ h9_5 (by as_aux_lemma => rfl) ?_
      refine read_sub arg9.view _ _ _ A5 1 1 2 1 rfl _ _ (val (arg8.view.read (Elt F) X8) (arg3.view.read (Elt F) X3) (arg4.view.read (Elt F) X4) 5 1 2) _ h9_5 (by as_aux_lemma => rfl) ?_
      refine read_add arg9.view _ _ _ A5 1 0 2 1 rfl _ _ (val (arg8.view.read (Elt F) X8) (arg3.view.read (Elt F) X3) (arg4.view.read (Elt F) X4) 5 1 2) _ h9_5 (by as_aux_lemma => rfl) ?_
      refine read_sub arg9.view _ _ _ A5 1 1 2 0 rfl _ _ (val (arg8.view.read (Elt F) X8) (arg3.view.read (Elt F) X3) (arg4.view.read (Elt F) X4) 5 0 2) _ h9_5 (by as_aux_lemma => rfl) ?_
      refine read_add arg9.view _ _ _ A5 1 0 2 0 rfl _ _ (val (arg8.view.read (Elt F) X8) (arg3.view.read (Elt F) X3) (arg4.view.read (Elt F) X4) 5 0 2) _ h9_5 (by as_aux_lemma => rfl) ?_
      refine read_sub arg9.view _ _ _ A5 1 1 1 1 rfl _ _ (val (arg8.view.read (Elt F) X8) (arg3.view.read (Elt F) X3) (arg4.view.read (Elt F) X4) 5 1 1) _ h9_5 (by as_aux_lemma => rfl) ?_
      refine read_add arg9.view _ _ _ A5 1 0 1 1 rfl _ _ (val (arg8.view.read (Elt F) X8) (arg3.view.read (Elt F) X3) (arg4.view.read (Elt F) X4) 5 1 1) _ h9_5 (by as_aux_lemma => rfl) ?_
      refine read_sub arg9.view _ _ _ A5 1 1 1 0 rfl _ _ (val (arg8.view.read (Elt F) X8) (arg3.view.read (Elt F) X3) (arg4.view.read (Elt F) X4) 5 0 1) _ h9_5 (by as_aux_lemma => rfl) ?_
      refine read_add arg9.view _ _ _ A5 1 0 1 0 rfl _ _ (val (arg8.view.read (Elt F) X8) (arg3.view.read (Elt F) X3) (arg4.view.read (Elt F) X4) 5 0 1) _ h9_5 (by as_aux_lemma => rfl) ?_
      refine read_sub arg9.view _ _ _ A5 1 1 0 1 rfl _ _ (val (arg8.view.read (Elt F) X8) (arg3.view.read (Elt F) X3) (arg4.view.read (Elt F) X4) 5 1 0) _ h9_5 (by as_aux_lemma => rfl) ?_
      refine read_add arg9.view _ _ _ A5 1 0 0 1 rfl _ _ (val (arg8.view.read (Elt F) X8) (arg3.view.read (Elt F) X3) (arg4.view.read (Elt F) X4) 5 1 0) _ h9_5 (by as_aux_lemma => rfl) ?_
      refine read_sub arg9.view _ _ _ A5 1 1 0 0 rfl _ _ (val (arg8.view.read (Elt F) X8) (arg3.view.read (Elt F) X3) (arg4.view.read (Elt F) X4) 5 0 0) _ h9_5 (by as_aux_lemma => rfl) ?_
      refine read_add arg9.view _ _ _ A5 1 0 0 0 rfl _ _ (val (arg8.view.read (Elt F) X8) (arg3.view.read (Elt F) X3) (arg4.view.read (Elt F) X4) 5 0 0) _ h9_5 (by as_aux_lemma => rfl) ?_
      exact h9_5

  iintro %s6 HI
  unfold inv9 inv
  icases HI with ⟨⟨%h, H3, H4, H8⟩, %f9_6, H9, %h9_6⟩
  subst h
  obtain ⟨A6, hA6⟩ : ∃ A6, A6 = stage5 (val (arg8.view.read (Elt F) X8) (arg3.view.read (Elt F) X3) (arg4.view.read (Elt F) X4) 5) A5 := ⟨_, rfl⟩
  rw [← hA6] at h9_6
  rw [show (3 * k0_t7_loop.trips + 1) = 28 by decide]
  unfold St
  sl_exec
  sl_step
  unfold mainPost
  isplitr
  · ipureintro
    iterate 8 sl_unfold_run_names
    simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
    exact drained_mk (F := F) _ _
  isplitl [H2]; · iassumption
  isplitl [H3]; · iassumption
  isplitl [H4]; · iassumption
  isplitl [H5]; · iassumption
  isplitl [H6]; · iassumption
  isplitl [H8]; · iassumption
  isplitl [H7]
  · iexists _
    isplitl [H7]; · iassumption
    ipureintro
    intro y
    exact h7 y (lt_of_lt_of_eq (y 1).isLt (by decide))
  iexists _
  isplitl [H9]; · iassumption
  ipureintro
  iterate 8 sl_unfold_run_names
  simp only [push0, gmr0, isSome_gmr0, get_gmr0, push1, gmr1, isSome_gmr1, get_gmr1, get_tile, accL00, accL01, accL02, accL03, accL10, accL11, accL12, accL13, accB00, accB01, accB02, accB03, accB10, accB11, accB12, accB13, read00, read01, read02, read03, read10, read11, read12, read13, pop00, pop01, pop02, pop03, pop10, pop11, pop12, pop13]
  simp only [readAt_xw, readAt_ww]
  as_aux_lemma =>
      unfold total
      rw [← hA1, ← hA2, ← hA3, ← hA4, ← hA5, ← hA6]
      unfold stage6
      refine read_add arg9.view _ _ _ A6 1 1 3 1 rfl _ _ (val (arg8.view.read (Elt F) X8) (arg3.view.read (Elt F) X3) (arg4.view.read (Elt F) X4) 6 1 3) _ h9_6 (by as_aux_lemma => rfl) ?_
      refine read_add arg9.view _ _ _ A6 1 1 3 0 rfl _ _ (val (arg8.view.read (Elt F) X8) (arg3.view.read (Elt F) X3) (arg4.view.read (Elt F) X4) 6 0 3) _ h9_6 (by as_aux_lemma => rfl) ?_
      refine read_add arg9.view _ _ _ A6 1 1 2 1 rfl _ _ (val (arg8.view.read (Elt F) X8) (arg3.view.read (Elt F) X3) (arg4.view.read (Elt F) X4) 6 1 2) _ h9_6 (by as_aux_lemma => rfl) ?_
      refine read_add arg9.view _ _ _ A6 1 1 2 0 rfl _ _ (val (arg8.view.read (Elt F) X8) (arg3.view.read (Elt F) X3) (arg4.view.read (Elt F) X4) 6 0 2) _ h9_6 (by as_aux_lemma => rfl) ?_
      refine read_add arg9.view _ _ _ A6 1 1 1 1 rfl _ _ (val (arg8.view.read (Elt F) X8) (arg3.view.read (Elt F) X3) (arg4.view.read (Elt F) X4) 6 1 1) _ h9_6 (by as_aux_lemma => rfl) ?_
      refine read_add arg9.view _ _ _ A6 1 1 1 0 rfl _ _ (val (arg8.view.read (Elt F) X8) (arg3.view.read (Elt F) X3) (arg4.view.read (Elt F) X4) 6 0 1) _ h9_6 (by as_aux_lemma => rfl) ?_
      refine read_add arg9.view _ _ _ A6 1 1 0 1 rfl _ _ (val (arg8.view.read (Elt F) X8) (arg3.view.read (Elt F) X3) (arg4.view.read (Elt F) X4) 6 1 0) _ h9_6 (by as_aux_lemma => rfl) ?_
      refine read_add arg9.view _ _ _ A6 1 1 0 0 rfl _ _ (val (arg8.view.read (Elt F) X8) (arg3.view.read (Elt F) X3) (arg4.view.read (Elt F) X4) 6 0 0) _ h9_6 (by as_aux_lemma => rfl) ?_
      exact h9_6

end Cert.Proof.GateUp.KernelIdeal

end
-- ==== Proof.KernelIdealBody.lean ====
/-
  The parts of one step beside its products, and how a step is made of them.
-/
module

public import proofs.«01_k».proof.Proof.KernelIdealMain

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The first step's zeroing of the accumulator. -/
def zeroProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : Prog (TpuEff nD τ sig (Elt F) Λ₀ .tc) PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k0_h1 : v2 = 1#1 then do
    let v10 : Vec F S2x2x1024x512 .f32 ← Prog.lift (.load arg9 (Rect.unit (s := S2x2x1024x512) ![0, 0, 0, 0] S2x2x1024x512.size inb_S2x2x1024x512_S2x2x1024x512_0_0_0_0).toLoadRect (View.loadsAt_vmem h_S2x2x1024x512))
    Prog.lift (.store arg9 (Rect.unit (s := S2x2x1024x512) ![0, 0, 0, 0] S2x2x1024x512.size inb_S2x2x1024x512_S2x2x1024x512_0_0_0_0) (k0_pay1 (F := F)) Finset.univ (View.stores_vmem_bits_univ h_S2x2x1024x512 rfl) (.inl rfl))
    pure ⟨⟩
  else do
    pure ⟨⟩

/-- The copy of a block of rows of the activation codes. -/
def copyProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : Prog (TpuEff nD τ sig (Elt F) Λ₀ .tc) PUnit := do
  if k0_h2 : k0_cond2 i = 1#1 then do
    let v12 : Memref sig .tc .hbm S2x1024x14848 .i8 := arg1.slice (Rect.unit (s := S2x2048x14848) (k0_off1 i) S2x1024x14848.size (k0_off1_inb i k0_h2)) (fun _ => rfl)
    Prog.lift (.enqueueDma v12 (.here arg8) (.dma arg10.sem) (harg1.wordExact_slice rfl _ (k0_off1_wordsi8 i k0_h2)) harg8.wordExact ⟨Or.inl rfl, trivial⟩)
    let v13 : Memref sig .tc .hbm S2x1024x14848 .i8 := arg1.slice (Rect.unit (s := S2x2048x14848) (k0_off1 i) S2x1024x14848.size (k0_off1_inb i k0_h2)) (fun _ => rfl)
    Prog.lift (.waitDma2 arg10.sem v13 arg8 (harg1.wordExact_slice rfl _ (k0_off1_wordsi8 i k0_h2)) harg8.wordExact)
    pure ⟨⟩
  else do
    pure ⟨⟩

/-- The last step's epilogue. -/
def drainProg (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : Prog (TpuEff nD τ sig (Elt F) Λ₀ .tc) PUnit := do
  if k0_h4 : k0_cond4 i = 1#1 then do
    let v16_r0 : BitVec 32 ← Scf.Loop.for k0_t8_loop (k0_t8_ok i k0_h4) 0#32 (k0_t8_body i arg1 harg1 arg2 harg2 arg3 harg3 arg4 harg4 arg5 harg5 arg6 harg6 arg7 harg7 arg8 harg8 arg9 harg9 arg10 k0_h4)
    pure ⟨⟩
  else do
    pure ⟨⟩

theorem skel_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) : cc0_gate_up_skel (F := F) i arg1 harg1 arg2 harg2 arg3 harg3 arg4 harg4 arg5 harg5 arg6 harg6 arg7 harg7 arg8 harg8 arg9 harg9 arg10 = (do
    zeroProg i arg1 harg1 arg2 harg2 arg3 harg3 arg4 harg4 arg5 harg5 arg6 harg6 arg7 harg7 arg8 harg8 arg9 harg9 arg10
    copyProg i arg1 harg1 arg2 harg2 arg3 harg3 arg4 harg4 arg5 harg5 arg6 harg6 arg7 harg7 arg8 harg8 arg9 harg9 arg10
    let s ← if h : k0_cond3 i = 1#1 then mainProg i arg1 harg1 arg2 harg2 arg3 harg3 arg4 harg4 arg5 harg5 arg6 harg6 arg7 harg7 arg8 harg8 arg9 harg9 arg10 Mxu.init h else pure Mxu.init
    drainProg i arg1 harg1 arg2 harg2 arg3 harg3 arg4 harg4 arg5 harg5 arg6 harg6 arg7 harg7 arg8 harg8 arg9 harg9 arg10
    s.exit
    pure ⟨⟩) := by
  unfold cc0_gate_up_skel zeroProg copyProg drainProg mainProg
  by_cases h1 : (Scalar.cmpi .ne (Scalar.extui (Scalar.cmpi .eq (BitVec.ofNat 32 (i 0).val) 0#32) : BitVec 32) 0#32 : BitVec 1) = 1#1 <;> by_cases h2 : k0_cond2 i = 1#1 <;> by_cases h3 : k0_cond3 i = 1#1 <;> by_cases h4 : k0_cond4 i = 1#1 <;>
    simp only [h1, h2, h3, h4, not_false_eq_true, ↓reduceDIte, bind_assoc, pure_bind] <;> rfl

theorem cond1_iff : ∀ i : grid0.Coords, (Scalar.cmpi .ne (Scalar.extui (Scalar.cmpi .eq (BitVec.ofNat 32 (i 0).val) 0#32) : BitVec 32) 0#32 : BitVec 1) = 1#1 ↔ (i 0).val = 0 := by decide +kernel
theorem cond2_iff : ∀ i : grid0.Coords, k0_cond2 i = 1#1 ↔ (i 0).val % 26 = 0 ∧ (i 0).val < 52 := by decide +kernel
theorem cond3_iff : ∀ i : grid0.Coords, k0_cond3 i = 1#1 ↔ (i 0).val < 52 := by decide +kernel
theorem cond4_iff : ∀ i : grid0.Coords, k0_cond4 i = 1#1 ↔ (i 0).val = 52 := by decide +kernel
theorem off1_eq : ∀ i : grid0.Coords, k0_off1 i = ![0, 1024 * ((i 0).val / 26), 0] := by decide +kernel

/-- The rows of tile row `k` of the activation codes. -/
def slab (C : Vec F S2x2048x14848 .i8) (k : ℕ) : Vec F S2x1024x14848 .i8 := fun y =>
  C (fun a => match a with
    | ⟨0, _⟩ => (y 0 : Fin 2)
    | ⟨1, _⟩ => (⟨(1024 * k + (y 1).val) % 2048, Nat.mod_lt _ (by decide)⟩ : Fin 2048)
    | ⟨2, _⟩ => (y 2 : Fin 14848))

abbrev xM : Memref sig .tc .hbm S2x2048x14848 .i8 := Memref.whole main_arg0
abbrev slabM : Memref sig .tc .vmem S2x1024x14848 .i8 := Memref.whole cc0_scratch0
abbrev accM : Memref sig .tc .vmem S2x2x1024x512 .f32 := Memref.whole cc0_scratch1
/-- The buffer of a memref on core `c`, whole, at `f`. -/
abbrev hbPt (c : Dev nD) {sp : Space} {S : Shape} {e : EltTy} (M : Memref sig .tc sp S e) (f : Buf (Elt F) (M.view.loc (c : Thread nD τ))) : sProp 𝕄G :=
  M.view.loc (c : Thread nD τ) ↦{fullShare} f

theorem zero_run (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val = 0)
    (X9 : BufTy.Contents (Elt F) arg9.view.ty) :
    ((arg9.view.loc (c : Thread nD τ) ↦[arg9.view.set]{fullShare} X9) : sProp 𝕄G)
      ⊢ wp frame (wpE (defs₀ (F := F)) 𝒱 (c : Thread nD τ) bd) E (zeroProg (F := F) i arg1 harg1 arg2 harg2 arg3 harg3 arg4 harg4 arg5 harg5 arg6 harg6 arg7 harg7 arg8 harg8 arg9 harg9 arg10)
          (fun _ => iprop(∃ f9, (arg9.view.loc (c : Thread nD τ) ↦[arg9.view.set]{fullShare} f9) ∗ ⌜arg9.view.read (Elt F) f9 = k0_pay1⌝)) := by
  have h1 := (cond1_iff i).2 h
  unfold zeroProg
  iintro H9
  simp only [h1, ↓reduceDIte]
  sl_exec
  sl_step
  iexists _
  isplitl [H9]; · iassumption
  ipureintro
  funext y
  exact View.read_writes_cons_unit_of_mem arg9.view X9 inb_S2x2x1024x512_S2x2x1024x512_0_0_0_0 k0_pay1 [] y y rfl
    (fun a => match a with | ⟨0, _⟩ => (Nat.zero_add _).symm | ⟨1, _⟩ => (Nat.zero_add _).symm | ⟨2, _⟩ => (Nat.zero_add _).symm | ⟨3, _⟩ => (Nat.zero_add _).symm)

theorem zero_skip (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 0) (R : sProp 𝕄G) :
    R ⊢ wp frame (wpE (defs₀ (F := F)) 𝒱 (c : Thread nD τ) bd) E (zeroProg (F := F) i arg1 harg1 arg2 harg2 arg3 harg3 arg4 harg4 arg5 harg5 arg6 harg6 arg7 harg7 arg8 harg8 arg9 harg9 arg10) (fun _ => R) := by
  have h1 := mt (cond1_iff i).1 h
  unfold zeroProg
  iintro HR
  simp only [h1, not_false_eq_true, ↓reduceDIte]
  sl_step
  iassumption

theorem copy_skip (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : ¬((i 0).val % 26 = 0 ∧ (i 0).val < 52)) (R : sProp 𝕄G) :
    R ⊢ wp frame (wpE (defs₀ (F := F)) 𝒱 (c : Thread nD τ) bd) E (copyProg (F := F) i arg1 harg1 arg2 harg2 arg3 harg3 arg4 harg4 arg5 harg5 arg6 harg6 arg7 harg7 arg8 harg8 arg9 harg9 arg10) (fun _ => R) := by
  have h1 := mt (cond2_iff i).1 h
  unfold copyProg
  iintro HR
  simp only [h1, not_false_eq_true, ↓reduceDIte]
  sl_step
  iassumption

theorem drain_skip (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 52) (R : sProp 𝕄G) :
    R ⊢ wp frame (wpE (defs₀ (F := F)) 𝒱 (c : Thread nD τ) bd) E (drainProg (F := F) i arg1 harg1 arg2 harg2 arg3 harg3 arg4 harg4 arg5 harg5 arg6 harg6 arg7 harg7 arg8 harg8 arg9 harg9 arg10) (fun _ => R) := by
  have h1 := mt (cond4_iff i).1 h
  unfold drainProg
  iintro HR
  simp only [h1, not_false_eq_true, ↓reduceDIte]
  sl_step
  iassumption

theorem drain_run (𝒱 : Variants) (c : Dev nD) (bd : Option 𝒱.V) (E : Set ℕ) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val = 52)
    (X2 : BufTy.Contents (Elt F) arg2.view.ty) (X5 : BufTy.Contents (Elt F) arg5.view.ty) (X6 : BufTy.Contents (Elt F) arg6.view.ty) (X7 : BufTy.Contents (Elt F) arg7.view.ty) (X9 : BufTy.Contents (Elt F) arg9.view.ty) :
    (iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9)) : sProp 𝕄G)
      ⊢ wp frame (wpE (defs₀ (F := F)) 𝒱 (c : Thread nD τ) bd) E (drainProg (F := F) i arg1 harg1 arg2 harg2 arg3 harg3 arg4 harg4 arg5 harg5 arg6 harg6 arg7 harg7 arg8 harg8 arg9 harg9 arg10)
          (fun _ => iprop((arg2.view.loc (c : Thread nD τ) ↦[arg2.view.set]{fullShare} X2) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9)
            ∗ (∃ f7, (arg7.view.loc (c : Thread nD τ) ↦[arg7.view.set]{fullShare} f7) ∗ ⌜∀ y, arg7.view.read (Elt F) f7 y = epi (arg2.view.read (Elt F) X2) (arg9.view.read (Elt F) X9) (arg5.view.read (Elt F) X5) (arg6.view.read (Elt F) X6) y⌝))) := by
  have h1 := (cond4_iff i).2 h
  unfold drainProg
  iintro ⟨H2, H5, H6, H7, H9⟩
  simp only [h1, ↓reduceDIte]
  sl_for (inv8 c arg2 arg5 arg6 arg7 arg9 X2 X5 X6 X9) $$ [H2 H5 H6 H7 H9]
  case region => exact step8 𝒱 c bd E i arg1 harg1 arg2 harg2 arg3 harg3 arg4 harg4 arg5 harg5 arg6 harg6 arg7 harg7 arg8 harg8 arg9 harg9 arg10 h1 X2 X5 X6 X9
  · unfold inv8
    isplitr; · ipureintro; rfl
    isplitl [H2]; · iassumption
    isplitl [H5]; · iassumption
    isplitl [H6]; · iassumption
    isplitl [H9]; · iassumption
    iexists _
    isplitl [H7]; · iassumption
    ipureintro
    intro y hy
    exact absurd hy (by simp)
  iintro %acc HI
  unfold inv8
  icases HI with ⟨%h, H2, H5, H6, H9, %f7, H7, %h7⟩
  sl_step
  isplitl [H2]; · iassumption
  isplitl [H5]; · iassumption
  isplitl [H6]; · iassumption
  isplitl [H9]; · iassumption
  iexists _
  isplitl [H7]; · iassumption
  ipureintro
  intro y
  exact h7 y (lt_of_lt_of_eq (y 1).isLt (by decide))

theorem copy_run (c : Dev nD) (i : grid0.Coords) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg9 : Memref sig .tc .vmem S2x2x1024x512 .f32) (harg9 : arg9.IsWhole) (h : (i 0).val % 26 = 0 ∧ (i 0).val < 52)
    (X8 : Buf (Elt F) (slabM.view.loc (c : Thread nD τ))) (fh : Buf (Elt F) (xM.view.loc (c : Thread nD τ))) (W : Waits sig Unit) :
    (iprop(hbPt c slabM X8 ∗ semVal ((c : Thread nD τ), SemLoc.dma 12) 0 ∗ hbPt c xM fh ∗ owes (c : Thread nD τ) 0 W) : sProp 𝕄G)
      ⊢ wp frame (wpE (defs₀ (F := F)) Variants.none (c : Thread nD τ) none) Set.univ (copyProg (F := F) i xM (Memref.isWhole_whole _) arg2 harg2 arg3 harg3 arg4 harg4 arg5 harg5 arg6 harg6 arg7 harg7 slabM (Memref.isWhole_whole _) arg9 harg9 cc0_scratch2)
          (fun _ => iprop((∃ f8, hbPt c slabM f8 ∗ ⌜slabM.view.read (Elt F) f8 = slab (xM.view.read (Elt F) fh) ((i 0).val / 26)⌝)
            ∗ semVal ((c : Thread nD τ), SemLoc.dma 12) 0 ∗ hbPt c xM fh ∗ ∃ W', owes (c : Thread nD τ) 0 W')) := by
  have h1 := (cond2_iff i).2 h
  unfold copyProg
  iintro ⟨H8, Hq, Hh, HW⟩
  simp only [h1, ↓reduceDIte]
  sl_exec
  sl_step
  isplitl [H8]
  · iexists _
    isplitl [H8]; · iassumption
    ipureintro
    refine (View.read_write_univ (v := slabM.view) _ _).trans ?_
    unfold copy_run.sl.dma0
    funext y
    have hi : (i 0).val / 26 ≤ 1 := by have := h.2; omega
    refine congrArg (View.read (Elt F) (View.whole main_arg0) fh) (a₁ := (Rect.unit (s := S2x2048x14848) (k0_off1 i) ![2, 1024, 14848] _).emb y) ?_
    funext a
    apply Fin.ext
    refine (show _ = k0_off1 i a + (y a).val from by simp [Rect.emb_apply]).trans ?_
    rw [off1_eq]
    match a with
    | ⟨0, _⟩ => exact Nat.zero_add _
    | ⟨1, _⟩ => exact (Nat.mod_eq_of_lt (show 1024 * ((i 0).val / 26) + (y 1).val < 2048 by have : (y 1).val < 1024 := (y 1).isLt; omega)).symm
    | ⟨2, _⟩ => exact Nat.zero_add _
  isplitl [Hq]; · iexact Hq
  isplitl [Hh]; · iexact Hh
  iexists _; iexact HW

end Cert.Proof.GateUp.KernelIdeal

end
-- ==== Proof.KernelIdealRun.lean ====
/-
  One step of the pipeline: what it leaves in the row slab, the accumulator and the output block.
-/
module

public import proofs.«01_k».proof.Proof.KernelIdealBody

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- The cells of given contents. -/
def cut (Y : Vec F S2x2x1024x512 .f32) : Cells F := fun b g c q j =>
  Y (i4 ⟨b % 2, Nat.mod_lt _ (by decide)⟩ ⟨g % 2, Nat.mod_lt _ (by decide)⟩ ⟨(256 * c + (j 0).val) % 1024, Nat.mod_lt _ (by decide)⟩
    ⟨(256 * q + (j 1).val) % 512, Nat.mod_lt _ (by decide)⟩)

theorem asm_cut (Y : Vec F S2x2x1024x512 .f32) : asm (cut Y) = Y := by
  funext i
  refine congrArg Y (funext fun a => Fin.ext ?_)
  have h0 : (i 0).val < 2 := (i 0).isLt
  have h1 : (i 1).val < 2 := (i 1).isLt
  have h2 : (i 2).val < 1024 := (i 2).isLt
  have h3 : (i 3).val < 512 := (i 3).isLt
  match a with
  | ⟨0, _⟩ => exact Nat.mod_eq_of_lt h0
  | ⟨1, _⟩ => exact Nat.mod_eq_of_lt h1
  | ⟨2, _⟩ => exact (show (256 * ((i 2).val / 256) + (i 2).val % 256) % 1024 = (i 2).val by omega)
  | ⟨3, _⟩ => exact (show (256 * ((i 3).val / 256) + (i 3).val % 256) % 512 = (i 3).val by omega)

/-- The accumulator's cells after a step, from its seven products: nothing of what it held before is left. -/
def fin (X : Vec F S2x1024x14848 .i8) (Wg Wu : Vec F S7424x512 .i8) : Cells F := fun b g c q =>
  if b = 0 then
    if g = 0 then addf (subf (addf (val X Wg Wu 0 q c) (val X Wg Wu 2 q c)) (val X Wg Wu 3 q c)) (val X Wg Wu 4 q c)
    else addf (val X Wg Wu 1 q c) (val X Wg Wu 3 q c)
  else
    if g = 0 then addf (val X Wg Wu 2 q c) (val X Wg Wu 5 q c)
    else addf (subf (addf (val X Wg Wu 0 q c) (val X Wg Wu 1 q c)) (val X Wg Wu 5 q c)) (val X Wg Wu 6 q c)

theorem stages (V0 V1 V2 V3 V4 V5 V6 : ℕ → ℕ → Blk F) (A : Cells F) (b g c q : ℕ) (hb : b < 2) (hg : g < 2) (hc : c < 4) (hq : q < 2) :
    stage6 V6 (stage5 V5 (stage4 V4 (stage3 V3 (stage2 V2 (stage1 V1 (stage0 V0 A)))))) b g c q =
      if b = 0 then
        if g = 0 then addf (subf (addf (V0 q c) (V2 q c)) (V3 q c)) (V4 q c) else addf (V1 q c) (V3 q c)
      else
        if g = 0 then addf (V2 q c) (V5 q c) else addf (subf (addf (V0 q c) (V1 q c)) (V5 q c)) (V6 q c) := by
  obtain ⟨b', rfl⟩ : ∃ b' : Fin 2, b = b'.val := ⟨⟨b, hb⟩, rfl⟩
  obtain ⟨g', rfl⟩ : ∃ g' : Fin 2, g = g'.val := ⟨⟨g, hg⟩, rfl⟩
  obtain ⟨c', rfl⟩ : ∃ c' : Fin 4, c = c'.val := ⟨⟨c, hc⟩, rfl⟩
  obtain ⟨q', rfl⟩ : ∃ q' : Fin 2, q = q'.val := ⟨⟨q, hq⟩, rfl⟩
  fin_cases b' <;> fin_cases g' <;> fin_cases c' <;> fin_cases q' <;> rfl

theorem asm_total (X : Vec F S2x1024x14848 .i8) (Wg Wu : Vec F S7424x512 .i8) (A : Cells F) : asm (total X Wg Wu A) = asm (fin X Wg Wu) := by
  funext i
  have h0 : (i 0).val < 2 := (i 0).isLt
  have h1 : (i 1).val < 2 := (i 1).isLt
  have h2 : (i 2).val < 1024 := (i 2).isLt
  have h3 : (i 3).val < 512 := (i 3).isLt
  unfold asm total fin
  rw [stages _ _ _ _ _ _ _ A _ _ _ _ h0 h1 (by omega) (by omega)]

theorem zero_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 0) : zeroProg (F := F) i arg1 harg1 arg2 harg2 arg3 harg3 arg4 harg4 arg5 harg5 arg6 harg6 arg7 harg7 arg8 harg8 arg9 harg9 arg10 = pure ⟨⟩ := by
  have h1 := mt (cond1_iff i).1 h
  unfold zeroProg
  simp only [h1, not_false_eq_true, ↓reduceDIte]

theorem copy_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : ¬((i 0).val % 26 = 0 ∧ (i 0).val < 52)) : copyProg (F := F) i arg1 harg1 arg2 harg2 arg3 harg3 arg4 harg4 arg5 harg5 arg6 harg6 arg7 harg7 arg8 harg8 arg9 harg9 arg10 = pure ⟨⟩ := by
  have h1 := mt (cond2_iff i).1 h
  unfold copyProg
  simp only [h1, not_false_eq_true, ↓reduceDIte]

theorem drain_eq (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (h : (i 0).val ≠ 52) : drainProg (F := F) i arg1 harg1 arg2 harg2 arg3 harg3 arg4 harg4 arg5 harg5 arg6 harg6 arg7 harg7 arg8 harg8 arg9 harg9 arg10 = pure ⟨⟩ := by
  have h1 := mt (cond4_iff i).1 h
  unfold drainProg
  simp only [h1, not_false_eq_true, ↓reduceDIte]

/-- One part of a program run beside what it does not touch. -/
theorem step_bind {α β : Type} (c : Dev nD) (p : Prog (TpuEff nD τ sig (Elt F) Λ₀ .tc) α) (k : α → Prog (TpuEff nD τ sig (Elt F) Λ₀ .tc) β)
    (P R : sProp 𝕄G) (Q1 : α → sProp 𝕄G) (Q : β → sProp 𝕄G) (h1 : P ⊢ wp frame (wpE (defs₀ (F := F)) Variants.none (c : Thread nD τ) none) Set.univ p Q1)
    (h2 : ∀ x, iprop(Q1 x ∗ R) ⊢ wp frame (wpE (defs₀ (F := F)) Variants.none (c : Thread nD τ) none) Set.univ (k x) Q) : iprop(P ∗ R) ⊢ wp frame (wpE (defs₀ (F := F)) Variants.none (c : Thread nD τ) none) Set.univ (p >>= k) Q := by
  rw [wp_bind]
  exact ((sep_mono_left h1).trans (wp_frame_r frame (wpE (defs₀ (F := F)) Variants.none (c : Thread nD τ) none) Set.univ)).trans
    (wp_mono frame (wpE (defs₀ (F := F)) Variants.none (c : Thread nD τ) none) Set.univ h2)

/-- The step after its first two parts. -/
theorem tail_run (c : Dev nD) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (hi : (i 0).val ≤ 52) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)) : sProp 𝕄G)
      ⊢ wp frame (wpE (defs₀ (F := F)) Variants.none (c : Thread nD τ) none) Set.univ (do
          let s ← if h : k0_cond3 i = 1#1 then mainProg (F := F) i arg1 harg1 arg2 harg2 arg3 harg3 arg4 harg4 arg5 harg5 arg6 harg6 arg7 harg7 arg8 harg8 arg9 harg9 arg10 Mxu.init h else pure Mxu.init
          drainProg (F := F) i arg1 harg1 arg2 harg2 arg3 harg3 arg4 harg4 arg5 harg5 arg6 harg6 arg7 harg7 arg8 harg8 arg9 harg9 arg10
          s.exit
          pure ⟨⟩ : Prog (TpuEff nD τ sig (Elt F) Λ₀ .tc) PUnit)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6)
            ∗ (∃ f7, (arg7.view.loc (c : Thread nD τ) ↦[arg7.view.set]{fullShare} f7) ∗ ⌜∀ y, arg7.view.read (Elt F) f7 y = epi (arg2.view.read (Elt F) X2) (arg9.view.read (Elt F) X9) (arg5.view.read (Elt F) X5) (arg6.view.read (Elt F) X6) y⌝) ∗ (arg8.view.loc (c : Thread nD τ) ↦[arg8.view.set]{fullShare} X8)
            ∗ (∃ f9, (arg9.view.loc (c : Thread nD τ) ↦[arg9.view.set]{fullShare} f9) ∗ ⌜(i 0).val < 52 → arg9.view.read (Elt F) f9 = asm (fin (arg8.view.read (Elt F) X8) (arg3.view.read (Elt F) X3) (arg4.view.read (Elt F) X4))⌝))) := by
  by_cases h : (i 0).val < 52
  · have h3 := (cond3_iff i).2 h
    simp only [h3, ↓reduceDIte, drain_eq _ _ _ _ _ _ _ _ _ _ _ _ _ _ _ _ _ _ _ _ (show (i 0).val ≠ 52 by omega), pure_bind]
    rw [wp_bind]
    refine (main Variants.none c none Set.univ i arg1 harg1 arg2 harg2 arg3 harg3 arg4 harg4 arg5 harg5 arg6 harg6 arg7 harg7 arg8 harg8 arg9 harg9 arg10 h3 X2 X3 X4 X5 X6 X7 X8 X9 (cut (arg9.view.read (Elt F) X9)) (asm_cut _).symm).trans
      (wp_mono frame (wpE (defs₀ (F := F)) Variants.none (c : Thread nD τ) none) Set.univ fun u => ?_)
    unfold mainPost
    iintro ⟨%hd, H2, H3, H4, H5, H6, H8, ⟨%f7, H7, %h7⟩, ⟨%f9, H9, %h9⟩⟩
    iapply (Mxu.wp_exit hd)
    sl_step
    isplitl [H2]; · iassumption
    isplitl [H3]; · iassumption
    isplitl [H4]; · iassumption
    isplitl [H5]; · iassumption
    isplitl [H6]; · iassumption
    isplitl [H7]
    · iexists f7
      isplitl [H7]; · iassumption
      ipureintro; exact h7
    isplitl [H8]; · iassumption
    iexists f9
    isplitl [H9]; · iassumption
    ipureintro
    exact fun _ => h9.trans (asm_total _ _ _ _)
  · have h3 := mt (cond3_iff i).1 h
    simp only [h3, not_false_eq_true, ↓reduceDIte, pure_bind]
    iintro ⟨H2, H3, H4, H5, H6, H7, H8, H9⟩
    iapply (step_bind c _ _ _ iprop((arg3.view.loc (c : Thread nD τ) ↦[arg3.view.set]{fullShare} X3) ∗ (arg4.view.loc (c : Thread nD τ) ↦[arg4.view.set]{fullShare} X4) ∗ (arg8.view.loc (c : Thread nD τ) ↦[arg8.view.set]{fullShare} X8)) _ _
      (drain_run Variants.none c none Set.univ i arg1 harg1 arg2 harg2 arg3 harg3 arg4 harg4 arg5 harg5 arg6 harg6 arg7 harg7 arg8 harg8 arg9 harg9 arg10 (by omega) X2 X5 X6 X7 X9) (fun _ => ?_))
    · iintro ⟨⟨H2, H5, H6, H9, ⟨%f7, H7, %h7⟩⟩, H3, H4, H8⟩
      iapply (Mxu.wp_exit (show (Mxu.init : Mxu F).Drained by rw [init_mk]; exact drained_mk (F := F) _ _))
      sl_step
      isplitl [H2]; · iassumption
      isplitl [H3]; · iassumption
      isplitl [H4]; · iassumption
      isplitl [H5]; · iassumption
      isplitl [H6]; · iassumption
      isplitl [H7]
      · iexists f7
        isplitl [H7]; · iassumption
        ipureintro; exact h7
      isplitl [H8]; · iassumption
      iexists X9
      isplitl [H9]; · iassumption
      ipureintro
      exact fun h' => absurd h' h
    isplitl [H2 H5 H6 H7 H9]
    · isplitl [H2]; · iassumption
      isplitl [H5]; · iassumption
      isplitl [H6]; · iassumption
      isplitl [H7]; · iassumption
      iassumption
    isplitl [H3]; · iassumption
    isplitl [H4]; · iassumption
    iassumption

theorem zero_any (c : Dev nD) (i : grid0.Coords) (arg1 : Memref sig .tc .hbm S2x2048x14848 .i8) (harg1 : arg1.IsWhole) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (arg8 : Memref sig .tc .vmem S2x1024x14848 .i8) (harg8 : arg8.IsWhole) (arg9 : Memref sig .tc .vmem S2x2x1024x512 .f32) (harg9 : arg9.IsWhole) (arg10 : DmaSems sig S_) (X9 : BufTy.Contents (Elt F) arg9.view.ty) (Y9 : Vec F S2x2x1024x512 .f32)
    (h9 : if (i 0).val = 0 then Y9 = k0_pay1 else arg9.view.read (Elt F) X9 = Y9) :
    ((arg9.view.loc (c : Thread nD τ) ↦[arg9.view.set]{fullShare} X9) : sProp 𝕄G) ⊢ wp frame (wpE (defs₀ (F := F)) Variants.none (c : Thread nD τ) none) Set.univ (zeroProg (F := F) i arg1 harg1 arg2 harg2 arg3 harg3 arg4 harg4 arg5 harg5 arg6 harg6 arg7 harg7 arg8 harg8 arg9 harg9 arg10)
      (fun _ => iprop(∃ f9, (arg9.view.loc (c : Thread nD τ) ↦[arg9.view.set]{fullShare} f9) ∗ ⌜arg9.view.read (Elt F) f9 = Y9⌝)) := by
  by_cases h : (i 0).val = 0
  · rw [if_pos h] at h9
    subst h9
    exact zero_run Variants.none c none Set.univ i arg1 harg1 arg2 harg2 arg3 harg3 arg4 harg4 arg5 harg5 arg6 harg6 arg7 harg7 arg8 harg8 arg9 harg9 arg10 h X9
  · rw [if_neg h] at h9
    rw [zero_eq _ _ _ _ _ _ _ _ _ _ _ _ _ _ _ _ _ _ _ _ h]
    iintro H9
    sl_step
    iexists X9
    isplitl [H9]; · iassumption
    ipureintro; exact h9

/-- A whole buffer owned, in the two spellings. -/
theorem hb_set (c : Dev nD) (r : Ref sig .tc) (f : Buf (Elt F) ((Memref.whole r).view.loc (c : Thread nD τ))) :
    (hbPt c (Memref.whole r) f : sProp 𝕄G) = ((Memref.whole r).view.loc (c : Thread nD τ) ↦[(Memref.whole r).view.set]{fullShare} f) := by
  unfold hbPt
  simp only [Memref.view_whole, View.set_whole]

theorem hb_to (c : Dev nD) (r : Ref sig .tc) (f : Buf (Elt F) ((Memref.whole r).view.loc (c : Thread nD τ))) :
    (hbPt c (Memref.whole r) f : sProp 𝕄G) ⊢ ((Memref.whole r).view.loc (c : Thread nD τ) ↦[(Memref.whole r).view.set]{fullShare} f) := by
  rw [hb_set]

theorem hb_from (c : Dev nD) (r : Ref sig .tc) (f : Buf (Elt F) ((Memref.whole r).view.loc (c : Thread nD τ))) :
    ((Memref.whole r).view.loc (c : Thread nD τ) ↦[(Memref.whole r).view.set]{fullShare} f : sProp 𝕄G) ⊢ hbPt c (Memref.whole r) f := by
  rw [hb_set]

theorem copy_any (c : Dev nD) (i : grid0.Coords) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (hi : (i 0).val ≤ 52)
    (X8 : Buf (Elt F) (slabM.view.loc (c : Thread nD τ))) (fh : Buf (Elt F) (xM.view.loc (c : Thread nD τ))) (W : Waits sig Unit)
    (h8 : (i 0).val % 26 ≠ 0 → (i 0).val < 52 → slabM.view.read (Elt F) X8 = slab (xM.view.read (Elt F) fh) ((i 0).val / 26)) :
    (iprop(hbPt c slabM X8 ∗ semVal ((c : Thread nD τ), SemLoc.dma 12) 0 ∗ hbPt c xM fh ∗ owes (c : Thread nD τ) 0 W) : sProp 𝕄G)
      ⊢ wp frame (wpE (defs₀ (F := F)) Variants.none (c : Thread nD τ) none) Set.univ (copyProg (F := F) i xM (Memref.isWhole_whole _) arg2 harg2 arg3 harg3 arg4 harg4 arg5 harg5 arg6 harg6 arg7 harg7 slabM (Memref.isWhole_whole _) accM (Memref.isWhole_whole _) cc0_scratch2)
          (fun _ => iprop((∃ f8, hbPt c slabM f8 ∗ ⌜(i 0).val < 52 → slabM.view.read (Elt F) f8 = slab (xM.view.read (Elt F) fh) ((i 0).val / 26)⌝)
            ∗ semVal ((c : Thread nD τ), SemLoc.dma 12) 0 ∗ hbPt c xM fh ∗ ∃ W', owes (c : Thread nD τ) 0 W')) := by
  by_cases h : (i 0).val % 26 = 0 ∧ (i 0).val < 52
  · refine (copy_run c i arg2 harg2 arg3 harg3 arg4 harg4 arg5 harg5 arg6 harg6 arg7 harg7 accM (Memref.isWhole_whole _) h X8 fh W).trans
      (wp_mono frame (wpE (defs₀ (F := F)) Variants.none (c : Thread nD τ) none) Set.univ fun _ => ?_)
    iintro ⟨⟨%f8, H8, %h8'⟩, Hq, Hh, HW⟩
    isplitl [H8]
    · iexists f8
      isplitl [H8]; · iassumption
      ipureintro; exact fun _ => h8'
    isplitl [Hq]; · iassumption
    isplitl [Hh]; · iassumption
    iassumption
  · rw [copy_eq _ _ _ _ _ _ _ _ _ _ _ _ _ _ _ _ _ _ _ _ h]
    iintro ⟨H8, Hq, Hh, HW⟩
    sl_step
    isplitl [H8]
    · iexists X8
      isplitl [H8]; · iassumption
      ipureintro; exact fun h' => h8 (fun h0 => h ⟨h0, h'⟩) h'
    isplitl [Hq]; · iassumption
    isplitl [Hh]; · iassumption
    iexists W; iassumption

/-- One step of the pipeline. -/
theorem kernel_run (c : Dev nD) (i : grid0.Coords) (arg2 : Memref sig .tc .vmem S2x1024x1 .f32) (harg2 : arg2.IsWhole) (arg3 : Memref sig .tc .vmem S7424x512 .i8) (harg3 : arg3.IsWhole) (arg4 : Memref sig .tc .vmem S7424x512 .i8) (harg4 : arg4.IsWhole) (arg5 : Memref sig .tc .vmem S1x512 .f32) (harg5 : arg5.IsWhole) (arg6 : Memref sig .tc .vmem S1x512 .f32) (harg6 : arg6.IsWhole) (arg7 : Memref sig .tc .vmem S2x1024x512 .bf16) (harg7 : arg7.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hi : (i 0).val ≤ 52)
    (X8 : Buf (Elt F) (slabM.view.loc (c : Thread nD τ))) (X9 : Buf (Elt F) (accM.view.loc (c : Thread nD τ)))
    (fh : Buf (Elt F) (xM.view.loc (c : Thread nD τ))) (W : Waits sig Unit) (Y9 : Vec F S2x2x1024x512 .f32)
    (h8 : (i 0).val % 26 ≠ 0 → (i 0).val < 52 → slabM.view.read (Elt F) X8 = slab (xM.view.read (Elt F) fh) ((i 0).val / 26))
    (h9 : if (i 0).val = 0 then Y9 = k0_pay1 else accM.view.read (Elt F) X9 = Y9) :
    (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ hbPt c slabM X8 ∗ hbPt c accM X9
        ∗ semVal ((c : Thread nD τ), SemLoc.dma 12) 0 ∗ hbPt c xM fh ∗ owes (c : Thread nD τ) 0 W) : sProp 𝕄G)
      ⊢ wp frame (wpE (defs₀ (F := F)) Variants.none (c : Thread nD τ) none) Set.univ (cc0_gate_up (F := F) i xM (Memref.isWhole_whole _) arg2 harg2 arg3 harg3 arg4 harg4 arg5 harg5 arg6 harg6 arg7 harg7 slabM (Memref.isWhole_whole _) accM (Memref.isWhole_whole _) cc0_scratch2)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7, (arg7.view.loc (c : Thread nD τ) ↦[arg7.view.set]{fullShare} f7) ∗ ⌜∀ y, arg7.view.read (Elt F) f7 y = epi (arg2.view.read (Elt F) X2) Y9 (arg5.view.read (Elt F) X5) (arg6.view.read (Elt F) X6) y⌝)
            ∗ (∃ f8, hbPt c slabM f8 ∗ ⌜(i 0).val < 52 → slabM.view.read (Elt F) f8 = slab (xM.view.read (Elt F) fh) ((i 0).val / 26)⌝)
            ∗ (∃ f9, hbPt c accM f9 ∗ ⌜(i 0).val < 52 → accM.view.read (Elt F) f9 = asm (fin (slab (xM.view.read (Elt F) fh) ((i 0).val / 26)) (arg3.view.read (Elt F) X3) (arg4.view.read (Elt F) X4))⌝)
            ∗ semVal ((c : Thread nD τ), SemLoc.dma 12) 0 ∗ hbPt c xM fh ∗ ∃ W', owes (c : Thread nD τ) 0 W')) := by
  rw [cc0_gate_up_eq_skeleton, skel_eq]
  iintro ⟨H2, H3, H4, H5, H6, H7, H8, H9, Hq, Hh, HW⟩
  iapply (step_bind c _ _ _ iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ hbPt c slabM X8
      ∗ semVal ((c : Thread nD τ), SemLoc.dma 12) 0 ∗ hbPt c xM fh ∗ owes (c : Thread nD τ) 0 W) _ _
    (zero_any c i xM (Memref.isWhole_whole _) arg2 harg2 arg3 harg3 arg4 harg4 arg5 harg5 arg6 harg6 arg7 harg7 slabM (Memref.isWhole_whole _) accM (Memref.isWhole_whole _) cc0_scratch2 X9 Y9 h9) (fun _ => ?_))
  · iintro ⟨⟨%g9, H9, %hg9⟩, H2, H3, H4, H5, H6, H7, H8, Hq, Hh, HW⟩
    iapply (step_bind c _ _ _ iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (accM.view.loc (c : Thread nD τ) ↦[accM.view.set]{fullShare} g9)) _ _
      (copy_any c i arg2 harg2 arg3 harg3 arg4 harg4 arg5 harg5 arg6 harg6 arg7 harg7 hi X8 fh W h8) (fun _ => ?_))
    · iintro ⟨⟨⟨%g8, H8, %hg8⟩, Hq, Hh, HW⟩, H2, H3, H4, H5, H6, H7, H9⟩
      iapply (wp_wand_r frame (wpE (defs₀ (F := F)) Variants.none (c : Thread nD τ) none) Set.univ)
      isplitl [H2 H3 H4 H5 H6 H7 H8 H9]
      · iapply (tail_run c i xM (Memref.isWhole_whole _) arg2 harg2 arg3 harg3 arg4 harg4 arg5 harg5 arg6 harg6 arg7 harg7 slabM (Memref.isWhole_whole _) accM (Memref.isWhole_whole _) cc0_scratch2 X2 X3 X4 X5 X6 X7 g8 g9 hi)
        isplitl [H2]; · iassumption
        isplitl [H3]; · iassumption
        isplitl [H4]; · iassumption
        isplitl [H5]; · iassumption
        isplitl [H6]; · iassumption
        isplitl [H7]; · iassumption
        isplitl [H8]; · iapply (hb_to c cc0_scratch0 g8); iassumption
        iassumption
      iintro %_ ⟨H2, H3, H4, H5, H6, ⟨%f7, H7, %h7⟩, H8, ⟨%f9, H9, %hf9⟩⟩
      isplitl [H2]; · iassumption
      isplitl [H3]; · iassumption
      isplitl [H4]; · iassumption
      isplitl [H5]; · iassumption
      isplitl [H6]; · iassumption
      isplitl [H7]
      · iexists f7
        isplitl [H7]; · iassumption
        ipureintro
        rw [hg9] at h7
        exact h7
      isplitl [H8]
      · iexists g8
        isplitl [H8]; · iapply (hb_from c cc0_scratch0 g8); iassumption
        ipureintro; exact hg8
      isplitl [H9]
      · iexists f9
        isplitl [H9]; · iapply (hb_from c cc0_scratch1 f9); iassumption
        ipureintro
        intro h
        rw [hf9 h, hg8 h]
      isplitl [Hq]; · iassumption
      isplitl [Hh]; · iassumption
      iassumption
    isplitl [H8 Hq Hh HW]
    · isplitl [H8]; · iassumption
      isplitl [Hq]; · iassumption
      isplitl [Hh]; · iassumption
      iassumption
    isplitl [H2]; · iassumption
    isplitl [H3]; · iassumption
    isplitl [H4]; · iassumption
    isplitl [H5]; · iassumption
    isplitl [H6]; · iassumption
    isplitl [H7]; · iassumption
    iassumption
  isplitl [H9]
  · iapply (hb_to c cc0_scratch1 X9); iassumption
  isplitl [H2]; · iassumption
  isplitl [H3]; · iassumption
  isplitl [H4]; · iassumption
  isplitl [H5]; · iassumption
  isplitl [H6]; · iassumption
  isplitl [H7]; · iassumption
  isplitl [H8]; · iassumption
  isplitl [Hq]; · iassumption
  isplitl [Hh]; · iassumption
  iassumption

end Cert.Proof.GateUp.KernelIdeal

end
-- ==== Proof.KernelIdealFrame.lean ====
/-
  The whole pipeline: what holds between its steps, what each leaves, and that the program runs and keeps its arguments.
-/
module

public import proofs.«01_k».proof.Proof.Gen.KernelIdeal.Frame
public import proofs.«01_k».proof.Proof.KernelIdealRun
public import Idealize.ShloMosaic.Lib.Pipeline.Frame
public import Idealize.ShloMosaic.Lib.Transfers

@[expose] public section

set_option maxRecDepth 16384
set_option maxHeartbeats 4000000

noncomputable section

namespace Cert.Proof.GateUp.KernelIdeal

open Cert.KernelIdeal Cert.KernelIdeal.Gen Cert.Proof.Unit
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable (m : (ℓ : Loc nD τ sig) → Buf (Elt F) ℓ) (ρ : Dev nD → PrngReg)

/-! ## The operands left outside the pipeline -/

/-- The one transfer semaphore the program waits on itself. -/
abbrev osem0 : Fin 1 → SemLoc sig := fun j => (![SemLoc.dma 12] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄G)
      = semVal ((c : Thread nD τ), SemLoc.dma 12) 0 := by
  rw [Pipeline.ownSems0_eq_of_list c osem0 [0] (by decide) (by decide)]; rfl
/-- The activation codes, read by the program's own transfers. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄G) = hbPt c xM (V m c main_arg0) := by
  rw [BI.bigSep_eq_bigSepL_of_eq [main_arg0] (by decide) (by decide)]; rfl

/-! ## What each step finds and leaves -/

theorem N_eq : cfg0.N = 53 := by decide +kernel

/-- Step number `n`. -/
def pt (n : ℕ) : Fin cfg0.N := ⟨n % 53, by rw [N_eq]; exact Nat.mod_lt _ (by decide)⟩
theorem pt_val (t : Fin cfg0.N) : pt t.val = t := Fin.ext (Nat.mod_eq_of_lt (Nat.lt_of_lt_of_eq t.isLt N_eq))
theorem coord_val : ∀ t : Fin cfg0.N, (grid0.coords t 0).val = t.val := by decide +kernel

/-- The activation codes. -/
def codes (c : Dev nD) : Vec F S2x2048x14848 .i8 := xM.view.read (Elt F) (V m c main_arg0)
/-- The blocks a step is given. -/
def xsB (c : Dev nD) (t : Fin cfg0.N) : Vec F S2x1024x1 .f32 := iblk m c 0 t
def wgB (c : Dev nD) (t : Fin cfg0.N) : Vec F S7424x512 .i8 := iblk m c 1 t
def wuB (c : Dev nD) (t : Fin cfg0.N) : Vec F S7424x512 .i8 := iblk m c 2 t
def gsB (c : Dev nD) (t : Fin cfg0.N) : Vec F S1x512 .f32 := iblk m c 3 t
def usB (c : Dev nD) (t : Fin cfg0.N) : Vec F S1x512 .f32 := iblk m c 4 t

/-- The accumulator after step `n`. -/
def acc (c : Dev nD) (n : ℕ) : Vec F S2x2x1024x512 .f32 :=
  asm (fin (slab (codes m c) (n / 26)) (wgB m c (pt n)) (wuB m c (pt n)))

/-- The accumulator a step's epilogue reads. -/
def prevAcc (c : Dev nD) (n : ℕ) : Vec F S2x2x1024x512 .f32 := if n = 0 then k0_pay1 else acc m c (n - 1)

/-- The output block after step `t`. -/
def outB (c : Dev nD) (t : Fin cfg0.N) : Vec F S2x1024x512 .bf16 :=
  epi (xsB m c t) (prevAcc m c t.val) (gsB m c t) (usB m c t)

/-- What holds between the steps. -/
def Inv (c : Dev nD) (n : ℕ) : sProp 𝕄G :=
  iprop((∃ f8, hbPt c slabM f8 ∗ ⌜0 < n ∧ n ≤ 52 → slabM.view.read (Elt F) f8 = slab (codes m c) ((n - 1) / 26)⌝)
    ∗ (∃ f9, hbPt c accM f9 ∗ ⌜0 < n ∧ n ≤ 52 → accM.view.read (Elt F) f9 = acc m c (n - 1)⌝)
    ∗ (∃ r, prngReg c r) ∗ semVal ((c : Thread nD τ), SemLoc.dma 12) 0 ∗ hbPt c xM (V m c main_arg0))

theorem PhiD0_eq (c : Dev nD) :
    (Pipeline.ΦD osem0 spec0 H0 (V m) c : sProp 𝕄G)
      = iprop(((∃ f8, hbPt c slabM f8) ∗ (∃ f9, hbPt c accM f9)) ∗ (∃ r, prngReg c r)
          ∗ semVal ((c : Thread nD τ), SemLoc.dma 12) 0 ∗ hbPt c xM (V m c main_arg0)) := by
  rw [Pipeline.ΦD_eq, scopedRest0_eq, ownSems00_eq, hbmPts0_eq]

theorem inv_in (c : Dev nD) : (Pipeline.ΦD osem0 spec0 H0 (V m) c : sProp 𝕄G) ⊢ Inv m c 0 := by
  rw [PhiD0_eq]
  unfold Inv
  iintro ⟨⟨⟨%f8, H8⟩, ⟨%f9, H9⟩⟩, Hr, Hq, Hh⟩
  isplitl [H8]
  · iexists f8
    isplitl [H8]; · iassumption
    ipureintro; exact fun h => absurd h.1 (Nat.lt_irrefl 0)
  isplitl [H9]
  · iexists f9
    isplitl [H9]; · iassumption
    ipureintro; exact fun h => absurd h.1 (Nat.lt_irrefl 0)
  isplitl [Hr]; · iassumption
  isplitl [Hq]; · iassumption
  iassumption

theorem inv_out (c : Dev nD) (n : ℕ) : Inv m c n ⊢ (Pipeline.ΦD osem0 spec0 H0 (V m) c : sProp 𝕄G) := by
  rw [PhiD0_eq]
  unfold Inv
  iintro ⟨⟨%f8, H8, %h8⟩, ⟨%f9, H9, %h9⟩, Hr, Hq, Hh⟩
  isplitl [H8 H9]
  · isplitl [H8]
    · iexists f8; iassumption
    iexists f9; iassumption
  isplitl [Hr]; · iassumption
  isplitl [Hq]; · iassumption
  iassumption

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ t := Inv m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outB m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none (c : Thread nD τ) none) Set.univ (bodyAt0 t) (fun _ => bodyPost m c t) := by
  have htN : t.val < 53 := Nat.lt_of_lt_of_eq t.isLt N_eq
  have hi : (grid0.coords t 0).val = t.val := coord_val t
  unfold bodyPre bodyPost bodyAt0
  simp only [before0_0, before0_1, before0_2, before0_3, before0_4]
  rw [show (dats m 0 c).Φ t.castSucc = Inv m c t.val from rfl, show (dats m 0 c).Φ t.succ = Inv m c (t.val + 1) from rfl,
    show (dats m 0 c).owesAt () t.succ = (dats m 0 c).owesAt () t.castSucc from rfl,
    after0_0, after0_1, after0_2, after0_3, after0_4, after0_5]
  unfold Dat.owesAt Pipeline.owesWithin
  rw [show (dats m 0 c).owed t.castSucc = 0 from rfl]
  unfold Inv owns
  iintro ⟨⟨⟨%X8, H8, %h8⟩, ⟨%X9, H9, %h9⟩, Hr, Hq, Hh⟩, ⟨%W, %hW, HO⟩, ⟨%d2, %X2, %hx2, H2⟩, ⟨%d3, %X3, %hx3, H3⟩, ⟨%d4, %X4, %hx4, H4⟩, ⟨%d5, %X5, %hx5, H5⟩, ⟨%d6, %X6, %hx6, H6⟩, ⟨%d7, %X7, %hx7, H7⟩⟩
  iapply (wp_wand_r frame (wpE (defs₀ (F := F)) Variants.none (c : Thread nD τ) none) Set.univ)
  isplitl [H2 H3 H4 H5 H6 H7 H8 H9 Hq Hh HO]
  · iapply (kernel_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) X2 X3 X4 X5 X6 X7 (by rw [hi]; omega) X8 X9 (V m c main_arg0) W (prevAcc m c t.val)
      (fun h1 h2 => (h8 (by rw [hi] at h1 h2; omega)).trans (congrArg (slab (codes m c)) (by rw [hi] at h1 h2 ⊢; omega)))
      (by
        rw [hi]
        unfold prevAcc
        by_cases h0 : t.val = 0
        · rw [if_pos h0, if_pos h0]
        · rw [if_neg h0, if_neg h0]; exact h9 (by omega)))
    isplitl [H2]; · iassumption
    isplitl [H3]; · iassumption
    isplitl [H4]; · iassumption
    isplitl [H5]; · iassumption
    isplitl [H6]; · iassumption
    isplitl [H7]; · iassumption
    isplitl [H8]; · iassumption
    isplitl [H9]; · iassumption
    isplitl [Hq]; · iassumption
    isplitl [Hh]; · iassumption
    iassumption
  iintro %_ ⟨H2, H3, H4, H5, H6, ⟨%f7, H7, %h7⟩, ⟨%f8, H8, %h8'⟩, ⟨%f9, H9, %h9'⟩, Hq, Hh, ⟨%W', HO⟩⟩
  isplitl [H8 H9 Hr Hq Hh]
  · isplitl [H8]
    · iexists f8
      isplitl [H8]; · iassumption
      ipureintro
      exact fun h => (h8' (by rw [hi]; omega)).trans (congrArg (slab (codes m c)) (by rw [hi]; rfl))
    isplitl [H9]
    · iexists f9
      isplitl [H9]; · iassumption
      ipureintro
      intro h
      refine (h9' (by rw [hi]; omega)).trans ?_
      rw [hx3, hx4, hi]
      show _ = asm (fin (slab (codes m c) (t.val / 26)) (wgB m c (pt t.val)) (wuB m c (pt t.val)))
      rw [pt_val]
      rfl
    isplitl [Hr]; · iassumption
    isplitl [Hq]; · iassumption
    iassumption
  isplitl [HO]
  · iexists W'
    isplitr
    · ipureintro; exact fun _ _ => Or.inl trivial
    iassumption
  isplitl [H2]
  · iexists X2
    isplitr
    · ipureintro; exact hx2
    iassumption
  isplitl [H3]
  · iexists X3
    isplitr
    · ipureintro; exact hx3
    iassumption
  isplitl [H4]
  · iexists X4
    isplitr
    · ipureintro; exact hx4
    iassumption
  isplitl [H5]
  · iexists X5
    isplitr
    · ipureintro; exact hx5
    iassumption
  isplitl [H6]
  · iexists X6
    isplitr
    · ipureintro; exact hx6
    iassumption
  iexists f7
  isplitr
  · ipureintro
    funext y
    refine (h7 y).trans ?_
    rw [hx2, hx5, hx6]
    rfl
  iassumption

theorem defs₀_row (t : Fin cfg0.N) : defs₀ (F := F) .tc cfg0.body (cfg0.bodyArgs t (cfg0.slots t)) = bodyAt0 t := by
  unfold defs₀; rw [Defs.onTc_tc]

/-- Every step writes the output block. -/
theorem idle5 : ∀ i : grid0.Coords, idle0 5 i = false := by decide +kernel

theorem body_obligation (c : Dev nD) :
    BodyObligation (dats (F := F) m 0 c) (defs₀ (F := F)) Variants.none () Set.univ := fun t => by
  rw [bigSep_W0, bigSep_W0, defs₀_row]
  refine triple_restated (sound_body m c t) rfl .rfl fun _ => ?_
  rw [show cfg0.idle 5 (cfg0.grid.coords t) = false from idle5 _]
  exact .rfl

/-! ## The launch -/

theorem hmainD (𝒱₀ : Variants) :
    Pipeline.HMain (Ix := Unit) (Name := ℕ) (U := Pipeline.UD sig nD τ) (Lvl := ℕ) cfgs 0 defs₀ 𝒱₀ m (Cert.KernelIdeal.main (F := F)) (V m) :=
  Pipeline.hmain_region cfgs 0 defs₀ 𝒱₀ m Cert.KernelIdeal.main fun c => (main_chain c).trans rfl

set_option backward.isDefEq.respectTransparency.types false in
/-- Every execution ends, with each array at what the steps' blocks make of it, and every semaphore at zero. -/
theorem run_main :
    θ_run defs (onTc (τ := τ) (Cert.KernelIdeal.main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ Cert.KernelIdeal.main
    (hbody := fun c => (body_obligation m c).loose) (hshare := fun c => (dats m 0 c).share_full fun _ => rfl)
    (howed := fun _ _ => rfl) (V := V m) (hmain := hmainD m Variants.none) (hA := A_eq m)
    (hin := inv_in m) (hout := fun c => inv_out m c _)

/-- The program ends with its arguments unchanged and every semaphore at zero. -/
theorem frame_run : θ_run defs (onTc (τ := τ) (Cert.KernelIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h' => ⟨fun c => have h := h'.1
     ⟨((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c))),
      ((h c).1 4).trans (((dats m 0 c).arrAt_in 4 rfl _).trans ((A_eq m c 4).trans (V_main_arg5 m c)))⟩, h'.2⟩) (run_main m ρ)

end Cert.Proof.GateUp.KernelIdeal

end
-- ==== Proof.GateMath.lean ====
/-
  The arithmetic behind the products: integer codes as extended reals, the sums over the contracted axis, and the
  seven products that make the four sums of a step.
-/
module

public import proofs.«01_k».proof.Proof.Unit
public import Idealize.ShloMosaic.PureOps.Ideal.Laws
public import Idealize.ShloMosaic.Lib.MatmulPlain

@[expose] public section

set_option maxRecDepth 16384

noncomputable section

namespace Cert.Proof.GateMath

open Idealize.ShloMosaic
open scoped BigOperators

/-- An integer as an extended real. -/
def E (z : ℤ) : EReal := ((z : ℝ) : EReal)

theorem E_add (a b : ℤ) : E a + E b = E (a + b) := by
  unfold E; rw [← EReal.coe_add]; push_cast; rfl

theorem E_sub (a b : ℤ) : E a - E b = E (a - b) := by
  unfold E; rw [← EReal.coe_sub]; push_cast; rfl

theorem E_mul (a b : ℤ) : E a * E b = E (a * b) := by
  unfold E; rw [← EReal.coe_mul]; push_cast; rfl

theorem E_zero : E 0 = 0 := by unfold E; simp

theorem E_sum {ι : Type} (s : Finset ι) (f : ι → ℤ) : ∑ i ∈ s, E (f i) = E (∑ i ∈ s, f i) := by
  classical
  induction s using Finset.induction_on with
  | empty => simp [E_zero]
  | insert a s ha ih => rw [Finset.sum_insert ha, Finset.sum_insert ha, ih, E_add]

/-- A sum over `a` blocks of `b`. -/
theorem sum_blocks (a b : ℕ) (f : ℕ → ℤ) :
    ∑ n ∈ Finset.range a, ∑ k ∈ Finset.range b, f (b * n + k) = ∑ k ∈ Finset.range (b * a), f k := by
  induction a with
  | zero => simp
  | succ a ih => rw [Finset.sum_range_succ, ih, Nat.mul_succ, Finset.sum_range_add]

/-- A sum over an even number of terms, by pairs. -/
theorem sum_pairs (N : ℕ) (f : ℕ → ℤ) :
    ∑ i ∈ Finset.range N, (f (2 * i) + f (2 * i + 1)) = ∑ k ∈ Finset.range (2 * N), f k := by
  induction N with
  | zero => simp
  | succ N ih =>
    rw [Finset.sum_range_succ, ih, show 2 * (N + 1) = 2 * N + 1 + 1 by ring, Finset.sum_range_succ, Finset.sum_range_succ]
    ring

/-- The sum over the contracted axis of length 14848, as two halves of 29 tiles of 256. -/
theorem sum_axis (f : ℕ → ℤ) :
    ∑ n ∈ Finset.range 29, ∑ k ∈ Finset.range 256, (f (7424 * 0 + 256 * n + k) + f (7424 * 1 + 256 * n + k))
      = ∑ k ∈ Finset.range 14848, f k := by
  simp only [Finset.sum_add_distrib]
  have h0 := sum_blocks 29 256 (fun k => f k)
  have h1 := sum_blocks 29 256 (fun k => f (7424 + k))
  rw [show (14848 : ℕ) = 256 * 29 + 256 * 29 by norm_num, Finset.sum_range_add, ← h0]
  refine congrArg₂ (· + ·) (Finset.sum_congr rfl fun n _ => Finset.sum_congr rfl fun k _ => ?_) ?_
  · congr 1; omega
  · refine Eq.trans (Finset.sum_congr rfl fun n _ => Finset.sum_congr rfl fun k _ => ?_) h1
    congr 1; omega

/-- The double sum of a tile's products. -/
def S (f : ℕ → ℕ → ℤ) : ℤ := ∑ n ∈ Finset.range 29, ∑ k ∈ Finset.range 256, f n k

theorem S_add (f g : ℕ → ℕ → ℤ) : S f + S g = S fun n k => f n k + g n k := by
  unfold S; simp only [Finset.sum_add_distrib]

theorem S_sub (f g : ℕ → ℕ → ℤ) : S f - S g = S fun n k => f n k - g n k := by
  unfold S; simp only [Finset.sum_sub_distrib]

theorem S_congr {f g : ℕ → ℕ → ℤ} (h : ∀ n k, f n k = g n k) : S f = S g := by
  have : f = g := funext fun n => funext fun k => h n k
  rw [this]

/-- First batch, gate. -/
theorem seven_00 (x00 x01 x10 x11 g0 g1 u0 u1 : ℕ → ℕ → ℤ) :
    S (fun n k => (x00 n k + x11 n k) * (g0 n k + u1 n k)) + S (fun n k => x11 n k * (g1 n k - g0 n k))
      - S (fun n k => (x00 n k + x01 n k) * u1 n k) + S (fun n k => (x01 n k - x11 n k) * (g1 n k + u1 n k))
      = S (fun n k => x00 n k * g0 n k + x01 n k * g1 n k) := by
  rw [S_add, S_sub, S_add]; exact S_congr fun n k => by ring

/-- First batch, up. -/
theorem seven_01 (x00 x01 u0 u1 : ℕ → ℕ → ℤ) :
    S (fun n k => x00 n k * (u0 n k - u1 n k)) + S (fun n k => (x00 n k + x01 n k) * u1 n k)
      = S (fun n k => x00 n k * u0 n k + x01 n k * u1 n k) := by
  rw [S_add]; exact S_congr fun n k => by ring

/-- Second batch, gate. -/
theorem seven_10 (x10 x11 g0 g1 : ℕ → ℕ → ℤ) :
    S (fun n k => x11 n k * (g1 n k - g0 n k)) + S (fun n k => (x10 n k + x11 n k) * g0 n k)
      = S (fun n k => x10 n k * g0 n k + x11 n k * g1 n k) := by
  rw [S_add]; exact S_congr fun n k => by ring

/-- Second batch, up. -/
theorem seven_11 (x00 x10 x11 g0 u0 u1 : ℕ → ℕ → ℤ) :
    S (fun n k => (x00 n k + x11 n k) * (g0 n k + u1 n k)) + S (fun n k => x00 n k * (u0 n k - u1 n k))
      - S (fun n k => (x10 n k + x11 n k) * g0 n k) + S (fun n k => (x10 n k - x00 n k) * (g0 n k + u0 n k))
      = S (fun n k => x10 n k * u0 n k + x11 n k * u1 n k) := by
  rw [S_add, S_sub, S_add]; exact S_congr fun n k => by ring

/-! ## Packed codes -/

/-- The low or high nibble of a packed code. -/
def nb (v : BitVec 8) (e : ℕ) : ℕ := if e = 0 then v.toNat % 16 else v.toNat / 16

theorem nb_lt (v : BitVec 8) (e : ℕ) : nb v e < 16 := by
  unfold nb; have := v.isLt; split <;> omega

/-- The weight a nibble stands for. -/
def wz (v : BitVec 8) (e : ℕ) : ℤ := (nb v e : ℤ) - 8

/-- The word with the two nibbles of a code in its two halves. -/
def nw (v : BitVec 8) : BitVec 32 := (v.setWidth 32 ||| (v.setWidth 32 <<< 12)) &&& 983055#32

theorem nw_toNat : ∀ v : BitVec 8, (nw v).toNat = nb v 0 + 65536 * nb v 1 := by
  have h : ∀ i : Fin 256, (nw (BitVec.ofFin i)).toNat = nb (BitVec.ofFin i) 0 + 65536 * nb (BitVec.ofFin i) 1 := by decide +kernel
  exact fun v => h v.toFin

/-- Half `e` of a word. -/
theorem half_toNat (w : BitVec 32) (e : ℕ) (he : e < 2) (a b : ℕ) (ha : a < 65536) (hb : b < 65536) (h : w.toNat = a + 65536 * b) :
    (w.extractLsb' (16 * e) 16).toNat = if e = 0 then a else b := by
  rw [BitVec.extractLsb'_toNat, h, Nat.shiftRight_eq_div_pow]
  obtain rfl | rfl : e = 0 ∨ e = 1 := by omega
  · simp; omega
  · simp; omega

/-- The 16-bit pattern `0x4300 + n` denotes `128 + n`. -/
theorem ofBits_4300 (b : BitVec 16) (n : ℕ) (hn : n < 128) (h : b.toNat = 0x4300 + n) : Ideal.ofBits .bf16 b = E (128 + n) := by
  have hb : b = BitVec.ofNat 16 (0x4300 + n) := by
    apply BitVec.eq_of_toNat_eq; rw [h, BitVec.toNat_ofNat]; omega
  have e1 : ∀ n : Fin 128, ((BitVec.ofNat 16 (0x4300 + n.val)).extractLsb' (8 + 7) 1 == 1#1) = false
      ∧ ((BitVec.ofNat 16 (0x4300 + n.val)).extractLsb' 7 8).toNat = 134
      ∧ ((BitVec.ofNat 16 (0x4300 + n.val)).extractLsb' 0 7).toNat = n.val := by decide +kernel
  obtain ⟨h1, h2, h3⟩ := e1 ⟨n, hn⟩
  subst hb
  show Ideal.ieee 8 7 _ = _
  unfold Ideal.ieee
  dsimp only at h1 h2 h3 ⊢
  rw [h1, h2, h3]
  simp [E]

theorem ofBits_4308 : Ideal.ofBits .bf16 0x4308#16 = E 136 := by
  rw [ofBits_4300 0x4308#16 8 (by norm_num) (by decide)]; norm_num

theorem ofBits_4310 : Ideal.ofBits .bf16 0x4310#16 = E 144 := by
  rw [ofBits_4300 0x4310#16 16 (by norm_num) (by decide)]; norm_num

/-- One weight from its word. -/
theorem dec_one (v : BitVec 8) (e : ℕ) (he : e < 2) :
    Ideal.ofBits .bf16 ((nw v + 1124090624#32).extractLsb' (16 * e) 16) - Ideal.ofBits .bf16 0x4308#16 = E (wz v e) := by
  have l0 := nb_lt v 0; have l1 := nb_lt v 1
  have hw : (nw v + 1124090624#32).toNat = (0x4300 + nb v 0) + 65536 * (0x4300 + nb v 1) := by
    rw [BitVec.toNat_add, nw_toNat]; simp; omega
  have hh := half_toNat _ e he _ _ (by omega) (by omega) hw
  have hn : (if e = 0 then 0x4300 + nb v 0 else 0x4300 + nb v 1) = 0x4300 + nb v e := by
    obtain rfl | rfl : e = 0 ∨ e = 1 := by omega
    · rfl
    · rfl
  rw [hn] at hh
  have := nb_lt v e
  rw [ofBits_4300 _ (nb v e) (by omega) hh, ofBits_4308, E_sub]
  refine congrArg E ?_; unfold wz; push_cast; omega

/-- The sum of two weights from the sum of their words. -/
theorem dec_add (v w : BitVec 8) (e : ℕ) (he : e < 2) :
    Ideal.ofBits .bf16 ((nw v + nw w + 1124090624#32).extractLsb' (16 * e) 16) - Ideal.ofBits .bf16 0x4310#16
      = E (wz v e + wz w e) := by
  have l0 := nb_lt v 0; have l1 := nb_lt v 1; have m0 := nb_lt w 0; have m1 := nb_lt w 1
  have hw : (nw v + nw w + 1124090624#32).toNat = (0x4300 + (nb v 0 + nb w 0)) + 65536 * (0x4300 + (nb v 1 + nb w 1)) := by
    rw [BitVec.toNat_add, BitVec.toNat_add, nw_toNat, nw_toNat]; simp; omega
  have hh := half_toNat _ e he _ _ (by omega) (by omega) hw
  have hn : (if e = 0 then 0x4300 + (nb v 0 + nb w 0) else 0x4300 + (nb v 1 + nb w 1)) = 0x4300 + (nb v e + nb w e) := by
    obtain rfl | rfl : e = 0 ∨ e = 1 := by omega
    · rfl
    · rfl
  rw [hn] at hh
  have := nb_lt v e; have := nb_lt w e
  rw [ofBits_4300 _ (nb v e + nb w e) (by omega) hh, ofBits_4310, E_sub]
  refine congrArg E ?_; unfold wz; push_cast; omega

/-- The difference of two weights from the difference of their words. -/
theorem dec_sub (v w : BitVec 8) (e : ℕ) (he : e < 2) :
    Ideal.ofBits .bf16 ((nw v - nw w + 1125139216#32).extractLsb' (16 * e) 16) - Ideal.ofBits .bf16 0x4310#16
      = E (wz v e - wz w e) := by
  have l0 := nb_lt v 0; have l1 := nb_lt v 1; have m0 := nb_lt w 0; have m1 := nb_lt w 1
  have hw : (nw v - nw w + 1125139216#32).toNat
      = (0x4300 + (16 + nb v 0 - nb w 0)) + 65536 * (0x4300 + (16 + nb v 1 - nb w 1)) := by
    rw [BitVec.toNat_add, BitVec.toNat_sub, nw_toNat, nw_toNat]; simp; omega
  have hh := half_toNat _ e he _ _ (by omega) (by omega) hw
  have hn : (if e = 0 then 0x4300 + (16 + nb v 0 - nb w 0) else 0x4300 + (16 + nb v 1 - nb w 1)) = 0x4300 + (16 + nb v e - nb w e) := by
    obtain rfl | rfl : e = 0 ∨ e = 1 := by omega
    · rfl
    · rfl
  rw [hn] at hh
  have a := nb_lt v e; have b := nb_lt w e
  rw [ofBits_4300 _ (16 + nb v e - nb w e) (by omega) hh, ofBits_4310, E_sub]
  refine congrArg E ?_; unfold wz; omega

/-! ## Products of tiles -/

/-- A pass of the matrix unit with integer tiles. -/
theorem pass_E (l r : (⟨2, ![256, 256]⟩ : Shape).Idx → EReal) (a b : ℕ → ℕ → ℤ)
    (hl : ∀ i k : Fin 256, l (ValueIdx.ix2 i k) = E (a i.val k.val)) (hr : ∀ k j : Fin 256, r (ValueIdx.ix2 k j) = E (b k.val j.val))
    (i j : Fin 256) : Ideal.mxuPass (DotDims.plain 256 256 256) l r (ValueIdx.ix2 i j)
      = E (∑ k ∈ Finset.range 256, a i.val k * b k j.val) := by
  have h := Ideal.matmul_plain_apply (M := 256) (K := 256) (N := 256) (φ₁ := .bf16) (φ₂ := .bf16) none l r (fun _ => 0) i j
  have h' : Ideal.mxuPass (DotDims.plain 256 256 256) l r (ValueIdx.ix2 i j) = ∑ k : Fin 256, l (ValueIdx.ix2 i k) * r (ValueIdx.ix2 k j) := by
    rw [← zero_add (∑ k : Fin 256, l (ValueIdx.ix2 i k) * r (ValueIdx.ix2 k j)), ← h, Ideal.matmul_apply, zero_add]
    rfl
  rw [h', Finset.sum_range, ← E_sum]
  exact Finset.sum_congr rfl fun k _ => by rw [hl, hr, E_mul]

end Cert.Proof.GateMath

end
-- ==== Proof.GateVal.lean ====
/-
  What a step leaves in its accumulator: at exact arithmetic each entry is the integer sum, over the whole
  contracted axis, of activation code times weight.
-/
module

public import proofs.«01_k».proof.Proof.GateMath
public import proofs.«01_k».proof.Proof.KernelIdealRun
public import Idealize.ShloMosaic.Lib.ValueLayout
public import Idealize.ShloMosaic.Lib.BitcastPair

@[expose] public section

set_option maxRecDepth 16384

noncomputable section

namespace Cert.Proof.GateUp.KernelIdeal

open Cert.KernelIdeal Cert.KernelIdeal.Gen Idealize.ShloMosaic Idealize.ShloMosaic.TcCoe Idealize.SL.Sem
open Cert.Proof.Unit Cert.Proof.GateMath
open scoped BigOperators

/-- Activation code `(b, r, k)` as an integer. -/
def xz (X : Vec Ideal S2x1024x14848 .i8) (b r k : ℕ) : ℤ := (x8 X b r k : BitVec 8).toInt

/-- Weight `(k, j)` of a packed tile: two rows of weights in each row of codes. -/
def wa (W : Vec Ideal S7424x512 .i8) (k j : ℕ) : ℤ := wz (w8 W (k / 2) j : BitVec 8) (k % 2)

variable (X : Vec Ideal S2x1024x14848 .i8) (Wg Wu W W' : Vec Ideal S7424x512 .i8)

theorem l1_apply (b h c n : ℕ) (i k : Fin 256) :
    l1 (F := Ideal) (xt X b h c n) (ValueIdx.ix2 i k) = E (xz X b (256 * c + i.val) (7424 * h + 256 * n + k.val)) := by
  show FloatOps.sitofp (F := Ideal) .bf16 (shapeCast S256x256 (xt X b h c n) shapeCasts_S1x256x256_S256x256 (ValueIdx.ix2 i k) : BitVec 8) = _
  have e : shapeCast S256x256 (xt X b h c n) shapeCasts_S1x256x256_S256x256 (ValueIdx.ix2 i k) = x8 X b (256 * c + i.val) (7424 * h + 256 * n + k.val) :=
    ValueIdx.shapeCast_1ab_ab_apply (xt X b h c n) shapeCasts_S1x256x256_S256x256 i k
  rw [e]; rfl

theorem lP_apply (b h b' h' c n : ℕ) (i k : Fin 256) :
    lP (F := Ideal) (xt X b h c n) (xt X b' h' c n) (ValueIdx.ix2 i k)
      = E (xz X b (256 * c + i.val) (7424 * h + 256 * n + k.val) + xz X b' (256 * c + i.val) (7424 * h' + 256 * n + k.val)) := by
  rw [← E_add, ← l1_apply, ← l1_apply]; rfl

theorem lM_apply (b h b' h' c n : ℕ) (i k : Fin 256) :
    lM (F := Ideal) (xt X b h c n) (xt X b' h' c n) (ValueIdx.ix2 i k)
      = E (xz X b (256 * c + i.val) (7424 * h + 256 * n + k.val) - xz X b' (256 * c + i.val) (7424 * h' + 256 * n + k.val)) := by
  rw [← E_sub, ← l1_apply, ← l1_apply]; rfl

theorem dec_apply (w : IVec S128x256 32) (o : BitVec 16) (k j : Fin 256) :
    dec (F := Ideal) w o (ValueIdx.ix2 k j)
      = Ideal.ofBits .bf16 ((w (ValueIdx.ix2 (⟨k.val / 2, by have := k.isLt; omega⟩ : Fin 128) j)).extractLsb' (16 * (k.val % 2)) 16) - Ideal.ofBits .bf16 o := by
  show Ideal.ofBits .bf16 (bitcast S256x256 16 w bitcasts_S128x256_w32_S256x256_w16 (ValueIdx.ix2 k j)) - Ideal.ofBits .bf16 o = _
  have e := bitcast_32_16 w bitcasts_S128x256_w32_S256x256_w16 (ValueIdx.ix2 k j)
  rw [e]
  refine congrArg (fun p : S128x256.Idx => Ideal.ofBits .bf16 ((w p).extractLsb' (16 * (k.val % 2)) 16) - Ideal.ofBits .bf16 o) (funext fun a => Fin.ext ?_)
  match a with
  | ⟨0, _⟩ => rfl
  | ⟨1, _⟩ => rfl

theorem nib_apply (h q n : ℕ) (r : Fin 128) (j : Fin 256) :
    nib (F := Ideal) (wt W h q n) (ValueIdx.ix2 r j) = nw (w8 W (3712 * h + 128 * n + r.val) (256 * q + j.val) : BitVec 8) := rfl

theorem row_half (h n k : ℕ) : (7424 * h + 256 * n + k) / 2 = 3712 * h + 128 * n + k / 2 ∧ (7424 * h + 256 * n + k) % 2 = k % 2 := by omega

theorem r1_apply (h q n : ℕ) (k j : Fin 256) :
    r1 (F := Ideal) (wt W h q n) (ValueIdx.ix2 k j) = E (wa W (7424 * h + 256 * n + k.val) (256 * q + j.val)) := by
  unfold r1 wa
  rw [dec_apply, (row_half h n k.val).1, (row_half h n k.val).2]
  exact dec_one _ _ (Nat.mod_lt _ (by decide))

theorem rP_apply (h q n h' : ℕ) (k j : Fin 256) :
    rP (F := Ideal) (wt W h q n) (wt W' h' q n) (ValueIdx.ix2 k j)
      = E (wa W (7424 * h + 256 * n + k.val) (256 * q + j.val) + wa W' (7424 * h' + 256 * n + k.val) (256 * q + j.val)) := by
  unfold rP wa
  rw [dec_apply, (row_half h n k.val).1, (row_half h n k.val).2, (row_half h' n k.val).1, (row_half h' n k.val).2]
  exact dec_add _ _ _ (Nat.mod_lt _ (by decide))

theorem rM_apply (h q n h' : ℕ) (k j : Fin 256) :
    rM (F := Ideal) (wt W h q n) (wt W' h' q n) (ValueIdx.ix2 k j)
      = E (wa W (7424 * h + 256 * n + k.val) (256 * q + j.val) - wa W' (7424 * h' + 256 * n + k.val) (256 * q + j.val)) := by
  unfold rM wa
  rw [dec_apply, (row_half h n k.val).1, (row_half h n k.val).2, (row_half h' n k.val).1, (row_half h' n k.val).2]
  exact dec_sub _ _ _ (Nat.mod_lt _ (by decide))

end Cert.Proof.GateUp.KernelIdeal

end
-- ==== Proof.GateCell.lean ====
/-
  The blocks of the seven products, at exact arithmetic, as integer sums.
-/
module

public import proofs.«01_k».proof.Proof.GateMath
public import proofs.«01_k».proof.Proof.GateVal
public import Idealize.ShloMosaic.Lib.ValueLayout
public import Idealize.ShloMosaic.Lib.BitcastPair

@[expose] public section

set_option maxRecDepth 16384

noncomputable section

namespace Cert.Proof.GateUp.KernelIdeal

open Cert.KernelIdeal Cert.KernelIdeal.Gen Idealize.ShloMosaic Idealize.ShloMosaic.TcCoe Idealize.SL.Sem
open Cert.Proof.Unit Cert.Proof.GateMath
open scoped BigOperators

variable (X : Vec Ideal S2x1024x14848 .i8) (Wg Wu W W' : Vec Ideal S7424x512 .i8)

theorem cell_succ (p q c n : ℕ) :
    cell X Wg Wu p q c (n + 1) = some (dep (cell X Wg Wu p q c n) (pass (rhs Wg Wu p q n) (lhs X p c n))) := rfl

/-- Blocks after `n + 1` tiles, when the tiles are integers. -/
theorem cell_E (p q c : ℕ) (a b : ℕ → ℕ → ℕ → ℤ)
    (hl : ∀ n, ∀ i k : Fin 256, lhs X p c n (ValueIdx.ix2 i k) = E (a n i.val k.val))
    (hr : ∀ n, ∀ k j : Fin 256, rhs Wg Wu p q n (ValueIdx.ix2 k j) = E (b n k.val j.val)) (n : ℕ) :
    ∃ v, cell X Wg Wu p q c (n + 1) = some v ∧ ∀ i j : Fin 256,
      v (ValueIdx.ix2 i j) = E (∑ m ∈ Finset.range (n + 1), ∑ k ∈ Finset.range 256, a m i.val k * b m k j.val) := by
  induction n with
  | zero =>
    refine ⟨_, cell_succ X Wg Wu p q c _, fun i j => ?_⟩
    rw [Finset.sum_range_one]
    exact pass_E _ _ (a 0) (b 0) (hl 0) (hr 0) i j
  | succ n ih =>
    obtain ⟨v, hv, ev⟩ := ih
    refine ⟨_, cell_succ X Wg Wu p q c _, fun i j => ?_⟩
    rw [hv, Finset.sum_range_succ, ← E_add, ← ev i j]
    exact congrArg (v (ValueIdx.ix2 i j) + ·) (pass_E _ _ (a (n + 1)) (b (n + 1)) (hl (n + 1)) (hr (n + 1)) i j)

theorem val_E (p q c : ℕ) (a b : ℕ → ℕ → ℕ → ℤ)
    (hl : ∀ n, ∀ i k : Fin 256, lhs X p c n (ValueIdx.ix2 i k) = E (a n i.val k.val))
    (hr : ∀ n, ∀ k j : Fin 256, rhs Wg Wu p q n (ValueIdx.ix2 k j) = E (b n k.val j.val)) (i j : Fin 256) :
    val X Wg Wu p q c (ValueIdx.ix2 i j) = E (S fun n k => a n i.val k * b n k j.val) := by
  obtain ⟨v, hv, ev⟩ := cell_E X Wg Wu p q c a b hl hr 28
  have h : cell X Wg Wu p q c (28 + 1) = some (val X Wg Wu p q c) := cell_succ X Wg Wu p q c 28
  have : val X Wg Wu p q c = v := Option.some.inj (h.symm.trans hv)
  rw [this, ev]; rfl

end Cert.Proof.GateUp.KernelIdeal

end
-- ==== Proof.GateFin.lean ====
/-
  What a step leaves in its accumulator: at exact arithmetic each entry is the integer sum, over the whole
  contracted axis, of activation code times weight.
-/
module

public import proofs.«01_k».proof.Proof.GateMath
public import proofs.«01_k».proof.Proof.GateCell
public import Idealize.ShloMosaic.Lib.ValueLayout
public import Idealize.ShloMosaic.Lib.BitcastPair

@[expose] public section

set_option maxRecDepth 16384

noncomputable section

namespace Cert.Proof.GateUp.KernelIdeal

open Cert.KernelIdeal Cert.KernelIdeal.Gen Idealize.ShloMosaic Idealize.ShloMosaic.TcCoe Idealize.SL.Sem
open Cert.Proof.Unit Cert.Proof.GateMath
open scoped BigOperators

variable (X : Vec Ideal S2x1024x14848 .i8) (Wg Wu W W' : Vec Ideal S7424x512 .i8)

/-- The activation and weight an index of the contracted axis, in half `h`, stands for. -/
abbrev ax (b h c : ℕ) : ℕ → ℕ → ℕ → ℤ := fun n i k => xz X b (256 * c + i) (7424 * h + 256 * n + k)
abbrev aw (h q : ℕ) : ℕ → ℕ → ℕ → ℤ := fun n k j => wa W (7424 * h + 256 * n + k) (256 * q + j)

theorem lhs0_eq (c n : ℕ) : lhs X 0 c n = lP (xt X 0 0 c n) (xt X 1 1 c n) := rfl

theorem lhs0_E (c n : ℕ) (i k : Fin 256) : lhs X 0 c n (ValueIdx.ix2 i k) = E (ax X 0 0 c n i.val k.val + ax X 1 1 c n i.val k.val) :=
  (congrFun (lhs0_eq X c n) _).trans (lP_apply X 0 0 1 1 c n i k)

theorem rhs0_eq (q n : ℕ) : rhs Wg Wu 0 q n = rP (wt Wg 0 q n) (wt Wu 1 q n) := rfl

theorem rhs0_E (q n : ℕ) (k j : Fin 256) : rhs Wg Wu 0 q n (ValueIdx.ix2 k j) = E (aw Wg 0 q n k.val j.val + aw Wu 1 q n k.val j.val) :=
  (congrFun (rhs0_eq Wg Wu q n) _).trans (rP_apply Wg Wu 0 q n 1 k j)

theorem val0 (q c : ℕ) (i j : Fin 256) : val X Wg Wu 0 q c (ValueIdx.ix2 i j) = E (S fun n k =>
    (ax X 0 0 c n i.val k + ax X 1 1 c n i.val k) * (aw Wg 0 q n k j.val + aw Wu 1 q n k j.val)) :=
  val_E X Wg Wu 0 q c (fun n i k => ax X 0 0 c n i k + ax X 1 1 c n i k) (fun n k j => aw Wg 0 q n k j + aw Wu 1 q n k j)
    (fun n i k => lhs0_E X c n i k) (fun n k j => rhs0_E Wg Wu q n k j) i j

theorem lhs1_eq (c n : ℕ) : lhs X 1 c n = l1 (xt X 0 0 c n) := rfl

theorem lhs1_E (c n : ℕ) (i k : Fin 256) : lhs X 1 c n (ValueIdx.ix2 i k) = E (ax X 0 0 c n i.val k.val) :=
  (congrFun (lhs1_eq X c n) _).trans (l1_apply X 0 0 c n i k)

theorem rhs1_eq (q n : ℕ) : rhs Wg Wu 1 q n = rM (wt Wu 0 q n) (wt Wu 1 q n) := rfl

theorem rhs1_E (q n : ℕ) (k j : Fin 256) : rhs Wg Wu 1 q n (ValueIdx.ix2 k j) = E (aw Wu 0 q n k.val j.val - aw Wu 1 q n k.val j.val) :=
  (congrFun (rhs1_eq Wg Wu q n) _).trans (rM_apply Wu Wu 0 q n 1 k j)

theorem val1 (q c : ℕ) (i j : Fin 256) : val X Wg Wu 1 q c (ValueIdx.ix2 i j) = E (S fun n k =>
    ax X 0 0 c n i.val k * (aw Wu 0 q n k j.val - aw Wu 1 q n k j.val)) :=
  val_E X Wg Wu 1 q c (fun n i k => ax X 0 0 c n i k) (fun n k j => aw Wu 0 q n k j - aw Wu 1 q n k j)
    (fun n i k => lhs1_E X c n i k) (fun n k j => rhs1_E Wg Wu q n k j) i j

theorem lhs2_eq (c n : ℕ) : lhs X 2 c n = l1 (xt X 1 1 c n) := rfl

theorem lhs2_E (c n : ℕ) (i k : Fin 256) : lhs X 2 c n (ValueIdx.ix2 i k) = E (ax X 1 1 c n i.val k.val) :=
  (congrFun (lhs2_eq X c n) _).trans (l1_apply X 1 1 c n i k)

theorem rhs2_eq (q n : ℕ) : rhs Wg Wu 2 q n = rM (wt Wg 1 q n) (wt Wg 0 q n) := rfl

theorem rhs2_E (q n : ℕ) (k j : Fin 256) : rhs Wg Wu 2 q n (ValueIdx.ix2 k j) = E (aw Wg 1 q n k.val j.val - aw Wg 0 q n k.val j.val) :=
  (congrFun (rhs2_eq Wg Wu q n) _).trans (rM_apply Wg Wg 1 q n 0 k j)

theorem val2 (q c : ℕ) (i j : Fin 256) : val X Wg Wu 2 q c (ValueIdx.ix2 i j) = E (S fun n k =>
    ax X 1 1 c n i.val k * (aw Wg 1 q n k j.val - aw Wg 0 q n k j.val)) :=
  val_E X Wg Wu 2 q c (fun n i k => ax X 1 1 c n i k) (fun n k j => aw Wg 1 q n k j - aw Wg 0 q n k j)
    (fun n i k => lhs2_E X c n i k) (fun n k j => rhs2_E Wg Wu q n k j) i j

theorem lhs3_eq (c n : ℕ) : lhs X 3 c n = lP (xt X 0 0 c n) (xt X 0 1 c n) := rfl

theorem lhs3_E (c n : ℕ) (i k : Fin 256) : lhs X 3 c n (ValueIdx.ix2 i k) = E (ax X 0 0 c n i.val k.val + ax X 0 1 c n i.val k.val) :=
  (congrFun (lhs3_eq X c n) _).trans (lP_apply X 0 0 0 1 c n i k)

theorem rhs3_eq (q n : ℕ) : rhs Wg Wu 3 q n = r1 (wt Wu 1 q n) := rfl

theorem rhs3_E (q n : ℕ) (k j : Fin 256) : rhs Wg Wu 3 q n (ValueIdx.ix2 k j) = E (aw Wu 1 q n k.val j.val) :=
  (congrFun (rhs3_eq Wg Wu q n) _).trans (r1_apply Wu 1 q n k j)

theorem val3 (q c : ℕ) (i j : Fin 256) : val X Wg Wu 3 q c (ValueIdx.ix2 i j) = E (S fun n k =>
    (ax X 0 0 c n i.val k + ax X 0 1 c n i.val k) * aw Wu 1 q n k j.val) :=
  val_E X Wg Wu 3 q c (fun n i k => ax X 0 0 c n i k + ax X 0 1 c n i k) (fun n k j => aw Wu 1 q n k j)
    (fun n i k => lhs3_E X c n i k) (fun n k j => rhs3_E Wg Wu q n k j) i j

theorem lhs4_eq (c n : ℕ) : lhs X 4 c n = lM (xt X 0 1 c n) (xt X 1 1 c n) := rfl

theorem lhs4_E (c n : ℕ) (i k : Fin 256) : lhs X 4 c n (ValueIdx.ix2 i k) = E (ax X 0 1 c n i.val k.val - ax X 1 1 c n i.val k.val) :=
  (congrFun (lhs4_eq X c n) _).trans (lM_apply X 0 1 1 1 c n i k)

theorem rhs4_eq (q n : ℕ) : rhs Wg Wu 4 q n = rP (wt Wg 1 q n) (wt Wu 1 q n) := rfl

theorem rhs4_E (q n : ℕ) (k j : Fin 256) : rhs Wg Wu 4 q n (ValueIdx.ix2 k j) = E (aw Wg 1 q n k.val j.val + aw Wu 1 q n k.val j.val) :=
  (congrFun (rhs4_eq Wg Wu q n) _).trans (rP_apply Wg Wu 1 q n 1 k j)

theorem val4 (q c : ℕ) (i j : Fin 256) : val X Wg Wu 4 q c (ValueIdx.ix2 i j) = E (S fun n k =>
    (ax X 0 1 c n i.val k - ax X 1 1 c n i.val k) * (aw Wg 1 q n k j.val + aw Wu 1 q n k j.val)) :=
  val_E X Wg Wu 4 q c (fun n i k => ax X 0 1 c n i k - ax X 1 1 c n i k) (fun n k j => aw Wg 1 q n k j + aw Wu 1 q n k j)
    (fun n i k => lhs4_E X c n i k) (fun n k j => rhs4_E Wg Wu q n k j) i j

theorem lhs5_eq (c n : ℕ) : lhs X 5 c n = lP (xt X 1 0 c n) (xt X 1 1 c n) := rfl

theorem lhs5_E (c n : ℕ) (i k : Fin 256) : lhs X 5 c n (ValueIdx.ix2 i k) = E (ax X 1 0 c n i.val k.val + ax X 1 1 c n i.val k.val) :=
  (congrFun (lhs5_eq X c n) _).trans (lP_apply X 1 0 1 1 c n i k)

theorem rhs5_eq (q n : ℕ) : rhs Wg Wu 5 q n = r1 (wt Wg 0 q n) := rfl

theorem rhs5_E (q n : ℕ) (k j : Fin 256) : rhs Wg Wu 5 q n (ValueIdx.ix2 k j) = E (aw Wg 0 q n k.val j.val) :=
  (congrFun (rhs5_eq Wg Wu q n) _).trans (r1_apply Wg 0 q n k j)

theorem val5 (q c : ℕ) (i j : Fin 256) : val X Wg Wu 5 q c (ValueIdx.ix2 i j) = E (S fun n k =>
    (ax X 1 0 c n i.val k + ax X 1 1 c n i.val k) * aw Wg 0 q n k j.val) :=
  val_E X Wg Wu 5 q c (fun n i k => ax X 1 0 c n i k + ax X 1 1 c n i k) (fun n k j => aw Wg 0 q n k j)
    (fun n i k => lhs5_E X c n i k) (fun n k j => rhs5_E Wg Wu q n k j) i j

theorem lhs6_eq (c n : ℕ) : lhs X 6 c n = lM (xt X 1 0 c n) (xt X 0 0 c n) := rfl

theorem lhs6_E (c n : ℕ) (i k : Fin 256) : lhs X 6 c n (ValueIdx.ix2 i k) = E (ax X 1 0 c n i.val k.val - ax X 0 0 c n i.val k.val) :=
  (congrFun (lhs6_eq X c n) _).trans (lM_apply X 1 0 0 0 c n i k)

theorem rhs6_eq (q n : ℕ) : rhs Wg Wu 6 q n = rP (wt Wg 0 q n) (wt Wu 0 q n) := rfl

theorem rhs6_E (q n : ℕ) (k j : Fin 256) : rhs Wg Wu 6 q n (ValueIdx.ix2 k j) = E (aw Wg 0 q n k.val j.val + aw Wu 0 q n k.val j.val) :=
  (congrFun (rhs6_eq Wg Wu q n) _).trans (rP_apply Wg Wu 0 q n 0 k j)

theorem val6 (q c : ℕ) (i j : Fin 256) : val X Wg Wu 6 q c (ValueIdx.ix2 i j) = E (S fun n k =>
    (ax X 1 0 c n i.val k - ax X 0 0 c n i.val k) * (aw Wg 0 q n k j.val + aw Wu 0 q n k j.val)) :=
  val_E X Wg Wu 6 q c (fun n i k => ax X 1 0 c n i k - ax X 0 0 c n i k) (fun n k j => aw Wg 0 q n k j + aw Wu 0 q n k j)
    (fun n i k => lhs6_E X c n i k) (fun n k j => rhs6_E Wg Wu q n k j) i j

/-- The sum over the contracted axis of activation code times weight. -/
def full (b R j : ℕ) : ℤ := ∑ k ∈ Finset.range 14848, xz X b R k * wa W k j

theorem full_eq (b c q i j : ℕ) :
    (S fun n k => ax X b 0 c n i k * aw W 0 q n k j + ax X b 1 c n i k * aw W 1 q n k j) = full X W b (256 * c + i) (256 * q + j) := by
  unfold S full
  exact sum_axis fun k => xz X b (256 * c + i) k * wa W k (256 * q + j)

theorem addf_E (u v : Blk Ideal) (p : S256x256.Idx) (a b : ℤ) (hu : u p = E a) (hv : v p = E b) : addf u v p = E (a + b) := by
  rw [← E_add, ← hu, ← hv]; rfl

theorem subf_E (u v : Blk Ideal) (p : S256x256.Idx) (a b : ℤ) (hu : u p = E a) (hv : v p = E b) : subf u v p = E (a - b) := by
  rw [← E_sub, ← hu, ← hv]; rfl

theorem eq00 (q c : ℕ) : fin X Wg Wu 0 0 c q
    = addf (subf (addf (val X Wg Wu 0 q c) (val X Wg Wu 2 q c)) (val X Wg Wu 3 q c)) (val X Wg Wu 4 q c) := by
  unfold fin; rw [if_pos rfl, if_pos rfl]

theorem eq01 (q c : ℕ) : fin X Wg Wu 0 1 c q = addf (val X Wg Wu 1 q c) (val X Wg Wu 3 q c) := by
  unfold fin; rw [if_pos rfl, if_neg Nat.one_ne_zero]

theorem eq10 (q c : ℕ) : fin X Wg Wu 1 0 c q = addf (val X Wg Wu 2 q c) (val X Wg Wu 5 q c) := by
  unfold fin; rw [if_neg Nat.one_ne_zero, if_pos rfl]

theorem eq11 (q c : ℕ) : fin X Wg Wu 1 1 c q
    = addf (subf (addf (val X Wg Wu 0 q c) (val X Wg Wu 1 q c)) (val X Wg Wu 5 q c)) (val X Wg Wu 6 q c) := by
  unfold fin; rw [if_neg Nat.one_ne_zero, if_neg Nat.one_ne_zero]

theorem fin_00 (q c : ℕ) (i j : Fin 256) :
    fin X Wg Wu 0 0 c q (ValueIdx.ix2 i j) = E (full X Wg 0 (256 * c + i.val) (256 * q + j.val)) := by
  have h := seven_00 (fun n k => ax X 0 0 c n i.val k) (fun n k => ax X 0 1 c n i.val k) (fun n k => ax X 1 0 c n i.val k)
    (fun n k => ax X 1 1 c n i.val k) (fun n k => aw Wg 0 q n k j.val) (fun n k => aw Wg 1 q n k j.val)
    (fun n k => aw Wu 0 q n k j.val) (fun n k => aw Wu 1 q n k j.val)
  rw [eq00]
  refine (addf_E _ _ _ _ _ (subf_E _ _ _ _ _ (addf_E _ _ _ _ _ (val0 X Wg Wu q c i j) (val2 X Wg Wu q c i j)) (val3 X Wg Wu q c i j))
    (val4 X Wg Wu q c i j)).trans ?_
  exact congrArg E (h.trans (full_eq X Wg 0 c q i.val j.val))

theorem fin_01 (q c : ℕ) (i j : Fin 256) :
    fin X Wg Wu 0 1 c q (ValueIdx.ix2 i j) = E (full X Wu 0 (256 * c + i.val) (256 * q + j.val)) := by
  have h := seven_01 (fun n k => ax X 0 0 c n i.val k) (fun n k => ax X 0 1 c n i.val k)
    (fun n k => aw Wu 0 q n k j.val) (fun n k => aw Wu 1 q n k j.val)
  rw [eq01]
  refine (addf_E _ _ _ _ _ (val1 X Wg Wu q c i j) (val3 X Wg Wu q c i j)).trans ?_
  exact congrArg E (h.trans (full_eq X Wu 0 c q i.val j.val))

theorem fin_10 (q c : ℕ) (i j : Fin 256) :
    fin X Wg Wu 1 0 c q (ValueIdx.ix2 i j) = E (full X Wg 1 (256 * c + i.val) (256 * q + j.val)) := by
  have h := seven_10 (fun n k => ax X 1 0 c n i.val k) (fun n k => ax X 1 1 c n i.val k)
    (fun n k => aw Wg 0 q n k j.val) (fun n k => aw Wg 1 q n k j.val)
  rw [eq10]
  refine (addf_E _ _ _ _ _ (val2 X Wg Wu q c i j) (val5 X Wg Wu q c i j)).trans ?_
  exact congrArg E (h.trans (full_eq X Wg 1 c q i.val j.val))

theorem fin_11 (q c : ℕ) (i j : Fin 256) :
    fin X Wg Wu 1 1 c q (ValueIdx.ix2 i j) = E (full X Wu 1 (256 * c + i.val) (256 * q + j.val)) := by
  have h := seven_11 (fun n k => ax X 0 0 c n i.val k) (fun n k => ax X 1 0 c n i.val k)
    (fun n k => ax X 1 1 c n i.val k) (fun n k => aw Wg 0 q n k j.val)
    (fun n k => aw Wu 0 q n k j.val) (fun n k => aw Wu 1 q n k j.val)
  rw [eq11]
  refine (addf_E _ _ _ _ _ (subf_E _ _ _ _ _ (addf_E _ _ _ _ _ (val0 X Wg Wu q c i j) (val1 X Wg Wu q c i j)) (val5 X Wg Wu q c i j))
    (val6 X Wg Wu q c i j)).trans ?_
  exact congrArg E (h.trans (full_eq X Wu 1 c q i.val j.val))

theorem ix_eq (i j : Fin 256) : (Mxu.ix i j : (⟨2, ![256, 256]⟩ : Shape).Idx) = ValueIdx.ix2 i j := by
  funext a
  match a with
  | ⟨0, _⟩ => rfl
  | ⟨1, _⟩ => rfl

theorem asm_apply (A : Cells Ideal) (b : Fin 2) (g : Fin 2) (r : Fin 1024) (j : Fin 512) :
    asm A (i4 b g r j) = A b.val g.val (r.val / 256) (j.val / 256)
      (Mxu.ix (⟨r.val % 256, Nat.mod_lt _ (by decide)⟩ : Fin 256) (⟨j.val % 256, Nat.mod_lt _ (by decide)⟩ : Fin 256)) := rfl

theorem fin_E (b g c q : ℕ) (i j : Fin 256) (hb : b < 2) (hg : g < 2) :
    fin X Wg Wu b g c q (ValueIdx.ix2 i j) = E (full X (if g = 0 then Wg else Wu) b (256 * c + i.val) (256 * q + j.val)) := by
  obtain rfl | rfl : b = 0 ∨ b = 1 := by omega
  · obtain rfl | rfl : g = 0 ∨ g = 1 := by omega
    · rw [if_pos rfl]; exact fin_00 X Wg Wu q c i j
    · rw [if_neg Nat.one_ne_zero]; exact fin_01 X Wg Wu q c i j
  · obtain rfl | rfl : g = 0 ∨ g = 1 := by omega
    · rw [if_pos rfl]; exact fin_10 X Wg Wu q c i j
    · rw [if_neg Nat.one_ne_zero]; exact fin_11 X Wg Wu q c i j

/-- An entry of a step's accumulator. -/
theorem asm_E (b : Fin 2) (g : Fin 2) (r : Fin 1024) (j : Fin 512) :
    asm (fin X Wg Wu) (i4 b g r j) = E (full X (if g.val = 0 then Wg else Wu) b.val r.val j.val) := by
  have h := fin_E X Wg Wu b.val g.val (r.val / 256) (j.val / 256) ⟨r.val % 256, Nat.mod_lt _ (by decide)⟩ ⟨j.val % 256, Nat.mod_lt _ (by decide)⟩ b.isLt g.isLt
  rw [show 256 * (r.val / 256) + r.val % 256 = r.val by omega, show 256 * (j.val / 256) + j.val % 256 = j.val by omega] at h
  rw [asm_apply, ix_eq]
  exact h

end Cert.Proof.GateUp.KernelIdeal

end
-- ==== Proof.GateRef.lean ====
/-
  What the reference computes, entry by entry, at exact arithmetic: the same integer sums, scaled and put through
  the activation function.
-/
module

public import proofs.«01_k».proof.Proof.GateMath
public import proofs.«01_k».proof.Proof.Gen.ReferenceIdeal.Run
public import Idealize.ShloMosaic.Lib.ValueLayout
public import Idealize.ShloMosaic.Lib.IdealHost
public import Idealize.ShloMosaic.Lib.Pointwise.Contract
public import Idealize.ShloMosaic.Lib.Pipeline.Value

@[expose] public section

set_option maxRecDepth 16384

noncomputable section

namespace Cert.Proof.GateUp.ReferenceIdeal

open Cert.ReferenceIdeal Cert.ReferenceIdeal.Gen Idealize.ShloMosaic Idealize.ShloMosaic.TcCoe Idealize.SL.Sem
open Cert.Proof.GateMath
open scoped BigOperators

/-- Activation code `(b, r, k)` of the array as an integer, zero outside. -/
def cz (C : IVec S2x2048x14848 8) (b r k : ℕ) : ℤ :=
  if h : b < 2 ∧ r < 2048 ∧ k < 14848 then (C (ValueIdx.ix3 ⟨b, h.1⟩ ⟨r, h.2.1⟩ ⟨k, h.2.2⟩)).toInt else 0

/-- Weight `(k, j)` of a packed array: two rows of weights in each row of codes. -/
def wc (W : IVec S7424x13312 8) (k j : ℕ) : ℤ :=
  if h : k / 2 < 7424 ∧ j < 13312 then wz (W (ValueIdx.ix2 ⟨k / 2, h.1⟩ ⟨j, h.2⟩)) (k % 2) else 0

/-- The sum over the contracted axis of activation code times weight. -/
def gacc (C : IVec S2x2048x14848 8) (W : IVec S7424x13312 8) (b r j : ℕ) : ℤ :=
  ∑ k ∈ Finset.range 14848, cz C b r k * wc W k j

/-- An entry of the result from its two sums and their scales. -/
def out1 (a s wg u wu : EReal) : EReal :=
  let G : EReal := a * s * wg
  let U : EReal := u * s * wu
  G * Ideal.logistic G * U

/-- The result as a function of the arguments. -/
def G (C : IVec S2x2048x14848 8) (xs : S2x2048x1.Idx → EReal) (Wg : IVec S7424x13312 8) (gs : S1x13312.Idx → EReal)
    (Wu : IVec S7424x13312 8) (us : S1x13312.Idx → EReal) : S2x2048x13312.Idx → EReal := fun i =>
  out1 (E (gacc C Wg (i 0).val (i 1).val (i 2).val)) (xs (ValueIdx.ix3 (i 0) (i 1) (0 : Fin 1))) (gs (ValueIdx.ix2 (0 : Fin 1) (i 2)))
    (E (gacc C Wu (i 0).val (i 1).val (i 2).val)) (us (ValueIdx.ix2 (0 : Fin 1) (i 2)))

/-! ## The operands of the products -/

/-- Every second activation code, as floats. -/
abbrev even (C : IVec S2x2048x14848 8) : FVec Ideal S4096x7424 .bf16 :=
  shapeCast S4096x7424 (extractStridedSlice S4096x7424x1 ![0, 0, 0] (sitofp .bf16 (extsi 32 (shapeCast S4096x7424x2 C shapeCasts_S2x2048x14848_S4096x7424x2) natLt_8_32)) slices_S4096x7424x2_S4096x7424x1_0_0_0) shapeCasts_S4096x7424x1_S4096x7424
abbrev odd (C : IVec S2x2048x14848 8) : FVec Ideal S4096x7424 .bf16 :=
  shapeCast S4096x7424 (extractStridedSlice S4096x7424x1 ![0, 0, 1] (sitofp .bf16 (extsi 32 (shapeCast S4096x7424x2 C shapeCasts_S2x2048x14848_S4096x7424x2) natLt_8_32)) slices_S4096x7424x2_S4096x7424x1_0_0_1) shapeCasts_S4096x7424x1_S4096x7424
/-- The weights of the low and of the high nibbles. -/
abbrev lo (W : IVec S7424x13312 8) : FVec Ideal S7424x13312 .bf16 :=
  subf (sitofp .bf16 (andi (extui 32 W natLt_8_32) (broadcastInDim S7424x13312 ![] bcast_S_S7424x13312 (constantI S_ 32 15#32)))) (broadcastInDim S7424x13312 ![] bcast_S_S7424x13312 (constant S_ .bf16 0x4100#16))
abbrev hi (W : IVec S7424x13312 8) : FVec Ideal S7424x13312 .bf16 :=
  subf (sitofp .bf16 (Host.shrsi (extui 32 W natLt_8_32) (broadcastInDim S7424x13312 ![] bcast_S_S7424x13312 (constantI S_ 32 4#32)))) (broadcastInDim S7424x13312 ![] bcast_S_S7424x13312 (constant S_ .bf16 0x4100#16))

theorem ofBits_4100 : Ideal.ofBits .bf16 0x4100#16 = E 8 := by
  have h1 : ((0x4100#16).extractLsb' (8 + 7) 1 == 1#1) = false := by decide
  have h2 : ((0x4100#16).extractLsb' 7 8).toNat = 130 := by decide
  have h3 : ((0x4100#16).extractLsb' 0 7).toNat = 0 := by decide
  show Ideal.ieee 8 7 (0x4100#16) = _
  unfold Ideal.ieee E
  dsimp only at h1 h2 h3 ⊢
  rw [h1, h2, h3]
  norm_num [zpow_neg]

theorem ofBits_one : Ideal.ofBits .f32 0x3F800000#32 = 1 := by
  have h1 : ((0x3F800000#32).extractLsb' (8 + 23) 1 == 1#1) = false := by decide
  have h2 : ((0x3F800000#32).extractLsb' 23 8).toNat = 127 := by decide
  have h3 : ((0x3F800000#32).extractLsb' 0 23).toNat = 0 := by decide
  show Ideal.ieee 8 23 (0x3F800000#32) = _
  unfold Ideal.ieee
  dsimp only at h1 h2 h3 ⊢
  rw [h1, h2, h3]
  norm_num [zpow_neg]

theorem toInt_ext : ∀ v : BitVec 8, (v.signExtend 32).toInt = v.toInt := by
  have h : ∀ i : Fin 256, ((BitVec.ofFin i : BitVec 8).signExtend 32).toInt = (BitVec.ofFin i : BitVec 8).toInt := by decide +kernel
  exact fun v => h v.toFin

theorem toInt_lo : ∀ v : BitVec 8, (v.setWidth 32 &&& 15#32).toInt = nb v 0 := by
  have h : ∀ i : Fin 256, ((BitVec.ofFin i : BitVec 8).setWidth 32 &&& 15#32).toInt = nb (BitVec.ofFin i : BitVec 8) 0 := by decide +kernel
  exact fun v => h v.toFin

theorem toInt_hi : ∀ v : BitVec 8, (IntOp.shrsi .host (v.setWidth 32) 4#32).toInt = nb v 1 := by
  have h : ∀ i : Fin 256, (((BitVec.ofFin i : BitVec 8).setWidth 32).sshiftRight' 4#32).toInt = nb (BitVec.ofFin i : BitVec 8) 1 := by decide +kernel
  intro v
  rw [← h v.toFin]; rfl

theorem code_apply (C : IVec S2x2048x14848 8) (e : Fin 2) (b : Fin 2) (r : Fin 2048) (i : Fin 7424) (row : Fin 4096)
    (hrow : row.val = 2048 * b.val + r.val) :
    shapeCast S4096x7424x2 C shapeCasts_S2x2048x14848_S4096x7424x2 (ValueIdx.ix3 row i e)
      = C (ValueIdx.ix3 b r ⟨2 * i.val + e.val, by have := i.isLt; have := e.isLt; omega⟩) := by
  refine shapeCast_apply C shapeCasts_S2x2048x14848_S4096x7424x2 _ _ ?_
  rw [Shape.rowMajor_val_three, Shape.rowMajor_val_three]
  show (b.val * 2048 + r.val) * 14848 + (2 * i.val + e.val) = (row.val * 7424 + i.val) * 2 + e.val
  omega

theorem even_apply (C : IVec S2x2048x14848 8) (b : Fin 2) (r : Fin 2048) (i : Fin 7424) (row : Fin 4096)
    (hrow : row.val = 2048 * b.val + r.val) : even C (ValueIdx.ix2 row i) = E (cz C b.val r.val (2 * i.val)) := by
  unfold even
  refine (shapeCast_apply _ shapeCasts_S4096x7424x1_S4096x7424 (ValueIdx.ix2 row i) (ValueIdx.ix3 row i (0 : Fin 1)) ?_).trans ?_
  · rw [Shape.rowMajor_val_three, Shape.rowMajor_val_two]
    show (row.val * 7424 + i.val) * 1 + 0 = row.val * 7424 + i.val
    omega
  have e1 : ∀ x : FVec Ideal S4096x7424x2 .bf16, extractStridedSlice S4096x7424x1 ![0, 0, 0] x slices_S4096x7424x2_S4096x7424x1_0_0_0 (ValueIdx.ix3 row i (0 : Fin 1))
      = x (ValueIdx.ix3 row i (0 : Fin 2)) := fun x => congrArg x (funext fun a => Fin.ext (by
    match a with
    | ⟨0, _⟩ => exact Nat.zero_add _
    | ⟨1, _⟩ => exact Nat.zero_add _
    | ⟨2, _⟩ => rfl))
  rw [e1]
  show FloatOps.sitofp (F := Ideal) .bf16 ((shapeCast S4096x7424x2 C shapeCasts_S2x2048x14848_S4096x7424x2 (ValueIdx.ix3 row i (0 : Fin 2))).signExtend 32) = _
  rw [code_apply C 0 b r i row hrow]
  show (((BitVec.signExtend 32 _).toInt : ℝ) : EReal) = _
  rw [toInt_ext]
  unfold cz E
  have := i.isLt
  rw [dif_pos ⟨b.isLt, r.isLt, by omega⟩]
  rfl

theorem odd_apply (C : IVec S2x2048x14848 8) (b : Fin 2) (r : Fin 2048) (i : Fin 7424) (row : Fin 4096)
    (hrow : row.val = 2048 * b.val + r.val) : odd C (ValueIdx.ix2 row i) = E (cz C b.val r.val (2 * i.val + 1)) := by
  unfold odd
  refine (shapeCast_apply _ shapeCasts_S4096x7424x1_S4096x7424 (ValueIdx.ix2 row i) (ValueIdx.ix3 row i (0 : Fin 1)) ?_).trans ?_
  · rw [Shape.rowMajor_val_three, Shape.rowMajor_val_two]
    show (row.val * 7424 + i.val) * 1 + 0 = row.val * 7424 + i.val
    omega
  have e1 : ∀ x : FVec Ideal S4096x7424x2 .bf16, extractStridedSlice S4096x7424x1 ![0, 0, 1] x slices_S4096x7424x2_S4096x7424x1_0_0_1 (ValueIdx.ix3 row i (0 : Fin 1))
      = x (ValueIdx.ix3 row i (1 : Fin 2)) := fun x => congrArg x (funext fun a => Fin.ext (by
    match a with
    | ⟨0, _⟩ => exact Nat.zero_add _
    | ⟨1, _⟩ => exact Nat.zero_add _
    | ⟨2, _⟩ => rfl))
  rw [e1]
  show FloatOps.sitofp (F := Ideal) .bf16 ((shapeCast S4096x7424x2 C shapeCasts_S2x2048x14848_S4096x7424x2 (ValueIdx.ix3 row i (1 : Fin 2))).signExtend 32) = _
  rw [code_apply C 1 b r i row hrow]
  show (((BitVec.signExtend 32 _).toInt : ℝ) : EReal) = _
  rw [toInt_ext]
  unfold cz E
  have := i.isLt
  rw [dif_pos ⟨b.isLt, r.isLt, by omega⟩]
  rfl

theorem lo_apply (W : IVec S7424x13312 8) (i : Fin 7424) (j : Fin 13312) : lo W (ValueIdx.ix2 i j) = E (wc W (2 * i.val) j.val) := by
  show ((((W (ValueIdx.ix2 i j)).setWidth 32 &&& 15#32).toInt : ℝ) : EReal) - Ideal.ofBits .bf16 0x4100#16 = _
  rw [toInt_lo, ofBits_4100]
  have := i.isLt
  have e2 : 2 * i.val / 2 = i.val := by omega
  have e3 : 2 * i.val % 2 = 0 := by omega
  have hw : wc W (2 * i.val) j.val = wz (W (ValueIdx.ix2 i j)) 0 := by
    unfold wc
    rw [dif_pos ⟨by omega, j.isLt⟩, e3]
    exact congrArg (fun p => wz (W (ValueIdx.ix2 p j)) 0) (Fin.ext e2)
  rw [hw]
  exact E_sub _ _

theorem hi_apply (W : IVec S7424x13312 8) (i : Fin 7424) (j : Fin 13312) : hi W (ValueIdx.ix2 i j) = E (wc W (2 * i.val + 1) j.val) := by
  show (((IntOp.shrsi .host ((W (ValueIdx.ix2 i j)).setWidth 32) 4#32).toInt : ℝ) : EReal) - Ideal.ofBits .bf16 0x4100#16 = _
  rw [toInt_hi, ofBits_4100]
  have := i.isLt
  have e2 : (2 * i.val + 1) / 2 = i.val := by omega
  have e3 : (2 * i.val + 1) % 2 = 1 := by omega
  have hw : wc W (2 * i.val + 1) j.val = wz (W (ValueIdx.ix2 i j)) 1 := by
    unfold wc
    rw [dif_pos ⟨by omega, j.isLt⟩, e3]
    exact congrArg (fun p => wz (W (ValueIdx.ix2 p j)) 1) (Fin.ext e2)
  rw [hw]
  exact E_sub _ _

/-- A product of the reference, with integer operands. -/
theorem dot_E (L : FVec Ideal S4096x7424 .bf16) (R : FVec Ideal S7424x13312 .bf16) (a b : ℕ → ℤ) (row : Fin 4096) (j : Fin 13312)
    (hL : ∀ k : Fin 7424, L (ValueIdx.ix2 row k) = E (a k.val)) (hR : ∀ k : Fin 7424, R (ValueIdx.ix2 k j) = E (b k.val)) :
    Host.dotGeneral dot_S4096x7424_S7424x13312_S4096x13312_1_0_0_1_n_n none L R (ValueIdx.ix2 row j) = E (∑ k ∈ Finset.range 7424, a k * b k) := by
  simp only [Host.dotGeneral]
  rw [Ideal.dotGeneral_apply,
    DotDims.sum_contr₁ dot_S4096x7424_S7424x13312_S4096x13312_1_0_0_1_n_n (a := (1 : Fin 2)) rfl (K := 7424) rfl,
    Finset.sum_range, ← E_sum]
  refine Finset.sum_congr rfl fun k _ => ?_
  have el : dot_S4096x7424_S7424x13312_S4096x13312_1_0_0_1_n_n.lhsIdx (ValueIdx.ix2 row j) (DotDims.contrIdx₁ _ (a := (1 : Fin 2)) rfl (K := 7424) rfl k) = ValueIdx.ix2 row k := by
    funext x; apply Fin.ext
    match x with
    | ⟨0, _⟩ => rfl
    | ⟨1, _⟩ => rfl
  have er : dot_S4096x7424_S7424x13312_S4096x13312_1_0_0_1_n_n.rhsIdx (ValueIdx.ix2 row j) (DotDims.contrIdx₁ _ (a := (1 : Fin 2)) rfl (K := 7424) rfl k) = ValueIdx.ix2 k j := by
    funext x; apply Fin.ext
    match x with
    | ⟨0, _⟩ => rfl
    | ⟨1, _⟩ => rfl
  rw [el, er, hL, hR, E_mul]

/-- The two products together are the sum over the whole axis. -/
abbrev acc2 (C : IVec S2x2048x14848 8) (W : IVec S7424x13312 8) : FVec Ideal S4096x13312 .f32 :=
  addf (Host.dotGeneral dot_S4096x7424_S7424x13312_S4096x13312_1_0_0_1_n_n none (even C) (lo W))
    (Host.dotGeneral dot_S4096x7424_S7424x13312_S4096x13312_1_0_0_1_n_n none (odd C) (hi W))

theorem acc2_apply (C : IVec S2x2048x14848 8) (W : IVec S7424x13312 8) (b : Fin 2) (r : Fin 2048) (row : Fin 4096)
    (hrow : row.val = 2048 * b.val + r.val) (j : Fin 13312) : acc2 C W (ValueIdx.ix2 row j) = E (gacc C W b.val r.val j.val) := by
  have h0 := dot_E (even C) (lo W) (fun k => cz C b.val r.val (2 * k)) (fun k => wc W (2 * k) j.val) row j
    (fun k => even_apply C b r k row hrow) (fun k => lo_apply W k j)
  have h1 := dot_E (odd C) (hi W) (fun k => cz C b.val r.val (2 * k + 1)) (fun k => wc W (2 * k + 1) j.val) row j
    (fun k => odd_apply C b r k row hrow) (fun k => hi_apply W k j)
  refine (congrArg₂ (fun x y : EReal => x + y) h0 h1).trans ?_
  rw [E_add, ← Finset.sum_add_distrib]
  exact congrArg E (sum_pairs 7424 fun k => cz C b.val r.val k * wc W k j.val)

/-! ## The result -/

/-- The sums scaled by row and column. -/
abbrev scaled (C : IVec S2x2048x14848 8) (xs : FVec Ideal S2x2048x1 .f32) (W : IVec S7424x13312 8) (ws : FVec Ideal S1x13312 .f32) :
    FVec Ideal S4096x13312 .f32 :=
  mulf (mulf (acc2 C W) (broadcastInDim S4096x13312 ![0, 1] bcast_S4096x1_S4096x13312_0_1 (shapeCast S4096x1 xs shapeCasts_S2x2048x1_S4096x1)))
    (broadcastInDim S4096x13312 ![0, 1] bcast_S1x13312_S4096x13312_0_1 ws)

theorem scaled_apply (C : IVec S2x2048x14848 8) (xs : FVec Ideal S2x2048x1 .f32) (W : IVec S7424x13312 8) (ws : FVec Ideal S1x13312 .f32)
    (b : Fin 2) (r : Fin 2048) (row : Fin 4096) (hrow : row.val = 2048 * b.val + r.val) (j : Fin 13312) :
    scaled C xs W ws (ValueIdx.ix2 row j)
      = (E (gacc C W b.val r.val j.val) * xs (ValueIdx.ix3 b r (0 : Fin 1)) * ws (ValueIdx.ix2 (0 : Fin 1) j) : EReal) := by
  have h1 : broadcastInDim S4096x13312 ![0, 1] bcast_S4096x1_S4096x13312_0_1 (shapeCast S4096x1 xs shapeCasts_S2x2048x1_S4096x1) (ValueIdx.ix2 row j)
      = xs (ValueIdx.ix3 b r (0 : Fin 1)) := by
    refine (broadcastInDim_apply _ bcast_S4096x1_S4096x13312_0_1 _ (ValueIdx.ix2 row j) (ValueIdx.ix2 row (0 : Fin 1)) (fun a => ?_)).trans ?_
    · match a with
      | ⟨0, _⟩ => rfl
      | ⟨1, _⟩ => rfl
    · refine shapeCast_apply xs shapeCasts_S2x2048x1_S4096x1 _ _ ?_
      rw [Shape.rowMajor_val_three, Shape.rowMajor_val_two]
      show (b.val * 2048 + r.val) * 1 + 0 = row.val * 1 + 0
      omega
  have h2 : broadcastInDim S4096x13312 ![0, 1] bcast_S1x13312_S4096x13312_0_1 ws (ValueIdx.ix2 row j) = ws (ValueIdx.ix2 (0 : Fin 1) j) := by
    refine broadcastInDim_apply _ bcast_S1x13312_S4096x13312_0_1 ws (ValueIdx.ix2 row j) (ValueIdx.ix2 (0 : Fin 1) j) (fun a => ?_)
    match a with
    | ⟨0, _⟩ => rfl
    | ⟨1, _⟩ => rfl
  exact congrArg₂ (fun x y : EReal => x * y) (congrArg₂ (fun x y : EReal => x * y) (acc2_apply C W b r row hrow j) h1) h2

/-- The last operations of the reference, on the two scaled sums. -/
abbrev last (A U : FVec Ideal S4096x13312 .f32) : FVec Ideal S2x2048x13312 .bf16 :=
  shapeCast S2x2048x13312 (truncf .bf16 (mulf (mulf A
      (Host.divf (broadcastInDim S4096x13312 ![] bcast_S_S4096x13312 (constant S_ .f32 0x3F800000#32))
        (addf (broadcastInDim S4096x13312 ![] bcast_S_S4096x13312 (constant S_ .f32 0x3F800000#32)) (Host.exp (Host.negf A))))) U) bitsLt_bf16_f32)
    shapeCasts_S4096x13312_S2x2048x13312

theorem last_apply (A U : FVec Ideal S4096x13312 .f32) (b : Fin 2) (r : Fin 2048) (row : Fin 4096) (hrow : row.val = 2048 * b.val + r.val) (j : Fin 13312) :
    last A U (ValueIdx.ix3 b r j) = ((A (ValueIdx.ix2 row j) : EReal) * Ideal.logistic (A (ValueIdx.ix2 row j)) * U (ValueIdx.ix2 row j) : EReal) := by
  refine (shapeCast_apply _ shapeCasts_S4096x13312_S2x2048x13312 (ValueIdx.ix3 b r j) (ValueIdx.ix2 row j) ?_).trans ?_
  · rw [Shape.rowMajor_val_three, Shape.rowMajor_val_two]
    show row.val * 13312 + j.val = (b.val * 2048 + r.val) * 13312 + j.val
    rw [hrow]; ring
  · show (A (ValueIdx.ix2 row j) : EReal) * Ideal.div (Ideal.ofBits .f32 0x3F800000#32)
        (Ideal.ofBits .f32 0x3F800000#32 + Ideal.exp (-(A (ValueIdx.ix2 row j) : EReal))) * U (ValueIdx.ix2 row j) = _
    rw [ofBits_one]; rfl

theorem res_eq (m : (ℓ : Loc nD τ sig) → Buf (Elt Ideal) ℓ) (c : Dev nD) :
    (Cert.ReferenceIdeal.Value.res_out0 m c : FVec Ideal S2x2048x13312 .bf16)
      = last (scaled (m ((c.tc : Thread nD τ).loc main_arg0)) (m ((c.tc : Thread nD τ).loc main_arg1)) (m ((c.tc : Thread nD τ).loc main_arg2)) (m ((c.tc : Thread nD τ).loc main_arg3)))
          (scaled (m ((c.tc : Thread nD τ).loc main_arg0)) (m ((c.tc : Thread nD τ).loc main_arg1)) (m ((c.tc : Thread nD τ).loc main_arg4)) (m ((c.tc : Thread nD τ).loc main_arg5))) := by
  unfold Cert.ReferenceIdeal.Value.res_out0 Cert.ReferenceIdeal.Value.res_main_v47
  rfl

/-- The reference's result, as a function of its arguments. -/
theorem res_G (m : (ℓ : Loc nD τ sig) → Buf (Elt Ideal) ℓ) (c : Dev nD) :
    (Cert.ReferenceIdeal.Value.res_out0 m c : FVec Ideal S2x2048x13312 .bf16)
      = G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [res_eq]
  funext i
  obtain ⟨b, r, j, rfl⟩ : ∃ (b : Fin 2) (r : Fin 2048) (j : Fin 13312), i = ValueIdx.ix3 b r j := ⟨i 0, i 1, i 2, ValueIdx.eq_ix3 i⟩
  have hrow : (2048 * b.val + r.val) < 4096 := by have := b.isLt; have := r.isLt; omega
  refine (last_apply _ _ b r ⟨2048 * b.val + r.val, hrow⟩ rfl j).trans ?_
  rw [scaled_apply _ _ _ _ b r ⟨2048 * b.val + r.val, hrow⟩ rfl j, scaled_apply _ _ _ _ b r ⟨2048 * b.val + r.val, hrow⟩ rfl j]
  rfl

end Cert.Proof.GateUp.ReferenceIdeal

end
-- ==== Proof.GateKernel.lean ====
/-
  What the gate and up kernel leaves in its output array, as one function of its arguments.
-/
module

public import proofs.«01_k».proof.Proof.KernelIdealFrame
public import proofs.«01_k».proof.Proof.GateFin
public import proofs.«01_k».proof.Proof.GateRef

@[expose] public section

set_option maxRecDepth 16384

noncomputable section

namespace Cert.Proof.GateUp.KernelIdeal

open Cert.KernelIdeal Cert.KernelIdeal.Gen Idealize.ShloMosaic Idealize.ShloMosaic.TcCoe Idealize.SL.Sem
open Cert.Proof.Unit Cert.Proof.GateMath
open Cert.Proof.GateUp.ReferenceIdeal (cz wc gacc out1 G)
open scoped BigOperators

variable (m : (ℓ : Loc nD τ sig) → Buf (Elt Ideal) ℓ) (ρ : Dev nD → PrngReg)

/-- Where the windows' blocks lie at each step: the weights' column runs one step ahead of the others'. -/
theorem idx_facts : ∀ t : Fin cfg0.N,
    win0_0.index t (0 : Fin 3) = 0 ∧ win0_0.index t (1 : Fin 3) = (t.val - 1) / 26 ∧ win0_0.index t (2 : Fin 3) = 0
    ∧ win0_1.index t (0 : Fin 2) = 0 ∧ win0_1.index t (1 : Fin 2) = (min t.val 51) % 26
    ∧ win0_2.index t (0 : Fin 2) = 0 ∧ win0_2.index t (1 : Fin 2) = (min t.val 51) % 26
    ∧ win0_3.index t (0 : Fin 2) = 0 ∧ win0_3.index t (1 : Fin 2) = (t.val - 1) % 26
    ∧ win0_4.index t (0 : Fin 2) = 0 ∧ win0_4.index t (1 : Fin 2) = (t.val - 1) % 26
    ∧ win0_5.index t (0 : Fin 3) = 0 ∧ win0_5.index t (1 : Fin 3) = (t.val - 1) / 26 ∧ win0_5.index t (2 : Fin 3) = (t.val - 1) % 26 :=
  (by decide +kernel : ∀ t : Fin grid0.N, _)

theorem flush_facts : ∀ t : Fin cfg0.N, (cfg0.win 5).flush t = decide (0 < t.val) :=
  (by decide +kernel : ∀ t : Fin grid0.N, _)

theorem lt53 (t : Fin cfg0.N) : t.val < 53 := Nat.lt_of_lt_of_eq t.isLt N_eq

/-! ## The input blocks -/

theorem xs_apply (c : Dev nD) (t : Fin cfg0.N) (b : Fin 2) (r : Fin 1024) (R : Fin 2048) (hR : R.val = 1024 * ((t.val - 1) / 26) + r.val) :
    xsB m c t (i3 b r) = V m c main_arg1 (ValueIdx.ix3 b R (0 : Fin 1)) := by
  obtain ⟨e0, e1, e2, -⟩ := idx_facts t
  show V m c main_arg1 (((cfg0.win 0).blk t).view.emb (i3 b r)) = _
  refine congrArg _ (funext fun a => Fin.ext ?_)
  match a with
  | ⟨0, _⟩ => show win0_0.index t (0 : Fin 3) * 2 + 1 * b.val = b.val; omega
  | ⟨1, _⟩ => show win0_0.index t (1 : Fin 3) * 1024 + 1 * r.val = R.val; omega
  | ⟨2, _⟩ => show win0_0.index t (2 : Fin 3) * 1 + 1 * 0 = 0; omega

theorem gs_apply (c : Dev nD) (t : Fin cfg0.N) (j : Fin 512) (J : Fin 13312) (hJ : J.val = 512 * ((t.val - 1) % 26) + j.val) :
    gsB m c t (i2 j) = V m c main_arg3 (ValueIdx.ix2 (0 : Fin 1) J) := by
  obtain ⟨-, -, -, -, -, -, -, e0, e1, -⟩ := idx_facts t
  show V m c main_arg3 (((cfg0.win 3).blk t).view.emb (i2 j)) = _
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * j.val = J.val; omega

theorem us_apply (c : Dev nD) (t : Fin cfg0.N) (j : Fin 512) (J : Fin 13312) (hJ : J.val = 512 * ((t.val - 1) % 26) + j.val) :
    usB m c t (i2 j) = V m c main_arg5 (ValueIdx.ix2 (0 : Fin 1) J) := by
  obtain ⟨-, -, -, -, -, -, -, -, -, e0, e1, -⟩ := idx_facts t
  show V m c main_arg5 (((cfg0.win 4).blk t).view.emb (i2 j)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * j.val = J.val; omega

/-- Index `(k, j)` of a weight block. -/
def iw (k : Fin 7424) (j : Fin 512) : S7424x512.Idx := fun a => match a with | ⟨0, _⟩ => k | ⟨1, _⟩ => j

theorem wg_apply (c : Dev nD) (t : Fin cfg0.N) (ht : t.val < 52) (k : Fin 7424) (j : Fin 512) (J : Fin 13312) (hJ : J.val = 512 * (t.val % 26) + j.val) :
    wgB m c t (iw k j) = V m c main_arg2 (ValueIdx.ix2 k J) := by
  obtain ⟨-, -, -, e0, e1, -⟩ := idx_facts t
  show V m c main_arg2 (((cfg0.win 1).blk t).view.emb (iw k j)) = _
  refine congrArg _ (funext fun a => Fin.ext ?_)
  match a with
  | ⟨0, _⟩ => show win0_1.index t (0 : Fin 2) * 7424 + 1 * k.val = k.val; omega
  | ⟨1, _⟩ => show win0_1.index t (1 : Fin 2) * 512 + 1 * j.val = J.val; rw [show min t.val 51 = t.val by omega] at e1; omega

theorem wu_apply (c : Dev nD) (t : Fin cfg0.N) (ht : t.val < 52) (k : Fin 7424) (j : Fin 512) (J : Fin 13312) (hJ : J.val = 512 * (t.val % 26) + j.val) :
    wuB m c t (iw k j) = V m c main_arg4 (ValueIdx.ix2 k J) := by
  obtain ⟨-, -, -, -, -, e0, e1, -⟩ := idx_facts t
  show V m c main_arg4 (((cfg0.win 2).blk t).view.emb (iw k j)) = _
  refine congrArg _ (funext fun a => Fin.ext ?_)
  match a with
  | ⟨0, _⟩ => show win0_2.index t (0 : Fin 2) * 7424 + 1 * k.val = k.val; omega
  | ⟨1, _⟩ => show win0_2.index t (1 : Fin 2) * 512 + 1 * j.val = J.val; rw [show min t.val 51 = t.val by omega] at e1; omega

/-! ## The sums of a step -/

/-- The codes of a row slab are the array's. -/
theorem xz_slab (C : IVec S2x2048x14848 8) (s b r k : ℕ) (hb : b < 2) (hr : r < 1024) (hs : 1024 * s + r < 2048) (hk : k < 14848) :
    xz (slab (F := Ideal) C s) b r k = cz C b (1024 * s + r) k := by
  unfold xz x8 cz
  rw [dif_pos ⟨hb, hr, hk⟩, dif_pos ⟨hb, hs, hk⟩]
  refine congrArg BitVec.toInt (congrArg C (funext fun a => Fin.ext ?_))
  match a with
  | ⟨0, _⟩ => rfl
  | ⟨1, _⟩ => exact Nat.mod_eq_of_lt hs
  | ⟨2, _⟩ => rfl

/-- The weights of a column block are the array's. -/
theorem wa_block (B : Vec Ideal S7424x512 .i8) (W : IVec S7424x13312 8) (q k j : ℕ)
    (h : ∀ (k : Fin 7424) (j : Fin 512) (J : Fin 13312), J.val = 512 * q + j.val → B (iw k j) = W (ValueIdx.ix2 k J))
    (hj : j < 512) (hq : 512 * q + j < 13312) (hk : k < 14848) : wa B k j = wc W k (512 * q + j) := by
  have hk' : k / 2 < 7424 := by omega
  unfold wa w8 wc
  rw [dif_pos ⟨hk', hj⟩, dif_pos ⟨hk', hq⟩]
  exact congrArg (fun v => wz v (k % 2)) (h ⟨k / 2, hk'⟩ ⟨j, hj⟩ ⟨512 * q + j, hq⟩ rfl)

theorem full_block (C : IVec S2x2048x14848 8) (B : Vec Ideal S7424x512 .i8) (W : IVec S7424x13312 8) (s q b r j : ℕ)
    (h : ∀ (k : Fin 7424) (j : Fin 512) (J : Fin 13312), J.val = 512 * q + j.val → B (iw k j) = W (ValueIdx.ix2 k J))
    (hb : b < 2) (hr : r < 1024) (hs : 1024 * s + r < 2048) (hj : j < 512) (hq : 512 * q + j < 13312) :
    full (slab (F := Ideal) C s) B b r j = gacc C W b (1024 * s + r) (512 * q + j) := by
  unfold full gacc
  refine Finset.sum_congr rfl fun k hk => ?_
  have hk' : k < 14848 := Finset.mem_range.1 hk
  exact congrArg₂ (fun x y : ℤ => x * y) (xz_slab C s b r k hb hr hs hk') (wa_block B W q k j h hj hq hk')

/-- What the program's accumulator holds after step `n`. -/
theorem acc_apply (c : Dev nD) (n : ℕ) (hn : n < 52) (b g : Fin 2) (r : Fin 1024) (j : Fin 512) :
    acc m c n (i4 b g r j)
      = E (gacc (codes m c) (if g.val = 0 then V m c main_arg2 else V m c main_arg4) b.val (1024 * (n / 26) + r.val) (512 * (n % 26) + j.val)) := by
  have hp : (pt n).val = n := Nat.mod_eq_of_lt (by omega)
  have hr := r.isLt
  have hj := j.isLt
  unfold acc
  refine (asm_E _ _ _ b g r j).trans (congrArg E ?_)
  by_cases h0 : g.val = 0
  · rw [if_pos h0, if_pos h0]
    exact full_block (codes m c) (wgB m c (pt n)) (V m c main_arg2) (n / 26) (n % 26) b.val r.val j.val
      (fun k j J hJ => wg_apply m c (pt n) (by omega) k j J (by rw [hp]; exact hJ)) b.isLt r.isLt (by omega) j.isLt (by omega)
  · rw [if_neg h0, if_neg h0]
    exact full_block (codes m c) (wuB m c (pt n)) (V m c main_arg4) (n / 26) (n % 26) b.val r.val j.val
      (fun k j J hJ => wu_apply m c (pt n) (by omega) k j J (by rw [hp]; exact hJ)) b.isLt r.isLt (by omega) j.isLt (by omega)

theorem acc_gate (c : Dev nD) (n : ℕ) (hn : n < 52) (b : Fin 2) (r : Fin 1024) (j : Fin 512) :
    acc m c n (i4 b 0 r j) = E (gacc (codes m c) (V m c main_arg2) b.val (1024 * (n / 26) + r.val) (512 * (n % 26) + j.val)) :=
  (acc_apply m c n hn b 0 r j).trans (congrArg (fun W => E (gacc (codes m c) W b.val (1024 * (n / 26) + r.val) (512 * (n % 26) + j.val))) (if_pos rfl))

theorem acc_up (c : Dev nD) (n : ℕ) (hn : n < 52) (b : Fin 2) (r : Fin 1024) (j : Fin 512) :
    acc m c n (i4 b 1 r j) = E (gacc (codes m c) (V m c main_arg4) b.val (1024 * (n / 26) + r.val) (512 * (n % 26) + j.val)) :=
  (acc_apply m c n hn b 1 r j).trans (congrArg (fun W => E (gacc (codes m c) W b.val (1024 * (n / 26) + r.val) (512 * (n % 26) + j.val))) (if_neg Nat.one_ne_zero))

theorem codes_eq (c : Dev nD) : codes m c = V m c main_arg0 := rfl

theorem epi1_eq (a s wg u wu : EReal) : (epi1 (F := Ideal) a s wg u wu : EReal) = out1 a s wg u wu := rfl

/-- The output as a function of the arguments. -/
def GK (c : Dev nD) : S2x2048x13312.Idx → EReal :=
  G (V m c main_arg0) (V m c main_arg1) (V m c main_arg2) (V m c main_arg3) (V m c main_arg4) (V m c main_arg5)

theorem GK_apply (c : Dev nD) (b : Fin 2) (R : Fin 2048) (J : Fin 13312) : GK m c (ValueIdx.ix3 b R J)
    = out1 (E (gacc (V m c main_arg0) (V m c main_arg2) b.val R.val J.val)) (V m c main_arg1 (ValueIdx.ix3 b R (0 : Fin 1)))
      (V m c main_arg3 (ValueIdx.ix2 (0 : Fin 1) J)) (E (gacc (V m c main_arg0) (V m c main_arg4) b.val R.val J.val))
      (V m c main_arg5 (ValueIdx.ix2 (0 : Fin 1) J)) := rfl

/-- An entry of the block a step leaves. -/
theorem outB_apply (c : Dev nD) (t : Fin cfg0.N) (ht : 0 < t.val) (b : Fin 2) (r : Fin 1024) (j : Fin 512) (R : Fin 2048) (J : Fin 13312)
    (hR : R.val = 1024 * ((t.val - 1) / 26) + r.val) (hJ : J.val = 512 * ((t.val - 1) % 26) + j.val) :
    outB m c t (ValueIdx.ix3 b r j) = GK m c (ValueIdx.ix3 b R J) := by
  have hN := lt53 t
  rw [GK_apply, ← xs_apply m c t b r R hR, ← gs_apply m c t j J hJ, ← us_apply m c t j J hJ, hR, hJ]
  have hA : prevAcc m c t.val = acc m c (t.val - 1) := if_neg (Nat.pos_iff_ne_zero.1 ht)
  have h0 := acc_gate m c (t.val - 1) (by omega) b r j
  have h1 := acc_up m c (t.val - 1) (by omega) b r j
  rw [codes_eq] at h0 h1
  rw [← h0, ← h1, ← hA]
  rfl

theorem ix_eq3 (j : S2x1024x512.Idx) : j = ValueIdx.ix3 (j 0 : Fin 2) (j 1 : Fin 1024) (j 2 : Fin 512) := ValueIdx.eq_ix3 j

theorem flushed_eq (c : Dev nD) (t : Fin cfg0.N) (ht : (cfg0.win 5).flush t = true) :
    (dats m 0 c).flushed 5 t = ((cfg0.win 5).blk t).view.read (Elt Ideal) (GK m c) := by
  have hpos : 0 < t.val := by rw [flush_facts] at ht; exact of_decide_eq_true ht
  have hN := lt53 t
  obtain ⟨-, -, -, -, -, -, -, -, -, -, -, e0, e1, e2⟩ := idx_facts t
  show (cfg0.win 5).cut (grid0.coords t) ((dats m 0 c).after 5 t) = _
  rw [after0_5]
  funext j
  show outB m c t j = GK m c (((cfg0.win 5).blk t).view.emb j)
  have h1 : (j 1).val < 1024 := (j 1).isLt
  have h2 : (j 2).val < 512 := (j 2).isLt
  have hE : ((cfg0.win 5).blk t).view.emb j = ValueIdx.ix3 (j 0 : Fin 2)
      (⟨1024 * ((t.val - 1) / 26) + (j 1).val, by omega⟩ : Fin 2048) (⟨512 * ((t.val - 1) % 26) + (j 2).val, by omega⟩ : Fin 13312) := by
    funext a; apply Fin.ext
    match a with
    | ⟨0, _⟩ => show win0_5.index t (0 : Fin 3) * 2 + 1 * (j 0).val = (j 0).val; omega
    | ⟨1, _⟩ => show win0_5.index t (1 : Fin 3) * 1024 + 1 * (j 1).val = 1024 * ((t.val - 1) / 26) + (j 1).val; omega
    | ⟨2, _⟩ => show win0_5.index t (2 : Fin 3) * 512 + 1 * (j 2).val = 512 * ((t.val - 1) % 26) + (j 2).val; omega
  rw [hE]
  exact (congrArg (outB m c t) (ix_eq3 j)).trans (outB_apply m c t hpos (j 0) (j 1) (j 2) _ _ rfl rfl)

theorem mem_blk (t : Fin cfg0.N) (i : S2x2048x13312.Idx) : i ∈ ((cfg0.win 5).blk t).view.set ↔
    ∀ a : Fin 3, win0_5.index t a * S2x1024x512.size a ≤ (i a).val ∧ (i a).val < win0_5.index t a * S2x1024x512.size a + S2x1024x512.size a := by
  show i ∈ ((View.whole main_v0).slice (win0_5.rect t)).set ↔ _
  rw [View.set_slice_whole, Rect.mem_set_unit]; exact Iff.rfl

theorem covered (i : S2x2048x13312.Idx) : ∃ t : Fin cfg0.N, (cfg0.win 5).flush t = true ∧ i ∈ ((cfg0.win 5).blk t).view.set := by
  have h0 : (i 0).val < 2 := (i 0).isLt
  have h1 : (i 1).val < 2048 := (i 1).isLt
  have h2 : (i 2).val < 13312 := (i 2).isLt
  have hp : (pt (26 * ((i 1).val / 1024) + (i 2).val / 512 + 1)).val = 26 * ((i 1).val / 1024) + (i 2).val / 512 + 1 :=
    Nat.mod_eq_of_lt (by omega)
  refine ⟨pt (26 * ((i 1).val / 1024) + (i 2).val / 512 + 1), ?_, ?_⟩
  · rw [flush_facts, hp]; exact decide_eq_true (Nat.succ_pos _)
  rw [mem_blk]
  obtain ⟨-, -, -, -, -, -, -, -, -, -, -, e0, e1, e2⟩ := idx_facts (pt (26 * ((i 1).val / 1024) + (i 2).val / 512 + 1))
  rw [hp] at e1 e2
  intro a
  match a with
  | ⟨0, _⟩ => show win0_5.index (pt _) (0 : Fin 3) * 2 ≤ (i 0).val ∧ (i 0).val < win0_5.index (pt _) (0 : Fin 3) * 2 + 2; omega
  | ⟨1, _⟩ => show win0_5.index (pt _) (1 : Fin 3) * 1024 ≤ (i 1).val ∧ (i 1).val < win0_5.index (pt _) (1 : Fin 3) * 1024 + 1024; omega
  | ⟨2, _⟩ => show win0_5.index (pt _) (2 : Fin 3) * 512 ≤ (i 2).val ∧ (i 2).val < win0_5.index (pt _) (2 : Fin 3) * 512 + 512; omega

/-- The whole output array after the run. -/
theorem out_eq (c : Dev nD) : (dats m 0 c).arrAt 5 cfg0.N = GK m c :=
  (dats m 0 c).arrAt_eq_of_cover 5 _ (fun t ht => flushed_eq m c t ht) covered

end Cert.Proof.GateUp.KernelIdeal

end
-- ==== Proof.GateUp.lean ====
/-
  The gate and up kernel against its reference: the two results are equal.
-/
module

public import proofs.«01_k».proof.Proof.GateKernel
public import proofs.«01_k».proof.Proof.GateRef
public import Idealize.ShloMosaic.Lib.Quiescent

@[expose] public section

set_option maxRecDepth 16384

noncomputable section

namespace Cert.Proof.GateUp

open Idealize.ShloMosaic Idealize.ShloMosaic.TcCoe Idealize.SL.Sem

namespace KernelIdeal

open Cert.KernelIdeal Cert.KernelIdeal.Gen

/-- The run, with the result array named. -/
theorem run (m : (ℓ : Loc nD τ sig) → Buf (Elt Ideal) ℓ) (ρ : Dev nD → PrngReg) :
    θ_run defs (onTc (τ := τ) (Cert.KernelIdeal.main (F := Ideal))) ⟨m, fun _ => 0, ρ⟩ (fun r => ∀ c : Dev nD,
      r.2.mem ((c.tc : Thread nD τ).loc main_v0) = GK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h' c => have h := h'.1
     ⟨((h c).1 5).trans (out_eq m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 2).trans (((dats m 0 c).arrAt_in 2 rfl _).trans ((A_eq m c 2).trans (V_main_arg4 m c))),
      ((h c).1 4).trans (((dats m 0 c).arrAt_in 4 rfl _).trans ((A_eq m c 4).trans (V_main_arg5 m c)))⟩) (run_main m ρ)

end KernelIdeal

namespace ReferenceIdeal

open Cert.ReferenceIdeal Cert.ReferenceIdeal.Gen

/-- The reference ends with its arguments unchanged; it has no semaphore. -/
theorem frame_run (m : (ℓ : Loc nD τ sig) → Buf (Elt Ideal) ℓ) (ρ : Dev nD → PrngReg) :
    θ_run defs (onTc (τ := τ) (Cert.ReferenceIdeal.main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, sem_eq_zero_of_no_sems (by decide) r.2⟩) (Cert.ReferenceIdeal.Value.run m ρ)

end ReferenceIdeal

theorem algebraic :
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg),
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) := by
  intro m g m' g' hm
  refine ⟨fun c => KernelIdeal.GK m c, KernelIdeal.run m g, ?_⟩
  refine (θ_run _ _ _).mono (fun r h c => ⟨?_, (h c).2⟩) (Cert.ReferenceIdeal.Value.run m' g')
  obtain ⟨a0, a1, a2, a3, a4, a5⟩ := hm c
  refine (h c).1.trans ((ReferenceIdeal.res_G m' c).trans ?_)
  rw [a0, a1, a2, a3, a4, a5]
  rfl

end Cert.Proof.GateUp

end
-- ==== Proof.QuantRows.lean ====
/- Hand-written. THE QUANTISER, row by row, at the ideal values: a row's scale is its greatest absolute value over 127 (1 for a row
   of zeros), and a code is the value over the scale, rounded to even, clipped to -127..127 and converted. -/
module

public import Idealize.ShloMosaic.Init
public import Idealize.ShloMosaic.PureOps.Ideal.Laws

@[expose] public section

set_option maxRecDepth 16384

noncomputable section

namespace Cert.Proof.Quant

open Idealize.ShloMosaic

/-- The greatest absolute value of a row. -/
def rowMax (r : Fin 14848 → Ideal .bf16) : Ideal .f32 :=
  (Finset.univ : Finset (Fin 14848)).fold max (FloatOps.ofBits (F := Ideal) .f32 0xFF800000#32)
    fun k => FloatOps.absf (FloatOps.extf .f32 (by decide) (r k))

/-- The scale of a row, from its greatest absolute value (read twice). -/
def scale (a b : Ideal .f32) : Ideal .f32 :=
  Scalar.select (FloatOps.cmpf .oeq a (Scalar.ofBits .f32 0x00000000#32)) (Scalar.ofBits .f32 0x3F800000#32)
    (FloatOps.divf b (Scalar.ofBits .f32 0x42FE0000#32))

/-- A value's code at a scale. -/
def code (x : Ideal .bf16) (s : Ideal .f32) : BitVec 8 :=
  FloatOps.fptosi 8 (FloatOps.minimumf (Scalar.ofBits .f32 0x42FE0000#32) (FloatOps.maximumf (Scalar.ofBits .f32 0xC2FE0000#32)
    (FloatOps.roundeven (FloatOps.divf (FloatOps.extf .f32 (by decide) x) s))))

/-- A row's scale. -/
def rowScale (r : Fin 14848 → Ideal .bf16) : Ideal .f32 := scale (rowMax r) (rowMax r)

/-- A row's code in column `j`. -/
def rowCode (r : Fin 14848 → Ideal .bf16) (j : Fin 14848) : BitVec 8 := code (r j) (rowScale r)

end Cert.Proof.Quant

end
-- ==== Proof.QuantKernel.lean ====
/- Hand-written. WHAT `QuantiseIdeal` LEAVES IN ITS TWO RESULT ARRAYS, as one function of the argument: row by row the quantiser
   of QuantRows. -/
module

public import proofs.«01_k».proof.Proof.Gen.QuantiseIdeal.Value
public import proofs.«01_k».proof.Proof.QuantRows

@[expose] public section

set_option maxRecDepth 16384

noncomputable section

namespace Cert.Proof.Quant.QuantiseIdeal

open Cert.QuantiseIdeal Cert.QuantiseIdeal.Gen Cert.QuantiseIdeal.Value Idealize.ShloMosaic Idealize.ShloMosaic.TcCoe Idealize.SL.Sem

/-- Row `i`, column `k` of a block. -/
def bix (i : Fin 128) (k : Fin 14848) : S128x14848.Idx := fun a => match a with | ⟨0, _⟩ => i | ⟨1, _⟩ => k

/-- Row `i`, column `k` of the array. -/
def aix (i : Fin 4096) (k : Fin 14848) : S4096x14848.Idx := fun a => match a with | ⟨0, _⟩ => i | ⟨1, _⟩ => k

/-- The block's maximum reduction over a row's lanes is the row's maximum. -/
theorem max_eq (P : Vec Ideal S128x14848 .bf16) (j : S128.Idx) :
    multiReduction .maximumf [1] S128 (absf (extf .f32 (shapeCast S128x14848 P shapeCasts_S128x14848_S128x14848) bitsLt_bf16_f32))
      0xFF800000#32 reduces_S128x14848_S128 (.inl rfl) rfl j = rowMax (fun k => P (bix (j 0) k)) := by
  refine (Ideal.multiReduction_maximumf_single _ _ _ _ _ j).trans ?_
  unfold rowMax
  refine congrArg (fun f => Finset.fold max (FloatOps.ofBits (F := Ideal) .f32 0xFF800000#32) f (Finset.univ : Finset (Fin 14848))) (funext fun k => ?_)
  show FloatOps.absf (F := Ideal) (FloatOps.extf (F := Ideal) (φ := .bf16) .f32 bitsLt_bf16_f32 (shapeCast S128x14848 P shapeCasts_S128x14848_S128x14848 (reduces_S128x14848_S128.lift j k))) = _
  rw [shapeCast_self]
  refine congrArg (fun x => FloatOps.absf (F := Ideal) (FloatOps.extf (F := Ideal) (φ := .bf16) .f32 bitsLt_bf16_f32 (P x))) (funext fun a => Fin.ext ?_)
  match a with
  | ⟨0, _⟩ => rfl
  | ⟨1, _⟩ => rfl

theorem E1_eq (P : Vec Ideal S128x14848 .bf16) (y : S128x14848.Idx) : E1 P y = rowCode (fun k => P (bix (y 0) k)) (y 1) := by
  have h0 := max_eq P (ix1_1 y)
  have h1 := max_eq P (ix1_2 y)
  have hi : ix1_0 y = bix (y 0) (y 1) := by
    funext a
    match a with
    | ⟨0, _⟩ => rfl
    | ⟨1, _⟩ => rfl
  exact (congrArg₂ (fun a b => code (P (ix1_0 y)) (scale a b)) h0 h1).trans (congrArg (fun i => code (P i) _) hi)

theorem E2_eq (P : Vec Ideal S128x14848 .bf16) (y : S128x1.Idx) : E2 P y = rowScale (fun k => P (bix (y 0) k)) := by
  exact congrArg₂ scale (max_eq P (ix2_0 y)) (max_eq P (ix2_1 y))

/-- The codes as one function of the flattened argument. -/
def G1 (X : Vec Ideal S4096x14848 .bf16) : Vec Ideal S4096x14848 .i8 := fun i => rowCode (fun k => X (aix (i 0) k)) (i 1)
/-- The scales as one function of the flattened argument. -/
def G2 (X : Vec Ideal S4096x14848 .bf16) : Vec Ideal S4096x1 .f32 := fun i => rowScale (fun k => X (aix (i 0) k))

variable (m : (ℓ : Loc nD τ sig) → Buf (Elt Ideal) ℓ) (ρ : Dev nD → PrngReg)

theorem hz : (![0, 0] : Fin 2 → Nat) = fun _ => 0 := funext fun a => by fin_cases a <;> rfl

/-- The three windows' block indices at a grid point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- An input block's entry is the array's entry in the point's rows. -/
theorem blk_apply (c : Dev nD) (t : Fin cfg0.N) (i : Fin 128) (h : t.val * 128 + i.val < 4096) (k : Fin 14848) :
    iblk m c 0 t (bix i k) = V m c main_v0 (aix ⟨t.val * 128 + i.val, h⟩ k) := by
  obtain ⟨e0, e1, -, -, -, -⟩ := idx_facts t
  show V m c main_v0 (((cfg0.win 0).blk t).view.emb (bix i k)) = _
  refine congrArg _ (funext fun a => Fin.ext ?_)
  match a with
  | ⟨0, _⟩ => show win0_0.index t (0 : Fin 2) * 128 + 1 * i.val = t.val * 128 + i.val; omega
  | ⟨1, _⟩ => show win0_0.index t (1 : Fin 2) * 14848 + 1 * k.val = k.val; omega

theorem lt_rows (t : Fin cfg0.N) (i : Fin 128) : t.val * 128 + i.val < 4096 := by
  have h : t.val < 32 := t.isLt
  have := i.isLt; omega

theorem flushed1_eq (c : Dev nD) (t : Fin cfg0.N) :
    (dats m 0 c).flushed 1 t = ((cfg0.win 1).blk t).view.read (Elt Ideal) (G1 (V m c main_v0)) := by
  rw [flushed1]
  obtain ⟨-, -, e0, e1, -, -⟩ := idx_facts t
  funext j
  show out0_1 (iblk m c 0 t) j = G1 (V m c main_v0) (((cfg0.win 1).blk t).view.emb j)
  have hE : ((cfg0.win 1).blk t).view.emb j = aix ⟨t.val * 128 + (j 0).val, lt_rows t (j 0)⟩ (j 1) := by
    funext a; apply Fin.ext
    match a with
    | ⟨0, _⟩ => show win0_1.index t (0 : Fin 2) * 128 + 1 * (j 0).val = t.val * 128 + (j 0).val; omega
    | ⟨1, _⟩ => show win0_1.index t (1 : Fin 2) * 14848 + 1 * (j 1).val = (j 1).val; omega
  rw [hE]
  refine (canon1_eq _ j).trans ((E1_eq _ j).trans ?_)
  refine (congrArg (fun P : Vec Ideal S128x14848 .bf16 => rowCode (fun k => P (bix (j 0) k)) (j 1)) (View.ld_unit_zero hz _ _)).trans ?_
  exact congrArg (fun r => rowCode r (j 1)) (funext fun k => blk_apply m c t (j 0) (lt_rows t (j 0)) k)

theorem flushed2_eq (c : Dev nD) (t : Fin cfg0.N) :
    (dats m 0 c).flushed 2 t = ((cfg0.win 2).blk t).view.read (Elt Ideal) (G2 (V m c main_v0)) := by
  rw [flushed2]
  obtain ⟨-, -, -, -, e0, e1⟩ := idx_facts t
  funext j
  show out0_2 (iblk m c 0 t) j = rowScale (fun k => V m c main_v0 (aix (((cfg0.win 2).blk t).view.emb j 0) k))
  have hE : ((cfg0.win 2).blk t).view.emb j 0 = (⟨t.val * 128 + (j 0).val, lt_rows t (j 0)⟩ : Fin 4096) := by
    apply Fin.ext
    show win0_2.index t (0 : Fin 2) * 128 + 1 * (j 0).val = t.val * 128 + (j 0).val; omega
  rw [hE]
  refine (canon2_eq _ j).trans ((E2_eq _ j).trans ?_)
  refine (congrArg (fun P : Vec Ideal S128x14848 .bf16 => rowScale (fun k => P (bix (j 0) k))) (View.ld_unit_zero hz _ _)).trans ?_
  exact congrArg rowScale (funext fun k => blk_apply m c t (j 0) (lt_rows t (j 0)) k)

theorem mem_blk1 (t : Fin cfg0.N) (i : S4096x14848.Idx) : i ∈ ((cfg0.win 1).blk t).view.set ↔
    ∀ a : Fin 2, win0_1.index t a * S128x14848.size a ≤ (i a).val ∧ (i a).val < win0_1.index t a * S128x14848.size a + S128x14848.size a := by
  show i ∈ ((View.whole main_v1_0).slice (win0_1.rect t)).set ↔ _
  rw [View.set_slice_whole, Rect.mem_set_unit]; exact Iff.rfl

theorem mem_blk2 (t : Fin cfg0.N) (i : S4096x1.Idx) : i ∈ ((cfg0.win 2).blk t).view.set ↔
    ∀ a : Fin 2, win0_2.index t a * S128x1.size a ≤ (i a).val ∧ (i a).val < win0_2.index t a * S128x1.size a + S128x1.size a := by
  show i ∈ ((View.whole main_v1_1).slice (win0_2.rect t)).set ↔ _
  rw [View.set_slice_whole, Rect.mem_set_unit]; exact Iff.rfl

/-- The point whose blocks hold row `i`. -/
def pt (i : Fin 4096) : Fin cfg0.N := ⟨i.val / 128, by show i.val / 128 < 32; omega⟩

theorem covered1 (i : S4096x14848.Idx) : ∃ t : Fin cfg0.N, (cfg0.win 1).flush t = true ∧ i ∈ ((cfg0.win 1).blk t).view.set := by
  refine ⟨pt (i 0), flush0_1 _, ?_⟩
  rw [mem_blk1]
  obtain ⟨-, -, e0, e1, -, -⟩ := idx_facts (pt (i 0))
  have hp : (pt (i 0)).val = (i 0).val / 128 := rfl
  have h0 : (i 0).val < 4096 := (i 0).isLt
  have h1 : (i 1).val < 14848 := (i 1).isLt
  intro a
  match a with
  | ⟨0, _⟩ => show win0_1.index (pt (i 0)) (0 : Fin 2) * 128 ≤ (i 0).val ∧ (i 0).val < win0_1.index (pt (i 0)) (0 : Fin 2) * 128 + 128; omega
  | ⟨1, _⟩ => show win0_1.index (pt (i 0)) (1 : Fin 2) * 14848 ≤ (i 1).val ∧ (i 1).val < win0_1.index (pt (i 0)) (1 : Fin 2) * 14848 + 14848; omega

theorem covered2 (i : S4096x1.Idx) : ∃ t : Fin cfg0.N, (cfg0.win 2).flush t = true ∧ i ∈ ((cfg0.win 2).blk t).view.set := by
  refine ⟨pt (i 0), flush0_2 _, ?_⟩
  rw [mem_blk2]
  obtain ⟨-, -, -, -, e0, e1⟩ := idx_facts (pt (i 0))
  have hp : (pt (i 0)).val = (i 0).val / 128 := rfl
  have h0 : (i 0).val < 4096 := (i 0).isLt
  have h1 : (i 1).val < 1 := (i 1).isLt
  intro a
  match a with
  | ⟨0, _⟩ => show win0_2.index (pt (i 0)) (0 : Fin 2) * 128 ≤ (i 0).val ∧ (i 0).val < win0_2.index (pt (i 0)) (0 : Fin 2) * 128 + 128; omega
  | ⟨1, _⟩ => show win0_2.index (pt (i 0)) (1 : Fin 2) * 1 ≤ (i 1).val ∧ (i 1).val < win0_2.index (pt (i 0)) (1 : Fin 2) * 1 + 1; omega

/-- The argument flattened to rows. -/
def X (c : Dev nD) : Vec Ideal S4096x14848 .bf16 :=
  shapeCast S4096x14848 (m ((c : Thread nD τ).loc main_arg0) : Vec Ideal S2x2048x14848 .bf16) shapeCasts_S2x2048x14848_S4096x14848

theorem V_main_v0 (c : Dev nD) : V m c main_v0 = X m c := by
  show StableHlo.after hostOps0 _ _ = _
  unfold hostOps0
  after_results
  rfl

/-- The run, with the two result arrays named. -/
theorem run : θ_run defs (onTc (τ := τ) (main (F := Ideal))) ⟨m, fun _ => 0, ρ⟩ fun r => ∀ c : Dev nD,
      r.2.mem ((c : Thread nD τ).loc main_v1_0) = G1 (X m c)
      ∧ r.2.mem ((c : Thread nD τ).loc main_v1_1) = G2 (X m c)
      ∧ r.2.mem ((c : Thread nD τ).loc main_arg0) = m ((c : Thread nD τ).loc main_arg0) := by
  refine (θ_run defs _ _).mono (fun r h c => ⟨(h c).1.trans ?_, (h c).2.1.trans ?_, (h c).2.2⟩) (run_blocks m ρ)
  · rw [← V_main_v0 m c]; exact (dats m 0 c).arrAt_eq_of_cover 1 _ (fun t _ => flushed1_eq m c t) covered1
  · rw [← V_main_v0 m c]; exact (dats m 0 c).arrAt_eq_of_cover 2 _ (fun t _ => flushed2_eq m c t) covered2

end Cert.Proof.Quant.QuantiseIdeal

end
-- ==== Proof.QuantRef.lean ====
/- Hand-written. WHAT `QuantiseReferenceIdeal` LEAVES IN ITS TWO RESULT ARRAYS, as one function of the argument: row by row the quantiser
   of QuantRows. -/
module

public import proofs.«01_k».proof.Proof.Gen.QuantiseReferenceIdeal.Value
public import proofs.«01_k».proof.Proof.QuantRows

@[expose] public section

set_option maxRecDepth 16384

noncomputable section

namespace Cert.Proof.Quant.QuantiseReferenceIdeal

open Cert.QuantiseReferenceIdeal Cert.QuantiseReferenceIdeal.Gen Cert.QuantiseReferenceIdeal.Value Idealize.ShloMosaic Idealize.ShloMosaic.TcCoe Idealize.SL.Sem

/-- Row `i`, column `k` of a block. -/
def bix (i : Fin 4096) (k : Fin 14848) : S4096x14848.Idx := fun a => match a with | ⟨0, _⟩ => i | ⟨1, _⟩ => k

/-- Row `i`, column `k` of the array. -/
def aix (i : Fin 4096) (k : Fin 14848) : S4096x14848.Idx := fun a => match a with | ⟨0, _⟩ => i | ⟨1, _⟩ => k

/-- The block's maximum reduction over a row's lanes is the row's maximum. -/
theorem max_eq (P : Vec Ideal S4096x14848 .bf16) (j : S4096.Idx) :
    multiReduction .maximumf [1] S4096 (absf (extf .f32 (shapeCast S4096x14848 P shapeCasts_S4096x14848_S4096x14848) bitsLt_bf16_f32))
      0xFF800000#32 reduces_S4096x14848_S4096 (.inl rfl) rfl j = rowMax (fun k => P (bix (j 0) k)) := by
  refine (Ideal.multiReduction_maximumf_single _ _ _ _ _ j).trans ?_
  unfold rowMax
  refine congrArg (fun f => Finset.fold max (FloatOps.ofBits (F := Ideal) .f32 0xFF800000#32) f (Finset.univ : Finset (Fin 14848))) (funext fun k => ?_)
  show FloatOps.absf (F := Ideal) (FloatOps.extf (F := Ideal) (φ := .bf16) .f32 bitsLt_bf16_f32 (shapeCast S4096x14848 P shapeCasts_S4096x14848_S4096x14848 (reduces_S4096x14848_S4096.lift j k))) = _
  rw [shapeCast_self]
  refine congrArg (fun x => FloatOps.absf (F := Ideal) (FloatOps.extf (F := Ideal) (φ := .bf16) .f32 bitsLt_bf16_f32 (P x))) (funext fun a => Fin.ext ?_)
  match a with
  | ⟨0, _⟩ => rfl
  | ⟨1, _⟩ => rfl

theorem E1_eq (P : Vec Ideal S4096x14848 .bf16) (y : S4096x14848.Idx) : E1 P y = rowCode (fun k => P (bix (y 0) k)) (y 1) := by
  have h0 := max_eq P (ix1_1 y)
  have h1 := max_eq P (ix1_2 y)
  have hi : ix1_0 y = bix (y 0) (y 1) := by
    funext a
    match a with
    | ⟨0, _⟩ => rfl
    | ⟨1, _⟩ => rfl
  exact (congrArg₂ (fun a b => code (P (ix1_0 y)) (scale a b)) h0 h1).trans (congrArg (fun i => code (P i) _) hi)

theorem E2_eq (P : Vec Ideal S4096x14848 .bf16) (y : S4096x1.Idx) : E2 P y = rowScale (fun k => P (bix (y 0) k)) := by
  exact congrArg₂ scale (max_eq P (ix2_0 y)) (max_eq P (ix2_1 y))

/-- The codes as one function of the flattened argument. -/
def G1 (X : Vec Ideal S4096x14848 .bf16) : Vec Ideal S4096x14848 .i8 := fun i => rowCode (fun k => X (aix (i 0) k)) (i 1)
/-- The scales as one function of the flattened argument. -/
def G2 (X : Vec Ideal S4096x14848 .bf16) : Vec Ideal S4096x1 .f32 := fun i => rowScale (fun k => X (aix (i 0) k))

variable (m : (ℓ : Loc nD τ sig) → Buf (Elt Ideal) ℓ) (ρ : Dev nD → PrngReg)

theorem hz : (![0, 0] : Fin 2 → Nat) = fun _ => 0 := funext fun a => by fin_cases a <;> rfl

/-- The three windows' block indices at a grid point. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- An input block's entry is the array's entry in the point's rows. -/
theorem blk_apply (c : Dev nD) (t : Fin cfg0.N) (i : Fin 4096) (h : t.val * 4096 + i.val < 4096) (k : Fin 14848) :
    iblk m c 0 t (bix i k) = V m c main_v0 (aix ⟨t.val * 4096 + i.val, h⟩ k) := by
  obtain ⟨e0, e1, -, -, -, -⟩ := idx_facts t
  show V m c main_v0 (((cfg0.win 0).blk t).view.emb (bix i k)) = _
  refine congrArg _ (funext fun a => Fin.ext ?_)
  match a with
  | ⟨0, _⟩ => show win0_0.index t (0 : Fin 2) * 4096 + 1 * i.val = t.val * 4096 + i.val; omega
  | ⟨1, _⟩ => show win0_0.index t (1 : Fin 2) * 14848 + 1 * k.val = k.val; omega

theorem lt_rows (t : Fin cfg0.N) (i : Fin 4096) : t.val * 4096 + i.val < 4096 := by
  have h : t.val < 1 := t.isLt
  have := i.isLt; omega

theorem flushed1_eq (c : Dev nD) (t : Fin cfg0.N) :
    (dats m 0 c).flushed 1 t = ((cfg0.win 1).blk t).view.read (Elt Ideal) (G1 (V m c main_v0)) := by
  rw [flushed1]
  obtain ⟨-, -, e0, e1, -, -⟩ := idx_facts t
  funext j
  show out0_1 (iblk m c 0 t) j = G1 (V m c main_v0) (((cfg0.win 1).blk t).view.emb j)
  have hE : ((cfg0.win 1).blk t).view.emb j = aix ⟨t.val * 4096 + (j 0).val, lt_rows t (j 0)⟩ (j 1) := by
    funext a; apply Fin.ext
    match a with
    | ⟨0, _⟩ => show win0_1.index t (0 : Fin 2) * 4096 + 1 * (j 0).val = t.val * 4096 + (j 0).val; omega
    | ⟨1, _⟩ => show win0_1.index t (1 : Fin 2) * 14848 + 1 * (j 1).val = (j 1).val; omega
  rw [hE]
  refine (canon1_eq _ j).trans ((E1_eq _ j).trans ?_)
  refine (congrArg (fun P : Vec Ideal S4096x14848 .bf16 => rowCode (fun k => P (bix (j 0) k)) (j 1)) (View.ld_unit_zero hz _ _)).trans ?_
  exact congrArg (fun r => rowCode r (j 1)) (funext fun k => blk_apply m c t (j 0) (lt_rows t (j 0)) k)

theorem flushed2_eq (c : Dev nD) (t : Fin cfg0.N) :
    (dats m 0 c).flushed 2 t = ((cfg0.win 2).blk t).view.read (Elt Ideal) (G2 (V m c main_v0)) := by
  rw [flushed2]
  obtain ⟨-, -, -, -, e0, e1⟩ := idx_facts t
  funext j
  show out0_2 (iblk m c 0 t) j = rowScale (fun k => V m c main_v0 (aix (((cfg0.win 2).blk t).view.emb j 0) k))
  have hE : ((cfg0.win 2).blk t).view.emb j 0 = (⟨t.val * 4096 + (j 0).val, lt_rows t (j 0)⟩ : Fin 4096) := by
    apply Fin.ext
    show win0_2.index t (0 : Fin 2) * 4096 + 1 * (j 0).val = t.val * 4096 + (j 0).val; omega
  rw [hE]
  refine (canon2_eq _ j).trans ((E2_eq _ j).trans ?_)
  refine (congrArg (fun P : Vec Ideal S4096x14848 .bf16 => rowScale (fun k => P (bix (j 0) k))) (View.ld_unit_zero hz _ _)).trans ?_
  exact congrArg rowScale (funext fun k => blk_apply m c t (j 0) (lt_rows t (j 0)) k)

theorem mem_blk1 (t : Fin cfg0.N) (i : S4096x14848.Idx) : i ∈ ((cfg0.win 1).blk t).view.set ↔
    ∀ a : Fin 2, win0_1.index t a * S4096x14848.size a ≤ (i a).val ∧ (i a).val < win0_1.index t a * S4096x14848.size a + S4096x14848.size a := by
  show i ∈ ((View.whole main_v1_0).slice (win0_1.rect t)).set ↔ _
  rw [View.set_slice_whole, Rect.mem_set_unit]; exact Iff.rfl

theorem mem_blk2 (t : Fin cfg0.N) (i : S4096x1.Idx) : i ∈ ((cfg0.win 2).blk t).view.set ↔
    ∀ a : Fin 2, win0_2.index t a * S4096x1.size a ≤ (i a).val ∧ (i a).val < win0_2.index t a * S4096x1.size a + S4096x1.size a := by
  show i ∈ ((View.whole main_v1_1).slice (win0_2.rect t)).set ↔ _
  rw [View.set_slice_whole, Rect.mem_set_unit]; exact Iff.rfl

/-- The point whose blocks hold row `i`. -/
def pt (i : Fin 4096) : Fin cfg0.N := ⟨i.val / 4096, by show i.val / 4096 < 1; omega⟩

theorem covered1 (i : S4096x14848.Idx) : ∃ t : Fin cfg0.N, (cfg0.win 1).flush t = true ∧ i ∈ ((cfg0.win 1).blk t).view.set := by
  refine ⟨pt (i 0), flush0_1 _, ?_⟩
  rw [mem_blk1]
  obtain ⟨-, -, e0, e1, -, -⟩ := idx_facts (pt (i 0))
  have hp : (pt (i 0)).val = (i 0).val / 4096 := rfl
  have h0 : (i 0).val < 4096 := (i 0).isLt
  have h1 : (i 1).val < 14848 := (i 1).isLt
  intro a
  match a with
  | ⟨0, _⟩ => show win0_1.index (pt (i 0)) (0 : Fin 2) * 4096 ≤ (i 0).val ∧ (i 0).val < win0_1.index (pt (i 0)) (0 : Fin 2) * 4096 + 4096; omega
  | ⟨1, _⟩ => show win0_1.index (pt (i 0)) (1 : Fin 2) * 14848 ≤ (i 1).val ∧ (i 1).val < win0_1.index (pt (i 0)) (1 : Fin 2) * 14848 + 14848; omega

theorem covered2 (i : S4096x1.Idx) : ∃ t : Fin cfg0.N, (cfg0.win 2).flush t = true ∧ i ∈ ((cfg0.win 2).blk t).view.set := by
  refine ⟨pt (i 0), flush0_2 _, ?_⟩
  rw [mem_blk2]
  obtain ⟨-, -, -, -, e0, e1⟩ := idx_facts (pt (i 0))
  have hp : (pt (i 0)).val = (i 0).val / 4096 := rfl
  have h0 : (i 0).val < 4096 := (i 0).isLt
  have h1 : (i 1).val < 1 := (i 1).isLt
  intro a
  match a with
  | ⟨0, _⟩ => show win0_2.index (pt (i 0)) (0 : Fin 2) * 4096 ≤ (i 0).val ∧ (i 0).val < win0_2.index (pt (i 0)) (0 : Fin 2) * 4096 + 4096; omega
  | ⟨1, _⟩ => show win0_2.index (pt (i 0)) (1 : Fin 2) * 1 ≤ (i 1).val ∧ (i 1).val < win0_2.index (pt (i 0)) (1 : Fin 2) * 1 + 1; omega

/-- The argument flattened to rows. -/
def X (c : Dev nD) : Vec Ideal S4096x14848 .bf16 :=
  shapeCast S4096x14848 (m ((c : Thread nD τ).loc main_arg0) : Vec Ideal S2x2048x14848 .bf16) shapeCasts_S2x2048x14848_S4096x14848

theorem V_main_v0 (c : Dev nD) : V m c main_v0 = X m c := by
  show StableHlo.after hostOps0 _ _ = _
  unfold hostOps0
  after_results
  rfl

/-- The run, with the two result arrays named. -/
theorem run : θ_run defs (onTc (τ := τ) (main (F := Ideal))) ⟨m, fun _ => 0, ρ⟩ fun r => ∀ c : Dev nD,
      r.2.mem ((c : Thread nD τ).loc main_v1_0) = G1 (X m c)
      ∧ r.2.mem ((c : Thread nD τ).loc main_v1_1) = G2 (X m c)
      ∧ r.2.mem ((c : Thread nD τ).loc main_arg0) = m ((c : Thread nD τ).loc main_arg0) := by
  refine (θ_run defs _ _).mono (fun r h c => ⟨(h c).1.trans ?_, (h c).2.1.trans ?_, (h c).2.2⟩) (run_blocks m ρ)
  · rw [← V_main_v0 m c]; exact (dats m 0 c).arrAt_eq_of_cover 1 _ (fun t _ => flushed1_eq m c t) covered1
  · rw [← V_main_v0 m c]; exact (dats m 0 c).arrAt_eq_of_cover 2 _ (fun t _ => flushed2_eq m c t) covered2

end Cert.Proof.Quant.QuantiseReferenceIdeal

end
-- ==== Proof.Quant.lean ====
/- Hand-written. THE QUANTISER'S KERNEL AGAINST ITS REFERENCE: both results equal. -/
module

public import proofs.«01_k».proof.Proof.QuantKernel
public import proofs.«01_k».proof.Proof.QuantRef

@[expose] public section

set_option maxRecDepth 16384

noncomputable section

namespace Cert.Proof.Quant

open Idealize.ShloMosaic Idealize.ShloMosaic.TcCoe Idealize.SL.Sem

theorem algebraic : ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg),
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v1_0)) (v1 : (c : Dev Cert.QuantiseIdeal.nD) → Buf (Elt Ideal) ((c.tc : Thread Cert.QuantiseIdeal.nD Cert.QuantiseIdeal.τ).loc Cert.QuantiseIdeal.main_v1_1)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v1_0) = v0 c
          ∧ r.2.mem ((c.tc : Thread Cert.QuantiseIdeal.nD Cert.QuantiseIdeal.τ).loc Cert.QuantiseIdeal.main_v1_1) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v1_0) = v0 c
          ∧ r.2.mem ((c.tc : Thread Cert.QuantiseReferenceIdeal.nD Cert.QuantiseReferenceIdeal.τ).loc Cert.QuantiseReferenceIdeal.main_v1_1) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)) := by
  intro m g m' g' hm
  refine ⟨fun c => QuantiseIdeal.G1 (QuantiseIdeal.X m c), fun c => QuantiseIdeal.G2 (QuantiseIdeal.X m c), QuantiseIdeal.run m g, ?_⟩
  refine (θ_run _ _ _).mono (fun r h c => ?_) (QuantiseReferenceIdeal.run m' g')
  have hX : QuantiseReferenceIdeal.X m' c = QuantiseIdeal.X m c := by
    unfold QuantiseReferenceIdeal.X QuantiseIdeal.X
    exact congrArg (fun v => shapeCast _ v _) (hm c)
  obtain ⟨h1, h2, h3⟩ := h c
  rw [hX] at h1 h2
  exact ⟨h1, h2, h3⟩

end Cert.Proof.Quant

end
-- ==== Proof.lean ====
/- Hand-written. THE CLAIMS: the frames of the gate and up kernel (Proof/KernelFrame.lean, Proof/KernelIdealFrame.lean) and of its
   reference, and its result equal to the reference's (Proof/GateUp.lean); the quantiser's frames, which are the generated ones,
   and its two results equal to its reference's (Proof/Quant.lean). -/
module

public import proofs.«01_k».proof.Defs
public import proofs.«01_k».proof.Proof.KernelFrame
public import proofs.«01_k».proof.Proof.KernelIdealFrame
public import proofs.«01_k».proof.Proof.GateUp
public import proofs.«01_k».proof.Proof.Gen.ReferenceIdeal.Run
public import proofs.«01_k».proof.Proof.Gen.Quantise.Frame
public import proofs.«01_k».proof.Proof.Gen.QuantiseIdeal.Value
public import proofs.«01_k».proof.Proof.Gen.QuantiseReferenceIdeal.Value
public import proofs.«01_k».proof.Proof.Quant

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Quantise.Gen.facts, Cert.QuantiseIdeal.Gen.facts, Cert.QuantiseReferenceIdeal.Gen.facts,
    fun m ρ _ => Cert.Proof.GateUp.Kernel.frame_run m ρ, fun m ρ _ => Cert.Proof.GateUp.KernelIdeal.frame_run m ρ,
    fun m ρ _ => Cert.Proof.GateUp.ReferenceIdeal.frame_run m ρ,
    fun m ρ _ => Cert.Quantise.Gen.frame m ρ, fun m ρ _ => Cert.QuantiseIdeal.Gen.frame m ρ,
    fun m ρ _ => Cert.QuantiseReferenceIdeal.Gen.frame m ρ,
    trivial, fun m g m' g' _ hm => Cert.Proof.GateUp.algebraic m g m' g' hm,
    trivial, fun m g m' g' _ hm => Cert.Proof.Quant.algebraic m g m' g' hm⟩

end Cert.Proof

end
